-- ==== Defs.lean ====
def Pre_Kernel [hPre_in_range : Cert.Pre_in_range.Facts] (m : (ℓ : Loc Cert.Kernel.nD Cert.Kernel.τ Cert.Kernel.sig) → Buf (Elt Bits) ℓ) : Prop :=
  ∀ c : Dev Cert.Kernel.nD,
    (Cert.Pre_in_range.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_in_range : Cert.Pre_in_range.Facts] (m : (ℓ : Loc Cert.KernelIdeal.nD Cert.KernelIdeal.τ Cert.KernelIdeal.sig) → Buf (Elt Ideal) ℓ) : Prop :=
  ∀ c : Dev Cert.KernelIdeal.nD,
    (Cert.Pre_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_KernelIdeal_permutes [hPre_permutes : Cert.Pre_permutes.Facts] (m : (ℓ : Loc Cert.KernelIdeal.nD Cert.KernelIdeal.τ Cert.KernelIdeal.sig) → Buf (Elt Ideal) ℓ) : Prop :=
  ∀ c : Dev Cert.KernelIdeal.nD,
    (Cert.Pre_permutes.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_permutes [hPre_permutes : Cert.Pre_permutes.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_permutes.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def Pre_Reference (m : (ℓ : Loc Cert.Reference.nD Cert.Reference.τ Cert.Reference.sig) → Buf (Elt Bits) ℓ) : Prop :=
  True

def quiescent_Kernel [hKernel : Cert.Kernel.Facts] [hPre_in_range : Cert.Pre_in_range.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))
      ∧ r.2.sem = fun _ => 0)

def quiescent_KernelIdeal [hKernelIdeal : Cert.KernelIdeal.Facts] [hPre_in_range : Cert.Pre_in_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_KernelIdeal_pre_permutes [hKernelIdeal : Cert.KernelIdeal.Facts] [hPre_permutes : Cert.Pre_permutes.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_permutes m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def quiescent_ReferenceIdeal_pre_permutes [hReferenceIdeal : Cert.ReferenceIdeal.Facts] [hPre_permutes : Cert.Pre_permutes.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_permutes m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def quiescent_Reference [hReference : Cert.Reference.Facts] : Prop :=
  ∀ (m : (ℓ : Loc Cert.Reference.nD Cert.Reference.τ Cert.Reference.sig) → Buf (Elt Bits) ℓ) (g : Dev Cert.Reference.nD → PrngReg), Pre_Reference m →
    θ_run (Cert.Reference.defs (F := Bits)) (onTc (τ := Cert.Reference.τ) (Cert.Reference.main (F := Bits))) ⟨m, fun _ => 0, g⟩ (fun r => (∀ c : Dev Cert.Reference.nD,
      r.2.mem ((c.tc : Thread Cert.Reference.nD Cert.Reference.τ).loc Cert.Reference.main_arg0) = m ((c.tc : Thread Cert.Reference.nD Cert.Reference.τ).loc Cert.Reference.main_arg0)
      ∧ r.2.mem ((c.tc : Thread Cert.Reference.nD Cert.Reference.τ).loc Cert.Reference.main_arg1) = m ((c.tc : Thread Cert.Reference.nD Cert.Reference.τ).loc Cert.Reference.main_arg1)
      ∧ r.2.mem ((c.tc : Thread Cert.Reference.nD Cert.Reference.τ).loc Cert.Reference.main_arg2) = m ((c.tc : Thread Cert.Reference.nD Cert.Reference.τ).loc Cert.Reference.main_arg2)
      ∧ r.2.mem ((c.tc : Thread Cert.Reference.nD Cert.Reference.τ).loc Cert.Reference.main_arg3) = m ((c.tc : Thread Cert.Reference.nD Cert.Reference.τ).loc Cert.Reference.main_arg3)
      ∧ r.2.mem ((c.tc : Thread Cert.Reference.nD Cert.Reference.τ).loc Cert.Reference.main_arg4) = m ((c.tc : Thread Cert.Reference.nD Cert.Reference.τ).loc Cert.Reference.main_arg4)
      ∧ r.2.mem ((c.tc : Thread Cert.Reference.nD Cert.Reference.τ).loc Cert.Reference.main_arg5) = m ((c.tc : Thread Cert.Reference.nD Cert.Reference.τ).loc Cert.Reference.main_arg5)
      ∧ r.2.mem ((c.tc : Thread Cert.Reference.nD Cert.Reference.τ).loc Cert.Reference.main_arg6) = m ((c.tc : Thread Cert.Reference.nD Cert.Reference.τ).loc Cert.Reference.main_arg6))
      ∧ r.2.sem = fun _ => 0)

def preserves_Kernel_KernelIdeal : Prop :=
  IdealRules.named_const.Statement Cert.KernelIdeal.κ "scale_log2e" .f32 0x3E16C740#32 (((Real.sqrt 96)⁻¹ * (Real.log 2)⁻¹ : ℝ) : EReal)

def preserves_Reference_ReferenceIdeal : Prop :=
  IdealRules.named_const.Statement Cert.ReferenceIdeal.κ "scale" .f32 0x3DD105EC#32 (((Real.sqrt 96)⁻¹ : ℝ) : EReal)

def algebraic_KernelIdeal_ReferenceIdeal_pre_permutes [hKernelIdeal : Cert.KernelIdeal.Facts] [hReferenceIdeal : Cert.ReferenceIdeal.Facts] [hPre_permutes : Cert.Pre_permutes.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_permutes m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v63) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hReference : Cert.Reference.Facts) (hPre_in_range : Cert.Pre_in_range.Facts) (hPre_permutes : Cert.Pre_permutes.Facts),
    quiescent_Kernel (hKernel := hKernel) (hPre_in_range := hPre_in_range)
    ∧ quiescent_KernelIdeal (hKernelIdeal := hKernelIdeal) (hPre_in_range := hPre_in_range)
    ∧ quiescent_KernelIdeal_pre_permutes (hKernelIdeal := hKernelIdeal) (hPre_permutes := hPre_permutes)
    ∧ quiescent_ReferenceIdeal (hReferenceIdeal := hReferenceIdeal)
    ∧ quiescent_ReferenceIdeal_pre_permutes (hReferenceIdeal := hReferenceIdeal) (hPre_permutes := hPre_permutes)
    ∧ quiescent_Reference (hReference := hReference)
    ∧ preserves_Kernel_KernelIdeal
    ∧ preserves_Reference_ReferenceIdeal
    ∧ algebraic_KernelIdeal_ReferenceIdeal_pre_permutes (hKernelIdeal := hKernelIdeal) (hReferenceIdeal := hReferenceIdeal) (hPre_permutes := hPre_permutes)
-- ==== Pre_in_range.lean ====
abbrev S12x1400x16x96 : Shape := ⟨4, ![12, 1400, 16, 96]⟩
abbrev S12x16 : Shape := ⟨2, ![12, 16]⟩
abbrev S_ : Shape := ⟨0, ![]⟩

class Facts : Prop where
  bcast_S_S12x16 : S_.BroadcastsInDim S12x16 (![] : Fin 0 → Fin S12x16.rank)
  reducesTo_S12x16_S_d0_1 : S12x16.ReducesTo [0, 1] S_
  h_S_ : 0 < S_.numel

variable [Facts]

def fn {F : FTy → Type} [FloatOps F] (main_arg0 : FVec F S12x1400x16x96 .fp8e4m3) (main_arg1 : FVec F S12x1400x16x96 .fp8e4m3) (main_arg2 : FVec F S12x1400x16x96 .fp8e4m3) (main_arg3 : FVec F S12x16 .f32) (main_arg4 : FVec F S12x16 .f32) (main_arg5 : FVec F S12x16 .f32) (main_arg6 : IVec S12x16 32) : IVec S_ 1 :=
  let main_c : IVec S_ 32 := constantI S_ 32 0#32
  let main_v0 : IVec S12x16 32 := broadcastInDim S12x16 ![] bcast_S_S12x16 main_c
  let main_v1 : IVec S12x16 1 := cmpi .sge main_arg6 main_v0
  let main_c_0 : IVec S_ 32 := constantI S_ 32 16#32
  let main_v2 : IVec S12x16 32 := broadcastInDim S12x16 ![] bcast_S_S12x16 main_c_0
  let main_v3 : IVec S12x16 1 := cmpi .slt main_arg6 main_v2
  let main_v4 : IVec S12x16 1 := andi main_v1 main_v3
  let main_c_1 : IVec S_ 1 := constantI S_ 1 1#1
  let main_v5 : IVec S_ 1 := (fun x v => Host.reduce IntOp.andi x v reducesTo_S12x16_S_d0_1 h_S_) main_v4 main_c_1
  main_v5
-- ==== Pre_permutes.lean ====
abbrev S12x1400x16x96 : Shape := ⟨4, ![12, 1400, 16, 96]⟩
abbrev S12x16 : Shape := ⟨2, ![12, 16]⟩
abbrev S16 : Shape := ⟨1, ![16]⟩
abbrev S12x16x1 : Shape := ⟨3, ![12, 16, 1]⟩
abbrev S1x1x16 : Shape := ⟨3, ![1, 1, 16]⟩
abbrev S12x16x16 : Shape := ⟨3, ![12, 16, 16]⟩
abbrev S_ : Shape := ⟨0, ![]⟩

class Facts : Prop where
  bcast_S12x16_S12x16x1_0_1 : S12x16.BroadcastsInDim S12x16x1 (![0, 1] : Fin 2 → Fin S12x16x1.rank)
  bcast_S16_S1x1x16_2 : S16.BroadcastsInDim S1x1x16 (![2] : Fin 1 → Fin S1x1x16.rank)
  bcast_S12x16x1_S12x16x16_0_1_2 : S12x16x1.BroadcastsInDim S12x16x16 (![0, 1, 2] : Fin 3 → Fin S12x16x16.rank)
  bcast_S1x1x16_S12x16x16_0_1_2 : S1x1x16.BroadcastsInDim S12x16x16 (![0, 1, 2] : Fin 3 → Fin S12x16x16.rank)
  reducesTo_S12x16x16_S12x16_d1 : S12x16x16.ReducesTo [1] S12x16
  h_S_ : 0 < S_.numel
  bcast_S_S12x16 : S_.BroadcastsInDim S12x16 (![] : Fin 0 → Fin S12x16.rank)
  reducesTo_S12x16_S_d0_1 : S12x16.ReducesTo [0, 1] S_

variable [Facts]

def fn {F : FTy → Type} [FloatOps F] (main_arg0 : FVec F S12x1400x16x96 .fp8e4m3) (main_arg1 : FVec F S12x1400x16x96 .fp8e4m3) (main_arg2 : FVec F S12x1400x16x96 .fp8e4m3) (main_arg3 : FVec F S12x16 .f32) (main_arg4 : FVec F S12x16 .f32) (main_arg5 : FVec F S12x16 .f32) (main_arg6 : IVec S12x16 32) : IVec S_ 1 :=
  let main_v0 : IVec S16 32 := iotaInDim S16 32 0
  let main_v1 : IVec S12x16x1 32 := broadcastInDim S12x16x1 ![0, 1] bcast_S12x16_S12x16x1_0_1 main_arg6
  let main_v2 : IVec S1x1x16 32 := broadcastInDim S1x1x16 ![2] bcast_S16_S1x1x16_2 main_v0
  let main_v3 : IVec S12x16x16 32 := broadcastInDim S12x16x16 ![0, 1, 2] bcast_S12x16x1_S12x16x16_0_1_2 main_v1
  let main_v4 : IVec S12x16x16 32 := broadcastInDim S12x16x16 ![0, 1, 2] bcast_S1x1x16_S12x16x16_0_1_2 main_v2
  let main_v5 : IVec S12x16x16 1 := cmpi .eq main_v3 main_v4
  let main_c : IVec S_ 1 := constantI S_ 1 0#1
  let main_v6 : IVec S12x16 1 := (fun x v => Host.reduce IntOp.ori x v reducesTo_S12x16x16_S12x16_d1 h_S_) main_v5 main_c
  let main_c_0 : IVec S_ 32 := constantI S_ 32 0#32
  let main_v7 : IVec S12x16 32 := broadcastInDim S12x16 ![] bcast_S_S12x16 main_c_0
  let main_v8 : IVec S12x16 1 := cmpi .sge main_arg6 main_v7
  let main_c_1 : IVec S_ 32 := constantI S_ 32 16#32
  let main_v9 : IVec S12x16 32 := broadcastInDim S12x16 ![] bcast_S_S12x16 main_c_1
  let main_v10 : IVec S12x16 1 := cmpi .slt main_arg6 main_v9
  let main_v11 : IVec S12x16 1 := andi main_v8 main_v10
  let main_c_2 : IVec S_ 1 := constantI S_ 1 1#1
  let main_v12 : IVec S_ 1 := (fun x v => Host.reduce IntOp.andi x v reducesTo_S12x16_S_d0_1 h_S_) main_v11 main_c_2
  let main_c_3 : IVec S_ 1 := constantI S_ 1 1#1
  let main_v13 : IVec S_ 1 := (fun x v => Host.reduce IntOp.andi x v reducesTo_S12x16_S_d0_1 h_S_) main_v6 main_c_3
  let main_v14 : IVec S_ 1 := andi main_v12 main_v13
  main_v14
-- ==== Kernel.lean ====
abbrev S12x1400x16x96 : Shape := ⟨4, ![12, 1400, 16, 96]⟩
abbrev S12x16 : Shape := ⟨2, ![12, 16]⟩
abbrev S12x16x96x1400 : Shape := ⟨4, ![12, 16, 96, 1400]⟩
abbrev S12x1400x1536 : Shape := ⟨3, ![12, 1400, 1536]⟩
abbrev S1x16x96x1400 : Shape := ⟨4, ![1, 16, 96, 1400]⟩
abbrev S1x1400x1536 : Shape := ⟨3, ![1, 1400, 1536]⟩
abbrev S16x1400x96 : Shape := ⟨3, ![16, 1400, 96]⟩
abbrev S16x96x1400 : Shape := ⟨3, ![16, 96, 1400]⟩
abbrev S1x1x96x1400 : Shape := ⟨4, ![1, 1, 96, 1400]⟩
abbrev S96x1400 : Shape := ⟨2, ![96, 1400]⟩
abbrev S1400x96 : Shape := ⟨2, ![1400, 96]⟩
abbrev S1x1400x96 : Shape := ⟨3, ![1, 1400, 96]⟩
abbrev S1x96x1400 : Shape := ⟨3, ![1, 96, 1400]⟩
abbrev S1x1 : Shape := ⟨2, ![1, 1]⟩
abbrev S1x1x96x256 : Shape := ⟨4, ![1, 1, 96, 256]⟩
abbrev S96x256 : Shape := ⟨2, ![96, 256]⟩
abbrev S1x256x96 : Shape := ⟨3, ![1, 256, 96]⟩
abbrev S256x96 : Shape := ⟨2, ![256, 96]⟩
abbrev S256x256 : Shape := ⟨2, ![256, 256]⟩
abbrev S1x120x96 : Shape := ⟨3, ![1, 120, 96]⟩
abbrev S120x96 : Shape := ⟨2, ![120, 96]⟩
abbrev S120x256 : Shape := ⟨2, ![120, 256]⟩
abbrev S256 : Shape := ⟨1, ![256]⟩
abbrev S1x256 : Shape := ⟨2, ![1, 256]⟩
abbrev S1x96x256 : Shape := ⟨3, ![1, 96, 256]⟩
abbrev S1x96x120 : Shape := ⟨3, ![1, 96, 120]⟩
abbrev S96x120 : Shape := ⟨2, ![96, 120]⟩
abbrev S1x1x96x120 : Shape := ⟨4, ![1, 1, 96, 120]⟩
abbrev S1400x120 : Shape := ⟨2, ![1400, 120]⟩
abbrev S120 : Shape := ⟨1, ![120]⟩
abbrev S1x120 : Shape := ⟨2, ![1, 120]⟩
abbrev S1x1x96x128 : Shape := ⟨4, ![1, 1, 96, 128]⟩
abbrev S96x128 : Shape := ⟨2, ![96, 128]⟩
abbrev S128 : Shape := ⟨1, ![128]⟩
abbrev S1x128 : Shape := ⟨2, ![1, 128]⟩
abbrev S5x128 : Shape := ⟨2, ![5, 128]⟩
abbrev S120x128 : Shape := ⟨2, ![120, 128]⟩
abbrev S1x96x128 : Shape := ⟨3, ![1, 96, 128]⟩
abbrev S16x96x128 : Shape := ⟨3, ![16, 96, 128]⟩
abbrev S1536x128 : Shape := ⟨2, ![1536, 128]⟩
abbrev S128x1536 : Shape := ⟨2, ![128, 1536]⟩
abbrev S1x128x1536 : Shape := ⟨3, ![1, 128, 1536]⟩
abbrev S16x96x120 : Shape := ⟨3, ![16, 96, 120]⟩
abbrev S1536x120 : Shape := ⟨2, ![1536, 120]⟩
abbrev S120x1536 : Shape := ⟨2, ![120, 1536]⟩
abbrev S1x120x1536 : Shape := ⟨3, ![1, 120, 1536]⟩

abbrev nBuf : Space → Nat
  | .hbm => 10
  | .vmem => 11
  | .smem => 4
  | _ => 0

abbrev bufTy : (tb : Table) → Fin (tcTables nBuf tb) → BufTy
  | .hbm, ⟨0, _⟩ => ⟨S12x1400x16x96, .fp8e4m3⟩
  | .hbm, ⟨1, _⟩ => ⟨S12x1400x16x96, .fp8e4m3⟩
  | .hbm, ⟨2, _⟩ => ⟨S12x1400x16x96, .fp8e4m3⟩
  | .hbm, ⟨3, _⟩ => ⟨S12x16, .f32⟩
  | .hbm, ⟨4, _⟩ => ⟨S12x16, .f32⟩
  | .hbm, ⟨5, _⟩ => ⟨S12x16, .f32⟩
  | .hbm, ⟨6, _⟩ => ⟨S12x16x96x1400, .fp8e4m3⟩
  | .hbm, ⟨7, _⟩ => ⟨S12x16x96x1400, .fp8e4m3⟩
  | .hbm, ⟨8, _⟩ => ⟨S12x16x96x1400, .fp8e4m3⟩
  | .hbm, ⟨9, _⟩ => ⟨S12x1400x1536, .bf16⟩
  | .local _ .vmem, ⟨0, _⟩ => ⟨S1x16x96x1400, .fp8e4m3⟩
  | .local _ .vmem, ⟨1, _⟩ => ⟨S1x16x96x1400, .fp8e4m3⟩
  | .local _ .vmem, ⟨2, _⟩ => ⟨S1x16x96x1400, .fp8e4m3⟩
  | .local _ .vmem, ⟨3, _⟩ => ⟨S1x16x96x1400, .fp8e4m3⟩
  | .local _ .vmem, ⟨4, _⟩ => ⟨S1x16x96x1400, .fp8e4m3⟩
  | .local _ .vmem, ⟨5, _⟩ => ⟨S1x16x96x1400, .fp8e4m3⟩
  | .local _ .vmem, ⟨6, _⟩ => ⟨S1x1400x1536, .bf16⟩
  | .local _ .vmem, ⟨7, _⟩ => ⟨S1x1400x1536, .bf16⟩
  | .local _ .vmem, ⟨8, _⟩ => ⟨S16x1400x96, .fp8e4m3⟩
  | .local _ .vmem, ⟨9, _⟩ => ⟨S16x96x1400, .bf16⟩
  | .local _ .vmem, ⟨10, _⟩ => ⟨S16x96x1400, .bf16⟩
  | .local _ .smem, ⟨0, _⟩ => ⟨S12x16, .i32⟩
  | .local _ .smem, ⟨1, _⟩ => ⟨S12x16, .f32⟩
  | .local _ .smem, ⟨2, _⟩ => ⟨S12x16, .f32⟩
  | .local _ .smem, ⟨3, _⟩ => ⟨S12x16, .f32⟩
  | _, _ => ⟨S12x1400x16x96, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .smem, ⟨1, _⟩ => true
  | .smem, ⟨2, _⟩ => true
  | .smem, ⟨3, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_arg6 : Ref sig .tc := ⟨.smem, 0, rfl⟩
abbrev cc0_stg3_0 : Ref sig .tc := ⟨.vmem, 0, rfl⟩
abbrev cc0_stg3_1 : Ref sig .tc := ⟨.vmem, 1, rfl⟩
abbrev cc0_stg4_0 : Ref sig .tc := ⟨.vmem, 2, rfl⟩
abbrev cc0_stg4_1 : Ref sig .tc := ⟨.vmem, 3, rfl⟩
abbrev cc0_stg5_0 : Ref sig .tc := ⟨.vmem, 4, rfl⟩
abbrev cc0_stg5_1 : Ref sig .tc := ⟨.vmem, 5, rfl⟩
abbrev cc0_stg6_0 : Ref sig .tc := ⟨.vmem, 6, rfl⟩
abbrev cc0_stg6_1 : Ref sig .tc := ⟨.vmem, 7, rfl⟩
abbrev cc0_scratch0 : Ref sig .tc := ⟨.vmem, 8, rfl⟩
abbrev cc0_scratch1 : Ref sig .tc := ⟨.vmem, 9, rfl⟩
abbrev cc0_scratch2 : Ref sig .tc := ⟨.vmem, 10, rfl⟩
abbrev cc0_stg0_0 : Ref sig .tc := ⟨.smem, 1, rfl⟩
abbrev cc0_stg1_0 : Ref sig .tc := ⟨.smem, 2, rfl⟩
abbrev cc0_stg2_0 : Ref sig .tc := ⟨.smem, 3, rfl⟩
abbrev cc0_sem0_0 : DmaSem sig := 0
abbrev cc0_sem1_0 : DmaSem sig := 1
abbrev cc0_sem2_0 : DmaSem sig := 2
abbrev cc0_sem3_0 : DmaSem sig := 3
abbrev cc0_sem3_1 : DmaSem sig := 4
abbrev cc0_sem4_0 : DmaSem sig := 5
abbrev cc0_sem4_1 : DmaSem sig := 6
abbrev cc0_sem5_0 : DmaSem sig := 7
abbrev cc0_sem5_1 : DmaSem sig := 8
abbrev cc0_sem6_0 : DmaSem sig := 9
abbrev cc0_sem6_1 : DmaSem sig := 10

abbrev nD : Nat := 1
abbrev τ : Topo := Topo.v7x

variable {F : FTy → Type} [FloatOps F]

abbrev grid0 : Pipeline.Grid := ⟨1, ![12], ![false]⟩

abbrev pre0 : Pipeline.Prefetch sig := ⟨1, ![main_arg6.idx], fun | 0 => main_arg6.names | ⟨_ + 1, h⟩ => absurd h (Nat.not_lt.2 (Nat.le_add_left _ _)), fun | 0 => rfl | ⟨_ + 1, h⟩ => absurd h (Nat.not_lt.2 (Nat.le_add_left _ _))⟩

@[reducible] def k0_t1_loop : Scf.Loop 32 :=
  let c0_i32 : BitVec 32 := 0#32
  let c16_i32 : BitVec 32 := 16#32
  let v0 : BitVec 32 := Scalar.addi c0_i32 c16_i32
  let c1_i32 : BitVec 32 := 1#32
  ⟨c0_i32, v0, c1_i32⟩
def k0_off1 (k0_t1 : Fin k0_t1_loop.trips) : Fin 4 → Nat :=
  let c0_62 : Index := 0#32
  let c0_i32 : BitVec 32 := 0#32
  let c1_i32 : BitVec 32 := 1#32
  let arg12 : BitVec 32 := Scf.iv c0_i32 c1_i32 k0_t1
  let v69 : Index := Scalar.indexCast arg12
  let c0_63 : Index := 0#32
  let c0_64 : Index := 0#32
  ![0, v69.toNat, 0, 0]
def k0_off2 (k0_t1 : Fin k0_t1_loop.trips) : Fin 3 → Nat :=
  let c0_i32 : BitVec 32 := 0#32
  let c1_i32 : BitVec 32 := 1#32
  let arg12 : BitVec 32 := Scf.iv c0_i32 c1_i32 k0_t1
  let v75 : Index := Scalar.indexCast arg12
  let c0_65 : Index := 0#32
  let c0_66 : Index := 0#32
  ![v75.toNat, 0, 0]
def k0_off3 (k0_t1 : Fin k0_t1_loop.trips) : Fin 3 → Nat :=
  let c0_i32 : BitVec 32 := 0#32
  let c1_i32 : BitVec 32 := 1#32
  let arg12 : BitVec 32 := Scf.iv c0_i32 c1_i32 k0_t1
  let v83 : Index := Scalar.indexCast arg12
  let c0_70 : Index := 0#32
  let c0_71 : Index := 0#32
  ![v83.toNat, 0, 0]
@[reducible] def k0_t2_loop : Scf.Loop 32 :=
  let c0_i32_1 : BitVec 32 := 0#32
  let c9_i32 : BitVec 32 := 9#32
  let v1 : BitVec 32 := Scalar.addi c0_i32_1 c9_i32
  let c1_i32_2 : BitVec 32 := 1#32
  ⟨c0_i32_1, v1, c1_i32_2⟩
def k0_off4 (i : grid0.Coords) (k0_t2 : Fin k0_t2_loop.trips) : Fin 2 → Nat :=
  let arg0 : BitVec 32 := BitVec.ofNat 32 (i 0).val
  let v69 : Index := Scalar.indexCast arg0
  let c0_i32_1 : BitVec 32 := 0#32
  let c1_i32_2 : BitVec 32 := 1#32
  let arg12 : BitVec 32 := Scf.iv c0_i32_1 c1_i32_2 k0_t2
  let v70 : Index := Scalar.indexCast arg12
  ![v69.toNat, v70.toNat]
def k0_off5 (i : grid0.Coords) (v71 : BitVec 32) : Fin 2 → Nat :=
  let arg0 : BitVec 32 := BitVec.ofNat 32 (i 0).val
  let v72 : Index := Scalar.indexCast arg0
  let v73 : Index := Scalar.indexCast v71
  ![v72.toNat, v73.toNat]

def k0_off6 (v71 : BitVec 32) : Fin 4 → Nat :=
  let c0_62 : Index := 0#32
  let v83 : Index := Scalar.indexCast v71
  let c0_63 : Index := 0#32
  let c0_64 : Index := 0#32
  ![0, v83.toNat, 0, 0]
def k0_off7 (v71 : BitVec 32) : Fin 3 → Nat :=
  let v86 : Index := Scalar.indexCast v71
  let c0_65 : Index := 0#32
  let c0_66 : Index := 0#32
  ![v86.toNat, 0, 0]
def k0_off8 (v71 : BitVec 32) : Fin 3 → Nat :=
  let v90 : Index := Scalar.indexCast v71
  let c1280_68 : Index := 1280#32
  let c0_69 : Index := 0#32
  ![v90.toNat, 1280, 0]
def k0_off9 (v71 : BitVec 32) : Fin 3 → Nat :=
  let v116 : Index := Scalar.indexCast v71
  let c0_75 : Index := 0#32
  let c0_76 : Index := 0#32
  ![v116.toNat, 0, 0]
def k0_off10 (v71 : BitVec 32) : Fin 3 → Nat :=
  let v120 : Index := Scalar.indexCast v71
  let c0_78 : Index := 0#32
  let c1280_79 : Index := 1280#32
  ![v120.toNat, 0, 1280]
def k0_off11 (v71 : BitVec 32) : Fin 4 → Nat :=
  let c0_83 : Index := 0#32
  let v134 : Index := Scalar.indexCast v71
  let c0_84 : Index := 0#32
  let c256_85 : Index := 256#32
  ![0, v134.toNat, 0, 256]
def k0_off12 (v71 : BitVec 32) : Fin 3 → Nat :=
  let v137 : Index := Scalar.indexCast v71
  let c256_86 : Index := 256#32
  let c0_87 : Index := 0#32
  ![v137.toNat, 256, 0]
def k0_off13 (v71 : BitVec 32) : Fin 3 → Nat :=
  let v183 : Index := Scalar.indexCast v71
  let c0_101 : Index := 0#32
  let c256_102 : Index := 256#32
  ![v183.toNat, 0, 256]
def k0_off14 (v71 : BitVec 32) : Fin 4 → Nat :=
  let c0_112 : Index := 0#32
  let v206 : Index := Scalar.indexCast v71
  let c0_113 : Index := 0#32
  let c512_114 : Index := 512#32
  ![0, v206.toNat, 0, 512]
def k0_off15 (v71 : BitVec 32) : Fin 3 → Nat :=
  let v209 : Index := Scalar.indexCast v71
  let c512_115 : Index := 512#32
  let c0_116 : Index := 0#32
  ![v209.toNat, 512, 0]
def k0_off16 (v71 : BitVec 32) : Fin 3 → Nat :=
  let v255 : Index := Scalar.indexCast v71
  let c0_130 : Index := 0#32
  let c512_131 : Index := 512#32
  ![v255.toNat, 0, 512]
def k0_off17 (v71 : BitVec 32) : Fin 4 → Nat :=
  let c0_141 : Index := 0#32
  let v278 : Index := Scalar.indexCast v71
  let c0_142 : Index := 0#32
  let c768_143 : Index := 768#32
  ![0, v278.toNat, 0, 768]
def k0_off18 (v71 : BitVec 32) : Fin 3 → Nat :=
  let v281 : Index := Scalar.indexCast v71
  let c768_144 : Index := 768#32
  let c0_145 : Index := 0#32
  ![v281.toNat, 768, 0]
def k0_off19 (v71 : BitVec 32) : Fin 3 → Nat :=
  let v327 : Index := Scalar.indexCast v71
  let c0_159 : Index := 0#32
  let c768_160 : Index := 768#32
  ![v327.toNat, 0, 768]
def k0_off20 (v71 : BitVec 32) : Fin 4 → Nat :=
  let c0_170 : Index := 0#32
  let v350 : Index := Scalar.indexCast v71
  let c0_171 : Index := 0#32
  let c1024_172 : Index := 1024#32
  ![0, v350.toNat, 0, 1024]
def k0_off21 (v71 : BitVec 32) : Fin 3 → Nat :=
  let v353 : Index := Scalar.indexCast v71
  let c1024_173 : Index := 1024#32
  let c0_174 : Index := 0#32
  ![v353.toNat, 1024, 0]
def k0_off22 (v71 : BitVec 32) : Fin 3 → Nat :=
  let v399 : Index := Scalar.indexCast v71
  let c0_188 : Index := 0#32
  let c1024_189 : Index := 1024#32
  ![v399.toNat, 0, 1024]
def k0_off23 (v71 : BitVec 32) : Fin 3 → Nat :=
  let v422 : Index := Scalar.indexCast v71
  let c0_199 : Index := 0#32
  let c0_200 : Index := 0#32
  ![v422.toNat, 0, 0]
def k0_off24 (v71 : BitVec 32) : Fin 4 → Nat :=
  let c0_201 : Index := 0#32
  let v425 : Index := Scalar.indexCast v71
  let c0_202 : Index := 0#32
  let c1280_203 : Index := 1280#32
  ![0, v425.toNat, 0, 1280]
def k0_off25 (v71 : BitVec 32) : Fin 3 → Nat :=
  let v439 : Index := Scalar.indexCast v71
  let c0_207 : Index := 0#32
  let c0_208 : Index := 0#32
  ![v439.toNat, 0, 0]

def k0_chk1 (i : grid0.Coords) (v71 : BitVec 32) : Prop :=
  (∀ a, (k0_off5 i v71) a + S1x1.size a ≤ S12x16.size a) ∧
  (∀ a, (k0_off6 v71) a + S1x1x96x256.size a ≤ S1x16x96x1400.size a) ∧
  (∀ a, (k0_off7 v71) a + S1x256x96.size a ≤ S16x1400x96.size a) ∧
  (∀ a, (k0_off8 v71) a + S1x120x96.size a ≤ S16x1400x96.size a) ∧
  (∀ a, (k0_off9 v71) a + S1x96x256.size a ≤ S16x96x1400.size a) ∧
  (∀ a, (k0_off10 v71) a + S1x96x120.size a ≤ S16x96x1400.size a) ∧
  (∀ (hinb : ∀ a, (k0_off9 v71) a + S1x96x256.size a ≤ S16x96x1400.size a), (Rect.unit (s := S16x96x1400) (k0_off9 v71) S1x96x256.size hinb).PackedRows (EltTy.packing .bf16)) ∧
  (∀ a, (k0_off11 v71) a + S1x1x96x256.size a ≤ S1x16x96x1400.size a) ∧
  (∀ a, (k0_off12 v71) a + S1x256x96.size a ≤ S16x1400x96.size a) ∧
  (∀ a, (k0_off13 v71) a + S1x96x256.size a ≤ S16x96x1400.size a) ∧
  (∀ (hinb : ∀ a, (k0_off13 v71) a + S1x96x256.size a ≤ S16x96x1400.size a), (Rect.unit (s := S16x96x1400) (k0_off13 v71) S1x96x256.size hinb).PackedRows (EltTy.packing .bf16)) ∧
  (∀ a, (k0_off14 v71) a + S1x1x96x256.size a ≤ S1x16x96x1400.size a) ∧
  (∀ a, (k0_off15 v71) a + S1x256x96.size a ≤ S16x1400x96.size a) ∧
  (∀ a, (k0_off16 v71) a + S1x96x256.size a ≤ S16x96x1400.size a) ∧
  (∀ (hinb : ∀ a, (k0_off16 v71) a + S1x96x256.size a ≤ S16x96x1400.size a), (Rect.unit (s := S16x96x1400) (k0_off16 v71) S1x96x256.size hinb).PackedRows (EltTy.packing .bf16)) ∧
  (∀ a, (k0_off17 v71) a + S1x1x96x256.size a ≤ S1x16x96x1400.size a) ∧
  (∀ a, (k0_off18 v71) a + S1x256x96.size a ≤ S16x1400x96.size a) ∧
  (∀ a, (k0_off19 v71) a + S1x96x256.size a ≤ S16x96x1400.size a) ∧
  (∀ (hinb : ∀ a, (k0_off19 v71) a + S1x96x256.size a ≤ S16x96x1400.size a), (Rect.unit (s := S16x96x1400) (k0_off19 v71) S1x96x256.size hinb).PackedRows (EltTy.packing .bf16)) ∧
  (∀ a, (k0_off20 v71) a + S1x1x96x256.size a ≤ S1x16x96x1400.size a) ∧
  (∀ a, (k0_off21 v71) a + S1x256x96.size a ≤ S16x1400x96.size a) ∧
  (∀ a, (k0_off22 v71) a + S1x96x256.size a ≤ S16x96x1400.size a) ∧
  (∀ (hinb : ∀ a, (k0_off22 v71) a + S1x96x256.size a ≤ S16x96x1400.size a), (Rect.unit (s := S16x96x1400) (k0_off22 v71) S1x96x256.size hinb).PackedRows (EltTy.packing .bf16)) ∧
  (∀ a, (k0_off23 v71) a + S1x1400x96.size a ≤ S16x1400x96.size a) ∧
  (∀ a, (k0_off24 v71) a + S1x1x96x120.size a ≤ S1x16x96x1400.size a) ∧
  (∀ a, (k0_off25 v71) a + S1x96x1400.size a ≤ S16x96x1400.size a) ∧
  (∀ (hinb : ∀ a, (k0_off10 v71) a + S1x96x120.size a ≤ S16x96x1400.size a), (Rect.unit (s := S16x96x1400) (k0_off10 v71) S1x96x120.size hinb).PackedRows (EltTy.packing .bf16))
theorem k0_off5_inb : ∀ (i : grid0.Coords) (v71 : BitVec 32) (k0_hw1 : k0_chk1 i v71), ∀ a, (k0_off5 i v71) a + S1x1.size a ≤ S12x16.size a := fun i v71 k0_hw1 => k0_hw1.1
theorem k0_off6_inb : ∀ (i : grid0.Coords) (v71 : BitVec 32) (k0_hw1 : k0_chk1 i v71), ∀ a, (k0_off6 v71) a + S1x1x96x256.size a ≤ S1x16x96x1400.size a := fun i v71 k0_hw1 => k0_hw1.2.1
theorem k0_off7_inb : ∀ (i : grid0.Coords) (v71 : BitVec 32) (k0_hw1 : k0_chk1 i v71), ∀ a, (k0_off7 v71) a + S1x256x96.size a ≤ S16x1400x96.size a := fun i v71 k0_hw1 => k0_hw1.2.2.1
theorem k0_off8_inb : ∀ (i : grid0.Coords) (v71 : BitVec 32) (k0_hw1 : k0_chk1 i v71), ∀ a, (k0_off8 v71) a + S1x120x96.size a ≤ S16x1400x96.size a := fun i v71 k0_hw1 => k0_hw1.2.2.2.1
theorem k0_off9_inb : ∀ (i : grid0.Coords) (v71 : BitVec 32) (k0_hw1 : k0_chk1 i v71), ∀ a, (k0_off9 v71) a + S1x96x256.size a ≤ S16x96x1400.size a := fun i v71 k0_hw1 => k0_hw1.2.2.2.2.1
theorem k0_off10_inb : ∀ (i : grid0.Coords) (v71 : BitVec 32) (k0_hw1 : k0_chk1 i v71), ∀ a, (k0_off10 v71) a + S1x96x120.size a ≤ S16x96x1400.size a := fun i v71 k0_hw1 => k0_hw1.2.2.2.2.2.1
theorem k0_off9_packedbf16 : ∀ (i : grid0.Coords) (v71 : BitVec 32) (k0_hw1 : k0_chk1 i v71), (Rect.unit (s := S16x96x1400) (k0_off9 v71) S1x96x256.size (k0_off9_inb i v71 k0_hw1)).PackedRows (EltTy.packing .bf16) := fun i v71 k0_hw1 => k0_hw1.2.2.2.2.2.2.1 (k0_off9_inb i v71 k0_hw1)
theorem k0_off11_inb : ∀ (i : grid0.Coords) (v71 : BitVec 32) (k0_hw1 : k0_chk1 i v71), ∀ a, (k0_off11 v71) a + S1x1x96x256.size a ≤ S1x16x96x1400.size a := fun i v71 k0_hw1 => k0_hw1.2.2.2.2.2.2.2.1
theorem k0_off12_inb : ∀ (i : grid0.Coords) (v71 : BitVec 32) (k0_hw1 : k0_chk1 i v71), ∀ a, (k0_off12 v71) a + S1x256x96.size a ≤ S16x1400x96.size a := fun i v71 k0_hw1 => k0_hw1.2.2.2.2.2.2.2.2.1
theorem k0_off13_inb : ∀ (i : grid0.Coords) (v71 : BitVec 32) (k0_hw1 : k0_chk1 i v71), ∀ a, (k0_off13 v71) a + S1x96x256.size a ≤ S16x96x1400.size a := fun i v71 k0_hw1 => k0_hw1.2.2.2.2.2.2.2.2.2.1
theorem k0_off13_packedbf16 : ∀ (i : grid0.Coords) (v71 : BitVec 32) (k0_hw1 : k0_chk1 i v71), (Rect.unit (s := S16x96x1400) (k0_off13 v71) S1x96x256.size (k0_off13_inb i v71 k0_hw1)).PackedRows (EltTy.packing .bf16) := fun i v71 k0_hw1 => k0_hw1.2.2.2.2.2.2.2.2.2.2.1 (k0_off13_inb i v71 k0_hw1)
theorem k0_off14_inb : ∀ (i : grid0.Coords) (v71 : BitVec 32) (k0_hw1 : k0_chk1 i v71), ∀ a, (k0_off14 v71) a + S1x1x96x256.size a ≤ S1x16x96x1400.size a := fun i v71 k0_hw1 => k0_hw1.2.2.2.2.2.2.2.2.2.2.2.1
theorem k0_off15_inb : ∀ (i : grid0.Coords) (v71 : BitVec 32) (k0_hw1 : k0_chk1 i v71), ∀ a, (k0_off15 v71) a + S1x256x96.size a ≤ S16x1400x96.size a := fun i v71 k0_hw1 => k0_hw1.2.2.2.2.2.2.2.2.2.2.2.2.1
theorem k0_off16_inb : ∀ (i : grid0.Coords) (v71 : BitVec 32) (k0_hw1 : k0_chk1 i v71), ∀ a, (k0_off16 v71) a + S1x96x256.size a ≤ S16x96x1400.size a := fun i v71 k0_hw1 => k0_hw1.2.2.2.2.2.2.2.2.2.2.2.2.2.1
theorem k0_off16_packedbf16 : ∀ (i : grid0.Coords) (v71 : BitVec 32) (k0_hw1 : k0_chk1 i v71), (Rect.unit (s := S16x96x1400) (k0_off16 v71) S1x96x256.size (k0_off16_inb i v71 k0_hw1)).PackedRows (EltTy.packing .bf16) := fun i v71 k0_hw1 => k0_hw1.2.2.2.2.2.2.2.2.2.2.2.2.2.2.1 (k0_off16_inb i v71 k0_hw1)
theorem k0_off17_inb : ∀ (i : grid0.Coords) (v71 : BitVec 32) (k0_hw1 : k0_chk1 i v71), ∀ a, (k0_off17 v71) a + S1x1x96x256.size a ≤ S1x16x96x1400.size a := fun i v71 k0_hw1 => k0_hw1.2.2.2.2.2.2.2.2.2.2.2.2.2.2.2.1
theorem k0_off18_inb : ∀ (i : grid0.Coords) (v71 : BitVec 32) (k0_hw1 : k0_chk1 i v71), ∀ a, (k0_off18 v71) a + S1x256x96.size a ≤ S16x1400x96.size a := fun i v71 k0_hw1 => k0_hw1.2.2.2.2.2.2.2.2.2.2.2.2.2.2.2.2.1
theorem k0_off19_inb : ∀ (i : grid0.Coords) (v71 : BitVec 32) (k0_hw1 : k0_chk1 i v71), ∀ a, (k0_off19 v71) a + S1x96x256.size a ≤ S16x96x1400.size a := fun i v71 k0_hw1 => k0_hw1.2.2.2.2.2.2.2.2.2.2.2.2.2.2.2.2.2.1
theorem k0_off19_packedbf16 : ∀ (i : grid0.Coords) (v71 : BitVec 32) (k0_hw1 : k0_chk1 i v71), (Rect.unit (s := S16x96x1400) (k0_off19 v71) S1x96x256.size (k0_off19_inb i v71 k0_hw1)).PackedRows (EltTy.packing .bf16) := fun i v71 k0_hw1 => k0_hw1.2.2.2.2.2.2.2.2.2.2.2.2.2.2.2.2.2.2.1 (k0_off19_inb i v71 k0_hw1)
theorem k0_off20_inb : ∀ (i : grid0.Coords) (v71 : BitVec 32) (k0_hw1 : k0_chk1 i v71), ∀ a, (k0_off20 v71) a + S1x1x96x256.size a ≤ S1x16x96x1400.size a := fun i v71 k0_hw1 => k0_hw1.2.2.2.2.2.2.2.2.2.2.2.2.2.2.2.2.2.2.2.1
theorem k0_off21_inb : ∀ (i : grid0.Coords) (v71 : BitVec 32) (k0_hw1 : k0_chk1 i v71), ∀ a, (k0_off21 v71) a + S1x256x96.size a ≤ S16x1400x96.size a := fun i v71 k0_hw1 => k0_hw1.2.2.2.2.2.2.2.2.2.2.2.2.2.2.2.2.2.2.2.2.1
theorem k0_off22_inb : ∀ (i : grid0.Coords) (v71 : BitVec 32) (k0_hw1 : k0_chk1 i v71), ∀ a, (k0_off22 v71) a + S1x96x256.size a ≤ S16x96x1400.size a := fun i v71 k0_hw1 => k0_hw1.2.2.2.2.2.2.2.2.2.2.2.2.2.2.2.2.2.2.2.2.2.1
theorem k0_off22_packedbf16 : ∀ (i : grid0.Coords) (v71 : BitVec 32) (k0_hw1 : k0_chk1 i v71), (Rect.unit (s := S16x96x1400) (k0_off22 v71) S1x96x256.size (k0_off22_inb i v71 k0_hw1)).PackedRows (EltTy.packing .bf16) := fun i v71 k0_hw1 => k0_hw1.2.2.2.2.2.2.2.2.2.2.2.2.2.2.2.2.2.2.2.2.2.2.1 (k0_off22_inb i v71 k0_hw1)
theorem k0_off23_inb : ∀ (i : grid0.Coords) (v71 : BitVec 32) (k0_hw1 : k0_chk1 i v71), ∀ a, (k0_off23 v71) a + S1x1400x96.size a ≤ S16x1400x96.size a := fun i v71 k0_hw1 => k0_hw1.2.2.2.2.2.2.2.2.2.2.2.2.2.2.2.2.2.2.2.2.2.2.2.1
theorem k0_off24_inb : ∀ (i : grid0.Coords) (v71 : BitVec 32) (k0_hw1 : k0_chk1 i v71), ∀ a, (k0_off24 v71) a + S1x1x96x120.size a ≤ S1x16x96x1400.size a := fun i v71 k0_hw1 => k0_hw1.2.2.2.2.2.2.2.2.2.2.2.2.2.2.2.2.2.2.2.2.2.2.2.2.1
theorem k0_off25_inb : ∀ (i : grid0.Coords) (v71 : BitVec 32) (k0_hw1 : k0_chk1 i v71), ∀ a, (k0_off25 v71) a + S1x96x1400.size a ≤ S16x96x1400.size a := fun i v71 k0_hw1 => k0_hw1.2.2.2.2.2.2.2.2.2.2.2.2.2.2.2.2.2.2.2.2.2.2.2.2.2.1
theorem k0_off10_packedbf16 : ∀ (i : grid0.Coords) (v71 : BitVec 32) (k0_hw1 : k0_chk1 i v71), (Rect.unit (s := S16x96x1400) (k0_off10 v71) S1x96x120.size (k0_off10_inb i v71 k0_hw1)).PackedRows (EltTy.packing .bf16) := fun i v71 k0_hw1 => k0_hw1.2.2.2.2.2.2.2.2.2.2.2.2.2.2.2.2.2.2.2.2.2.2.2.2.2.2 (k0_off10_inb i v71 k0_hw1)

@[reducible] def k0_t3_loop : Scf.Loop 32 :=
  let c9_i32_4 : BitVec 32 := 9#32
  let c7_i32 : BitVec 32 := 7#32
  let v2 : BitVec 32 := Scalar.addi c9_i32_4 c7_i32
  let c1_i32_5 : BitVec 32 := 1#32
  ⟨c9_i32_4, v2, c1_i32_5⟩
def k0_off26 (i : grid0.Coords) (k0_t3 : Fin k0_t3_loop.trips) : Fin 2 → Nat :=
  let arg0 : BitVec 32 := BitVec.ofNat 32 (i 0).val
  let v69 : Index := Scalar.indexCast arg0
  let c9_i32_4 : BitVec 32 := 9#32
  let c1_i32_5 : BitVec 32 := 1#32
  let arg12 : BitVec 32 := Scf.iv c9_i32_4 c1_i32_5 k0_t3
  let v70 : Index := Scalar.indexCast arg12
  ![v69.toNat, v70.toNat]
def k0_off27 (i : grid0.Coords) (v71 : BitVec 32) : Fin 2 → Nat :=
  let arg0 : BitVec 32 := BitVec.ofNat 32 (i 0).val
  let v72 : Index := Scalar.indexCast arg0
  let v73 : Index := Scalar.indexCast v71
  ![v72.toNat, v73.toNat]

def k0_off28 (v71 : BitVec 32) : Fin 4 → Nat :=
  let c0_62 : Index := 0#32
  let v83 : Index := Scalar.indexCast v71
  let c0_63 : Index := 0#32
  let c0_64 : Index := 0#32
  ![0, v83.toNat, 0, 0]
def k0_off29 (v71 : BitVec 32) : Fin 4 → Nat :=
  let c0_65 : Index := 0#32
  let v87 : Index := Scalar.indexCast v71
  let c0_66 : Index := 0#32
  let c256_67 : Index := 256#32
  ![0, v87.toNat, 0, 256]
def k0_off30 (v71 : BitVec 32) : Fin 4 → Nat :=
  let c0_68 : Index := 0#32
  let v91 : Index := Scalar.indexCast v71
  let c0_69 : Index := 0#32
  let c512_70 : Index := 512#32
  ![0, v91.toNat, 0, 512]
def k0_off31 (v71 : BitVec 32) : Fin 4 → Nat :=
  let c0_71 : Index := 0#32
  let v95 : Index := Scalar.indexCast v71
  let c0_72 : Index := 0#32
  let c768_73 : Index := 768#32
  ![0, v95.toNat, 0, 768]
def k0_off32 (v71 : BitVec 32) : Fin 4 → Nat :=
  let c0_74 : Index := 0#32
  let v99 : Index := Scalar.indexCast v71
  let c0_75 : Index := 0#32
  let c1024_76 : Index := 1024#32
  ![0, v99.toNat, 0, 1024]
def k0_off33 (v71 : BitVec 32) : Fin 3 → Nat :=
  let v143 : Index := Scalar.indexCast v71
  let c1280_100 : Index := 1280#32
  let c0_101 : Index := 0#32
  ![v143.toNat, 1280, 0]
def k0_off34 (v71 : BitVec 32) : Fin 3 → Nat :=
  let v169 : Index := Scalar.indexCast v71
  let c0_107 : Index := 0#32
  let c1280_108 : Index := 1280#32
  ![v169.toNat, 0, 1280]
def k0_off35 (v71 : BitVec 32) : Fin 3 → Nat :=
  let v199 : Index := Scalar.indexCast v71
  let c0_110 : Index := 0#32
  let c0_111 : Index := 0#32
  ![v199.toNat, 0, 0]
def k0_off36 (v71 : BitVec 32) : Fin 3 → Nat :=
  let v279 : Index := Scalar.indexCast v71
  let c0_130 : Index := 0#32
  let c256_131 : Index := 256#32
  ![v279.toNat, 0, 256]
def k0_off37 (v71 : BitVec 32) : Fin 3 → Nat :=
  let v359 : Index := Scalar.indexCast v71
  let c0_150 : Index := 0#32
  let c512_151 : Index := 512#32
  ![v359.toNat, 0, 512]
def k0_off38 (v71 : BitVec 32) : Fin 3 → Nat :=
  let v439 : Index := Scalar.indexCast v71
  let c0_170 : Index := 0#32
  let c768_171 : Index := 768#32
  ![v439.toNat, 0, 768]
def k0_off39 (v71 : BitVec 32) : Fin 3 → Nat :=
  let v519 : Index := Scalar.indexCast v71
  let c0_190 : Index := 0#32
  let c1024_191 : Index := 1024#32
  ![v519.toNat, 0, 1024]
def k0_off40 (v71 : BitVec 32) : Fin 4 → Nat :=
  let c0_192 : Index := 0#32
  let v523 : Index := Scalar.indexCast v71
  let c0_193 : Index := 0#32
  let c128_194 : Index := 128#32
  ![0, v523.toNat, 0, 128]
def k0_off41 (v71 : BitVec 32) : Fin 4 → Nat :=
  let c0_195 : Index := 0#32
  let v527 : Index := Scalar.indexCast v71
  let c0_196 : Index := 0#32
  let c384_197 : Index := 384#32
  ![0, v527.toNat, 0, 384]
def k0_off42 (v71 : BitVec 32) : Fin 4 → Nat :=
  let c0_198 : Index := 0#32
  let v531 : Index := Scalar.indexCast v71
  let c0_199 : Index := 0#32
  let c640_200 : Index := 640#32
  ![0, v531.toNat, 0, 640]
def k0_off43 (v71 : BitVec 32) : Fin 4 → Nat :=
  let c0_201 : Index := 0#32
  let v535 : Index := Scalar.indexCast v71
  let c0_202 : Index := 0#32
  let c896_203 : Index := 896#32
  ![0, v535.toNat, 0, 896]
def k0_off44 (v71 : BitVec 32) : Fin 4 → Nat :=
  let c0_204 : Index := 0#32
  let v539 : Index := Scalar.indexCast v71
  let c0_205 : Index := 0#32
  let c1152_206 : Index := 1152#32
  ![0, v539.toNat, 0, 1152]
def k0_off45 (v71 : BitVec 32) : Fin 3 → Nat :=
  let v639 : Index := Scalar.indexCast v71
  let c0_240 : Index := 0#32
  let c128_241 : Index := 128#32
  ![v639.toNat, 0, 128]
def k0_off46 (v71 : BitVec 32) : Fin 3 → Nat :=
  let v719 : Index := Scalar.indexCast v71
  let c0_260 : Index := 0#32
  let c384_261 : Index := 384#32
  ![v719.toNat, 0, 384]
def k0_off47 (v71 : BitVec 32) : Fin 3 → Nat :=
  let v799 : Index := Scalar.indexCast v71
  let c0_280 : Index := 0#32
  let c640_281 : Index := 640#32
  ![v799.toNat, 0, 640]
def k0_off48 (v71 : BitVec 32) : Fin 3 → Nat :=
  let v879 : Index := Scalar.indexCast v71
  let c0_300 : Index := 0#32
  let c896_301 : Index := 896#32
  ![v879.toNat, 0, 896]
def k0_off49 (v71 : BitVec 32) : Fin 3 → Nat :=
  let v959 : Index := Scalar.indexCast v71
  let c0_320 : Index := 0#32
  let c1152_321 : Index := 1152#32
  ![v959.toNat, 0, 1152]
def k0_off50 (v71 : BitVec 32) : Fin 3 → Nat :=
  let v963 : Index := Scalar.indexCast v71
  let c0_322 : Index := 0#32
  let c0_323 : Index := 0#32
  ![v963.toNat, 0, 0]
def k0_off51 (v71 : BitVec 32) : Fin 4 → Nat :=
  let c0_324 : Index := 0#32
  let v966 : Index := Scalar.indexCast v71
  let c0_325 : Index := 0#32
  let c1280_326 : Index := 1280#32
  ![0, v966.toNat, 0, 1280]
def k0_off52 (v71 : BitVec 32) : Fin 3 → Nat :=
  let v980 : Index := Scalar.indexCast v71
  let c0_330 : Index := 0#32
  let c0_331 : Index := 0#32
  ![v980.toNat, 0, 0]

def k0_chk2_0 (i : grid0.Coords) (v71 : BitVec 32) : Prop :=
  (∀ a, (k0_off27 i v71) a + S1x1.size a ≤ S12x16.size a) ∧
  (∀ a, (k0_off28 v71) a + S1x1x96x128.size a ≤ S1x16x96x1400.size a) ∧
  (∀ a, (k0_off29 v71) a + S1x1x96x128.size a ≤ S1x16x96x1400.size a) ∧
  (∀ a, (k0_off30 v71) a + S1x1x96x128.size a ≤ S1x16x96x1400.size a) ∧
  (∀ a, (k0_off31 v71) a + S1x1x96x128.size a ≤ S1x16x96x1400.size a) ∧
  (∀ a, (k0_off32 v71) a + S1x1x96x128.size a ≤ S1x16x96x1400.size a) ∧
  (∀ a, (k0_off33 v71) a + S1x120x96.size a ≤ S16x1400x96.size a) ∧
  (∀ a, (k0_off34 v71) a + S1x96x120.size a ≤ S16x96x1400.size a) ∧
  (∀ a, (k0_off35 v71) a + S1x96x128.size a ≤ S16x96x1400.size a) ∧
  (∀ (hinb : ∀ a, (k0_off35 v71) a + S1x96x128.size a ≤ S16x96x1400.size a), (Rect.unit (s := S16x96x1400) (k0_off35 v71) S1x96x128.size hinb).PackedRows (EltTy.packing .bf16)) ∧
  (∀ a, (k0_off36 v71) a + S1x96x128.size a ≤ S16x96x1400.size a) ∧
  (∀ (hinb : ∀ a, (k0_off36 v71) a + S1x96x128.size a ≤ S16x96x1400.size a), (Rect.unit (s := S16x96x1400) (k0_off36 v71) S1x96x128.size hinb).PackedRows (EltTy.packing .bf16)) ∧
  (∀ a, (k0_off37 v71) a + S1x96x128.size a ≤ S16x96x1400.size a) ∧
  (∀ (hinb : ∀ a, (k0_off37 v71) a + S1x96x128.size a ≤ S16x96x1400.size a), (Rect.unit (s := S16x96x1400) (k0_off37 v71) S1x96x128.size hinb).PackedRows (EltTy.packing .bf16)) ∧
  (∀ a, (k0_off38 v71) a + S1x96x128.size a ≤ S16x96x1400.size a) ∧
  (∀ (hinb : ∀ a, (k0_off38 v71) a + S1x96x128.size a ≤ S16x96x1400.size a), (Rect.unit (s := S16x96x1400) (k0_off38 v71) S1x96x128.size hinb).PackedRows (EltTy.packing .bf16)) ∧
  (∀ a, (k0_off39 v71) a + S1x96x128.size a ≤ S16x96x1400.size a) ∧
  (∀ (hinb : ∀ a, (k0_off39 v71) a + S1x96x128.size a ≤ S16x96x1400.size a), (Rect.unit (s := S16x96x1400) (k0_off39 v71) S1x96x128.size hinb).PackedRows (EltTy.packing .bf16)) ∧
  (∀ a, (k0_off40 v71) a + S1x1x96x128.size a ≤ S1x16x96x1400.size a) ∧
  (∀ a, (k0_off41 v71) a + S1x1x96x128.size a ≤ S1x16x96x1400.size a) ∧
  (∀ a, (k0_off42 v71) a + S1x1x96x128.size a ≤ S1x16x96x1400.size a) ∧
  (∀ a, (k0_off43 v71) a + S1x1x96x128.size a ≤ S1x16x96x1400.size a) ∧
  (∀ a, (k0_off44 v71) a + S1x1x96x128.size a ≤ S1x16x96x1400.size a) ∧
  (∀ a, (k0_off45 v71) a + S1x96x128.size a ≤ S16x96x1400.size a) ∧
  (∀ (hinb : ∀ a, (k0_off45 v71) a + S1x96x128.size a ≤ S16x96x1400.size a), (Rect.unit (s := S16x96x1400) (k0_off45 v71) S1x96x128.size hinb).PackedRows (EltTy.packing .bf16)) ∧
  (∀ a, (k0_off46 v71) a + S1x96x128.size a ≤ S16x96x1400.size a) ∧
  (∀ (hinb : ∀ a, (k0_off46 v71) a + S1x96x128.size a ≤ S16x96x1400.size a), (Rect.unit (s := S16x96x1400) (k0_off46 v71) S1x96x128.size hinb).PackedRows (EltTy.packing .bf16)) ∧
  (∀ a, (k0_off47 v71) a + S1x96x128.size a ≤ S16x96x1400.size a) ∧
  (∀ (hinb : ∀ a, (k0_off47 v71) a + S1x96x128.size a ≤ S16x96x1400.size a), (Rect.unit (s := S16x96x1400) (k0_off47 v71) S1x96x128.size hinb).PackedRows (EltTy.packing .bf16)) ∧
  (∀ a, (k0_off48 v71) a + S1x96x128.size a ≤ S16x96x1400.size a) ∧
  (∀ (hinb : ∀ a, (k0_off48 v71) a + S1x96x128.size a ≤ S16x96x1400.size a), (Rect.unit (s := S16x96x1400) (k0_off48 v71) S1x96x128.size hinb).PackedRows (EltTy.packing .bf16)) ∧
  (∀ a, (k0_off49 v71) a + S1x96x128.size a ≤ S16x96x1400.size a)
def k0_chk2_1 (i : grid0.Coords) (v71 : BitVec 32) : Prop :=
  (∀ (hinb : ∀ a, (k0_off49 v71) a + S1x96x128.size a ≤ S16x96x1400.size a), (Rect.unit (s := S16x96x1400) (k0_off49 v71) S1x96x128.size hinb).PackedRows (EltTy.packing .bf16)) ∧
  (∀ a, (k0_off50 v71) a + S1x1400x96.size a ≤ S16x1400x96.size a) ∧
  (∀ a, (k0_off51 v71) a + S1x1x96x120.size a ≤ S1x16x96x1400.size a) ∧
  (∀ a, (k0_off52 v71) a + S1x96x1400.size a ≤ S16x96x1400.size a) ∧
  (∀ (hinb : ∀ a, (k0_off34 v71) a + S1x96x120.size a ≤ S16x96x1400.size a), (Rect.unit (s := S16x96x1400) (k0_off34 v71) S1x96x120.size hinb).PackedRows (EltTy.packing .bf16))
def k0_chk2 (i : grid0.Coords) (v71 : BitVec 32) : Prop :=
  k0_chk2_0 i v71 ∧
  k0_chk2_1 i v71
theorem k0_off27_inb : ∀ (i : grid0.Coords) (v71 : BitVec 32) (k0_hw2 : k0_chk2 i v71), ∀ a, (k0_off27 i v71) a + S1x1.size a ≤ S12x16.size a := fun i v71 k0_hw2 => k0_hw2.1.1
theorem k0_off28_inb : ∀ (i : grid0.Coords) (v71 : BitVec 32) (k0_hw2 : k0_chk2 i v71), ∀ a, (k0_off28 v71) a + S1x1x96x128.size a ≤ S1x16x96x1400.size a := fun i v71 k0_hw2 => k0_hw2.1.2.1
theorem k0_off29_inb : ∀ (i : grid0.Coords) (v71 : BitVec 32) (k0_hw2 : k0_chk2 i v71), ∀ a, (k0_off29 v71) a + S1x1x96x128.size a ≤ S1x16x96x1400.size a := fun i v71 k0_hw2 => k0_hw2.1.2.2.1
theorem k0_off30_inb : ∀ (i : grid0.Coords) (v71 : BitVec 32) (k0_hw2 : k0_chk2 i v71), ∀ a, (k0_off30 v71) a + S1x1x96x128.size a ≤ S1x16x96x1400.size a := fun i v71 k0_hw2 => k0_hw2.1.2.2.2.1
theorem k0_off31_inb : ∀ (i : grid0.Coords) (v71 : BitVec 32) (k0_hw2 : k0_chk2 i v71), ∀ a, (k0_off31 v71) a + S1x1x96x128.size a ≤ S1x16x96x1400.size a := fun i v71 k0_hw2 => k0_hw2.1.2.2.2.2.1
theorem k0_off32_inb : ∀ (i : grid0.Coords) (v71 : BitVec 32) (k0_hw2 : k0_chk2 i v71), ∀ a, (k0_off32 v71) a + S1x1x96x128.size a ≤ S1x16x96x1400.size a := fun i v71 k0_hw2 => k0_hw2.1.2.2.2.2.2.1
theorem k0_off33_inb : ∀ (i : grid0.Coords) (v71 : BitVec 32) (k0_hw2 : k0_chk2 i v71), ∀ a, (k0_off33 v71) a + S1x120x96.size a ≤ S16x1400x96.size a := fun i v71 k0_hw2 => k0_hw2.1.2.2.2.2.2.2.1
theorem k0_off34_inb : ∀ (i : grid0.Coords) (v71 : BitVec 32) (k0_hw2 : k0_chk2 i v71), ∀ a, (k0_off34 v71) a + S1x96x120.size a ≤ S16x96x1400.size a := fun i v71 k0_hw2 => k0_hw2.1.2.2.2.2.2.2.2.1
theorem k0_off35_inb : ∀ (i : grid0.Coords) (v71 : BitVec 32) (k0_hw2 : k0_chk2 i v71), ∀ a, (k0_off35 v71) a + S1x96x128.size a ≤ S16x96x1400.size a := fun i v71 k0_hw2 => k0_hw2.1.2.2.2.2.2.2.2.2.1
theorem k0_off35_packedbf16 : ∀ (i : grid0.Coords) (v71 : BitVec 32) (k0_hw2 : k0_chk2 i v71), (Rect.unit (s := S16x96x1400) (k0_off35 v71) S1x96x128.size (k0_off35_inb i v71 k0_hw2)).PackedRows (EltTy.packing .bf16) := fun i v71 k0_hw2 => k0_hw2.1.2.2.2.2.2.2.2.2.2.1 (k0_off35_inb i v71 k0_hw2)
theorem k0_off36_inb : ∀ (i : grid0.Coords) (v71 : BitVec 32) (k0_hw2 : k0_chk2 i v71), ∀ a, (k0_off36 v71) a + S1x96x128.size a ≤ S16x96x1400.size a := fun i v71 k0_hw2 => k0_hw2.1.2.2.2.2.2.2.2.2.2.2.1
theorem k0_off36_packedbf16 : ∀ (i : grid0.Coords) (v71 : BitVec 32) (k0_hw2 : k0_chk2 i v71), (Rect.unit (s := S16x96x1400) (k0_off36 v71) S1x96x128.size (k0_off36_inb i v71 k0_hw2)).PackedRows (EltTy.packing .bf16) := fun i v71 k0_hw2 => k0_hw2.1.2.2.2.2.2.2.2.2.2.2.2.1 (k0_off36_inb i v71 k0_hw2)
theorem k0_off37_inb : ∀ (i : grid0.Coords) (v71 : BitVec 32) (k0_hw2 : k0_chk2 i v71), ∀ a, (k0_off37 v71) a + S1x96x128.size a ≤ S16x96x1400.size a := fun i v71 k0_hw2 => k0_hw2.1.2.2.2.2.2.2.2.2.2.2.2.2.1
theorem k0_off37_packedbf16 : ∀ (i : grid0.Coords) (v71 : BitVec 32) (k0_hw2 : k0_chk2 i v71), (Rect.unit (s := S16x96x1400) (k0_off37 v71) S1x96x128.size (k0_off37_inb i v71 k0_hw2)).PackedRows (EltTy.packing .bf16) := fun i v71 k0_hw2 => k0_hw2.1.2.2.2.2.2.2.2.2.2.2.2.2.2.1 (k0_off37_inb i v71 k0_hw2)
theorem k0_off38_inb : ∀ (i : grid0.Coords) (v71 : BitVec 32) (k0_hw2 : k0_chk2 i v71), ∀ a, (k0_off38 v71) a + S1x96x128.size a ≤ S16x96x1400.size a := fun i v71 k0_hw2 => k0_hw2.1.2.2.2.2.2.2.2.2.2.2.2.2.2.2.1
theorem k0_off38_packedbf16 : ∀ (i : grid0.Coords) (v71 : BitVec 32) (k0_hw2 : k0_chk2 i v71), (Rect.unit (s := S16x96x1400) (k0_off38 v71) S1x96x128.size (k0_off38_inb i v71 k0_hw2)).PackedRows (EltTy.packing .bf16) := fun i v71 k0_hw2 => k0_hw2.1.2.2.2.2.2.2.2.2.2.2.2.2.2.2.2.1 (k0_off38_inb i v71 k0_hw2)
theorem k0_off39_inb : ∀ (i : grid0.Coords) (v71 : BitVec 32) (k0_hw2 : k0_chk2 i v71), ∀ a, (k0_off39 v71) a + S1x96x128.size a ≤ S16x96x1400.size a := fun i v71 k0_hw2 => k0_hw2.1.2.2.2.2.2.2.2.2.2.2.2.2.2.2.2.2.1
theorem k0_off39_packedbf16 : ∀ (i : grid0.Coords) (v71 : BitVec 32) (k0_hw2 : k0_chk2 i v71), (Rect.unit (s := S16x96x1400) (k0_off39 v71) S1x96x128.size (k0_off39_inb i v71 k0_hw2)).PackedRows (EltTy.packing .bf16) := fun i v71 k0_hw2 => k0_hw2.1.2.2.2.2.2.2.2.2.2.2.2.2.2.2.2.2.2.1 (k0_off39_inb i v71 k0_hw2)
theorem k0_off40_inb : ∀ (i : grid0.Coords) (v71 : BitVec 32) (k0_hw2 : k0_chk2 i v71), ∀ a, (k0_off40 v71) a + S1x1x96x128.size a ≤ S1x16x96x1400.size a := fun i v71 k0_hw2 => k0_hw2.1.2.2.2.2.2.2.2.2.2.2.2.2.2.2.2.2.2.2.1
theorem k0_off41_inb : ∀ (i : grid0.Coords) (v71 : BitVec 32) (k0_hw2 : k0_chk2 i v71), ∀ a, (k0_off41 v71) a + S1x1x96x128.size a ≤ S1x16x96x1400.size a := fun i v71 k0_hw2 => k0_hw2.1.2.2.2.2.2.2.2.2.2.2.2.2.2.2.2.2.2.2.2.1
theorem k0_off42_inb : ∀ (i : grid0.Coords) (v71 : BitVec 32) (k0_hw2 : k0_chk2 i v71), ∀ a, (k0_off42 v71) a + S1x1x96x128.size a ≤ S1x16x96x1400.size a := fun i v71 k0_hw2 => k0_hw2.1.2.2.2.2.2.2.2.2.2.2.2.2.2.2.2.2.2.2.2.2.1
theorem k0_off43_inb : ∀ (i : grid0.Coords) (v71 : BitVec 32) (k0_hw2 : k0_chk2 i v71), ∀ a, (k0_off43 v71) a + S1x1x96x128.size a ≤ S1x16x96x1400.size a := fun i v71 k0_hw2 => k0_hw2.1.2.2.2.2.2.2.2.2.2.2.2.2.2.2.2.2.2.2.2.2.2.1
theorem k0_off44_inb : ∀ (i : grid0.Coords) (v71 : BitVec 32) (k0_hw2 : k0_chk2 i v71), ∀ a, (k0_off44 v71) a + S1x1x96x128.size a ≤ S1x16x96x1400.size a := fun i v71 k0_hw2 => k0_hw2.1.2.2.2.2.2.2.2.2.2.2.2.2.2.2.2.2.2.2.2.2.2.2.1
theorem k0_off45_inb : ∀ (i : grid0.Coords) (v71 : BitVec 32) (k0_hw2 : k0_chk2 i v71), ∀ a, (k0_off45 v71) a + S1x96x128.size a ≤ S16x96x1400.size a := fun i v71 k0_hw2 => k0_hw2.1.2.2.2.2.2.2.2.2.2.2.2.2.2.2.2.2.2.2.2.2.2.2.2.1
theorem k0_off45_packedbf16 : ∀ (i : grid0.Coords) (v71 : BitVec 32) (k0_hw2 : k0_chk2 i v71), (Rect.unit (s := S16x96x1400) (k0_off45 v71) S1x96x128.size (k0_off45_inb i v71 k0_hw2)).PackedRows (EltTy.packing .bf16) := fun i v71 k0_hw2 => k0_hw2.1.2.2.2.2.2.2.2.2.2.2.2.2.2.2.2.2.2.2.2.2.2.2.2.2.1 (k0_off45_inb i v71 k0_hw2)
theorem k0_off46_inb : ∀ (i : grid0.Coords) (v71 : BitVec 32) (k0_hw2 : k0_chk2 i v71), ∀ a, (k0_off46 v71) a + S1x96x128.size a ≤ S16x96x1400.size a := fun i v71 k0_hw2 => k0_hw2.1.2.2.2.2.2.2.2.2.2.2.2.2.2.2.2.2.2.2.2.2.2.2.2.2.2.1
theorem k0_off46_packedbf16 : ∀ (i : grid0.Coords) (v71 : BitVec 32) (k0_hw2 : k0_chk2 i v71), (Rect.unit (s := S16x96x1400) (k0_off46 v71) S1x96x128.size (k0_off46_inb i v71 k0_hw2)).PackedRows (EltTy.packing .bf16) := fun i v71 k0_hw2 => k0_hw2.1.2.2.2.2.2.2.2.2.2.2.2.2.2.2.2.2.2.2.2.2.2.2.2.2.2.2.1 (k0_off46_inb i v71 k0_hw2)
theorem k0_off47_inb : ∀ (i : grid0.Coords) (v71 : BitVec 32) (k0_hw2 : k0_chk2 i v71), ∀ a, (k0_off47 v71) a + S1x96x128.size a ≤ S16x96x1400.size a := fun i v71 k0_hw2 => k0_hw2.1.2.2.2.2.2.2.2.2.2.2.2.2.2.2.2.2.2.2.2.2.2.2.2.2.2.2.2.1
theorem k0_off47_packedbf16 : ∀ (i : grid0.Coords) (v71 : BitVec 32) (k0_hw2 : k0_chk2 i v71), (Rect.unit (s := S16x96x1400) (k0_off47 v71) S1x96x128.size (k0_off47_inb i v71 k0_hw2)).PackedRows (EltTy.packing .bf16) := fun i v71 k0_hw2 => k0_hw2.1.2.2.2.2.2.2.2.2.2.2.2.2.2.2.2.2.2.2.2.2.2.2.2.2.2.2.2.2.1 (k0_off47_inb i v71 k0_hw2)
theorem k0_off48_inb : ∀ (i : grid0.Coords) (v71 : BitVec 32) (k0_hw2 : k0_chk2 i v71), ∀ a, (k0_off48 v71) a + S1x96x128.size a ≤ S16x96x1400.size a := fun i v71 k0_hw2 => k0_hw2.1.2.2.2.2.2.2.2.2.2.2.2.2.2.2.2.2.2.2.2.2.2.2.2.2.2.2.2.2.2.1
theorem k0_off48_packedbf16 : ∀ (i : grid0.Coords) (v71 : BitVec 32) (k0_hw2 : k0_chk2 i v71), (Rect.unit (s := S16x96x1400) (k0_off48 v71) S1x96x128.size (k0_off48_inb i v71 k0_hw2)).PackedRows (EltTy.packing .bf16) := fun i v71 k0_hw2 => k0_hw2.1.2.2.2.2.2.2.2.2.2.2.2.2.2.2.2.2.2.2.2.2.2.2.2.2.2.2.2.2.2.2.1 (k0_off48_inb i v71 k0_hw2)
theorem k0_off49_inb : ∀ (i : grid0.Coords) (v71 : BitVec 32) (k0_hw2 : k0_chk2 i v71), ∀ a, (k0_off49 v71) a + S1x96x128.size a ≤ S16x96x1400.size a := fun i v71 k0_hw2 => k0_hw2.1.2.2.2.2.2.2.2.2.2.2.2.2.2.2.2.2.2.2.2.2.2.2.2.2.2.2.2.2.2.2.2
theorem k0_off49_packedbf16 : ∀ (i : grid0.Coords) (v71 : BitVec 32) (k0_hw2 : k0_chk2 i v71), (Rect.unit (s := S16x96x1400) (k0_off49 v71) S1x96x128.size (k0_off49_inb i v71 k0_hw2)).PackedRows (EltTy.packing .bf16) := fun i v71 k0_hw2 => k0_hw2.2.1 (k0_off49_inb i v71 k0_hw2)
theorem k0_off50_inb : ∀ (i : grid0.Coords) (v71 : BitVec 32) (k0_hw2 : k0_chk2 i v71), ∀ a, (k0_off50 v71) a + S1x1400x96.size a ≤ S16x1400x96.size a := fun i v71 k0_hw2 => k0_hw2.2.2.1
theorem k0_off51_inb : ∀ (i : grid0.Coords) (v71 : BitVec 32) (k0_hw2 : k0_chk2 i v71), ∀ a, (k0_off51 v71) a + S1x1x96x120.size a ≤ S1x16x96x1400.size a := fun i v71 k0_hw2 => k0_hw2.2.2.2.1
theorem k0_off52_inb : ∀ (i : grid0.Coords) (v71 : BitVec 32) (k0_hw2 : k0_chk2 i v71), ∀ a, (k0_off52 v71) a + S1x96x1400.size a ≤ S16x96x1400.size a := fun i v71 k0_hw2 => k0_hw2.2.2.2.2.1
theorem k0_off34_packedbf16 : ∀ (i : grid0.Coords) (v71 : BitVec 32) (k0_hw2 : k0_chk2 i v71), (Rect.unit (s := S16x96x1400) (k0_off34 v71) S1x96x120.size (k0_off34_inb i v71 k0_hw2)).PackedRows (EltTy.packing .bf16) := fun i v71 k0_hw2 => k0_hw2.2.2.2.2.2 (k0_off34_inb i v71 k0_hw2)

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_4 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_5 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 1 → Memref sig .tc .smem S12x16 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .smem S12x16 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .smem S12x16 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1x16x96x1400 .fp8e4m3 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x16x96x1400 .fp8e4m3 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x16x96x1400 .fp8e4m3 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x1400x1536 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== KernelIdeal.lean ====
variable {F : FTy → Type} [FloatOps F] [Named F]
def κ : String → Option EReal := fun
  | "scale_log2e" => some (((Real.sqrt 96)⁻¹ * (Real.log 2)⁻¹ : ℝ) : EReal)
  | _ => none
-- ==== ReferenceIdeal.lean ====
variable {F : FTy → Type} [FloatOps F] [Named F]
def κ : String → Option EReal := fun
  | "scale" => some (((Real.sqrt 96)⁻¹ : ℝ) : EReal)
  | _ => none
-- ==== Reference.lean ====
abbrev S12x1400x16x96 : Shape := ⟨4, ![12, 1400, 16, 96]⟩
abbrev S12x16 : Shape := ⟨2, ![12, 16]⟩
abbrev S1400 : Shape := ⟨1, ![1400]⟩
abbrev S_ : Shape := ⟨0, ![]⟩
abbrev S1400x1 : Shape := ⟨2, ![1400, 1]⟩
abbrev S1x1400 : Shape := ⟨2, ![1, 1400]⟩
abbrev S1400x1400 : Shape := ⟨2, ![1400, 1400]⟩
abbrev S16 : Shape := ⟨1, ![16]⟩
abbrev S12x9 : Shape := ⟨2, ![12, 9]⟩
abbrev S12x9x1 : Shape := ⟨3, ![12, 9, 1]⟩
abbrev S1x1x16 : Shape := ⟨3, ![1, 1, 16]⟩
abbrev S12x9x16 : Shape := ⟨3, ![12, 9, 16]⟩
abbrev S12x16x1x1 : Shape := ⟨4, ![12, 16, 1, 1]⟩
abbrev S12x16x1400x1400 : Shape := ⟨4, ![12, 16, 1400, 1400]⟩
abbrev S12x16x1400 : Shape := ⟨3, ![12, 16, 1400]⟩
abbrev S12x16x1400x1 : Shape := ⟨4, ![12, 16, 1400, 1]⟩
abbrev S12x16x96x1400 : Shape := ⟨4, ![12, 16, 96, 1400]⟩
abbrev S12x1x16x1 : Shape := ⟨4, ![12, 1, 16, 1]⟩
abbrev S12x1400x1536 : Shape := ⟨3, ![12, 1400, 1536]⟩

abbrev nBuf : Space → Nat
  | .hbm => 88
  | .vmem => 9
  | .smem => 0
  | _ => 0

abbrev bufTy : (tb : Table) → Fin (tcTables nBuf tb) → BufTy
  | .hbm, ⟨0, _⟩ => ⟨S12x1400x16x96, .fp8e4m3⟩
  | .hbm, ⟨1, _⟩ => ⟨S12x1400x16x96, .fp8e4m3⟩
  | .hbm, ⟨2, _⟩ => ⟨S12x1400x16x96, .fp8e4m3⟩
  | .hbm, ⟨3, _⟩ => ⟨S12x16, .f32⟩
  | .hbm, ⟨4, _⟩ => ⟨S12x16, .f32⟩
  | .hbm, ⟨5, _⟩ => ⟨S12x16, .f32⟩
  | .hbm, ⟨6, _⟩ => ⟨S12x16, .i32⟩
  | .hbm, ⟨7, _⟩ => ⟨S12x1400x16x96, .bf16⟩
  | .hbm, ⟨8, _⟩ => ⟨S12x1400x16x96, .bf16⟩
  | .hbm, ⟨9, _⟩ => ⟨S12x1400x16x96, .bf16⟩
  | .hbm, ⟨10, _⟩ => ⟨S12x16, .f32⟩
  | .hbm, ⟨11, _⟩ => ⟨S1400, .i32⟩
  | .hbm, ⟨12, _⟩ => ⟨S_, .i32⟩
  | .hbm, ⟨13, _⟩ => ⟨S1400, .i32⟩
  | .hbm, ⟨14, _⟩ => ⟨S1400, .i1⟩
  | .hbm, ⟨15, _⟩ => ⟨S_, .i32⟩
  | .hbm, ⟨16, _⟩ => ⟨S1400, .i32⟩
  | .hbm, ⟨17, _⟩ => ⟨S1400, .i32⟩
  | .hbm, ⟨18, _⟩ => ⟨S_, .i32⟩
  | .hbm, ⟨19, _⟩ => ⟨S1400, .i32⟩
  | .hbm, ⟨20, _⟩ => ⟨S1400, .i32⟩
  | .hbm, ⟨21, _⟩ => ⟨S1400x1, .i1⟩
  | .hbm, ⟨22, _⟩ => ⟨S1x1400, .i1⟩
  | .hbm, ⟨23, _⟩ => ⟨S1400x1400, .i1⟩
  | .hbm, ⟨24, _⟩ => ⟨S1400x1400, .i1⟩
  | .hbm, ⟨25, _⟩ => ⟨S1400x1400, .i1⟩
  | .hbm, ⟨26, _⟩ => ⟨S1400x1, .i32⟩
  | .hbm, ⟨27, _⟩ => ⟨S1x1400, .i32⟩
  | .hbm, ⟨28, _⟩ => ⟨S1400x1400, .i32⟩
  | .hbm, ⟨29, _⟩ => ⟨S1400x1400, .i32⟩
  | .hbm, ⟨30, _⟩ => ⟨S1400x1400, .i1⟩
  | .hbm, ⟨31, _⟩ => ⟨S1400x1400, .i1⟩
  | .hbm, ⟨32, _⟩ => ⟨S1x1400, .i32⟩
  | .hbm, ⟨33, _⟩ => ⟨S_, .i32⟩
  | .hbm, ⟨34, _⟩ => ⟨S1x1400, .i32⟩
  | .hbm, ⟨35, _⟩ => ⟨S1x1400, .i1⟩
  | .hbm, ⟨36, _⟩ => ⟨S1400x1400, .i1⟩
  | .hbm, ⟨37, _⟩ => ⟨S1400x1400, .i1⟩
  | .hbm, ⟨38, _⟩ => ⟨S1400x1, .i32⟩
  | .hbm, ⟨39, _⟩ => ⟨S1x1400, .i32⟩
  | .hbm, ⟨40, _⟩ => ⟨S1400x1400, .i32⟩
  | .hbm, ⟨41, _⟩ => ⟨S1400x1400, .i32⟩
  | .hbm, ⟨42, _⟩ => ⟨S1400x1400, .i1⟩
  | .hbm, ⟨43, _⟩ => ⟨S1400x1400, .i1⟩
  | .hbm, ⟨44, _⟩ => ⟨S16, .i32⟩
  | .hbm, ⟨45, _⟩ => ⟨S12x9, .i32⟩
  | .hbm, ⟨46, _⟩ => ⟨S12x9x1, .i32⟩
  | .hbm, ⟨47, _⟩ => ⟨S1x1x16, .i32⟩
  | .hbm, ⟨48, _⟩ => ⟨S12x9x16, .i32⟩
  | .hbm, ⟨49, _⟩ => ⟨S12x9x16, .i32⟩
  | .hbm, ⟨50, _⟩ => ⟨S12x9x16, .i1⟩
  | .hbm, ⟨51, _⟩ => ⟨S_, .i1⟩
  | .hbm, ⟨52, _⟩ => ⟨S12x16, .i1⟩
  | .hbm, ⟨53, _⟩ => ⟨S12x16x1x1, .i1⟩
  | .hbm, ⟨54, _⟩ => ⟨S12x16x1400x1400, .i1⟩
  | .hbm, ⟨55, _⟩ => ⟨S12x16x1400x1400, .i1⟩
  | .hbm, ⟨56, _⟩ => ⟨S12x16x1400x1400, .i1⟩
  | .hbm, ⟨57, _⟩ => ⟨S12x16x1400x1400, .i1⟩
  | .hbm, ⟨58, _⟩ => ⟨S12x16x1400x1400, .f32⟩
  | .hbm, ⟨59, _⟩ => ⟨S12x16x1x1, .f32⟩
  | .hbm, ⟨60, _⟩ => ⟨S12x16x1400x1400, .f32⟩
  | .hbm, ⟨61, _⟩ => ⟨S12x16x1400x1400, .f32⟩
  | .hbm, ⟨62, _⟩ => ⟨S_, .f32⟩
  | .hbm, ⟨63, _⟩ => ⟨S_, .f32⟩
  | .hbm, ⟨64, _⟩ => ⟨S12x16x1400x1400, .f32⟩
  | .hbm, ⟨65, _⟩ => ⟨S12x16x1400x1400, .f32⟩
  | .hbm, ⟨66, _⟩ => ⟨S_, .f32⟩
  | .hbm, ⟨67, _⟩ => ⟨S12x16x1400, .f32⟩
  | .hbm, ⟨68, _⟩ => ⟨S12x16x1400x1, .f32⟩
  | .hbm, ⟨69, _⟩ => ⟨S12x16x1400x1400, .f32⟩
  | .hbm, ⟨70, _⟩ => ⟨S12x16x1400x1400, .f32⟩
  | .hbm, ⟨71, _⟩ => ⟨S12x16x1400x1400, .f32⟩
  | .hbm, ⟨72, _⟩ => ⟨S_, .f32⟩
  | .hbm, ⟨73, _⟩ => ⟨S12x16x1400, .f32⟩
  | .hbm, ⟨74, _⟩ => ⟨S12x16x1400x1, .f32⟩
  | .hbm, ⟨75, _⟩ => ⟨S_, .f32⟩
  | .hbm, ⟨76, _⟩ => ⟨S12x16x1400x1, .f32⟩
  | .hbm, ⟨77, _⟩ => ⟨S12x16x1400x1, .f32⟩
  | .hbm, ⟨78, _⟩ => ⟨S12x16x1400x1400, .f32⟩
  | .hbm, ⟨79, _⟩ => ⟨S12x16x1400x1400, .f32⟩
  | .hbm, ⟨80, _⟩ => ⟨S12x16x1400x1400, .bf16⟩
  | .hbm, ⟨81, _⟩ => ⟨S12x16x96x1400, .f32⟩
  | .hbm, ⟨82, _⟩ => ⟨S12x1400x16x96, .f32⟩
  | .hbm, ⟨83, _⟩ => ⟨S12x1x16x1, .f32⟩
  | .hbm, ⟨84, _⟩ => ⟨S12x1400x16x96, .f32⟩
  | .hbm, ⟨85, _⟩ => ⟨S12x1400x16x96, .f32⟩
  | .hbm, ⟨86, _⟩ => ⟨S12x1400x1536, .f32⟩
  | .hbm, ⟨87, _⟩ => ⟨S12x1400x1536, .bf16⟩
  | .local _ .vmem, ⟨0, _⟩ => ⟨S12x1400x16x96, .fp8e4m3⟩
  | .local _ .vmem, ⟨1, _⟩ => ⟨S12x1400x16x96, .fp8e4m3⟩
  | .local _ .vmem, ⟨2, _⟩ => ⟨S12x1400x16x96, .fp8e4m3⟩
  | .local _ .vmem, ⟨3, _⟩ => ⟨S12x16, .f32⟩
  | .local _ .vmem, ⟨4, _⟩ => ⟨S12x16, .f32⟩
  | .local _ .vmem, ⟨5, _⟩ => ⟨S12x1400x16x96, .bf16⟩
  | .local _ .vmem, ⟨6, _⟩ => ⟨S12x1400x16x96, .bf16⟩
  | .local _ .vmem, ⟨7, _⟩ => ⟨S12x1400x16x96, .bf16⟩
  | .local _ .vmem, ⟨8, _⟩ => ⟨S12x16, .f32⟩
  | _, _ => ⟨S12x1400x16x96, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0_0 : Ref sig .tc := ⟨.hbm, 7, rfl⟩
abbrev main_v0_1 : Ref sig .tc := ⟨.hbm, 8, rfl⟩
abbrev main_v0_2 : Ref sig .tc := ⟨.hbm, 9, rfl⟩
abbrev main_v0_3 : Ref sig .tc := ⟨.hbm, 10, rfl⟩
abbrev main_v1 : Ref sig .tc := ⟨.hbm, 11, rfl⟩
abbrev main_c : Ref sig .tc := ⟨.hbm, 12, rfl⟩
abbrev main_v2 : Ref sig .tc := ⟨.hbm, 13, rfl⟩
abbrev main_v3 : Ref sig .tc := ⟨.hbm, 14, rfl⟩
abbrev main_c_0 : Ref sig .tc := ⟨.hbm, 15, rfl⟩
abbrev main_v4 : Ref sig .tc := ⟨.hbm, 16, rfl⟩
abbrev main_v5 : Ref sig .tc := ⟨.hbm, 17, rfl⟩
abbrev main_c_1 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_c_2 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_c_3 : Ref sig .tc := ⟨.hbm, 51, rfl⟩
abbrev main_v37 : Ref sig .tc := ⟨.hbm, 52, rfl⟩
abbrev main_v38 : Ref sig .tc := ⟨.hbm, 53, rfl⟩
abbrev main_call0_v0 : Ref sig .tc := ⟨.hbm, 54, rfl⟩
abbrev main_call0_v1 : Ref sig .tc := ⟨.hbm, 55, rfl⟩
abbrev main_call0_v2 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_cst : Ref sig .tc := ⟨.hbm, 62, rfl⟩
abbrev main_call1_v0 : Ref sig .tc := ⟨.hbm, 63, rfl⟩
abbrev main_call1_v1 : Ref sig .tc := ⟨.hbm, 64, rfl⟩
abbrev main_v44 : Ref sig .tc := ⟨.hbm, 65, rfl⟩
abbrev main_cst_4 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_cst_5 : Ref sig .tc := ⟨.hbm, 72, rfl⟩
abbrev main_v50 : Ref sig .tc := ⟨.hbm, 73, rfl⟩
abbrev main_v51 : Ref sig .tc := ⟨.hbm, 74, rfl⟩
abbrev main_cst_6 : Ref sig .tc := ⟨.hbm, 75, rfl⟩
abbrev main_v52 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev main_v56 : Ref sig .tc := ⟨.hbm, 80, rfl⟩
abbrev main_v57 : Ref sig .tc := ⟨.hbm, 81, rfl⟩
abbrev main_v58 : Ref sig .tc := ⟨.hbm, 82, rfl⟩
abbrev main_v59 : Ref sig .tc := ⟨.hbm, 83, rfl⟩
abbrev main_v60 : Ref sig .tc := ⟨.hbm, 84, rfl⟩
abbrev main_v61 : Ref sig .tc := ⟨.hbm, 85, rfl⟩
abbrev main_v62 : Ref sig .tc := ⟨.hbm, 86, rfl⟩
abbrev main_v63 : Ref sig .tc := ⟨.hbm, 87, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8

abbrev nD : Nat := 1
abbrev τ : Topo := Topo.v7x

variable {F : FTy → Type} [FloatOps F]

abbrev grid0 : Pipeline.Grid := .none

abbrev stage0_0 : Fin 1 → Memref sig .tc .vmem S12x1400x16x96 .fp8e4m3 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S12x1400x16x96 .fp8e4m3 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S12x1400x16x96 .fp8e4m3 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S12x16 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S12x16 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S12x1400x16x96 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S12x1400x16x96 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S12x1400x16x96 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S12x16 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
-- ==== Proof.Words.lean ====
/- What the two preconditions say of the order table: every word names one of the sixteen heads; and, for the value claim,
   every head is named on every row. -/
module

public import proofs.«01_k».proof.Proof.Gen.Pre_in_range
public import proofs.«01_k».proof.Proof.Gen.Pre_permutes
public import Idealize.ShloMosaic.Lib.ReduceAll
public import Idealize.ShloMosaic.Lib.WordCmp
public import Idealize.ShloMosaic.Lib.ValueIdx
public import Idealize.ShloMosaic.Lib.Pointwise

@[expose] public section

noncomputable section

namespace Cert.Words

open Idealize.ShloMosaic Idealize.SL.Sem

abbrev S12x16 : Shape := ⟨2, ![12, 16]⟩

/-- A left fold by `or` that is 1 started at 1 or met a 1. -/
theorem foldl_ori_eq_one {ι : Type} (f : ι → BitVec 1) :
    ∀ (l : List ι) (init : BitVec 1), l.foldl (fun r n => IntOp.ori r (f n)) init = 1#1 → init = 1#1 ∨ ∃ n ∈ l, f n = 1#1
  | [], init, h => .inl h
  | a :: l, init, h => by
    rcases foldl_ori_eq_one f l _ h with h1 | ⟨n, hn, h1⟩
    · have key : ∀ p q : BitVec 1, IntOp.ori p q = 1#1 → p = 1#1 ∨ q = 1#1 := by decide
      rcases key _ _ h1 with h2 | h2
      · exact .inl h2
      · exact .inr ⟨a, List.mem_cons_self .., h2⟩
    · exact .inr ⟨n, List.mem_cons_of_mem _ hn, h1⟩

/-- A left fold by `or` that met a 1 is 1. -/
theorem foldl_ori_one {ι : Type} (f : ι → BitVec 1) :
    ∀ (l : List ι) (init : BitVec 1), (init = 1#1 ∨ ∃ n ∈ l, f n = 1#1) → l.foldl (fun r n => IntOp.ori r (f n)) init = 1#1
  | [], _, h => by
    rcases h with h | ⟨n, hn, _⟩
    · exact h
    · nomatch hn
  | a :: l, init, h => by
    refine foldl_ori_one f l _ ?_
    have key1 : ∀ q : BitVec 1, IntOp.ori 1#1 q = 1#1 := by decide
    have key2 : ∀ q : BitVec 1, IntOp.ori q 1#1 = 1#1 := by decide
    rcases h with h | ⟨n, hn, h⟩
    · left; show IntOp.ori init (f a) = 1#1; rw [h]; exact key1 _
    · rcases List.mem_cons.1 hn with rfl | hn
      · left; show IntOp.ori init (f _) = 1#1; rw [h]; exact key2 _
      · exact .inr ⟨n, hn, h⟩

/-- A reduction by `or` from 0 is 1 at `j` exactly when an operand element that reduces into `j` is. -/
theorem reduce_ori_iff {s t u : Shape} {axes : List (Fin s.rank)} (x : s.Idx → BitVec 1) (init : u.Idx → BitVec 1)
    (h : s.ReducesTo axes t) (hu : 0 < u.numel) (hi : init (Shape.Idx.first hu) = 0#1) (j : t.Idx) :
    Host.reduce IntOp.ori x init h hu j = 1#1 ↔ ∃ i : s.Idx, h.drop i = j ∧ x i = 1#1 := by
  rw [Host.reduce_eq_foldl, hi]
  constructor
  · intro e
    rcases foldl_ori_eq_one x _ _ e with e | ⟨i, hm, e⟩
    · exact absurd e (by decide)
    · rw [List.mem_filter] at hm
      exact ⟨i, by simpa using hm.2, e⟩
  · rintro ⟨i, hd, e⟩
    refine foldl_ori_one x _ _ (.inr ⟨i, ?_, e⟩)
    rw [List.mem_filter]
    exact ⟨List.mem_map.2 ⟨s.rowMajor i, List.mem_finRange _, Equiv.symm_apply_apply _ _⟩, by simp [hd]⟩

/-- A word between 0 and 16, read signed, is below 16, read unsigned. -/
theorem lt_of_range (v : BitVec 32) (h : IntOp.andi (IntOp.cmpi .sge v 0#32) (IntOp.cmpi .slt v 16#32) = 1#1) : v.toNat < 16 := by
  obtain ⟨h1, h2⟩ := IntOp.andi_eq_one.1 h
  have h1 := IntOp.cmpi_sge.1 h1
  have h2 := IntOp.cmpi_slt.1 h2
  simp only [BitVec.toInt, BitVec.toNat_ofNat] at h1 h2
  omega

variable {F : FTy → Type} [FloatOps F]

theorem in_range_lt {a0 a1 a2 a3 a4 a5} (x : IVec S12x16 32) (h : Cert.Pre_in_range.fn (F := F) a0 a1 a2 a3 a4 a5 x = fun _ => 1#1)
    (y : S12x16.Idx) : (x y).toNat < 16 := by
  have e := congrFun h (fun a => nomatch a)
  unfold Cert.Pre_in_range.fn at e
  haveI : Subsingleton Cert.Pre_in_range.S_.Idx := ⟨fun a b => funext fun k => nomatch k⟩
  exact lt_of_range _ (Host.reduce_andi_all _ _ _ _ _ e y)

theorem permutes_lt {a0 a1 a2 a3 a4 a5} (x : IVec S12x16 32) (h : Cert.Pre_permutes.fn (F := F) a0 a1 a2 a3 a4 a5 x = fun _ => 1#1)
    (y : S12x16.Idx) : (x y).toNat < 16 := by
  have e := congrFun h (fun a => nomatch a)
  unfold Cert.Pre_permutes.fn at e
  haveI : Subsingleton Cert.Pre_permutes.S_.Idx := ⟨fun a b => funext fun k => nomatch k⟩
  exact lt_of_range _ (Host.reduce_andi_all _ _ _ _ _ (IntOp.andi_eq_one.1 e).1 y)

/-- On every row the table names every head. -/
theorem permutes_names {a0 a1 a2 a3 a4 a5} (x : IVec S12x16 32) (h : Cert.Pre_permutes.fn (F := F) a0 a1 a2 a3 a4 a5 x = fun _ => 1#1)
    (b : Fin 12) (g : Fin 16) : ∃ k : Fin 16, x (ix2 b k) = BitVec.ofNat 32 g.val := by
  have e := congrFun h (fun a => nomatch a)
  unfold Cert.Pre_permutes.fn at e
  haveI : Subsingleton Cert.Pre_permutes.S_.Idx := ⟨fun a b => funext fun k => nomatch k⟩
  have e2 := Host.reduce_andi_all _ _ _ _ _ (IntOp.andi_eq_one.1 e).2 (ix2 b g)
  obtain ⟨i, hd, e3⟩ := (reduce_ori_iff _ _ _ _ rfl _).1 e2
  rw [eq_ix3 i] at hd e3
  refine ⟨i 1, ?_⟩
  have hb : i 0 = b := congrFun hd 0
  have hg : i 2 = g := congrFun hd 1
  have e4 := IntOp.cmpi_eq.1 e3
  rw [hb, hg] at e4
  refine Eq.trans (congrArg x ?_) (e4.trans ?_)
  · funext a; match a with
    | 0 => rfl
    | 1 => rfl
  · rfl

end Cert.Words

end
-- ==== Proof.KernelTrip2.lean ====
/- ONE TRIP of head loop 2 of the kernel, run symbolically: what a trip finds in the order table, the
   scales, the staged codes and the scratch copies of keys and values, it leaves alone; it writes a list of pieces into the
   scratch that collects the outputs. -/
module

public import proofs.«01_k».proof.Proof.Gen.Kernel.Loops
public import proofs.«01_k».proof.Proof.Gen.Kernel.Launch
public import proofs.«01_k».proof.Proof.Gen.Kernel.Skeleton
public import Idealize.ShloMosaic.Lib.Exec
public import Idealize.ShloMosaic.Lib.Tactic

@[expose] public section

set_option maxRecDepth 8192
set_option maxHeartbeats 4000000

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

/-- What one trip of loop 2 touches: the operands it reads (the order table at share `q`), and the output scratch at
    contents `f`. -/
abbrev Trip2 (c : Dev nD) (q : PosShare TreeShare) (arg1 : Memref sig .tc .smem S12x16 .i32) (harg1 : arg1.IsWhole) (arg2 : Memref sig .tc .smem S12x16 .f32) (harg2 : arg2.IsWhole) (arg3 : Memref sig .tc .smem S12x16 .f32) (harg3 : arg3.IsWhole) (arg4 : Memref sig .tc .smem S12x16 .f32) (harg4 : arg4.IsWhole) (arg5 : Memref sig .tc .vmem S1x16x96x1400 .fp8e4m3) (harg5 : arg5.IsWhole) (arg6 : Memref sig .tc .vmem S1x16x96x1400 .fp8e4m3) (harg6 : arg6.IsWhole) (arg7 : Memref sig .tc .vmem S1x16x96x1400 .fp8e4m3) (harg7 : arg7.IsWhole) (arg8 : Memref sig .tc .vmem S1x1400x1536 .bf16) (harg8 : arg8.IsWhole) (arg9 : Memref sig .tc .vmem S16x1400x96 .fp8e4m3) (harg9 : arg9.IsWhole) (arg10 : Memref sig .tc .vmem S16x96x1400 .bf16) (harg10 : arg10.IsWhole) (arg11 : Memref sig .tc .vmem S16x96x1400 .bf16) (harg11 : arg11.IsWhole) (X1 : BufTy.Contents (Elt F) arg1.view.ty) (X2 : BufTy.Contents (Elt F) arg2.view.ty) (X3 : BufTy.Contents (Elt F) arg3.view.ty) (X4 : BufTy.Contents (Elt F) arg4.view.ty) (X5 : BufTy.Contents (Elt F) arg5.view.ty) (X9 : BufTy.Contents (Elt F) arg9.view.ty) (X10 : BufTy.Contents (Elt F) arg10.view.ty) (f : BufTy.Contents (Elt F) arg11.view.ty) : sProp 𝕄 :=
  iprop((arg1.view.loc (c : Thread nD τ) ↦[arg1.view.set]{q} X1) ∗ (arg2.view.loc (c : Thread nD τ) ↦[arg2.view.set]{fullShare} X2) ∗ (arg3.view.loc (c : Thread nD τ) ↦[arg3.view.set]{fullShare} X3) ∗ (arg4.view.loc (c : Thread nD τ) ↦[arg4.view.set]{fullShare} X4) ∗ (arg5.view.loc (c : Thread nD τ) ↦[arg5.view.set]{fullShare} X5) ∗ (arg9.view.loc (c : Thread nD τ) ↦[arg9.view.set]{fullShare} X9) ∗ (arg10.view.loc (c : Thread nD τ) ↦[arg10.view.set]{fullShare} X10) ∗ (arg11.view.loc (c : Thread nD τ) ↦[arg11.view.set]{fullShare} f))

/-- ONE TRIP of loop 2, at a head `hw` says is inside the tables: it leaves the operands as found and writes a list
    of pieces into the output scratch. -/
@[irreducible] def trip2 (c : Dev nD) (q : PosShare TreeShare) (i : grid0.Coords) (arg1 : Memref sig .tc .smem S12x16 .i32) (harg1 : arg1.IsWhole) (arg2 : Memref sig .tc .smem S12x16 .f32) (harg2 : arg2.IsWhole) (arg3 : Memref sig .tc .smem S12x16 .f32) (harg3 : arg3.IsWhole) (arg4 : Memref sig .tc .smem S12x16 .f32) (harg4 : arg4.IsWhole) (arg5 : Memref sig .tc .vmem S1x16x96x1400 .fp8e4m3) (harg5 : arg5.IsWhole) (arg6 : Memref sig .tc .vmem S1x16x96x1400 .fp8e4m3) (harg6 : arg6.IsWhole) (arg7 : Memref sig .tc .vmem S1x16x96x1400 .fp8e4m3) (harg7 : arg7.IsWhole) (arg8 : Memref sig .tc .vmem S1x1400x1536 .bf16) (harg8 : arg8.IsWhole) (arg9 : Memref sig .tc .vmem S16x1400x96 .fp8e4m3) (harg9 : arg9.IsWhole) (arg10 : Memref sig .tc .vmem S16x96x1400 .bf16) (harg10 : arg10.IsWhole) (arg11 : Memref sig .tc .vmem S16x96x1400 .bf16) (harg11 : arg11.IsWhole) (X1 : BufTy.Contents (Elt F) arg1.view.ty) (X2 : BufTy.Contents (Elt F) arg2.view.ty) (X3 : BufTy.Contents (Elt F) arg3.view.ty) (X4 : BufTy.Contents (Elt F) arg4.view.ty) (X5 : BufTy.Contents (Elt F) arg5.view.ty) (X9 : BufTy.Contents (Elt F) arg9.view.ty) (X10 : BufTy.Contents (Elt F) arg10.view.ty)
    (k : Fin k0_t2_loop.trips) (hw : ∀ x, k0_chk1 i (View.readAt (Elt F) arg1.view (Rect.unit (s := S12x16) (k0_off4 i k) S1x1.size (k0_off4_inb i k)).toLoadRect X1 x)) :
    { L : List (View.Piece (Elt F) S16x96x1400 .bf16) // ∀ (E : Set ℕ) (f : BufTy.Contents (Elt F) arg11.view.ty),
      Trip2 (F := F) c q arg1 harg1 arg2 harg2 arg3 harg3 arg4 harg4 arg5 harg5 arg6 harg6 arg7 harg7 arg8 harg8 arg9 harg9 arg10 harg10 arg11 harg11 X1 X2 X3 X4 X5 X9 X10 f
      ⊢ wp frame (wpE (defs₀ (F := F)) Variants.none (c : Thread nD τ) none) E (k0_t2_body (F := F) i arg1 harg1 arg2 harg2 arg3 harg3 arg4 harg4 arg5 harg5 arg6 harg6 arg7 harg7 arg8 harg8 arg9 harg9 arg10 harg10 arg11 harg11 (BitVec.ofNat 32 (i 0).val) k PUnit.unit)
          (fun _ => Trip2 (F := F) c q arg1 harg1 arg2 harg2 arg3 harg3 arg4 harg4 arg5 harg5 arg6 harg6 arg7 harg7 arg8 harg8 arg9 harg9 arg10 harg10 arg11 harg11 X1 X2 X3 X4 X5 X9 X10 (arg11.view.writes (Elt F) f L)) } := by
  refine ⟨?_, fun E f => ?run⟩
  case run =>
    unfold k0_t2_body
    iintro ⟨H1, H2, H3, H4, H5, H9, H10, HW⟩
    sl_exec_parts (disch := exact hw _)
    sl_step
    sl_close

/-- Trip `k`'s pieces in front of those of the trips before it. -/
@[irreducible] def pb2Step (c : Dev nD) (q : PosShare TreeShare) (i : grid0.Coords) (arg1 : Memref sig .tc .smem S12x16 .i32) (harg1 : arg1.IsWhole) (arg2 : Memref sig .tc .smem S12x16 .f32) (harg2 : arg2.IsWhole) (arg3 : Memref sig .tc .smem S12x16 .f32) (harg3 : arg3.IsWhole) (arg4 : Memref sig .tc .smem S12x16 .f32) (harg4 : arg4.IsWhole) (arg5 : Memref sig .tc .vmem S1x16x96x1400 .fp8e4m3) (harg5 : arg5.IsWhole) (arg6 : Memref sig .tc .vmem S1x16x96x1400 .fp8e4m3) (harg6 : arg6.IsWhole) (arg7 : Memref sig .tc .vmem S1x16x96x1400 .fp8e4m3) (harg7 : arg7.IsWhole) (arg8 : Memref sig .tc .vmem S1x1400x1536 .bf16) (harg8 : arg8.IsWhole) (arg9 : Memref sig .tc .vmem S16x1400x96 .fp8e4m3) (harg9 : arg9.IsWhole) (arg10 : Memref sig .tc .vmem S16x96x1400 .bf16) (harg10 : arg10.IsWhole) (arg11 : Memref sig .tc .vmem S16x96x1400 .bf16) (harg11 : arg11.IsWhole) (X1 : BufTy.Contents (Elt F) arg1.view.ty) (X2 : BufTy.Contents (Elt F) arg2.view.ty) (X3 : BufTy.Contents (Elt F) arg3.view.ty) (X4 : BufTy.Contents (Elt F) arg4.view.ty) (X5 : BufTy.Contents (Elt F) arg5.view.ty) (X9 : BufTy.Contents (Elt F) arg9.view.ty) (X10 : BufTy.Contents (Elt F) arg10.view.ty)
    (hw : ∀ k, ∀ x, k0_chk1 i (View.readAt (Elt F) arg1.view (Rect.unit (s := S12x16) (k0_off4 i k) S1x1.size (k0_off4_inb i k)).toLoadRect X1 x)) (k : ℕ) (prev : List (View.Piece (Elt F) S16x96x1400 .bf16)) : List (View.Piece (Elt F) S16x96x1400 .bf16) :=
  if h : k < k0_t2_loop.trips then (trip2 (F := F) c q i arg1 harg1 arg2 harg2 arg3 harg3 arg4 harg4 arg5 harg5 arg6 harg6 arg7 harg7 arg8 harg8 arg9 harg9 arg10 harg10 arg11 harg11 X1 X2 X3 X4 X5 X9 X10 ⟨k, h⟩ (hw ⟨k, h⟩)).1 ++ prev else prev

/-- The pieces of the trips before `k`, the last trip's first. -/
def pb2 (c : Dev nD) (q : PosShare TreeShare) (i : grid0.Coords) (arg1 : Memref sig .tc .smem S12x16 .i32) (harg1 : arg1.IsWhole) (arg2 : Memref sig .tc .smem S12x16 .f32) (harg2 : arg2.IsWhole) (arg3 : Memref sig .tc .smem S12x16 .f32) (harg3 : arg3.IsWhole) (arg4 : Memref sig .tc .smem S12x16 .f32) (harg4 : arg4.IsWhole) (arg5 : Memref sig .tc .vmem S1x16x96x1400 .fp8e4m3) (harg5 : arg5.IsWhole) (arg6 : Memref sig .tc .vmem S1x16x96x1400 .fp8e4m3) (harg6 : arg6.IsWhole) (arg7 : Memref sig .tc .vmem S1x16x96x1400 .fp8e4m3) (harg7 : arg7.IsWhole) (arg8 : Memref sig .tc .vmem S1x1400x1536 .bf16) (harg8 : arg8.IsWhole) (arg9 : Memref sig .tc .vmem S16x1400x96 .fp8e4m3) (harg9 : arg9.IsWhole) (arg10 : Memref sig .tc .vmem S16x96x1400 .bf16) (harg10 : arg10.IsWhole) (arg11 : Memref sig .tc .vmem S16x96x1400 .bf16) (harg11 : arg11.IsWhole) (X1 : BufTy.Contents (Elt F) arg1.view.ty) (X2 : BufTy.Contents (Elt F) arg2.view.ty) (X3 : BufTy.Contents (Elt F) arg3.view.ty) (X4 : BufTy.Contents (Elt F) arg4.view.ty) (X5 : BufTy.Contents (Elt F) arg5.view.ty) (X9 : BufTy.Contents (Elt F) arg9.view.ty) (X10 : BufTy.Contents (Elt F) arg10.view.ty)
    (hw : ∀ k, ∀ x, k0_chk1 i (View.readAt (Elt F) arg1.view (Rect.unit (s := S12x16) (k0_off4 i k) S1x1.size (k0_off4_inb i k)).toLoadRect X1 x)) : ℕ → List (View.Piece (Elt F) S16x96x1400 .bf16)
  | 0 => []
  | k + 1 => pb2Step (F := F) c q i arg1 harg1 arg2 harg2 arg3 harg3 arg4 harg4 arg5 harg5 arg6 harg6 arg7 harg7 arg8 harg8 arg9 harg9 arg10 harg10 arg11 harg11 X1 X2 X3 X4 X5 X9 X10 hw k (pb2 c q i arg1 harg1 arg2 harg2 arg3 harg3 arg4 harg4 arg5 harg5 arg6 harg6 arg7 harg7 arg8 harg8 arg9 harg9 arg10 harg10 arg11 harg11 X1 X2 X3 X4 X5 X9 X10 hw k)

theorem pb2_succ (c : Dev nD) (q : PosShare TreeShare) (i : grid0.Coords) (arg1 : Memref sig .tc .smem S12x16 .i32) (harg1 : arg1.IsWhole) (arg2 : Memref sig .tc .smem S12x16 .f32) (harg2 : arg2.IsWhole) (arg3 : Memref sig .tc .smem S12x16 .f32) (harg3 : arg3.IsWhole) (arg4 : Memref sig .tc .smem S12x16 .f32) (harg4 : arg4.IsWhole) (arg5 : Memref sig .tc .vmem S1x16x96x1400 .fp8e4m3) (harg5 : arg5.IsWhole) (arg6 : Memref sig .tc .vmem S1x16x96x1400 .fp8e4m3) (harg6 : arg6.IsWhole) (arg7 : Memref sig .tc .vmem S1x16x96x1400 .fp8e4m3) (harg7 : arg7.IsWhole) (arg8 : Memref sig .tc .vmem S1x1400x1536 .bf16) (harg8 : arg8.IsWhole) (arg9 : Memref sig .tc .vmem S16x1400x96 .fp8e4m3) (harg9 : arg9.IsWhole) (arg10 : Memref sig .tc .vmem S16x96x1400 .bf16) (harg10 : arg10.IsWhole) (arg11 : Memref sig .tc .vmem S16x96x1400 .bf16) (harg11 : arg11.IsWhole) (X1 : BufTy.Contents (Elt F) arg1.view.ty) (X2 : BufTy.Contents (Elt F) arg2.view.ty) (X3 : BufTy.Contents (Elt F) arg3.view.ty) (X4 : BufTy.Contents (Elt F) arg4.view.ty) (X5 : BufTy.Contents (Elt F) arg5.view.ty) (X9 : BufTy.Contents (Elt F) arg9.view.ty) (X10 : BufTy.Contents (Elt F) arg10.view.ty)
    (hw : ∀ k, ∀ x, k0_chk1 i (View.readAt (Elt F) arg1.view (Rect.unit (s := S12x16) (k0_off4 i k) S1x1.size (k0_off4_inb i k)).toLoadRect X1 x)) (k : Fin k0_t2_loop.trips) :
    pb2 (F := F) c q i arg1 harg1 arg2 harg2 arg3 harg3 arg4 harg4 arg5 harg5 arg6 harg6 arg7 harg7 arg8 harg8 arg9 harg9 arg10 harg10 arg11 harg11 X1 X2 X3 X4 X5 X9 X10 hw (k.val + 1) = (trip2 (F := F) c q i arg1 harg1 arg2 harg2 arg3 harg3 arg4 harg4 arg5 harg5 arg6 harg6 arg7 harg7 arg8 harg8 arg9 harg9 arg10 harg10 arg11 harg11 X1 X2 X3 X4 X5 X9 X10 k (hw k)).1 ++ pb2 (F := F) c q i arg1 harg1 arg2 harg2 arg3 harg3 arg4 harg4 arg5 harg5 arg6 harg6 arg7 harg7 arg8 harg8 arg9 harg9 arg10 harg10 arg11 harg11 X1 X2 X3 X4 X5 X9 X10 hw k.val := by
  rw [pb2.eq_2]; unfold pb2Step; exact dif_pos k.isLt

/-- The invariant of loop 2 before trip `k`: the operands as found, the output scratch with the pieces of the trips
    before `k` written over what it held at the start. -/
abbrev inv2 (c : Dev nD) (q : PosShare TreeShare) (i : grid0.Coords) (arg1 : Memref sig .tc .smem S12x16 .i32) (harg1 : arg1.IsWhole) (arg2 : Memref sig .tc .smem S12x16 .f32) (harg2 : arg2.IsWhole) (arg3 : Memref sig .tc .smem S12x16 .f32) (harg3 : arg3.IsWhole) (arg4 : Memref sig .tc .smem S12x16 .f32) (harg4 : arg4.IsWhole) (arg5 : Memref sig .tc .vmem S1x16x96x1400 .fp8e4m3) (harg5 : arg5.IsWhole) (arg6 : Memref sig .tc .vmem S1x16x96x1400 .fp8e4m3) (harg6 : arg6.IsWhole) (arg7 : Memref sig .tc .vmem S1x16x96x1400 .fp8e4m3) (harg7 : arg7.IsWhole) (arg8 : Memref sig .tc .vmem S1x1400x1536 .bf16) (harg8 : arg8.IsWhole) (arg9 : Memref sig .tc .vmem S16x1400x96 .fp8e4m3) (harg9 : arg9.IsWhole) (arg10 : Memref sig .tc .vmem S16x96x1400 .bf16) (harg10 : arg10.IsWhole) (arg11 : Memref sig .tc .vmem S16x96x1400 .bf16) (harg11 : arg11.IsWhole) (X1 : BufTy.Contents (Elt F) arg1.view.ty) (X2 : BufTy.Contents (Elt F) arg2.view.ty) (X3 : BufTy.Contents (Elt F) arg3.view.ty) (X4 : BufTy.Contents (Elt F) arg4.view.ty) (X5 : BufTy.Contents (Elt F) arg5.view.ty) (X9 : BufTy.Contents (Elt F) arg9.view.ty) (X10 : BufTy.Contents (Elt F) arg10.view.ty) (G : BufTy.Contents (Elt F) arg11.view.ty)
    (hw : ∀ k, ∀ x, k0_chk1 i (View.readAt (Elt F) arg1.view (Rect.unit (s := S12x16) (k0_off4 i k) S1x1.size (k0_off4_inb i k)).toLoadRect X1 x)) (k : ℕ) (_ : PUnit) : sProp 𝕄 :=
  iprop((arg1.view.loc (c : Thread nD τ) ↦[arg1.view.set]{q} X1) ∗ (arg2.view.loc (c : Thread nD τ) ↦[arg2.view.set]{fullShare} X2) ∗ (arg3.view.loc (c : Thread nD τ) ↦[arg3.view.set]{fullShare} X3) ∗ (arg4.view.loc (c : Thread nD τ) ↦[arg4.view.set]{fullShare} X4) ∗ (arg5.view.loc (c : Thread nD τ) ↦[arg5.view.set]{fullShare} X5) ∗ (arg9.view.loc (c : Thread nD τ) ↦[arg9.view.set]{fullShare} X9) ∗ (arg10.view.loc (c : Thread nD τ) ↦[arg10.view.set]{fullShare} X10) ∗ (∃ f, (arg11.view.loc (c : Thread nD τ) ↦[arg11.view.set]{fullShare} f) ∗ ⌜f = arg11.view.writes (Elt F) G (pb2 (F := F) c q i arg1 harg1 arg2 harg2 arg3 harg3 arg4 harg4 arg5 harg5 arg6 harg6 arg7 harg7 arg8 harg8 arg9 harg9 arg10 harg10 arg11 harg11 X1 X2 X3 X4 X5 X9 X10 hw k)⌝))

set_option warn.classDefReducibility false in
/-- Loop 2 by its invariant. -/
@[sl_loop] def loopInv2 (c : Dev nD) (q : PosShare TreeShare) (E : Set ℕ) (i : grid0.Coords) (arg1 : Memref sig .tc .smem S12x16 .i32) (harg1 : arg1.IsWhole) (arg2 : Memref sig .tc .smem S12x16 .f32) (harg2 : arg2.IsWhole) (arg3 : Memref sig .tc .smem S12x16 .f32) (harg3 : arg3.IsWhole) (arg4 : Memref sig .tc .smem S12x16 .f32) (harg4 : arg4.IsWhole) (arg5 : Memref sig .tc .vmem S1x16x96x1400 .fp8e4m3) (harg5 : arg5.IsWhole) (arg6 : Memref sig .tc .vmem S1x16x96x1400 .fp8e4m3) (harg6 : arg6.IsWhole) (arg7 : Memref sig .tc .vmem S1x16x96x1400 .fp8e4m3) (harg7 : arg7.IsWhole) (arg8 : Memref sig .tc .vmem S1x1400x1536 .bf16) (harg8 : arg8.IsWhole) (arg9 : Memref sig .tc .vmem S16x1400x96 .fp8e4m3) (harg9 : arg9.IsWhole) (arg10 : Memref sig .tc .vmem S16x96x1400 .bf16) (harg10 : arg10.IsWhole) (arg11 : Memref sig .tc .vmem S16x96x1400 .bf16) (harg11 : arg11.IsWhole) (X1 : BufTy.Contents (Elt F) arg1.view.ty) (X2 : BufTy.Contents (Elt F) arg2.view.ty) (X3 : BufTy.Contents (Elt F) arg3.view.ty) (X4 : BufTy.Contents (Elt F) arg4.view.ty) (X5 : BufTy.Contents (Elt F) arg5.view.ty) (X9 : BufTy.Contents (Elt F) arg9.view.ty) (X10 : BufTy.Contents (Elt F) arg10.view.ty) (G : BufTy.Contents (Elt F) arg11.view.ty)
    (hw : ∀ k, ∀ x, k0_chk1 i (View.readAt (Elt F) arg1.view (Rect.unit (s := S12x16) (k0_off4 i k) S1x1.size (k0_off4_inb i k)).toLoadRect X1 x)) :
    LoopInvTy_k0_t2 (F := F) Unit ℕ (UR sig nD τ) ℕ Variants.none c none E i arg1 harg1 arg2 harg2 arg3 harg3 arg4 harg4 arg5 harg5 arg6 harg6 arg7 harg7 arg8 harg8 arg9 harg9 arg10 harg10 arg11 harg11 (BitVec.ofNat 32 (i 0).val) where
  inv := inv2 (F := F) c q i arg1 harg1 arg2 harg2 arg3 harg3 arg4 harg4 arg5 harg5 arg6 harg6 arg7 harg7 arg8 harg8 arg9 harg9 arg10 harg10 arg11 harg11 X1 X2 X3 X4 X5 X9 X10 G hw
  step k acc := by
    iintro ⟨H1, H2, H3, H4, H5, H9, H10, ⟨%f, HW, %h⟩⟩
    iapply (wp_wand_r Idealize.ShloMosaic.frame (wpE (defs₀ (F := F)) Variants.none (c : Thread nD τ) none) E)
    isplitl [H1 H2 H3 H4 H5 H9 H10 HW]
    · iapply ((trip2 (F := F) c q i arg1 harg1 arg2 harg2 arg3 harg3 arg4 harg4 arg5 harg5 arg6 harg6 arg7 harg7 arg8 harg8 arg9 harg9 arg10 harg10 arg11 harg11 X1 X2 X3 X4 X5 X9 X10 k (hw k)).2 E f)
      isplitl [H1]; · iexact H1
      isplitl [H2]; · iexact H2
      isplitl [H3]; · iexact H3
      isplitl [H4]; · iexact H4
      isplitl [H5]; · iexact H5
      isplitl [H9]; · iexact H9
      isplitl [H10]; · iexact H10
      iexact HW
    · iintro %_ ⟨H1, H2, H3, H4, H5, H9, H10, HW⟩
      isplitl [H1]; · iexact H1
      isplitl [H2]; · iexact H2
      isplitl [H3]; · iexact H3
      isplitl [H4]; · iexact H4
      isplitl [H5]; · iexact H5
      isplitl [H9]; · iexact H9
      isplitl [H10]; · iexact H10
      rw [pb2_succ]
      iexists _; isplitl [HW]; · iexact HW
      ipureintro; rw [h, ← View.writes_append]

end Cert.Kernel.Hand

end
-- ==== Proof.KernelTrip3.lean ====
/- ONE TRIP of head loop 3 of the kernel, run symbolically: what a trip finds in the order table, the
   scales, the staged codes and the scratch copies of keys and values, it leaves alone; it writes a list of pieces into the
   scratch that collects the outputs. -/
module

public import proofs.«01_k».proof.Proof.Gen.Kernel.Loops
public import proofs.«01_k».proof.Proof.Gen.Kernel.Launch
public import proofs.«01_k».proof.Proof.Gen.Kernel.Skeleton
public import Idealize.ShloMosaic.Lib.Exec
public import Idealize.ShloMosaic.Lib.Tactic

@[expose] public section

set_option maxRecDepth 8192
set_option maxHeartbeats 4000000

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

/-- What one trip of loop 3 touches: the operands it reads (the order table at share `q`), and the output scratch at
    contents `f`. -/
abbrev Trip3 (c : Dev nD) (q : PosShare TreeShare) (arg1 : Memref sig .tc .smem S12x16 .i32) (harg1 : arg1.IsWhole) (arg2 : Memref sig .tc .smem S12x16 .f32) (harg2 : arg2.IsWhole) (arg3 : Memref sig .tc .smem S12x16 .f32) (harg3 : arg3.IsWhole) (arg4 : Memref sig .tc .smem S12x16 .f32) (harg4 : arg4.IsWhole) (arg5 : Memref sig .tc .vmem S1x16x96x1400 .fp8e4m3) (harg5 : arg5.IsWhole) (arg6 : Memref sig .tc .vmem S1x16x96x1400 .fp8e4m3) (harg6 : arg6.IsWhole) (arg7 : Memref sig .tc .vmem S1x16x96x1400 .fp8e4m3) (harg7 : arg7.IsWhole) (arg8 : Memref sig .tc .vmem S1x1400x1536 .bf16) (harg8 : arg8.IsWhole) (arg9 : Memref sig .tc .vmem S16x1400x96 .fp8e4m3) (harg9 : arg9.IsWhole) (arg10 : Memref sig .tc .vmem S16x96x1400 .bf16) (harg10 : arg10.IsWhole) (arg11 : Memref sig .tc .vmem S16x96x1400 .bf16) (harg11 : arg11.IsWhole) (X1 : BufTy.Contents (Elt F) arg1.view.ty) (X2 : BufTy.Contents (Elt F) arg2.view.ty) (X3 : BufTy.Contents (Elt F) arg3.view.ty) (X4 : BufTy.Contents (Elt F) arg4.view.ty) (X5 : BufTy.Contents (Elt F) arg5.view.ty) (X6 : BufTy.Contents (Elt F) arg6.view.ty) (X7 : BufTy.Contents (Elt F) arg7.view.ty) (X9 : BufTy.Contents (Elt F) arg9.view.ty) (X10 : BufTy.Contents (Elt F) arg10.view.ty) (f : BufTy.Contents (Elt F) arg11.view.ty) : sProp 𝕄 :=
  iprop((arg1.view.loc (c : Thread nD τ) ↦[arg1.view.set]{q} X1) ∗ (arg2.view.loc (c : Thread nD τ) ↦[arg2.view.set]{fullShare} X2) ∗ (arg3.view.loc (c : Thread nD τ) ↦[arg3.view.set]{fullShare} X3) ∗ (arg4.view.loc (c : Thread nD τ) ↦[arg4.view.set]{fullShare} X4) ∗ (arg5.view.loc (c : Thread nD τ) ↦[arg5.view.set]{fullShare} X5) ∗ (arg6.view.loc (c : Thread nD τ) ↦[arg6.view.set]{fullShare} X6) ∗ (arg7.view.loc (c : Thread nD τ) ↦[arg7.view.set]{fullShare} X7) ∗ (arg9.view.loc (c : Thread nD τ) ↦[arg9.view.set]{fullShare} X9) ∗ (arg10.view.loc (c : Thread nD τ) ↦[arg10.view.set]{fullShare} X10) ∗ (arg11.view.loc (c : Thread nD τ) ↦[arg11.view.set]{fullShare} f))

/-- ONE TRIP of loop 3, at a head `hw` says is inside the tables: it leaves the operands as found and writes a list
    of pieces into the output scratch. -/
@[irreducible] def trip3 (c : Dev nD) (q : PosShare TreeShare) (i : grid0.Coords) (arg1 : Memref sig .tc .smem S12x16 .i32) (harg1 : arg1.IsWhole) (arg2 : Memref sig .tc .smem S12x16 .f32) (harg2 : arg2.IsWhole) (arg3 : Memref sig .tc .smem S12x16 .f32) (harg3 : arg3.IsWhole) (arg4 : Memref sig .tc .smem S12x16 .f32) (harg4 : arg4.IsWhole) (arg5 : Memref sig .tc .vmem S1x16x96x1400 .fp8e4m3) (harg5 : arg5.IsWhole) (arg6 : Memref sig .tc .vmem S1x16x96x1400 .fp8e4m3) (harg6 : arg6.IsWhole) (arg7 : Memref sig .tc .vmem S1x16x96x1400 .fp8e4m3) (harg7 : arg7.IsWhole) (arg8 : Memref sig .tc .vmem S1x1400x1536 .bf16) (harg8 : arg8.IsWhole) (arg9 : Memref sig .tc .vmem S16x1400x96 .fp8e4m3) (harg9 : arg9.IsWhole) (arg10 : Memref sig .tc .vmem S16x96x1400 .bf16) (harg10 : arg10.IsWhole) (arg11 : Memref sig .tc .vmem S16x96x1400 .bf16) (harg11 : arg11.IsWhole) (X1 : BufTy.Contents (Elt F) arg1.view.ty) (X2 : BufTy.Contents (Elt F) arg2.view.ty) (X3 : BufTy.Contents (Elt F) arg3.view.ty) (X4 : BufTy.Contents (Elt F) arg4.view.ty) (X5 : BufTy.Contents (Elt F) arg5.view.ty) (X6 : BufTy.Contents (Elt F) arg6.view.ty) (X7 : BufTy.Contents (Elt F) arg7.view.ty) (X9 : BufTy.Contents (Elt F) arg9.view.ty) (X10 : BufTy.Contents (Elt F) arg10.view.ty)
    (k : Fin k0_t3_loop.trips) (hw : ∀ x, k0_chk2 i (View.readAt (Elt F) arg1.view (Rect.unit (s := S12x16) (k0_off26 i k) S1x1.size (k0_off26_inb i k)).toLoadRect X1 x)) :
    { L : List (View.Piece (Elt F) S16x96x1400 .bf16) // ∀ (E : Set ℕ) (f : BufTy.Contents (Elt F) arg11.view.ty),
      Trip3 (F := F) c q arg1 harg1 arg2 harg2 arg3 harg3 arg4 harg4 arg5 harg5 arg6 harg6 arg7 harg7 arg8 harg8 arg9 harg9 arg10 harg10 arg11 harg11 X1 X2 X3 X4 X5 X6 X7 X9 X10 f
      ⊢ wp frame (wpE (defs₀ (F := F)) Variants.none (c : Thread nD τ) none) E (k0_t3_body (F := F) i arg1 harg1 arg2 harg2 arg3 harg3 arg4 harg4 arg5 harg5 arg6 harg6 arg7 harg7 arg8 harg8 arg9 harg9 arg10 harg10 arg11 harg11 (BitVec.ofNat 32 (i 0).val) k PUnit.unit)
          (fun _ => Trip3 (F := F) c q arg1 harg1 arg2 harg2 arg3 harg3 arg4 harg4 arg5 harg5 arg6 harg6 arg7 harg7 arg8 harg8 arg9 harg9 arg10 harg10 arg11 harg11 X1 X2 X3 X4 X5 X6 X7 X9 X10 (arg11.view.writes (Elt F) f L)) } := by
  refine ⟨?_, fun E f => ?run⟩
  case run =>
    unfold k0_t3_body
    iintro ⟨H1, H2, H3, H4, H5, H6, H7, H9, H10, HW⟩
    sl_exec_parts (disch := exact hw _)
    sl_step
    sl_close

/-- Trip `k`'s pieces in front of those of the trips before it. -/
@[irreducible] def pb3Step (c : Dev nD) (q : PosShare TreeShare) (i : grid0.Coords) (arg1 : Memref sig .tc .smem S12x16 .i32) (harg1 : arg1.IsWhole) (arg2 : Memref sig .tc .smem S12x16 .f32) (harg2 : arg2.IsWhole) (arg3 : Memref sig .tc .smem S12x16 .f32) (harg3 : arg3.IsWhole) (arg4 : Memref sig .tc .smem S12x16 .f32) (harg4 : arg4.IsWhole) (arg5 : Memref sig .tc .vmem S1x16x96x1400 .fp8e4m3) (harg5 : arg5.IsWhole) (arg6 : Memref sig .tc .vmem S1x16x96x1400 .fp8e4m3) (harg6 : arg6.IsWhole) (arg7 : Memref sig .tc .vmem S1x16x96x1400 .fp8e4m3) (harg7 : arg7.IsWhole) (arg8 : Memref sig .tc .vmem S1x1400x1536 .bf16) (harg8 : arg8.IsWhole) (arg9 : Memref sig .tc .vmem S16x1400x96 .fp8e4m3) (harg9 : arg9.IsWhole) (arg10 : Memref sig .tc .vmem S16x96x1400 .bf16) (harg10 : arg10.IsWhole) (arg11 : Memref sig .tc .vmem S16x96x1400 .bf16) (harg11 : arg11.IsWhole) (X1 : BufTy.Contents (Elt F) arg1.view.ty) (X2 : BufTy.Contents (Elt F) arg2.view.ty) (X3 : BufTy.Contents (Elt F) arg3.view.ty) (X4 : BufTy.Contents (Elt F) arg4.view.ty) (X5 : BufTy.Contents (Elt F) arg5.view.ty) (X6 : BufTy.Contents (Elt F) arg6.view.ty) (X7 : BufTy.Contents (Elt F) arg7.view.ty) (X9 : BufTy.Contents (Elt F) arg9.view.ty) (X10 : BufTy.Contents (Elt F) arg10.view.ty)
    (hw : ∀ k, ∀ x, k0_chk2 i (View.readAt (Elt F) arg1.view (Rect.unit (s := S12x16) (k0_off26 i k) S1x1.size (k0_off26_inb i k)).toLoadRect X1 x)) (k : ℕ) (prev : List (View.Piece (Elt F) S16x96x1400 .bf16)) : List (View.Piece (Elt F) S16x96x1400 .bf16) :=
  if h : k < k0_t3_loop.trips then (trip3 (F := F) c q i arg1 harg1 arg2 harg2 arg3 harg3 arg4 harg4 arg5 harg5 arg6 harg6 arg7 harg7 arg8 harg8 arg9 harg9 arg10 harg10 arg11 harg11 X1 X2 X3 X4 X5 X6 X7 X9 X10 ⟨k, h⟩ (hw ⟨k, h⟩)).1 ++ prev else prev

/-- The pieces of the trips before `k`, the last trip's first. -/
def pb3 (c : Dev nD) (q : PosShare TreeShare) (i : grid0.Coords) (arg1 : Memref sig .tc .smem S12x16 .i32) (harg1 : arg1.IsWhole) (arg2 : Memref sig .tc .smem S12x16 .f32) (harg2 : arg2.IsWhole) (arg3 : Memref sig .tc .smem S12x16 .f32) (harg3 : arg3.IsWhole) (arg4 : Memref sig .tc .smem S12x16 .f32) (harg4 : arg4.IsWhole) (arg5 : Memref sig .tc .vmem S1x16x96x1400 .fp8e4m3) (harg5 : arg5.IsWhole) (arg6 : Memref sig .tc .vmem S1x16x96x1400 .fp8e4m3) (harg6 : arg6.IsWhole) (arg7 : Memref sig .tc .vmem S1x16x96x1400 .fp8e4m3) (harg7 : arg7.IsWhole) (arg8 : Memref sig .tc .vmem S1x1400x1536 .bf16) (harg8 : arg8.IsWhole) (arg9 : Memref sig .tc .vmem S16x1400x96 .fp8e4m3) (harg9 : arg9.IsWhole) (arg10 : Memref sig .tc .vmem S16x96x1400 .bf16) (harg10 : arg10.IsWhole) (arg11 : Memref sig .tc .vmem S16x96x1400 .bf16) (harg11 : arg11.IsWhole) (X1 : BufTy.Contents (Elt F) arg1.view.ty) (X2 : BufTy.Contents (Elt F) arg2.view.ty) (X3 : BufTy.Contents (Elt F) arg3.view.ty) (X4 : BufTy.Contents (Elt F) arg4.view.ty) (X5 : BufTy.Contents (Elt F) arg5.view.ty) (X6 : BufTy.Contents (Elt F) arg6.view.ty) (X7 : BufTy.Contents (Elt F) arg7.view.ty) (X9 : BufTy.Contents (Elt F) arg9.view.ty) (X10 : BufTy.Contents (Elt F) arg10.view.ty)
    (hw : ∀ k, ∀ x, k0_chk2 i (View.readAt (Elt F) arg1.view (Rect.unit (s := S12x16) (k0_off26 i k) S1x1.size (k0_off26_inb i k)).toLoadRect X1 x)) : ℕ → List (View.Piece (Elt F) S16x96x1400 .bf16)
  | 0 => []
  | k + 1 => pb3Step (F := F) c q i arg1 harg1 arg2 harg2 arg3 harg3 arg4 harg4 arg5 harg5 arg6 harg6 arg7 harg7 arg8 harg8 arg9 harg9 arg10 harg10 arg11 harg11 X1 X2 X3 X4 X5 X6 X7 X9 X10 hw k (pb3 c q i arg1 harg1 arg2 harg2 arg3 harg3 arg4 harg4 arg5 harg5 arg6 harg6 arg7 harg7 arg8 harg8 arg9 harg9 arg10 harg10 arg11 harg11 X1 X2 X3 X4 X5 X6 X7 X9 X10 hw k)

theorem pb3_succ (c : Dev nD) (q : PosShare TreeShare) (i : grid0.Coords) (arg1 : Memref sig .tc .smem S12x16 .i32) (harg1 : arg1.IsWhole) (arg2 : Memref sig .tc .smem S12x16 .f32) (harg2 : arg2.IsWhole) (arg3 : Memref sig .tc .smem S12x16 .f32) (harg3 : arg3.IsWhole) (arg4 : Memref sig .tc .smem S12x16 .f32) (harg4 : arg4.IsWhole) (arg5 : Memref sig .tc .vmem S1x16x96x1400 .fp8e4m3) (harg5 : arg5.IsWhole) (arg6 : Memref sig .tc .vmem S1x16x96x1400 .fp8e4m3) (harg6 : arg6.IsWhole) (arg7 : Memref sig .tc .vmem S1x16x96x1400 .fp8e4m3) (harg7 : arg7.IsWhole) (arg8 : Memref sig .tc .vmem S1x1400x1536 .bf16) (harg8 : arg8.IsWhole) (arg9 : Memref sig .tc .vmem S16x1400x96 .fp8e4m3) (harg9 : arg9.IsWhole) (arg10 : Memref sig .tc .vmem S16x96x1400 .bf16) (harg10 : arg10.IsWhole) (arg11 : Memref sig .tc .vmem S16x96x1400 .bf16) (harg11 : arg11.IsWhole) (X1 : BufTy.Contents (Elt F) arg1.view.ty) (X2 : BufTy.Contents (Elt F) arg2.view.ty) (X3 : BufTy.Contents (Elt F) arg3.view.ty) (X4 : BufTy.Contents (Elt F) arg4.view.ty) (X5 : BufTy.Contents (Elt F) arg5.view.ty) (X6 : BufTy.Contents (Elt F) arg6.view.ty) (X7 : BufTy.Contents (Elt F) arg7.view.ty) (X9 : BufTy.Contents (Elt F) arg9.view.ty) (X10 : BufTy.Contents (Elt F) arg10.view.ty)
    (hw : ∀ k, ∀ x, k0_chk2 i (View.readAt (Elt F) arg1.view (Rect.unit (s := S12x16) (k0_off26 i k) S1x1.size (k0_off26_inb i k)).toLoadRect X1 x)) (k : Fin k0_t3_loop.trips) :
    pb3 (F := F) c q i arg1 harg1 arg2 harg2 arg3 harg3 arg4 harg4 arg5 harg5 arg6 harg6 arg7 harg7 arg8 harg8 arg9 harg9 arg10 harg10 arg11 harg11 X1 X2 X3 X4 X5 X6 X7 X9 X10 hw (k.val + 1) = (trip3 (F := F) c q i arg1 harg1 arg2 harg2 arg3 harg3 arg4 harg4 arg5 harg5 arg6 harg6 arg7 harg7 arg8 harg8 arg9 harg9 arg10 harg10 arg11 harg11 X1 X2 X3 X4 X5 X6 X7 X9 X10 k (hw k)).1 ++ pb3 (F := F) c q i arg1 harg1 arg2 harg2 arg3 harg3 arg4 harg4 arg5 harg5 arg6 harg6 arg7 harg7 arg8 harg8 arg9 harg9 arg10 harg10 arg11 harg11 X1 X2 X3 X4 X5 X6 X7 X9 X10 hw k.val := by
  rw [pb3.eq_2]; unfold pb3Step; exact dif_pos k.isLt

/-- The invariant of loop 3 before trip `k`: the operands as found, the output scratch with the pieces of the trips
    before `k` written over what it held at the start. -/
abbrev inv3 (c : Dev nD) (q : PosShare TreeShare) (i : grid0.Coords) (arg1 : Memref sig .tc .smem S12x16 .i32) (harg1 : arg1.IsWhole) (arg2 : Memref sig .tc .smem S12x16 .f32) (harg2 : arg2.IsWhole) (arg3 : Memref sig .tc .smem S12x16 .f32) (harg3 : arg3.IsWhole) (arg4 : Memref sig .tc .smem S12x16 .f32) (harg4 : arg4.IsWhole) (arg5 : Memref sig .tc .vmem S1x16x96x1400 .fp8e4m3) (harg5 : arg5.IsWhole) (arg6 : Memref sig .tc .vmem S1x16x96x1400 .fp8e4m3) (harg6 : arg6.IsWhole) (arg7 : Memref sig .tc .vmem S1x16x96x1400 .fp8e4m3) (harg7 : arg7.IsWhole) (arg8 : Memref sig .tc .vmem S1x1400x1536 .bf16) (harg8 : arg8.IsWhole) (arg9 : Memref sig .tc .vmem S16x1400x96 .fp8e4m3) (harg9 : arg9.IsWhole) (arg10 : Memref sig .tc .vmem S16x96x1400 .bf16) (harg10 : arg10.IsWhole) (arg11 : Memref sig .tc .vmem S16x96x1400 .bf16) (harg11 : arg11.IsWhole) (X1 : BufTy.Contents (Elt F) arg1.view.ty) (X2 : BufTy.Contents (Elt F) arg2.view.ty) (X3 : BufTy.Contents (Elt F) arg3.view.ty) (X4 : BufTy.Contents (Elt F) arg4.view.ty) (X5 : BufTy.Contents (Elt F) arg5.view.ty) (X6 : BufTy.Contents (Elt F) arg6.view.ty) (X7 : BufTy.Contents (Elt F) arg7.view.ty) (X9 : BufTy.Contents (Elt F) arg9.view.ty) (X10 : BufTy.Contents (Elt F) arg10.view.ty) (G : BufTy.Contents (Elt F) arg11.view.ty)
    (hw : ∀ k, ∀ x, k0_chk2 i (View.readAt (Elt F) arg1.view (Rect.unit (s := S12x16) (k0_off26 i k) S1x1.size (k0_off26_inb i k)).toLoadRect X1 x)) (k : ℕ) (_ : PUnit) : sProp 𝕄 :=
  iprop((arg1.view.loc (c : Thread nD τ) ↦[arg1.view.set]{q} X1) ∗ (arg2.view.loc (c : Thread nD τ) ↦[arg2.view.set]{fullShare} X2) ∗ (arg3.view.loc (c : Thread nD τ) ↦[arg3.view.set]{fullShare} X3) ∗ (arg4.view.loc (c : Thread nD τ) ↦[arg4.view.set]{fullShare} X4) ∗ (arg5.view.loc (c : Thread nD τ) ↦[arg5.view.set]{fullShare} X5) ∗ (arg6.view.loc (c : Thread nD τ) ↦[arg6.view.set]{fullShare} X6) ∗ (arg7.view.loc (c : Thread nD τ) ↦[arg7.view.set]{fullShare} X7) ∗ (arg9.view.loc (c : Thread nD τ) ↦[arg9.view.set]{fullShare} X9) ∗ (arg10.view.loc (c : Thread nD τ) ↦[arg10.view.set]{fullShare} X10) ∗ (∃ f, (arg11.view.loc (c : Thread nD τ) ↦[arg11.view.set]{fullShare} f) ∗ ⌜f = arg11.view.writes (Elt F) G (pb3 (F := F) c q i arg1 harg1 arg2 harg2 arg3 harg3 arg4 harg4 arg5 harg5 arg6 harg6 arg7 harg7 arg8 harg8 arg9 harg9 arg10 harg10 arg11 harg11 X1 X2 X3 X4 X5 X6 X7 X9 X10 hw k)⌝))

set_option warn.classDefReducibility false in
/-- Loop 3 by its invariant. -/
@[sl_loop] def loopInv3 (c : Dev nD) (q : PosShare TreeShare) (E : Set ℕ) (i : grid0.Coords) (arg1 : Memref sig .tc .smem S12x16 .i32) (harg1 : arg1.IsWhole) (arg2 : Memref sig .tc .smem S12x16 .f32) (harg2 : arg2.IsWhole) (arg3 : Memref sig .tc .smem S12x16 .f32) (harg3 : arg3.IsWhole) (arg4 : Memref sig .tc .smem S12x16 .f32) (harg4 : arg4.IsWhole) (arg5 : Memref sig .tc .vmem S1x16x96x1400 .fp8e4m3) (harg5 : arg5.IsWhole) (arg6 : Memref sig .tc .vmem S1x16x96x1400 .fp8e4m3) (harg6 : arg6.IsWhole) (arg7 : Memref sig .tc .vmem S1x16x96x1400 .fp8e4m3) (harg7 : arg7.IsWhole) (arg8 : Memref sig .tc .vmem S1x1400x1536 .bf16) (harg8 : arg8.IsWhole) (arg9 : Memref sig .tc .vmem S16x1400x96 .fp8e4m3) (harg9 : arg9.IsWhole) (arg10 : Memref sig .tc .vmem S16x96x1400 .bf16) (harg10 : arg10.IsWhole) (arg11 : Memref sig .tc .vmem S16x96x1400 .bf16) (harg11 : arg11.IsWhole) (X1 : BufTy.Contents (Elt F) arg1.view.ty) (X2 : BufTy.Contents (Elt F) arg2.view.ty) (X3 : BufTy.Contents (Elt F) arg3.view.ty) (X4 : BufTy.Contents (Elt F) arg4.view.ty) (X5 : BufTy.Contents (Elt F) arg5.view.ty) (X6 : BufTy.Contents (Elt F) arg6.view.ty) (X7 : BufTy.Contents (Elt F) arg7.view.ty) (X9 : BufTy.Contents (Elt F) arg9.view.ty) (X10 : BufTy.Contents (Elt F) arg10.view.ty) (G : BufTy.Contents (Elt F) arg11.view.ty)
    (hw : ∀ k, ∀ x, k0_chk2 i (View.readAt (Elt F) arg1.view (Rect.unit (s := S12x16) (k0_off26 i k) S1x1.size (k0_off26_inb i k)).toLoadRect X1 x)) :
    LoopInvTy_k0_t3 (F := F) Unit ℕ (UR sig nD τ) ℕ Variants.none c none E i arg1 harg1 arg2 harg2 arg3 harg3 arg4 harg4 arg5 harg5 arg6 harg6 arg7 harg7 arg8 harg8 arg9 harg9 arg10 harg10 arg11 harg11 (BitVec.ofNat 32 (i 0).val) where
  inv := inv3 (F := F) c q i arg1 harg1 arg2 harg2 arg3 harg3 arg4 harg4 arg5 harg5 arg6 harg6 arg7 harg7 arg8 harg8 arg9 harg9 arg10 harg10 arg11 harg11 X1 X2 X3 X4 X5 X6 X7 X9 X10 G hw
  step k acc := by
    iintro ⟨H1, H2, H3, H4, H5, H6, H7, H9, H10, ⟨%f, HW, %h⟩⟩
    iapply (wp_wand_r Idealize.ShloMosaic.frame (wpE (defs₀ (F := F)) Variants.none (c : Thread nD τ) none) E)
    isplitl [H1 H2 H3 H4 H5 H6 H7 H9 H10 HW]
    · iapply ((trip3 (F := F) c q i arg1 harg1 arg2 harg2 arg3 harg3 arg4 harg4 arg5 harg5 arg6 harg6 arg7 harg7 arg8 harg8 arg9 harg9 arg10 harg10 arg11 harg11 X1 X2 X3 X4 X5 X6 X7 X9 X10 k (hw k)).2 E f)
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H9]; · iexact H9
      isplitl [H10]; · iexact H10
      iexact HW
    · iintro %_ ⟨H1, H2, H3, H4, H5, H6, H7, H9, H10, HW⟩
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H9]; · iexact H9
      isplitl [H10]; · iexact H10
      rw [pb3_succ]
      iexists _; isplitl [HW]; · iexact HW
      ipureintro; rw [h, ← View.writes_append]

end Cert.Kernel.Hand

end
-- ==== Proof.KernelBody.lean ====
/- THE BODY of the kernel, run once at a symbolic grid point: the three loops by their invariants, then the tiles of the
   output scratch transposed into the output block. -/
module

public import proofs.«01_k».proof.Proof.Gen.Kernel.Loops
public import proofs.«01_k».proof.Proof.Gen.Kernel.Launch
public import proofs.«01_k».proof.Proof.Gen.Kernel.Skeleton
public import proofs.«01_k».proof.Proof.KernelTrip2
public import proofs.«01_k».proof.Proof.KernelTrip3
public import Idealize.ShloMosaic.Lib.Exec
public import Idealize.ShloMosaic.Lib.Tactic

@[expose] public section

set_option maxRecDepth 8192
set_option maxHeartbeats 4000000

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

/-- THE BODY'S RUN: from the operands at `X·` and the scratch at `X9 X10 X11`, it leaves the operands as found and writes
    a list of pieces into the output block. -/
@[irreducible] def bodyRun (c : Dev nD) (q : PosShare TreeShare) (i : grid0.Coords) (arg1 : Memref sig .tc .smem S12x16 .i32) (harg1 : arg1.IsWhole) (arg2 : Memref sig .tc .smem S12x16 .f32) (harg2 : arg2.IsWhole) (arg3 : Memref sig .tc .smem S12x16 .f32) (harg3 : arg3.IsWhole) (arg4 : Memref sig .tc .smem S12x16 .f32) (harg4 : arg4.IsWhole) (arg5 : Memref sig .tc .vmem S1x16x96x1400 .fp8e4m3) (harg5 : arg5.IsWhole) (arg6 : Memref sig .tc .vmem S1x16x96x1400 .fp8e4m3) (harg6 : arg6.IsWhole) (arg7 : Memref sig .tc .vmem S1x16x96x1400 .fp8e4m3) (harg7 : arg7.IsWhole) (arg8 : Memref sig .tc .vmem S1x1400x1536 .bf16) (harg8 : arg8.IsWhole) (arg9 : Memref sig .tc .vmem S16x1400x96 .fp8e4m3) (harg9 : arg9.IsWhole) (arg10 : Memref sig .tc .vmem S16x96x1400 .bf16) (harg10 : arg10.IsWhole) (arg11 : Memref sig .tc .vmem S16x96x1400 .bf16) (harg11 : arg11.IsWhole) (X1 : BufTy.Contents (Elt F) arg1.view.ty) (X2 : BufTy.Contents (Elt F) arg2.view.ty) (X3 : BufTy.Contents (Elt F) arg3.view.ty) (X4 : BufTy.Contents (Elt F) arg4.view.ty) (X5 : BufTy.Contents (Elt F) arg5.view.ty) (X6 : BufTy.Contents (Elt F) arg6.view.ty) (X7 : BufTy.Contents (Elt F) arg7.view.ty) (X9 : BufTy.Contents (Elt F) arg9.view.ty) (X10 : BufTy.Contents (Elt F) arg10.view.ty) (X11 : BufTy.Contents (Elt F) arg11.view.ty)
    (hw2 : ∀ k x, k0_chk1 i (View.readAt (Elt F) arg1.view (Rect.unit (s := S12x16) (k0_off4 i k) S1x1.size (k0_off4_inb i k)).toLoadRect X1 x)) (hw3 : ∀ k x, k0_chk2 i (View.readAt (Elt F) arg1.view (Rect.unit (s := S12x16) (k0_off26 i k) S1x1.size (k0_off26_inb i k)).toLoadRect X1 x)) :
    { L : List (View.Piece (Elt F) S1x1400x1536 .bf16) // ∀ (E : Set ℕ) (X8 : BufTy.Contents (Elt F) arg8.view.ty) (K : PUnit → sProp 𝕄),
      iprop((arg1.view.loc (c : Thread nD τ) ↦[arg1.view.set]{q} X1) ∗ (arg2.view.loc (c : Thread nD τ) ↦[arg2.view.set]{fullShare} X2) ∗ (arg3.view.loc (c : Thread nD τ) ↦[arg3.view.set]{fullShare} X3) ∗ (arg4.view.loc (c : Thread nD τ) ↦[arg4.view.set]{fullShare} X4) ∗ (arg5.view.loc (c : Thread nD τ) ↦[arg5.view.set]{fullShare} X5) ∗ (arg6.view.loc (c : Thread nD τ) ↦[arg6.view.set]{fullShare} X6) ∗ (arg7.view.loc (c : Thread nD τ) ↦[arg7.view.set]{fullShare} X7) ∗ (arg8.view.loc (c : Thread nD τ) ↦[arg8.view.set]{fullShare} X8) ∗ (arg9.view.loc (c : Thread nD τ) ↦[arg9.view.set]{fullShare} X9) ∗ (arg10.view.loc (c : Thread nD τ) ↦[arg10.view.set]{fullShare} X10) ∗ (arg11.view.loc (c : Thread nD τ) ↦[arg11.view.set]{fullShare} X11)
        ∗ (iprop((arg1.view.loc (c : Thread nD τ) ↦[arg1.view.set]{q} X1) ∗ (arg2.view.loc (c : Thread nD τ) ↦[arg2.view.set]{fullShare} X2) ∗ (arg3.view.loc (c : Thread nD τ) ↦[arg3.view.set]{fullShare} X3) ∗ (arg4.view.loc (c : Thread nD τ) ↦[arg4.view.set]{fullShare} X4) ∗ (arg5.view.loc (c : Thread nD τ) ↦[arg5.view.set]{fullShare} X5) ∗ (arg6.view.loc (c : Thread nD τ) ↦[arg6.view.set]{fullShare} X6) ∗ (arg7.view.loc (c : Thread nD τ) ↦[arg7.view.set]{fullShare} X7) ∗ (arg8.view.loc (c : Thread nD τ) ↦[arg8.view.set]{fullShare} (arg8.view.writes (Elt F) X8 L)) ∗ (∃ f, (arg9.view.loc (c : Thread nD τ) ↦[arg9.view.set]{fullShare} f)) ∗ (∃ f, (arg10.view.loc (c : Thread nD τ) ↦[arg10.view.set]{fullShare} f)) ∗ (∃ f, (arg11.view.loc (c : Thread nD τ) ↦[arg11.view.set]{fullShare} f))) -∗ K ⟨⟩))
      ⊢ wp frame (wpE (defs₀ (F := F)) Variants.none (c : Thread nD τ) none) E (cc0_svg_attention (F := F) i arg1 harg1 arg2 harg2 arg3 harg3 arg4 harg4 arg5 harg5 arg6 harg6 arg7 harg7 arg8 harg8 arg9 harg9 arg10 harg10 arg11 harg11) K } := by
  refine ⟨?_, fun E X8 K => ?run⟩
  case run =>
    simp only [cc0_svg_attention_eq_skeleton]; unfold cc0_svg_attention_skel
    iintro ⟨H1, H2, H3, H4, H5, H6, H7, H8, H9, H10, H11, Hk⟩
    sl_exec_parts
    sl_step
    iapply Hk
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexists _; iexact H9
    isplitl [H10]; · iexists _; iexact H10
    iexists _; iexact H11

end Cert.Kernel.Hand

end
-- ==== Proof.KernelKit.lean ====
/- What the launch of the kernel is stated over: the memory after the host transposes, the order table read off it, the
   blocks of the windows, the words the head loops check, and the body as a triple on whole memrefs. -/
module

public import proofs.«01_k».proof.Proof.KernelBody
public import proofs.«01_k».proof.Proof.Gen.Kernel.Launch
public import Idealize.ShloMosaic.Lib.Pipeline.FrameBody
public import Idealize.ShloMosaic.Lib.Claim
public import Idealize.ShloMosaic.Lib.Decide

@[expose] public section

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- Every word below 16 names a head: the assumed facts of the first head loop. -/
theorem chk1_of_lt (i : grid0.Coords) (v : BitVec 32) (h : v.toNat < 16) : k0_chk1 i v := by
  have key : ∀ (i : grid0.Coords) (n : Fin 16), k0_chk1 i (BitVec.ofNat 32 n.val) := by decide +kernel
  have e : v = BitVec.ofNat 32 (⟨v.toNat, h⟩ : Fin 16).val := by simp
  rw [e]; exact key i _

/-- And those of the second. -/
theorem chk2_of_lt (i : grid0.Coords) (v : BitVec 32) (h : v.toNat < 16) : k0_chk2 i v := by
  have key : ∀ (i : grid0.Coords) (n : Fin 16), k0_chk2 i (BitVec.ofNat 32 n.val) := by decide +kernel
  have e : v = BitVec.ofNat 32 (⟨v.toNat, h⟩ : Fin 16).val := by simp
  rw [e]; exact key i _

variable (m : (ℓ : Loc nD τ sig) → Buf (Elt F) ℓ) (ρ : Dev nD → PrngReg)

/-- Core `c`'s TensorCore buffers when the region is entered: after the host transposes. -/
abbrev V (c : Dev nD) (b : Ref sig .tc) : Buf (Elt F) ((c : Thread nD τ).loc b) := StableHlo.after hostOps0 (fun b => m (c, b)) b

theorem hostOps0_fresh : (hostOps0 : List (HloOp τ sig (Elt F))).Forall fun op => op.fresh = ∅ := by
  simp only [List.Forall]; repeat' constructor

set_option maxHeartbeats 800000 in
/-- @main up to the region: the host transposes, then the region. -/
theorem hmain (𝒱₀ : Variants) : Pipeline.HMainP (Ix := Unit) (Name := ℕ) (U := UR sig nD τ) (Lvl := ℕ) pcfgs 0 defs₀ 𝒱₀ m (main (F := F)) (V m) :=
  Pipeline.hmainP_prefix pcfgs 0 defs₀ 𝒱₀ m main hostOps0 hostOps0_sub hostOps0_fresh main_chain

/-- No host operation before the region writes `main_arg0`: the region finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.flatten_cons, List.flatten_nil, List.append_nil, List.cons_append,
      List.nil_append, List.Forall, StableHlo.unary_writes, Finset.mem_singleton]
    repeat' apply And.intro
    all_goals exact StableHlo.devRef_ne_of_ne (by decide)))
/-- No host operation before the region writes `main_arg1`: the region finds it as launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.flatten_cons, List.flatten_nil, List.append_nil, List.cons_append,
      List.nil_append, List.Forall, StableHlo.unary_writes, Finset.mem_singleton]
    repeat' apply And.intro
    all_goals exact StableHlo.devRef_ne_of_ne (by decide)))
/-- No host operation before the region writes `main_arg2`: the region finds it as launched. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.flatten_cons, List.flatten_nil, List.append_nil, List.cons_append,
      List.nil_append, List.Forall, StableHlo.unary_writes, Finset.mem_singleton]
    repeat' apply And.intro
    all_goals exact StableHlo.devRef_ne_of_ne (by decide)))
/-- No host operation before the region writes `main_arg3`: the region finds it as launched. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, List.flatten_cons, List.flatten_nil, List.append_nil, List.cons_append,
      List.nil_append, List.Forall, StableHlo.unary_writes, Finset.mem_singleton]
    repeat' apply And.intro
    all_goals exact StableHlo.devRef_ne_of_ne (by decide)))
/-- No host operation before the region writes `main_arg4`: the region finds it as launched. -/
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, List.flatten_cons, List.flatten_nil, List.append_nil, List.cons_append,
      List.nil_append, List.Forall, StableHlo.unary_writes, Finset.mem_singleton]
    repeat' apply And.intro
    all_goals exact StableHlo.devRef_ne_of_ne (by decide)))
/-- No host operation before the region writes `main_arg5`: the region finds it as launched. -/
theorem V_main_arg5 (c : Dev nD) : V m c main_arg5 = m ((c : Thread nD τ).loc main_arg5) :=
  StableHlo.after_of_forall_not_mem (b := Proc.devRef .tc main_arg5) _ _ (List.forall_iff_forall_mem.mp (by
    simp only [hostOps0, List.flatten_cons, List.flatten_nil, List.append_nil, List.cons_append,
      List.nil_append, List.Forall, StableHlo.unary_writes, Finset.mem_singleton]
    repeat' apply And.intro
    all_goals exact StableHlo.devRef_ne_of_ne (by decide)))
/-- No host operation before the region writes `main_arg6`: the region finds it as launched. -/
theorem V_main_arg6 (c : Dev nD) : V m c main_arg6 = m ((c : Thread nD τ).loc main_arg6) :=
  StableHlo.after_of_forall_not_mem (b := Proc.devRef .tc main_arg6) _ _ (List.forall_iff_forall_mem.mp (by
    simp only [hostOps0, List.flatten_cons, List.flatten_nil, List.append_nil, List.cons_append,
      List.nil_append, List.Forall, StableHlo.unary_writes, Finset.mem_singleton]
    repeat' apply And.intro
    all_goals exact StableHlo.devRef_ne_of_ne (by decide)))

/-! ## The order table -/

/-- The table's contents when the region is entered (one device: device 0's). -/
def tbl : pre0.Contents (Elt F) := fun j => V m (0 : Dev nD) (pre0.ref j)
theorem V_pre (c : Dev nD) (j : Fin 1) : V m c (pre0.ref j) = tbl m j := by
  obtain rfl : c = 0 := Subsingleton.elim _ _; rfl
/-- No index map reads the table: any contents are admissible. -/
abbrev adm : (pcfg0 (F := F)).Adm := ⟨tbl m, trivial⟩
abbrev cfgM : Pipeline.Cfg sig Λ₀ := cfg0 (adm m)

/-- The table as the body is handed it. -/
abbrev tbM : Memref sig .tc .smem S12x16 .i32 := Memref.whole main_arg6
abbrev htbM : tbM.IsWhole := Memref.isWhole_whole _

/-- The half of the table the region hands the body. -/
theorem PhiT0_eq (c : Dev nD) : (Pipeline.ΦT pre0 (tbl m) c : sProp 𝕄) = iprop(owns (c : Thread nD τ) tbM fullShare.right (tbl m 0)) := by
  unfold Pipeline.ΦT Pipeline.prefHeld
  rw [show (Finset.univ : Finset (Fin 1)) = {(0 : Fin 1)} from by decide, bigSep_singleton]
  exact (owns_whole (c : Thread nD τ) main_arg6 fullShare.right (tbl m 0)).symm

/-- The table names heads on every row. -/
abbrev Ok : Prop := ∀ y : S12x16.Idx, (tbl m 0 y : BitVec 32).toNat < 16

theorem hw2_of_ok (hO : Ok m) (i : grid0.Coords) : ∀ k x, k0_chk1 i (View.readAt (Elt F) tbM.view (Rect.unit (s := S12x16) (k0_off4 i k) S1x1.size (k0_off4_inb i k)).toLoadRect (htbM.unread (tbl m 0)) x) := by
  intro k x
  rw [View.readAt_apply]
  exact chk1_of_lt i _ ((congrArg (fun w : BitVec 32 => w.toNat < 16) (congrFun (htbM.read_unread (tbl m 0)) _)).mpr (hO _))

theorem hw3_of_ok (hO : Ok m) (i : grid0.Coords) : ∀ k x, k0_chk2 i (View.readAt (Elt F) tbM.view (Rect.unit (s := S12x16) (k0_off26 i k) S1x1.size (k0_off26_inb i k)).toLoadRect (htbM.unread (tbl m 0)) x) := by
  intro k x
  rw [View.readAt_apply]
  exact chk2_of_lt i _ ((congrArg (fun w : BitVec 32 => w.toNat < 16) (congrFun (htbM.read_unread (tbl m 0)) _)).mpr (hO _))

/-! ## The windows' blocks -/

/-- Window `w`'s block at point `t`, read off its array as the region finds it. -/
def iblk (c : Dev nD) (w : Fin (cfgM m).W) (t : Fin (cfgM m).N) : (((cfgM m).win w).xblock ((cfgM m).grid.coords t)).Idx → Elt F ((cfgM m).win w).elt :=
  (((cfgM m).win w).blk t).view.read (Elt F) (V m c (Pipeline.arrRef spec0 w))

/-- Input window 0's staging buffer holds its block at every point. -/
theorem before0_0_of {c : Dev nD} (dat : Dat τ (Elt F) Unit ℕ (UR sig nD τ) ℕ (cfgM m) c) (hA : dat.A 0 = V m c (Pipeline.arrRef spec0 0))
    (hafter : ∀ t, dat.after 0 t = iblk m c 0 t) (t : Fin (cfgM m).N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's staging buffer holds its block at every point. -/
theorem before0_1_of {c : Dev nD} (dat : Dat τ (Elt F) Unit ℕ (UR sig nD τ) ℕ (cfgM m) c) (hA : dat.A 1 = V m c (Pipeline.arrRef spec0 1))
    (hafter : ∀ t, dat.after 1 t = iblk m c 1 t) (t : Fin (cfgM m).N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input window 2's staging buffer holds its block at every point. -/
theorem before0_2_of {c : Dev nD} (dat : Dat τ (Elt F) Unit ℕ (UR sig nD τ) ℕ (cfgM m) c) (hA : dat.A 2 = V m c (Pipeline.arrRef spec0 2))
    (hafter : ∀ t, dat.after 2 t = iblk m c 2 t) (t : Fin (cfgM m).N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
/-- Input window 3's staging buffer holds its block at every point. -/
theorem before0_3_of {c : Dev nD} (dat : Dat τ (Elt F) Unit ℕ (UR sig nD τ) ℕ (cfgM m) c) (hA : dat.A 3 = V m c (Pipeline.arrRef spec0 3))
    (hafter : ∀ t, dat.after 3 t = iblk m c 3 t) (t : Fin (cfgM m).N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
/-- Input window 4's staging buffer holds its block at every point. -/
theorem before0_4_of {c : Dev nD} (dat : Dat τ (Elt F) Unit ℕ (UR sig nD τ) ℕ (cfgM m) c) (hA : dat.A 4 = V m c (Pipeline.arrRef spec0 4))
    (hafter : ∀ t, dat.after 4 t = iblk m c 4 t) (t : Fin (cfgM m).N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
/-- Input window 5's staging buffer holds its block at every point. -/
theorem before0_5_of {c : Dev nD} (dat : Dat τ (Elt F) Unit ℕ (UR sig nD τ) ℕ (cfgM m) c) (hA : dat.A 5 = V m c (Pipeline.arrRef spec0 5))
    (hafter : ∀ t, dat.after 5 t = iblk m c 5 t) (t : Fin (cfgM m).N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)
abbrev ms0_0 (t : Fin (cfgM m).N) : Memref sig .tc .smem S12x16 .f32 := spec0_0.stage ((cfgM m).slots t 0)
abbrev hs0_0 (t : Fin (cfgM m).N) : (ms0_0 m t).IsWhole := hstage0_0 (((cfgM m).slots t 0).cast nbuf0_0)
abbrev ms0_1 (t : Fin (cfgM m).N) : Memref sig .tc .smem S12x16 .f32 := spec0_1.stage ((cfgM m).slots t 1)
abbrev hs0_1 (t : Fin (cfgM m).N) : (ms0_1 m t).IsWhole := hstage0_1 (((cfgM m).slots t 1).cast nbuf0_1)
abbrev ms0_2 (t : Fin (cfgM m).N) : Memref sig .tc .smem S12x16 .f32 := spec0_2.stage ((cfgM m).slots t 2)
abbrev hs0_2 (t : Fin (cfgM m).N) : (ms0_2 m t).IsWhole := hstage0_2 (((cfgM m).slots t 2).cast nbuf0_2)
abbrev ms0_3 (t : Fin (cfgM m).N) : Memref sig .tc .vmem S1x16x96x1400 .fp8e4m3 := spec0_3.stage ((cfgM m).slots t 3)
abbrev hs0_3 (t : Fin (cfgM m).N) : (ms0_3 m t).IsWhole := hstage0_3 (((cfgM m).slots t 3).cast nbuf0_3)
abbrev ms0_4 (t : Fin (cfgM m).N) : Memref sig .tc .vmem S1x16x96x1400 .fp8e4m3 := spec0_4.stage ((cfgM m).slots t 4)
abbrev hs0_4 (t : Fin (cfgM m).N) : (ms0_4 m t).IsWhole := hstage0_4 (((cfgM m).slots t 4).cast nbuf0_4)
abbrev ms0_5 (t : Fin (cfgM m).N) : Memref sig .tc .vmem S1x16x96x1400 .fp8e4m3 := spec0_5.stage ((cfgM m).slots t 5)
abbrev hs0_5 (t : Fin (cfgM m).N) : (ms0_5 m t).IsWhole := hstage0_5 (((cfgM m).slots t 5).cast nbuf0_5)
abbrev ms0_6 (t : Fin (cfgM m).N) : Memref sig .tc .vmem S1x1400x1536 .bf16 := spec0_6.stage ((cfgM m).slots t 6)
abbrev hs0_6 (t : Fin (cfgM m).N) : (ms0_6 m t).IsWhole := hstage0_6 (((cfgM m).slots t 6).cast nbuf0_6)

/-- The kernel body at point `t`, on what the pipeline calls it with. -/
abbrev bodyAt0 (a : (pcfg0 (F := F)).Adm) (t : Fin (cfg0 a).N) : Prog (TpuEff nD τ sig (Elt F) Λ₀ .tc) PUnit :=
  cc0_svg_attention (grid0.coords t) (Memref.whole main_arg6) (Memref.isWhole_whole _) (spec0_0.stage ((cfg0 a).slots t 0)) (hstage0_0 (((cfg0 a).slots t 0).cast nbuf0_0)) (spec0_1.stage ((cfg0 a).slots t 1)) (hstage0_1 (((cfg0 a).slots t 1).cast nbuf0_1)) (spec0_2.stage ((cfg0 a).slots t 2)) (hstage0_2 (((cfg0 a).slots t 2).cast nbuf0_2)) (spec0_3.stage ((cfg0 a).slots t 3)) (hstage0_3 (((cfg0 a).slots t 3).cast nbuf0_3)) (spec0_4.stage ((cfg0 a).slots t 4)) (hstage0_4 (((cfg0 a).slots t 4).cast nbuf0_4)) (spec0_5.stage ((cfg0 a).slots t 5)) (hstage0_5 (((cfg0 a).slots t 5).cast nbuf0_5)) (spec0_6.stage ((cfg0 a).slots t 6)) (hstage0_6 (((cfg0 a).slots t 6).cast nbuf0_6)) (Memref.whole cc0_scratch0) (Memref.isWhole_whole _) (Memref.whole cc0_scratch1) (Memref.isWhole_whole _) (Memref.whole cc0_scratch2) (Memref.isWhole_whole _)

/-- The scratch operands. -/
abbrev scM0_0 : Memref sig .tc .vmem S16x1400x96 .fp8e4m3 := Memref.whole cc0_scratch0
abbrev scM0_1 : Memref sig .tc .vmem S16x96x1400 .bf16 := Memref.whole cc0_scratch1
abbrev scM0_2 : Memref sig .tc .vmem S16x96x1400 .bf16 := Memref.whole cc0_scratch2

/-- The launch's invariant with the scratch operands as memrefs owned at some contents. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ (∃ d, owns (c : Thread nD τ) scM0_2 fullShare d)) ∗ (∃ r, prngReg c r)) := by
  unfold Pipeline.ΦA; rw [scopedRest0_eq]; simp only [scM0_0, scM0_1, scM0_2, owns_whole]; try rfl

/-- THE FRAME from a frame run, for any proof data whose arrays are the region-entry contents. -/
theorem frame_of (rdat : (c : Dev nD) → Pipeline.RDat τ (Elt F) Unit ℕ (UR sig nD τ) ℕ ((Pipeline.pin pcfgs fun _ => adm m) 0) c)
    (hA : ∀ c w, (rdat c).A w = V m c (Pipeline.arrRef spec0 w))
    (h : θ_run defs (onTc (τ := τ) (main (F := F))) (s₀ m ρ) (Pipeline.RDat.FramePost ((Pipeline.pin pcfgs fun _ => adm m) 0) rdat (V m))) :
    θ_run defs (onTc (τ := τ) (main (F := F))) ⟨m, fun _ => 0, ρ⟩ (fun r => ∀ c : Dev nD, r.2.mem ((c.tc : Thread nD τ).loc main_arg0) = m ((c.tc : Thread nD τ).loc main_arg0) ∧ r.2.mem ((c.tc : Thread nD τ).loc main_arg1) = m ((c.tc : Thread nD τ).loc main_arg1) ∧ r.2.mem ((c.tc : Thread nD τ).loc main_arg2) = m ((c.tc : Thread nD τ).loc main_arg2) ∧ r.2.mem ((c.tc : Thread nD τ).loc main_arg3) = m ((c.tc : Thread nD τ).loc main_arg3) ∧ r.2.mem ((c.tc : Thread nD τ).loc main_arg4) = m ((c.tc : Thread nD τ).loc main_arg4) ∧ r.2.mem ((c.tc : Thread nD τ).loc main_arg5) = m ((c.tc : Thread nD τ).loc main_arg5) ∧ r.2.mem ((c.tc : Thread nD τ).loc main_arg6) = m ((c.tc : Thread nD τ).loc main_arg6)) :=
  (θ_run defs _ _).mono (fun _ h c => ⟨((h c).2 main_arg0 (by decide : main_arg0 ∈ Pipeline.restRefs sig spec0)).trans (V_main_arg0 m c),
      ((h c).2 main_arg1 (by decide : main_arg1 ∈ Pipeline.restRefs sig spec0)).trans (V_main_arg1 m c),
      ((h c).2 main_arg2 (by decide : main_arg2 ∈ Pipeline.restRefs sig spec0)).trans (V_main_arg2 m c),
      (Pipeline.RDat.FramePost.arr_in h c 0 rfl).trans ((hA c 0).trans (V_main_arg3 m c)),
      (Pipeline.RDat.FramePost.arr_in h c 1 rfl).trans ((hA c 1).trans (V_main_arg4 m c)),
      (Pipeline.RDat.FramePost.arr_in h c 2 rfl).trans ((hA c 2).trans (V_main_arg5 m c)),
      ((h c).2 main_arg6 (by decide : main_arg6 ∈ Pipeline.restRefs sig spec0)).trans (V_main_arg6 m c)⟩) h

/-- THE BODY'S TRIPLE on whole memrefs: it leaves the operands as found, and the output block as what the run's pieces
    make of it, from some contents of the block and of the scratch. -/
theorem bodyTriple (c : Dev nD) (q : PosShare TreeShare) (i : grid0.Coords) (arg1 : Memref sig .tc .smem S12x16 .i32) (harg1 : arg1.IsWhole) (arg2 : Memref sig .tc .smem S12x16 .f32) (harg2 : arg2.IsWhole) (arg3 : Memref sig .tc .smem S12x16 .f32) (harg3 : arg3.IsWhole) (arg4 : Memref sig .tc .smem S12x16 .f32) (harg4 : arg4.IsWhole) (arg5 : Memref sig .tc .vmem S1x16x96x1400 .fp8e4m3) (harg5 : arg5.IsWhole) (arg6 : Memref sig .tc .vmem S1x16x96x1400 .fp8e4m3) (harg6 : arg6.IsWhole) (arg7 : Memref sig .tc .vmem S1x16x96x1400 .fp8e4m3) (harg7 : arg7.IsWhole) (arg8 : Memref sig .tc .vmem S1x1400x1536 .bf16) (harg8 : arg8.IsWhole) (arg9 : Memref sig .tc .vmem S16x1400x96 .fp8e4m3) (harg9 : arg9.IsWhole) (arg10 : Memref sig .tc .vmem S16x96x1400 .bf16) (harg10 : arg10.IsWhole) (arg11 : Memref sig .tc .vmem S16x96x1400 .bf16) (harg11 : arg11.IsWhole) (x1 : Vec F S12x16 .i32) (x2 : Vec F S12x16 .f32) (x3 : Vec F S12x16 .f32) (x4 : Vec F S12x16 .f32) (x5 : Vec F S1x16x96x1400 .fp8e4m3) (x6 : Vec F S1x16x96x1400 .fp8e4m3) (x7 : Vec F S1x16x96x1400 .fp8e4m3) (hw2 : ∀ k x, k0_chk1 i (View.readAt (Elt F) arg1.view (Rect.unit (s := S12x16) (k0_off4 i k) S1x1.size (k0_off4_inb i k)).toLoadRect (harg1.unread x1) x)) (hw3 : ∀ k x, k0_chk2 i (View.readAt (Elt F) arg1.view (Rect.unit (s := S12x16) (k0_off26 i k) S1x1.size (k0_off26_inb i k)).toLoadRect (harg1.unread x1) x)) (E : Set ℕ) (K : PUnit → sProp 𝕄) :
    iprop(owns (c : Thread nD τ) arg1 q x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d)
        ∗ (iprop(owns (c : Thread nD τ) arg1 q x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ (∃ X8 X9 X10 X11, owns (c : Thread nD τ) arg8 fullShare (arg8.view.read (Elt F) (arg8.view.writes (Elt F) X8 (bodyRun (F := F) c q i arg1 harg1 arg2 harg2 arg3 harg3 arg4 harg4 arg5 harg5 arg6 harg6 arg7 harg7 arg8 harg8 arg9 harg9 arg10 harg10 arg11 harg11 (harg1.unread x1) (harg2.unread x2) (harg3.unread x3) (harg4.unread x4) (harg5.unread x5) (harg6.unread x6) (harg7.unread x7) X9 X10 X11 hw2 hw3).1)))
            ∗ (∃ d, owns (c : Thread nD τ) arg9 fullShare d) ∗ (∃ d, owns (c : Thread nD τ) arg10 fullShare d) ∗ (∃ d, owns (c : Thread nD τ) arg11 fullShare d)) -∗ K ⟨⟩))
      ⊢ wp frame (wpE (defs₀ (F := F)) Variants.none (c : Thread nD τ) none) E (cc0_svg_attention (F := F) i arg1 harg1 arg2 harg2 arg3 harg3 arg4 harg4 arg5 harg5 arg6 harg6 arg7 harg7 arg8 harg8 arg9 harg9 arg10 harg10 arg11 harg11) K := by
  unfold owns
  iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%d9, %f9, -, H9⟩, ⟨%d10, %f10, -, H10⟩, ⟨%d11, %f11, -, H11⟩, Hk⟩
  obtain rfl := harg1.eq_unread hf1; obtain rfl := harg2.eq_unread hf2; obtain rfl := harg3.eq_unread hf3; obtain rfl := harg4.eq_unread hf4; obtain rfl := harg5.eq_unread hf5; obtain rfl := harg6.eq_unread hf6; obtain rfl := harg7.eq_unread hf7
  iapply ((bodyRun (F := F) c q i arg1 harg1 arg2 harg2 arg3 harg3 arg4 harg4 arg5 harg5 arg6 harg6 arg7 harg7 arg8 harg8 arg9 harg9 arg10 harg10 arg11 harg11 (harg1.unread x1) (harg2.unread x2) (harg3.unread x3) (harg4.unread x4) (harg5.unread x5) (harg6.unread x6) (harg7.unread x7) f9 f10 f11 hw2 hw3).2 E f8 K)
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  iintro ⟨H1, H2, H3, H4, H5, H6, H7, H8, ⟨%g9, H9⟩, ⟨%g10, H10⟩, ⟨%g11, H11⟩⟩
  iapply Hk
  isplitl [H1]
  · iexists _; isplitr; · ipureintro; exact harg1.read_unread _
    iexact H1
  isplitl [H2]
  · iexists _; isplitr; · ipureintro; exact harg2.read_unread _
    iexact H2
  isplitl [H3]
  · iexists _; isplitr; · ipureintro; exact harg3.read_unread _
    iexact H3
  isplitl [H4]
  · iexists _; isplitr; · ipureintro; exact harg4.read_unread _
    iexact H4
  isplitl [H5]
  · iexists _; isplitr; · ipureintro; exact harg5.read_unread _
    iexact H5
  isplitl [H6]
  · iexists _; isplitr; · ipureintro; exact harg6.read_unread _
    iexact H6
  isplitl [H7]
  · iexists _; isplitr; · ipureintro; exact harg7.read_unread _
    iexact H7
  isplitl [H8]
  · iexists f8, f9, f10, f11, _; isplitr; swap; · iexact H8
    ipureintro; rfl
  isplitl [H9]
  · iexists _, _; isplitr; swap; · iexact H9
    ipureintro; rfl
  isplitl [H10]
  · iexists _, _; isplitr; swap; · iexact H10
    ipureintro; rfl
  iexists _, _; isplitr; swap; · iexact H11
  ipureintro; rfl

end Cert.Kernel.Hand

end
-- ==== Proof.KernelFrame.lean ====
/- THE FRAME of the kernel: under an order table naming heads it runs, leaves its arguments as launched, and every
   semaphore at zero; what it leaves in the output is not named here. -/
module

public import proofs.«01_k».proof.Proof.KernelKit

@[expose] public section

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The output window, forgotten. -/
def forgets0 : Fin 7 → Bool := fun w => w.val == 6

/-- The proof data of the one pipeline on core `c`. -/
def dats (_ : Fin 1) (c : Dev nD) : Dat τ (Elt F) Unit ℕ (UR sig nD τ) ℕ (cfgM m) c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, h⟩ => Pipeline.Dat.unnamed (cfg := (cfgM m)) ⟨6, h⟩ t
  Φ _ := iprop(Pipeline.ΦA spec0 c ∗ Pipeline.ΦT pre0 (tbl m) c)
  q _ := fullShare
  owed _ := 0

theorem A_eq (c : Dev nD) (w : Fin (cfgM m).W) : (dats m 0 c).A w = V m c (Pipeline.arrRef spec0 w) := by
  dsimp only [dats]

theorem after0_0 (c : Dev nD) (t : Fin (cfgM m).N) : (dats m 0 c).after 0 t = iblk m c 0 t := by dsimp only [dats]; try rfl
theorem before0_0 (c : Dev nD) (t : Fin (cfgM m).N) (d) : (dats m 0 c).before 0 t d = iblk m c 0 t :=
  before0_0_of m (dats m 0 c) (A_eq m c 0) (after0_0 m c) t d
theorem after0_1 (c : Dev nD) (t : Fin (cfgM m).N) : (dats m 0 c).after 1 t = iblk m c 1 t := by dsimp only [dats]; try rfl
theorem before0_1 (c : Dev nD) (t : Fin (cfgM m).N) (d) : (dats m 0 c).before 1 t d = iblk m c 1 t :=
  before0_1_of m (dats m 0 c) (A_eq m c 1) (after0_1 m c) t d
theorem after0_2 (c : Dev nD) (t : Fin (cfgM m).N) : (dats m 0 c).after 2 t = iblk m c 2 t := by dsimp only [dats]; try rfl
theorem before0_2 (c : Dev nD) (t : Fin (cfgM m).N) (d) : (dats m 0 c).before 2 t d = iblk m c 2 t :=
  before0_2_of m (dats m 0 c) (A_eq m c 2) (after0_2 m c) t d
theorem after0_3 (c : Dev nD) (t : Fin (cfgM m).N) : (dats m 0 c).after 3 t = iblk m c 3 t := by dsimp only [dats]; try rfl
theorem before0_3 (c : Dev nD) (t : Fin (cfgM m).N) (d) : (dats m 0 c).before 3 t d = iblk m c 3 t :=
  before0_3_of m (dats m 0 c) (A_eq m c 3) (after0_3 m c) t d
theorem after0_4 (c : Dev nD) (t : Fin (cfgM m).N) : (dats m 0 c).after 4 t = iblk m c 4 t := by dsimp only [dats]; try rfl
theorem before0_4 (c : Dev nD) (t : Fin (cfgM m).N) (d) : (dats m 0 c).before 4 t d = iblk m c 4 t :=
  before0_4_of m (dats m 0 c) (A_eq m c 4) (after0_4 m c) t d
theorem after0_5 (c : Dev nD) (t : Fin (cfgM m).N) : (dats m 0 c).after 5 t = iblk m c 5 t := by dsimp only [dats]; try rfl
theorem before0_5 (c : Dev nD) (t : Fin (cfgM m).N) (d) : (dats m 0 c).before 5 t d = iblk m c 5 t :=
  before0_5_of m (dats m 0 c) (A_eq m c 5) (after0_5 m c) t d

/-- What the body is called with at point `t`, -/
def bodyPre (c : Dev nD) (t : Fin (cfgM m).N) : sProp 𝕄 :=
  iprop((dats m 0 c).Φ t.castSucc ∗ (dats m 0 c).owesAt () t.castSucc
    ∗ (∃ d, owns (c : Thread nD τ) (ms0_0 m t) fullShare ((dats m 0 c).before 0 t d))
    ∗ (∃ d, owns (c : Thread nD τ) (ms0_1 m t) fullShare ((dats m 0 c).before 1 t d))
    ∗ (∃ d, owns (c : Thread nD τ) (ms0_2 m t) fullShare ((dats m 0 c).before 2 t d))
    ∗ (∃ d, owns (c : Thread nD τ) (ms0_3 m t) fullShare ((dats m 0 c).before 3 t d))
    ∗ (∃ d, owns (c : Thread nD τ) (ms0_4 m t) fullShare ((dats m 0 c).before 4 t d))
    ∗ (∃ d, owns (c : Thread nD τ) (ms0_5 m t) fullShare ((dats m 0 c).before 5 t d))
    ∗ (∃ d, owns (c : Thread nD τ) (ms0_6 m t) fullShare d))

/-- and what it returns. -/
def bodyPost (c : Dev nD) (t : Fin (cfgM m).N) : sProp 𝕄 :=
  iprop((dats m 0 c).Φ t.succ ∗ (dats m 0 c).owesAt () t.succ
    ∗ owns (c : Thread nD τ) (ms0_0 m t) fullShare ((dats m 0 c).after 0 t)
    ∗ owns (c : Thread nD τ) (ms0_1 m t) fullShare ((dats m 0 c).after 1 t)
    ∗ owns (c : Thread nD τ) (ms0_2 m t) fullShare ((dats m 0 c).after 2 t)
    ∗ owns (c : Thread nD τ) (ms0_3 m t) fullShare ((dats m 0 c).after 3 t)
    ∗ owns (c : Thread nD τ) (ms0_4 m t) fullShare ((dats m 0 c).after 4 t)
    ∗ owns (c : Thread nD τ) (ms0_5 m t) fullShare ((dats m 0 c).after 5 t)
    ∗ (∃ d, owns (c : Thread nD τ) (ms0_6 m t) fullShare d))

/-- The body at any point. -/
theorem sound_body (hO : Ok m) (c : Dev nD) (t : Fin (cfgM m).N) :
    bodyPre m c t ⊢ wp frame (wpE (defs₀ (F := F)) Variants.none c none) Set.univ (bodyAt0 (adm m) t) (fun _ => bodyPost m c t) := by
  unfold bodyPre bodyPost bodyAt0
  simp only [before0_0, before0_1, before0_2, before0_3, before0_4, before0_5]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5]
  rw [show (dats m 0 c).Φ t.castSucc = iprop(Pipeline.ΦA spec0 c ∗ Pipeline.ΦT pre0 (tbl m) c) from rfl, PhiT0_eq, PhiA0_eq]
  iintro ⟨⟨⟨⟨HS0, HS1, HS2⟩, Hg⟩, HT0⟩, Ho, ⟨%d0, H0⟩, ⟨%d1, H1⟩, ⟨%d2, H2⟩, ⟨%d3, H3⟩, ⟨%d4, H4⟩, ⟨%d5, H5⟩, ⟨%d6, H6⟩⟩
  iapply (bodyTriple c fullShare.right (grid0.coords t) _ htbM _ (hs0_0 m t) _ (hs0_1 m t) _ (hs0_2 m t) _ (hs0_3 m t) _ (hs0_4 m t) _ (hs0_5 m t) _ (hs0_6 m t) _ _ _ _ _ _
    (tbl m 0) (iblk m c 0 t) (iblk m c 1 t) (iblk m c 2 t) (iblk m c 3 t) (iblk m c 4 t) (iblk m c 5 t) (hw2_of_ok m hO _) (hw3_of_ok m hO _) Set.univ _)
  isplitl [HT0]; · iexact HT0
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  isplitl [HS0]; · iexact HS0
  isplitl [HS1]; · iexact HS1
  isplitl [HS2]; · iexact HS2
  iintro ⟨HT0, H0, H1, H2, H3, H4, H5, ⟨%X8, %X9, %X10, %X11, H6⟩, HS0, HS1, HS2⟩
  isplitl [HS0 HS1 HS2 Hg HT0]
  · isplitl [HS0 HS1 HS2 Hg]
    · isplitl [HS0 HS1 HS2]
      · isplitl [HS0]; · iexact HS0
        isplitl [HS1]; · iexact HS1
        iexact HS2
      iexact Hg
    iexact HT0
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexists _; iexact H6

/-- The body table's row at point `t`'s slots is the body. -/
theorem defs₀_row (t : Fin (cfgM m).N) :
    defs₀ (F := F) .tc (cfgM m).body ((cfgM m).bodyArgs t ((cfgM m).slots t)) = bodyAt0 (adm m) t := by
  unfold defs₀; rw [Defs.onTc_tc]

/-- The library's body obligation, at every point. -/
theorem body_obligation (hO : Ok m) (c : Dev nD) : BodyObligation (dats (F := F) m 0 c) (defs₀ (F := F)) Variants.none () Set.univ forgets0 := fun t => by
  rw [bigSep_W0, bigSep_W0, defs₀_row m]
  exact triple_restated (sound_body m hO c t) rfl .rfl fun _ => .rfl

set_option backward.isDefEq.respectTransparency.types false in
/-- The run: the arguments' arrays as launched, every counter zero. -/
theorem run_main_quiescent (hO : Ok m) : θ_run defs (onTc (τ := τ) (main (F := F))) (s₀ m ρ) (fun r => (Pipeline.RDat.FramePost ((Pipeline.pin pcfgs fun _ => adm m) 0) (fun c => (dats m 0 c).toRForget forgets0) (V m)) r ∧ r.2.sem = fun _ => 0) :=
  Pipeline.θ_run_frameP_forget (Q' := _) pcfgs (fun _ => adm m) (dats m) (0 : Fin 1) launch0 defs₀ Variants.none forgets0 m ρ main
    (hbody := fun c => (body_obligation m hO c).loose) (hshare := fun c => (dats m 0 c).share_full fun _ => rfl)
    (howed := fun _ _ => rfl) (V := V m) (hmain := hmain m Variants.none) (hA := A_eq m) (hpf := V_pre m) (hΦ := fun _ _ => rfl)

/-- THE FRAME CLAIM, at any values. -/
theorem frame (hO : Ok m) : θ_run defs (onTc (τ := τ) (main (F := F))) ⟨m, fun _ => 0, ρ⟩ (fun r => (∀ c : Dev nD, r.2.mem ((c.tc : Thread nD τ).loc main_arg0) = m ((c.tc : Thread nD τ).loc main_arg0) ∧ r.2.mem ((c.tc : Thread nD τ).loc main_arg1) = m ((c.tc : Thread nD τ).loc main_arg1) ∧ r.2.mem ((c.tc : Thread nD τ).loc main_arg2) = m ((c.tc : Thread nD τ).loc main_arg2) ∧ r.2.mem ((c.tc : Thread nD τ).loc main_arg3) = m ((c.tc : Thread nD τ).loc main_arg3) ∧ r.2.mem ((c.tc : Thread nD τ).loc main_arg4) = m ((c.tc : Thread nD τ).loc main_arg4) ∧ r.2.mem ((c.tc : Thread nD τ).loc main_arg5) = m ((c.tc : Thread nD τ).loc main_arg5) ∧ r.2.mem ((c.tc : Thread nD τ).loc main_arg6) = m ((c.tc : Thread nD τ).loc main_arg6))
      ∧ r.2.sem = fun _ => 0) :=
  θ_run_and (frame_of m ρ (fun c => (dats m 0 c).toRForget forgets0) (A_eq m) ((θ_run defs _ _).mono (fun _ h => h.1) (run_main_quiescent m ρ hO)))
    ((θ_run defs _ _).mono (fun _ h => h.2) (run_main_quiescent m ρ hO))

end Cert.Kernel.Hand

end
-- ==== Proof.KernelIdealTrip2.lean ====
/- ONE TRIP of head loop 2 of the kernel, run symbolically: what a trip finds in the order table, the
   scales, the staged codes and the scratch copies of keys and values, it leaves alone; it writes a list of pieces into the
   scratch that collects the outputs. -/
module

public import proofs.«01_k».proof.Proof.Gen.KernelIdeal.Loops
public import proofs.«01_k».proof.Proof.Gen.KernelIdeal.Launch
public import proofs.«01_k».proof.Proof.Gen.KernelIdeal.Skeleton
public import Idealize.ShloMosaic.Lib.Exec
public import Idealize.ShloMosaic.Lib.Tactic

@[expose] public section

set_option maxRecDepth 8192
set_option maxHeartbeats 4000000

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

local notation "𝕄" => MT nD τ sig Unit (Elt F) ℕ (UR sig nD τ) ℕ

/-- What one trip of loop 2 touches: the operands it reads (the order table at share `q`), and the output scratch at
    contents `f`. -/
abbrev Trip2 (c : Dev nD) (q : PosShare TreeShare) (arg1 : Memref sig .tc .smem S12x16 .i32) (harg1 : arg1.IsWhole) (arg2 : Memref sig .tc .smem S12x16 .f32) (harg2 : arg2.IsWhole) (arg3 : Memref sig .tc .smem S12x16 .f32) (harg3 : arg3.IsWhole) (arg4 : Memref sig .tc .smem S12x16 .f32) (harg4 : arg4.IsWhole) (arg5 : Memref sig .tc .vmem S1x16x96x1400 .fp8e4m3) (harg5 : arg5.IsWhole) (arg6 : Memref sig .tc .vmem S1x16x96x1400 .fp8e4m3) (harg6 : arg6.IsWhole) (arg7 : Memref sig .tc .vmem S1x16x96x1400 .fp8e4m3) (harg7 : arg7.IsWhole) (arg8 : Memref sig .tc .vmem S1x1400x1536 .bf16) (harg8 : arg8.IsWhole) (arg9 : Memref sig .tc .vmem S16x1400x96 .fp8e4m3) (harg9 : arg9.IsWhole) (arg10 : Memref sig .tc .vmem S16x96x1400 .bf16) (harg10 : arg10.IsWhole) (arg11 : Memref sig .tc .vmem S16x96x1400 .bf16) (harg11 : arg11.IsWhole) (X1 : BufTy.Contents (Elt F) arg1.view.ty) (X2 : BufTy.Contents (Elt F) arg2.view.ty) (X3 : BufTy.Contents (Elt F) arg3.view.ty) (X4 : BufTy.Contents (Elt F) arg4.view.ty) (X5 : BufTy.Contents (Elt F) arg5.view.ty) (X9 : BufTy.Contents (Elt F) arg9.view.ty) (X10 : BufTy.Contents (Elt F) arg10.view.ty) (f : BufTy.Contents (Elt F) arg11.view.ty) : sProp 𝕄 :=
  iprop((arg1.view.loc (c : Thread nD τ) ↦[arg1.view.set]{q} X1) ∗ (arg2.view.loc (c : Thread nD τ) ↦[arg2.view.set]{fullShare} X2) ∗ (arg3.view.loc (c : Thread nD τ) ↦[arg3.view.set]{fullShare} X3) ∗ (arg4.view.loc (c : Thread nD τ) ↦[arg4.view.set]{fullShare} X4) ∗ (arg5.view.loc (c : Thread nD τ) ↦[arg5.view.set]{fullShare} X5) ∗ (arg9.view.loc (c : Thread nD τ) ↦[arg9.view.set]{fullShare} X9) ∗ (arg10.view.loc (c : Thread nD τ) ↦[arg10.view.set]{fullShare} X10) ∗ (arg11.view.loc (c : Thread nD τ) ↦[arg11.view.set]{fullShare} f))

/-- ONE TRIP of loop 2, at a head `hw` says is inside the tables: it leaves the operands as found and writes a list
    of pieces into the output scratch. -/
@[irreducible] def trip2 (c : Dev nD) (q : PosShare TreeShare) (i : grid0.Coords) (arg1 : Memref sig .tc .smem S12x16 .i32) (harg1 : arg1.IsWhole) (arg2 : Memref sig .tc .smem S12x16 .f32) (harg2 : arg2.IsWhole) (arg3 : Memref sig .tc .smem S12x16 .f32) (harg3 : arg3.IsWhole) (arg4 : Memref sig .tc .smem S12x16 .f32) (harg4 : arg4.IsWhole) (arg5 : Memref sig .tc .vmem S1x16x96x1400 .fp8e4m3) (harg5 : arg5.IsWhole) (arg6 : Memref sig .tc .vmem S1x16x96x1400 .fp8e4m3) (harg6 : arg6.IsWhole) (arg7 : Memref sig .tc .vmem S1x16x96x1400 .fp8e4m3) (harg7 : arg7.IsWhole) (arg8 : Memref sig .tc .vmem S1x1400x1536 .bf16) (harg8 : arg8.IsWhole) (arg9 : Memref sig .tc .vmem S16x1400x96 .fp8e4m3) (harg9 : arg9.IsWhole) (arg10 : Memref sig .tc .vmem S16x96x1400 .bf16) (harg10 : arg10.IsWhole) (arg11 : Memref sig .tc .vmem S16x96x1400 .bf16) (harg11 : arg11.IsWhole) (X1 : BufTy.Contents (Elt F) arg1.view.ty) (X2 : BufTy.Contents (Elt F) arg2.view.ty) (X3 : BufTy.Contents (Elt F) arg3.view.ty) (X4 : BufTy.Contents (Elt F) arg4.view.ty) (X5 : BufTy.Contents (Elt F) arg5.view.ty) (X9 : BufTy.Contents (Elt F) arg9.view.ty) (X10 : BufTy.Contents (Elt F) arg10.view.ty)
    (k : Fin k0_t2_loop.trips) (hw : ∀ x, k0_chk1 i (View.readAt (Elt F) arg1.view (Rect.unit (s := S12x16) (k0_off4 i k) S1x1.size (k0_off4_inb i k)).toLoadRect X1 x)) :
    { L : List (View.Piece (Elt F) S16x96x1400 .bf16) // ∀ (E : Set ℕ) (f : BufTy.Contents (Elt F) arg11.view.ty),
      Trip2 (F := F) c q arg1 harg1 arg2 harg2 arg3 harg3 arg4 harg4 arg5 harg5 arg6 harg6 arg7 harg7 arg8 harg8 arg9 harg9 arg10 harg10 arg11 harg11 X1 X2 X3 X4 X5 X9 X10 f
      ⊢ wp frame (wpE (defs₀ (F := F)) Variants.none (c : Thread nD τ) none) E (k0_t2_body (F := F) i arg1 harg1 arg2 harg2 arg3 harg3 arg4 harg4 arg5 harg5 arg6 harg6 arg7 harg7 arg8 harg8 arg9 harg9 arg10 harg10 arg11 harg11 (BitVec.ofNat 32 (i 0).val) k PUnit.unit)
          (fun _ => Trip2 (F := F) c q arg1 harg1 arg2 harg2 arg3 harg3 arg4 harg4 arg5 harg5 arg6 harg6 arg7 harg7 arg8 harg8 arg9 harg9 arg10 harg10 arg11 harg11 X1 X2 X3 X4 X5 X9 X10 (arg11.view.writes (Elt F) f L)) } := by
  refine ⟨?_, fun E f => ?run⟩
  case run =>
    unfold k0_t2_body
    iintro ⟨H1, H2, H3, H4, H5, H9, H10, HW⟩
    sl_exec_parts (disch := exact hw _)
    sl_step
    sl_close

/-- Trip `k`'s pieces in front of those of the trips before it. -/
@[irreducible] def pb2Step (c : Dev nD) (q : PosShare TreeShare) (i : grid0.Coords) (arg1 : Memref sig .tc .smem S12x16 .i32) (harg1 : arg1.IsWhole) (arg2 : Memref sig .tc .smem S12x16 .f32) (harg2 : arg2.IsWhole) (arg3 : Memref sig .tc .smem S12x16 .f32) (harg3 : arg3.IsWhole) (arg4 : Memref sig .tc .smem S12x16 .f32) (harg4 : arg4.IsWhole) (arg5 : Memref sig .tc .vmem S1x16x96x1400 .fp8e4m3) (harg5 : arg5.IsWhole) (arg6 : Memref sig .tc .vmem S1x16x96x1400 .fp8e4m3) (harg6 : arg6.IsWhole) (arg7 : Memref sig .tc .vmem S1x16x96x1400 .fp8e4m3) (harg7 : arg7.IsWhole) (arg8 : Memref sig .tc .vmem S1x1400x1536 .bf16) (harg8 : arg8.IsWhole) (arg9 : Memref sig .tc .vmem S16x1400x96 .fp8e4m3) (harg9 : arg9.IsWhole) (arg10 : Memref sig .tc .vmem S16x96x1400 .bf16) (harg10 : arg10.IsWhole) (arg11 : Memref sig .tc .vmem S16x96x1400 .bf16) (harg11 : arg11.IsWhole) (X1 : BufTy.Contents (Elt F) arg1.view.ty) (X2 : BufTy.Contents (Elt F) arg2.view.ty) (X3 : BufTy.Contents (Elt F) arg3.view.ty) (X4 : BufTy.Contents (Elt F) arg4.view.ty) (X5 : BufTy.Contents (Elt F) arg5.view.ty) (X9 : BufTy.Contents (Elt F) arg9.view.ty) (X10 : BufTy.Contents (Elt F) arg10.view.ty)
    (hw : ∀ k, ∀ x, k0_chk1 i (View.readAt (Elt F) arg1.view (Rect.unit (s := S12x16) (k0_off4 i k) S1x1.size (k0_off4_inb i k)).toLoadRect X1 x)) (k : ℕ) (prev : List (View.Piece (Elt F) S16x96x1400 .bf16)) : List (View.Piece (Elt F) S16x96x1400 .bf16) :=
  if h : k < k0_t2_loop.trips then (trip2 (F := F) c q i arg1 harg1 arg2 harg2 arg3 harg3 arg4 harg4 arg5 harg5 arg6 harg6 arg7 harg7 arg8 harg8 arg9 harg9 arg10 harg10 arg11 harg11 X1 X2 X3 X4 X5 X9 X10 ⟨k, h⟩ (hw ⟨k, h⟩)).1 ++ prev else prev

/-- The pieces of the trips before `k`, the last trip's first. -/
def pb2 (c : Dev nD) (q : PosShare TreeShare) (i : grid0.Coords) (arg1 : Memref sig .tc .smem S12x16 .i32) (harg1 : arg1.IsWhole) (arg2 : Memref sig .tc .smem S12x16 .f32) (harg2 : arg2.IsWhole) (arg3 : Memref sig .tc .smem S12x16 .f32) (harg3 : arg3.IsWhole) (arg4 : Memref sig .tc .smem S12x16 .f32) (harg4 : arg4.IsWhole) (arg5 : Memref sig .tc .vmem S1x16x96x1400 .fp8e4m3) (harg5 : arg5.IsWhole) (arg6 : Memref sig .tc .vmem S1x16x96x1400 .fp8e4m3) (harg6 : arg6.IsWhole) (arg7 : Memref sig .tc .vmem S1x16x96x1400 .fp8e4m3) (harg7 : arg7.IsWhole) (arg8 : Memref sig .tc .vmem S1x1400x1536 .bf16) (harg8 : arg8.IsWhole) (arg9 : Memref sig .tc .vmem S16x1400x96 .fp8e4m3) (harg9 : arg9.IsWhole) (arg10 : Memref sig .tc .vmem S16x96x1400 .bf16) (harg10 : arg10.IsWhole) (arg11 : Memref sig .tc .vmem S16x96x1400 .bf16) (harg11 : arg11.IsWhole) (X1 : BufTy.Contents (Elt F) arg1.view.ty) (X2 : BufTy.Contents (Elt F) arg2.view.ty) (X3 : BufTy.Contents (Elt F) arg3.view.ty) (X4 : BufTy.Contents (Elt F) arg4.view.ty) (X5 : BufTy.Contents (Elt F) arg5.view.ty) (X9 : BufTy.Contents (Elt F) arg9.view.ty) (X10 : BufTy.Contents (Elt F) arg10.view.ty)
    (hw : ∀ k, ∀ x, k0_chk1 i (View.readAt (Elt F) arg1.view (Rect.unit (s := S12x16) (k0_off4 i k) S1x1.size (k0_off4_inb i k)).toLoadRect X1 x)) : ℕ → List (View.Piece (Elt F) S16x96x1400 .bf16)
  | 0 => []
  | k + 1 => pb2Step (F := F) c q i arg1 harg1 arg2 harg2 arg3 harg3 arg4 harg4 arg5 harg5 arg6 harg6 arg7 harg7 arg8 harg8 arg9 harg9 arg10 harg10 arg11 harg11 X1 X2 X3 X4 X5 X9 X10 hw k (pb2 c q i arg1 harg1 arg2 harg2 arg3 harg3 arg4 harg4 arg5 harg5 arg6 harg6 arg7 harg7 arg8 harg8 arg9 harg9 arg10 harg10 arg11 harg11 X1 X2 X3 X4 X5 X9 X10 hw k)

theorem pb2_succ (c : Dev nD) (q : PosShare TreeShare) (i : grid0.Coords) (arg1 : Memref sig .tc .smem S12x16 .i32) (harg1 : arg1.IsWhole) (arg2 : Memref sig .tc .smem S12x16 .f32) (harg2 : arg2.IsWhole) (arg3 : Memref sig .tc .smem S12x16 .f32) (harg3 : arg3.IsWhole) (arg4 : Memref sig .tc .smem S12x16 .f32) (harg4 : arg4.IsWhole) (arg5 : Memref sig .tc .vmem S1x16x96x1400 .fp8e4m3) (harg5 : arg5.IsWhole) (arg6 : Memref sig .tc .vmem S1x16x96x1400 .fp8e4m3) (harg6 : arg6.IsWhole) (arg7 : Memref sig .tc .vmem S1x16x96x1400 .fp8e4m3) (harg7 : arg7.IsWhole) (arg8 : Memref sig .tc .vmem S1x1400x1536 .bf16) (harg8 : arg8.IsWhole) (arg9 : Memref sig .tc .vmem S16x1400x96 .fp8e4m3) (harg9 : arg9.IsWhole) (arg10 : Memref sig .tc .vmem S16x96x1400 .bf16) (harg10 : arg10.IsWhole) (arg11 : Memref sig .tc .vmem S16x96x1400 .bf16) (harg11 : arg11.IsWhole) (X1 : BufTy.Contents (Elt F) arg1.view.ty) (X2 : BufTy.Contents (Elt F) arg2.view.ty) (X3 : BufTy.Contents (Elt F) arg3.view.ty) (X4 : BufTy.Contents (Elt F) arg4.view.ty) (X5 : BufTy.Contents (Elt F) arg5.view.ty) (X9 : BufTy.Contents (Elt F) arg9.view.ty) (X10 : BufTy.Contents (Elt F) arg10.view.ty)
    (hw : ∀ k, ∀ x, k0_chk1 i (View.readAt (Elt F) arg1.view (Rect.unit (s := S12x16) (k0_off4 i k) S1x1.size (k0_off4_inb i k)).toLoadRect X1 x)) (k : Fin k0_t2_loop.trips) :
    pb2 (F := F) c q i arg1 harg1 arg2 harg2 arg3 harg3 arg4 harg4 arg5 harg5 arg6 harg6 arg7 harg7 arg8 harg8 arg9 harg9 arg10 harg10 arg11 harg11 X1 X2 X3 X4 X5 X9 X10 hw (k.val + 1) = (trip2 (F := F) c q i arg1 harg1 arg2 harg2 arg3 harg3 arg4 harg4 arg5 harg5 arg6 harg6 arg7 harg7 arg8 harg8 arg9 harg9 arg10 harg10 arg11 harg11 X1 X2 X3 X4 X5 X9 X10 k (hw k)).1 ++ pb2 (F := F) c q i arg1 harg1 arg2 harg2 arg3 harg3 arg4 harg4 arg5 harg5 arg6 harg6 arg7 harg7 arg8 harg8 arg9 harg9 arg10 harg10 arg11 harg11 X1 X2 X3 X4 X5 X9 X10 hw k.val := by
  rw [pb2.eq_2]; unfold pb2Step; exact dif_pos k.isLt

/-- The invariant of loop 2 before trip `k`: the operands as found, the output scratch with the pieces of the trips
    before `k` written over what it held at the start. -/
abbrev inv2 (c : Dev nD) (q : PosShare TreeShare) (i : grid0.Coords) (arg1 : Memref sig .tc .smem S12x16 .i32) (harg1 : arg1.IsWhole) (arg2 : Memref sig .tc .smem S12x16 .f32) (harg2 : arg2.IsWhole) (arg3 : Memref sig .tc .smem S12x16 .f32) (harg3 : arg3.IsWhole) (arg4 : Memref sig .tc .smem S12x16 .f32) (harg4 : arg4.IsWhole) (arg5 : Memref sig .tc .vmem S1x16x96x1400 .fp8e4m3) (harg5 : arg5.IsWhole) (arg6 : Memref sig .tc .vmem S1x16x96x1400 .fp8e4m3) (harg6 : arg6.IsWhole) (arg7 : Memref sig .tc .vmem S1x16x96x1400 .fp8e4m3) (harg7 : arg7.IsWhole) (arg8 : Memref sig .tc .vmem S1x1400x1536 .bf16) (harg8 : arg8.IsWhole) (arg9 : Memref sig .tc .vmem S16x1400x96 .fp8e4m3) (harg9 : arg9.IsWhole) (arg10 : Memref sig .tc .vmem S16x96x1400 .bf16) (harg10 : arg10.IsWhole) (arg11 : Memref sig .tc .vmem S16x96x1400 .bf16) (harg11 : arg11.IsWhole) (X1 : BufTy.Contents (Elt F) arg1.view.ty) (X2 : BufTy.Contents (Elt F) arg2.view.ty) (X3 : BufTy.Contents (Elt F) arg3.view.ty) (X4 : BufTy.Contents (Elt F) arg4.view.ty) (X5 : BufTy.Contents (Elt F) arg5.view.ty) (X9 : BufTy.Contents (Elt F) arg9.view.ty) (X10 : BufTy.Contents (Elt F) arg10.view.ty) (G : BufTy.Contents (Elt F) arg11.view.ty)
    (hw : ∀ k, ∀ x, k0_chk1 i (View.readAt (Elt F) arg1.view (Rect.unit (s := S12x16) (k0_off4 i k) S1x1.size (k0_off4_inb i k)).toLoadRect X1 x)) (k : ℕ) (_ : PUnit) : sProp 𝕄 :=
  iprop((arg1.view.loc (c : Thread nD τ) ↦[arg1.view.set]{q} X1) ∗ (arg2.view.loc (c : Thread nD τ) ↦[arg2.view.set]{fullShare} X2) ∗ (arg3.view.loc (c : Thread nD τ) ↦[arg3.view.set]{fullShare} X3) ∗ (arg4.view.loc (c : Thread nD τ) ↦[arg4.view.set]{fullShare} X4) ∗ (arg5.view.loc (c : Thread nD τ) ↦[arg5.view.set]{fullShare} X5) ∗ (arg9.view.loc (c : Thread nD τ) ↦[arg9.view.set]{fullShare} X9) ∗ (arg10.view.loc (c : Thread nD τ) ↦[arg10.view.set]{fullShare} X10) ∗ (∃ f, (arg11.view.loc (c : Thread nD τ) ↦[arg11.view.set]{fullShare} f) ∗ ⌜f = arg11.view.writes (Elt F) G (pb2 (F := F) c q i arg1 harg1 arg2 harg2 arg3 harg3 arg4 harg4 arg5 harg5 arg6 harg6 arg7 harg7 arg8 harg8 arg9 harg9 arg10 harg10 arg11 harg11 X1 X2 X3 X4 X5 X9 X10 hw k)⌝))

set_option warn.classDefReducibility false in
/-- Loop 2 by its invariant. -/
@[sl_loop] def loopInv2 (c : Dev nD) (q : PosShare TreeShare) (E : Set ℕ) (i : grid0.Coords) (arg1 : Memref sig .tc .smem S12x16 .i32) (harg1 : arg1.IsWhole) (arg2 : Memref sig .tc .smem S12x16 .f32) (harg2 : arg2.IsWhole) (arg3 : Memref sig .tc .smem S12x16 .f32) (harg3 : arg3.IsWhole) (arg4 : Memref sig .tc .smem S12x16 .f32) (harg4 : arg4.IsWhole) (arg5 : Memref sig .tc .vmem S1x16x96x1400 .fp8e4m3) (harg5 : arg5.IsWhole) (arg6 : Memref sig .tc .vmem S1x16x96x1400 .fp8e4m3) (harg6 : arg6.IsWhole) (arg7 : Memref sig .tc .vmem S1x16x96x1400 .fp8e4m3) (harg7 : arg7.IsWhole) (arg8 : Memref sig .tc .vmem S1x1400x1536 .bf16) (harg8 : arg8.IsWhole) (arg9 : Memref sig .tc .vmem S16x1400x96 .fp8e4m3) (harg9 : arg9.IsWhole) (arg10 : Memref sig .tc .vmem S16x96x1400 .bf16) (harg10 : arg10.IsWhole) (arg11 : Memref sig .tc .vmem S16x96x1400 .bf16) (harg11 : arg11.IsWhole) (X1 : BufTy.Contents (Elt F) arg1.view.ty) (X2 : BufTy.Contents (Elt F) arg2.view.ty) (X3 : BufTy.Contents (Elt F) arg3.view.ty) (X4 : BufTy.Contents (Elt F) arg4.view.ty) (X5 : BufTy.Contents (Elt F) arg5.view.ty) (X9 : BufTy.Contents (Elt F) arg9.view.ty) (X10 : BufTy.Contents (Elt F) arg10.view.ty) (G : BufTy.Contents (Elt F) arg11.view.ty)
    (hw : ∀ k, ∀ x, k0_chk1 i (View.readAt (Elt F) arg1.view (Rect.unit (s := S12x16) (k0_off4 i k) S1x1.size (k0_off4_inb i k)).toLoadRect X1 x)) :
    LoopInvTy_k0_t2 (F := F) Unit ℕ (UR sig nD τ) ℕ Variants.none c none E i arg1 harg1 arg2 harg2 arg3 harg3 arg4 harg4 arg5 harg5 arg6 harg6 arg7 harg7 arg8 harg8 arg9 harg9 arg10 harg10 arg11 harg11 (BitVec.ofNat 32 (i 0).val) where
  inv := inv2 (F := F) c q i arg1 harg1 arg2 harg2 arg3 harg3 arg4 harg4 arg5 harg5 arg6 harg6 arg7 harg7 arg8 harg8 arg9 harg9 arg10 harg10 arg11 harg11 X1 X2 X3 X4 X5 X9 X10 G hw
  step k acc := by
    iintro ⟨H1, H2, H3, H4, H5, H9, H10, ⟨%f, HW, %h⟩⟩
    iapply (wp_wand_r Idealize.ShloMosaic.frame (wpE (defs₀ (F := F)) Variants.none (c : Thread nD τ) none) E)
    isplitl [H1 H2 H3 H4 H5 H9 H10 HW]
    · iapply ((trip2 (F := F) c q i arg1 harg1 arg2 harg2 arg3 harg3 arg4 harg4 arg5 harg5 arg6 harg6 arg7 harg7 arg8 harg8 arg9 harg9 arg10 harg10 arg11 harg11 X1 X2 X3 X4 X5 X9 X10 k (hw k)).2 E f)
      isplitl [H1]; · iexact H1
      isplitl [H2]; · iexact H2
      isplitl [H3]; · iexact H3
      isplitl [H4]; · iexact H4
      isplitl [H5]; · iexact H5
      isplitl [H9]; · iexact H9
      isplitl [H10]; · iexact H10
      iexact HW
    · iintro %_ ⟨H1, H2, H3, H4, H5, H9, H10, HW⟩
      isplitl [H1]; · iexact H1
      isplitl [H2]; · iexact H2
      isplitl [H3]; · iexact H3
      isplitl [H4]; · iexact H4
      isplitl [H5]; · iexact H5
      isplitl [H9]; · iexact H9
      isplitl [H10]; · iexact H10
      rw [pb2_succ]
      iexists _; isplitl [HW]; · iexact HW
      ipureintro; rw [h, ← View.writes_append]

end Cert.KernelIdeal.Hand

end
-- ==== Proof.KernelIdealTrip3.lean ====
/- ONE TRIP of head loop 3 of the kernel, run symbolically: what a trip finds in the order table, the
   scales, the staged codes and the scratch copies of keys and values, it leaves alone; it writes a list of pieces into the
   scratch that collects the outputs. -/
module

public import proofs.«01_k».proof.Proof.Gen.KernelIdeal.Loops
public import proofs.«01_k».proof.Proof.Gen.KernelIdeal.Launch
public import proofs.«01_k».proof.Proof.Gen.KernelIdeal.Skeleton
public import Idealize.ShloMosaic.Lib.Exec
public import Idealize.ShloMosaic.Lib.Tactic

@[expose] public section

set_option maxRecDepth 8192
set_option maxHeartbeats 4000000

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

local notation "𝕄" => MT nD τ sig Unit (Elt F) ℕ (UR sig nD τ) ℕ

/-- What one trip of loop 3 touches: the operands it reads (the order table at share `q`), and the output scratch at
    contents `f`. -/
abbrev Trip3 (c : Dev nD) (q : PosShare TreeShare) (arg1 : Memref sig .tc .smem S12x16 .i32) (harg1 : arg1.IsWhole) (arg2 : Memref sig .tc .smem S12x16 .f32) (harg2 : arg2.IsWhole) (arg3 : Memref sig .tc .smem S12x16 .f32) (harg3 : arg3.IsWhole) (arg4 : Memref sig .tc .smem S12x16 .f32) (harg4 : arg4.IsWhole) (arg5 : Memref sig .tc .vmem S1x16x96x1400 .fp8e4m3) (harg5 : arg5.IsWhole) (arg6 : Memref sig .tc .vmem S1x16x96x1400 .fp8e4m3) (harg6 : arg6.IsWhole) (arg7 : Memref sig .tc .vmem S1x16x96x1400 .fp8e4m3) (harg7 : arg7.IsWhole) (arg8 : Memref sig .tc .vmem S1x1400x1536 .bf16) (harg8 : arg8.IsWhole) (arg9 : Memref sig .tc .vmem S16x1400x96 .fp8e4m3) (harg9 : arg9.IsWhole) (arg10 : Memref sig .tc .vmem S16x96x1400 .bf16) (harg10 : arg10.IsWhole) (arg11 : Memref sig .tc .vmem S16x96x1400 .bf16) (harg11 : arg11.IsWhole) (X1 : BufTy.Contents (Elt F) arg1.view.ty) (X2 : BufTy.Contents (Elt F) arg2.view.ty) (X3 : BufTy.Contents (Elt F) arg3.view.ty) (X4 : BufTy.Contents (Elt F) arg4.view.ty) (X5 : BufTy.Contents (Elt F) arg5.view.ty) (X6 : BufTy.Contents (Elt F) arg6.view.ty) (X7 : BufTy.Contents (Elt F) arg7.view.ty) (X9 : BufTy.Contents (Elt F) arg9.view.ty) (X10 : BufTy.Contents (Elt F) arg10.view.ty) (f : BufTy.Contents (Elt F) arg11.view.ty) : sProp 𝕄 :=
  iprop((arg1.view.loc (c : Thread nD τ) ↦[arg1.view.set]{q} X1) ∗ (arg2.view.loc (c : Thread nD τ) ↦[arg2.view.set]{fullShare} X2) ∗ (arg3.view.loc (c : Thread nD τ) ↦[arg3.view.set]{fullShare} X3) ∗ (arg4.view.loc (c : Thread nD τ) ↦[arg4.view.set]{fullShare} X4) ∗ (arg5.view.loc (c : Thread nD τ) ↦[arg5.view.set]{fullShare} X5) ∗ (arg6.view.loc (c : Thread nD τ) ↦[arg6.view.set]{fullShare} X6) ∗ (arg7.view.loc (c : Thread nD τ) ↦[arg7.view.set]{fullShare} X7) ∗ (arg9.view.loc (c : Thread nD τ) ↦[arg9.view.set]{fullShare} X9) ∗ (arg10.view.loc (c : Thread nD τ) ↦[arg10.view.set]{fullShare} X10) ∗ (arg11.view.loc (c : Thread nD τ) ↦[arg11.view.set]{fullShare} f))

/-- ONE TRIP of loop 3, at a head `hw` says is inside the tables: it leaves the operands as found and writes a list
    of pieces into the output scratch. -/
@[irreducible] def trip3 (c : Dev nD) (q : PosShare TreeShare) (i : grid0.Coords) (arg1 : Memref sig .tc .smem S12x16 .i32) (harg1 : arg1.IsWhole) (arg2 : Memref sig .tc .smem S12x16 .f32) (harg2 : arg2.IsWhole) (arg3 : Memref sig .tc .smem S12x16 .f32) (harg3 : arg3.IsWhole) (arg4 : Memref sig .tc .smem S12x16 .f32) (harg4 : arg4.IsWhole) (arg5 : Memref sig .tc .vmem S1x16x96x1400 .fp8e4m3) (harg5 : arg5.IsWhole) (arg6 : Memref sig .tc .vmem S1x16x96x1400 .fp8e4m3) (harg6 : arg6.IsWhole) (arg7 : Memref sig .tc .vmem S1x16x96x1400 .fp8e4m3) (harg7 : arg7.IsWhole) (arg8 : Memref sig .tc .vmem S1x1400x1536 .bf16) (harg8 : arg8.IsWhole) (arg9 : Memref sig .tc .vmem S16x1400x96 .fp8e4m3) (harg9 : arg9.IsWhole) (arg10 : Memref sig .tc .vmem S16x96x1400 .bf16) (harg10 : arg10.IsWhole) (arg11 : Memref sig .tc .vmem S16x96x1400 .bf16) (harg11 : arg11.IsWhole) (X1 : BufTy.Contents (Elt F) arg1.view.ty) (X2 : BufTy.Contents (Elt F) arg2.view.ty) (X3 : BufTy.Contents (Elt F) arg3.view.ty) (X4 : BufTy.Contents (Elt F) arg4.view.ty) (X5 : BufTy.Contents (Elt F) arg5.view.ty) (X6 : BufTy.Contents (Elt F) arg6.view.ty) (X7 : BufTy.Contents (Elt F) arg7.view.ty) (X9 : BufTy.Contents (Elt F) arg9.view.ty) (X10 : BufTy.Contents (Elt F) arg10.view.ty)
    (k : Fin k0_t3_loop.trips) (hw : ∀ x, k0_chk2 i (View.readAt (Elt F) arg1.view (Rect.unit (s := S12x16) (k0_off26 i k) S1x1.size (k0_off26_inb i k)).toLoadRect X1 x)) :
    { L : List (View.Piece (Elt F) S16x96x1400 .bf16) // ∀ (E : Set ℕ) (f : BufTy.Contents (Elt F) arg11.view.ty),
      Trip3 (F := F) c q arg1 harg1 arg2 harg2 arg3 harg3 arg4 harg4 arg5 harg5 arg6 harg6 arg7 harg7 arg8 harg8 arg9 harg9 arg10 harg10 arg11 harg11 X1 X2 X3 X4 X5 X6 X7 X9 X10 f
      ⊢ wp frame (wpE (defs₀ (F := F)) Variants.none (c : Thread nD τ) none) E (k0_t3_body (F := F) i arg1 harg1 arg2 harg2 arg3 harg3 arg4 harg4 arg5 harg5 arg6 harg6 arg7 harg7 arg8 harg8 arg9 harg9 arg10 harg10 arg11 harg11 (BitVec.ofNat 32 (i 0).val) k PUnit.unit)
          (fun _ => Trip3 (F := F) c q arg1 harg1 arg2 harg2 arg3 harg3 arg4 harg4 arg5 harg5 arg6 harg6 arg7 harg7 arg8 harg8 arg9 harg9 arg10 harg10 arg11 harg11 X1 X2 X3 X4 X5 X6 X7 X9 X10 (arg11.view.writes (Elt F) f L)) } := by
  refine ⟨?_, fun E f => ?run⟩
  case run =>
    unfold k0_t3_body
    iintro ⟨H1, H2, H3, H4, H5, H6, H7, H9, H10, HW⟩
    sl_exec_parts (disch := exact hw _)
    sl_step
    sl_close

/-- Trip `k`'s pieces in front of those of the trips before it. -/
@[irreducible] def pb3Step (c : Dev nD) (q : PosShare TreeShare) (i : grid0.Coords) (arg1 : Memref sig .tc .smem S12x16 .i32) (harg1 : arg1.IsWhole) (arg2 : Memref sig .tc .smem S12x16 .f32) (harg2 : arg2.IsWhole) (arg3 : Memref sig .tc .smem S12x16 .f32) (harg3 : arg3.IsWhole) (arg4 : Memref sig .tc .smem S12x16 .f32) (harg4 : arg4.IsWhole) (arg5 : Memref sig .tc .vmem S1x16x96x1400 .fp8e4m3) (harg5 : arg5.IsWhole) (arg6 : Memref sig .tc .vmem S1x16x96x1400 .fp8e4m3) (harg6 : arg6.IsWhole) (arg7 : Memref sig .tc .vmem S1x16x96x1400 .fp8e4m3) (harg7 : arg7.IsWhole) (arg8 : Memref sig .tc .vmem S1x1400x1536 .bf16) (harg8 : arg8.IsWhole) (arg9 : Memref sig .tc .vmem S16x1400x96 .fp8e4m3) (harg9 : arg9.IsWhole) (arg10 : Memref sig .tc .vmem S16x96x1400 .bf16) (harg10 : arg10.IsWhole) (arg11 : Memref sig .tc .vmem S16x96x1400 .bf16) (harg11 : arg11.IsWhole) (X1 : BufTy.Contents (Elt F) arg1.view.ty) (X2 : BufTy.Contents (Elt F) arg2.view.ty) (X3 : BufTy.Contents (Elt F) arg3.view.ty) (X4 : BufTy.Contents (Elt F) arg4.view.ty) (X5 : BufTy.Contents (Elt F) arg5.view.ty) (X6 : BufTy.Contents (Elt F) arg6.view.ty) (X7 : BufTy.Contents (Elt F) arg7.view.ty) (X9 : BufTy.Contents (Elt F) arg9.view.ty) (X10 : BufTy.Contents (Elt F) arg10.view.ty)
    (hw : ∀ k, ∀ x, k0_chk2 i (View.readAt (Elt F) arg1.view (Rect.unit (s := S12x16) (k0_off26 i k) S1x1.size (k0_off26_inb i k)).toLoadRect X1 x)) (k : ℕ) (prev : List (View.Piece (Elt F) S16x96x1400 .bf16)) : List (View.Piece (Elt F) S16x96x1400 .bf16) :=
  if h : k < k0_t3_loop.trips then (trip3 (F := F) c q i arg1 harg1 arg2 harg2 arg3 harg3 arg4 harg4 arg5 harg5 arg6 harg6 arg7 harg7 arg8 harg8 arg9 harg9 arg10 harg10 arg11 harg11 X1 X2 X3 X4 X5 X6 X7 X9 X10 ⟨k, h⟩ (hw ⟨k, h⟩)).1 ++ prev else prev

/-- The pieces of the trips before `k`, the last trip's first. -/
def pb3 (c : Dev nD) (q : PosShare TreeShare) (i : grid0.Coords) (arg1 : Memref sig .tc .smem S12x16 .i32) (harg1 : arg1.IsWhole) (arg2 : Memref sig .tc .smem S12x16 .f32) (harg2 : arg2.IsWhole) (arg3 : Memref sig .tc .smem S12x16 .f32) (harg3 : arg3.IsWhole) (arg4 : Memref sig .tc .smem S12x16 .f32) (harg4 : arg4.IsWhole) (arg5 : Memref sig .tc .vmem S1x16x96x1400 .fp8e4m3) (harg5 : arg5.IsWhole) (arg6 : Memref sig .tc .vmem S1x16x96x1400 .fp8e4m3) (harg6 : arg6.IsWhole) (arg7 : Memref sig .tc .vmem S1x16x96x1400 .fp8e4m3) (harg7 : arg7.IsWhole) (arg8 : Memref sig .tc .vmem S1x1400x1536 .bf16) (harg8 : arg8.IsWhole) (arg9 : Memref sig .tc .vmem S16x1400x96 .fp8e4m3) (harg9 : arg9.IsWhole) (arg10 : Memref sig .tc .vmem S16x96x1400 .bf16) (harg10 : arg10.IsWhole) (arg11 : Memref sig .tc .vmem S16x96x1400 .bf16) (harg11 : arg11.IsWhole) (X1 : BufTy.Contents (Elt F) arg1.view.ty) (X2 : BufTy.Contents (Elt F) arg2.view.ty) (X3 : BufTy.Contents (Elt F) arg3.view.ty) (X4 : BufTy.Contents (Elt F) arg4.view.ty) (X5 : BufTy.Contents (Elt F) arg5.view.ty) (X6 : BufTy.Contents (Elt F) arg6.view.ty) (X7 : BufTy.Contents (Elt F) arg7.view.ty) (X9 : BufTy.Contents (Elt F) arg9.view.ty) (X10 : BufTy.Contents (Elt F) arg10.view.ty)
    (hw : ∀ k, ∀ x, k0_chk2 i (View.readAt (Elt F) arg1.view (Rect.unit (s := S12x16) (k0_off26 i k) S1x1.size (k0_off26_inb i k)).toLoadRect X1 x)) : ℕ → List (View.Piece (Elt F) S16x96x1400 .bf16)
  | 0 => []
  | k + 1 => pb3Step (F := F) c q i arg1 harg1 arg2 harg2 arg3 harg3 arg4 harg4 arg5 harg5 arg6 harg6 arg7 harg7 arg8 harg8 arg9 harg9 arg10 harg10 arg11 harg11 X1 X2 X3 X4 X5 X6 X7 X9 X10 hw k (pb3 c q i arg1 harg1 arg2 harg2 arg3 harg3 arg4 harg4 arg5 harg5 arg6 harg6 arg7 harg7 arg8 harg8 arg9 harg9 arg10 harg10 arg11 harg11 X1 X2 X3 X4 X5 X6 X7 X9 X10 hw k)

theorem pb3_succ (c : Dev nD) (q : PosShare TreeShare) (i : grid0.Coords) (arg1 : Memref sig .tc .smem S12x16 .i32) (harg1 : arg1.IsWhole) (arg2 : Memref sig .tc .smem S12x16 .f32) (harg2 : arg2.IsWhole) (arg3 : Memref sig .tc .smem S12x16 .f32) (harg3 : arg3.IsWhole) (arg4 : Memref sig .tc .smem S12x16 .f32) (harg4 : arg4.IsWhole) (arg5 : Memref sig .tc .vmem S1x16x96x1400 .fp8e4m3) (harg5 : arg5.IsWhole) (arg6 : Memref sig .tc .vmem S1x16x96x1400 .fp8e4m3) (harg6 : arg6.IsWhole) (arg7 : Memref sig .tc .vmem S1x16x96x1400 .fp8e4m3) (harg7 : arg7.IsWhole) (arg8 : Memref sig .tc .vmem S1x1400x1536 .bf16) (harg8 : arg8.IsWhole) (arg9 : Memref sig .tc .vmem S16x1400x96 .fp8e4m3) (harg9 : arg9.IsWhole) (arg10 : Memref sig .tc .vmem S16x96x1400 .bf16) (harg10 : arg10.IsWhole) (arg11 : Memref sig .tc .vmem S16x96x1400 .bf16) (harg11 : arg11.IsWhole) (X1 : BufTy.Contents (Elt F) arg1.view.ty) (X2 : BufTy.Contents (Elt F) arg2.view.ty) (X3 : BufTy.Contents (Elt F) arg3.view.ty) (X4 : BufTy.Contents (Elt F) arg4.view.ty) (X5 : BufTy.Contents (Elt F) arg5.view.ty) (X6 : BufTy.Contents (Elt F) arg6.view.ty) (X7 : BufTy.Contents (Elt F) arg7.view.ty) (X9 : BufTy.Contents (Elt F) arg9.view.ty) (X10 : BufTy.Contents (Elt F) arg10.view.ty)
    (hw : ∀ k, ∀ x, k0_chk2 i (View.readAt (Elt F) arg1.view (Rect.unit (s := S12x16) (k0_off26 i k) S1x1.size (k0_off26_inb i k)).toLoadRect X1 x)) (k : Fin k0_t3_loop.trips) :
    pb3 (F := F) c q i arg1 harg1 arg2 harg2 arg3 harg3 arg4 harg4 arg5 harg5 arg6 harg6 arg7 harg7 arg8 harg8 arg9 harg9 arg10 harg10 arg11 harg11 X1 X2 X3 X4 X5 X6 X7 X9 X10 hw (k.val + 1) = (trip3 (F := F) c q i arg1 harg1 arg2 harg2 arg3 harg3 arg4 harg4 arg5 harg5 arg6 harg6 arg7 harg7 arg8 harg8 arg9 harg9 arg10 harg10 arg11 harg11 X1 X2 X3 X4 X5 X6 X7 X9 X10 k (hw k)).1 ++ pb3 (F := F) c q i arg1 harg1 arg2 harg2 arg3 harg3 arg4 harg4 arg5 harg5 arg6 harg6 arg7 harg7 arg8 harg8 arg9 harg9 arg10 harg10 arg11 harg11 X1 X2 X3 X4 X5 X6 X7 X9 X10 hw k.val := by
  rw [pb3.eq_2]; unfold pb3Step; exact dif_pos k.isLt

/-- The invariant of loop 3 before trip `k`: the operands as found, the output scratch with the pieces of the trips
    before `k` written over what it held at the start. -/
abbrev inv3 (c : Dev nD) (q : PosShare TreeShare) (i : grid0.Coords) (arg1 : Memref sig .tc .smem S12x16 .i32) (harg1 : arg1.IsWhole) (arg2 : Memref sig .tc .smem S12x16 .f32) (harg2 : arg2.IsWhole) (arg3 : Memref sig .tc .smem S12x16 .f32) (harg3 : arg3.IsWhole) (arg4 : Memref sig .tc .smem S12x16 .f32) (harg4 : arg4.IsWhole) (arg5 : Memref sig .tc .vmem S1x16x96x1400 .fp8e4m3) (harg5 : arg5.IsWhole) (arg6 : Memref sig .tc .vmem S1x16x96x1400 .fp8e4m3) (harg6 : arg6.IsWhole) (arg7 : Memref sig .tc .vmem S1x16x96x1400 .fp8e4m3) (harg7 : arg7.IsWhole) (arg8 : Memref sig .tc .vmem S1x1400x1536 .bf16) (harg8 : arg8.IsWhole) (arg9 : Memref sig .tc .vmem S16x1400x96 .fp8e4m3) (harg9 : arg9.IsWhole) (arg10 : Memref sig .tc .vmem S16x96x1400 .bf16) (harg10 : arg10.IsWhole) (arg11 : Memref sig .tc .vmem S16x96x1400 .bf16) (harg11 : arg11.IsWhole) (X1 : BufTy.Contents (Elt F) arg1.view.ty) (X2 : BufTy.Contents (Elt F) arg2.view.ty) (X3 : BufTy.Contents (Elt F) arg3.view.ty) (X4 : BufTy.Contents (Elt F) arg4.view.ty) (X5 : BufTy.Contents (Elt F) arg5.view.ty) (X6 : BufTy.Contents (Elt F) arg6.view.ty) (X7 : BufTy.Contents (Elt F) arg7.view.ty) (X9 : BufTy.Contents (Elt F) arg9.view.ty) (X10 : BufTy.Contents (Elt F) arg10.view.ty) (G : BufTy.Contents (Elt F) arg11.view.ty)
    (hw : ∀ k, ∀ x, k0_chk2 i (View.readAt (Elt F) arg1.view (Rect.unit (s := S12x16) (k0_off26 i k) S1x1.size (k0_off26_inb i k)).toLoadRect X1 x)) (k : ℕ) (_ : PUnit) : sProp 𝕄 :=
  iprop((arg1.view.loc (c : Thread nD τ) ↦[arg1.view.set]{q} X1) ∗ (arg2.view.loc (c : Thread nD τ) ↦[arg2.view.set]{fullShare} X2) ∗ (arg3.view.loc (c : Thread nD τ) ↦[arg3.view.set]{fullShare} X3) ∗ (arg4.view.loc (c : Thread nD τ) ↦[arg4.view.set]{fullShare} X4) ∗ (arg5.view.loc (c : Thread nD τ) ↦[arg5.view.set]{fullShare} X5) ∗ (arg6.view.loc (c : Thread nD τ) ↦[arg6.view.set]{fullShare} X6) ∗ (arg7.view.loc (c : Thread nD τ) ↦[arg7.view.set]{fullShare} X7) ∗ (arg9.view.loc (c : Thread nD τ) ↦[arg9.view.set]{fullShare} X9) ∗ (arg10.view.loc (c : Thread nD τ) ↦[arg10.view.set]{fullShare} X10) ∗ (∃ f, (arg11.view.loc (c : Thread nD τ) ↦[arg11.view.set]{fullShare} f) ∗ ⌜f = arg11.view.writes (Elt F) G (pb3 (F := F) c q i arg1 harg1 arg2 harg2 arg3 harg3 arg4 harg4 arg5 harg5 arg6 harg6 arg7 harg7 arg8 harg8 arg9 harg9 arg10 harg10 arg11 harg11 X1 X2 X3 X4 X5 X6 X7 X9 X10 hw k)⌝))

set_option warn.classDefReducibility false in
/-- Loop 3 by its invariant. -/
@[sl_loop] def loopInv3 (c : Dev nD) (q : PosShare TreeShare) (E : Set ℕ) (i : grid0.Coords) (arg1 : Memref sig .tc .smem S12x16 .i32) (harg1 : arg1.IsWhole) (arg2 : Memref sig .tc .smem S12x16 .f32) (harg2 : arg2.IsWhole) (arg3 : Memref sig .tc .smem S12x16 .f32) (harg3 : arg3.IsWhole) (arg4 : Memref sig .tc .smem S12x16 .f32) (harg4 : arg4.IsWhole) (arg5 : Memref sig .tc .vmem S1x16x96x1400 .fp8e4m3) (harg5 : arg5.IsWhole) (arg6 : Memref sig .tc .vmem S1x16x96x1400 .fp8e4m3) (harg6 : arg6.IsWhole) (arg7 : Memref sig .tc .vmem S1x16x96x1400 .fp8e4m3) (harg7 : arg7.IsWhole) (arg8 : Memref sig .tc .vmem S1x1400x1536 .bf16) (harg8 : arg8.IsWhole) (arg9 : Memref sig .tc .vmem S16x1400x96 .fp8e4m3) (harg9 : arg9.IsWhole) (arg10 : Memref sig .tc .vmem S16x96x1400 .bf16) (harg10 : arg10.IsWhole) (arg11 : Memref sig .tc .vmem S16x96x1400 .bf16) (harg11 : arg11.IsWhole) (X1 : BufTy.Contents (Elt F) arg1.view.ty) (X2 : BufTy.Contents (Elt F) arg2.view.ty) (X3 : BufTy.Contents (Elt F) arg3.view.ty) (X4 : BufTy.Contents (Elt F) arg4.view.ty) (X5 : BufTy.Contents (Elt F) arg5.view.ty) (X6 : BufTy.Contents (Elt F) arg6.view.ty) (X7 : BufTy.Contents (Elt F) arg7.view.ty) (X9 : BufTy.Contents (Elt F) arg9.view.ty) (X10 : BufTy.Contents (Elt F) arg10.view.ty) (G : BufTy.Contents (Elt F) arg11.view.ty)
    (hw : ∀ k, ∀ x, k0_chk2 i (View.readAt (Elt F) arg1.view (Rect.unit (s := S12x16) (k0_off26 i k) S1x1.size (k0_off26_inb i k)).toLoadRect X1 x)) :
    LoopInvTy_k0_t3 (F := F) Unit ℕ (UR sig nD τ) ℕ Variants.none c none E i arg1 harg1 arg2 harg2 arg3 harg3 arg4 harg4 arg5 harg5 arg6 harg6 arg7 harg7 arg8 harg8 arg9 harg9 arg10 harg10 arg11 harg11 (BitVec.ofNat 32 (i 0).val) where
  inv := inv3 (F := F) c q i arg1 harg1 arg2 harg2 arg3 harg3 arg4 harg4 arg5 harg5 arg6 harg6 arg7 harg7 arg8 harg8 arg9 harg9 arg10 harg10 arg11 harg11 X1 X2 X3 X4 X5 X6 X7 X9 X10 G hw
  step k acc := by
    iintro ⟨H1, H2, H3, H4, H5, H6, H7, H9, H10, ⟨%f, HW, %h⟩⟩
    iapply (wp_wand_r Idealize.ShloMosaic.frame (wpE (defs₀ (F := F)) Variants.none (c : Thread nD τ) none) E)
    isplitl [H1 H2 H3 H4 H5 H6 H7 H9 H10 HW]
    · iapply ((trip3 (F := F) c q i arg1 harg1 arg2 harg2 arg3 harg3 arg4 harg4 arg5 harg5 arg6 harg6 arg7 harg7 arg8 harg8 arg9 harg9 arg10 harg10 arg11 harg11 X1 X2 X3 X4 X5 X6 X7 X9 X10 k (hw k)).2 E f)
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H9]; · iexact H9
      isplitl [H10]; · iexact H10
      iexact HW
    · iintro %_ ⟨H1, H2, H3, H4, H5, H6, H7, H9, H10, HW⟩
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H9]; · iexact H9
      isplitl [H10]; · iexact H10
      rw [pb3_succ]
      iexists _; isplitl [HW]; · iexact HW
      ipureintro; rw [h, ← View.writes_append]

end Cert.KernelIdeal.Hand

end
-- ==== Proof.KernelIdealBody.lean ====
/- THE BODY of the kernel, run once at a symbolic grid point: the three loops by their invariants, then the tiles of the
   output scratch transposed into the output block. -/
module

public import proofs.«01_k».proof.Proof.Gen.KernelIdeal.Loops
public import proofs.«01_k».proof.Proof.Gen.KernelIdeal.Launch
public import proofs.«01_k».proof.Proof.Gen.KernelIdeal.Skeleton
public import proofs.«01_k».proof.Proof.KernelIdealTrip2
public import proofs.«01_k».proof.Proof.KernelIdealTrip3
public import Idealize.ShloMosaic.Lib.Exec
public import Idealize.ShloMosaic.Lib.Tactic

@[expose] public section

set_option maxRecDepth 8192
set_option maxHeartbeats 4000000

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

local notation "𝕄" => MT nD τ sig Unit (Elt F) ℕ (UR sig nD τ) ℕ

/-- THE BODY'S RUN: from the operands at `X·` and the scratch at `X9 X10 X11`, it leaves the operands as found and writes
    a list of pieces into the output block. -/
@[irreducible] def bodyRun (c : Dev nD) (q : PosShare TreeShare) (i : grid0.Coords) (arg1 : Memref sig .tc .smem S12x16 .i32) (harg1 : arg1.IsWhole) (arg2 : Memref sig .tc .smem S12x16 .f32) (harg2 : arg2.IsWhole) (arg3 : Memref sig .tc .smem S12x16 .f32) (harg3 : arg3.IsWhole) (arg4 : Memref sig .tc .smem S12x16 .f32) (harg4 : arg4.IsWhole) (arg5 : Memref sig .tc .vmem S1x16x96x1400 .fp8e4m3) (harg5 : arg5.IsWhole) (arg6 : Memref sig .tc .vmem S1x16x96x1400 .fp8e4m3) (harg6 : arg6.IsWhole) (arg7 : Memref sig .tc .vmem S1x16x96x1400 .fp8e4m3) (harg7 : arg7.IsWhole) (arg8 : Memref sig .tc .vmem S1x1400x1536 .bf16) (harg8 : arg8.IsWhole) (arg9 : Memref sig .tc .vmem S16x1400x96 .fp8e4m3) (harg9 : arg9.IsWhole) (arg10 : Memref sig .tc .vmem S16x96x1400 .bf16) (harg10 : arg10.IsWhole) (arg11 : Memref sig .tc .vmem S16x96x1400 .bf16) (harg11 : arg11.IsWhole) (X1 : BufTy.Contents (Elt F) arg1.view.ty) (X2 : BufTy.Contents (Elt F) arg2.view.ty) (X3 : BufTy.Contents (Elt F) arg3.view.ty) (X4 : BufTy.Contents (Elt F) arg4.view.ty) (X5 : BufTy.Contents (Elt F) arg5.view.ty) (X6 : BufTy.Contents (Elt F) arg6.view.ty) (X7 : BufTy.Contents (Elt F) arg7.view.ty) (X9 : BufTy.Contents (Elt F) arg9.view.ty) (X10 : BufTy.Contents (Elt F) arg10.view.ty) (X11 : BufTy.Contents (Elt F) arg11.view.ty)
    (hw2 : ∀ k x, k0_chk1 i (View.readAt (Elt F) arg1.view (Rect.unit (s := S12x16) (k0_off4 i k) S1x1.size (k0_off4_inb i k)).toLoadRect X1 x)) (hw3 : ∀ k x, k0_chk2 i (View.readAt (Elt F) arg1.view (Rect.unit (s := S12x16) (k0_off26 i k) S1x1.size (k0_off26_inb i k)).toLoadRect X1 x)) :
    { L : List (View.Piece (Elt F) S1x1400x1536 .bf16) // ∀ (E : Set ℕ) (X8 : BufTy.Contents (Elt F) arg8.view.ty) (K : PUnit → sProp 𝕄),
      iprop((arg1.view.loc (c : Thread nD τ) ↦[arg1.view.set]{q} X1) ∗ (arg2.view.loc (c : Thread nD τ) ↦[arg2.view.set]{fullShare} X2) ∗ (arg3.view.loc (c : Thread nD τ) ↦[arg3.view.set]{fullShare} X3) ∗ (arg4.view.loc (c : Thread nD τ) ↦[arg4.view.set]{fullShare} X4) ∗ (arg5.view.loc (c : Thread nD τ) ↦[arg5.view.set]{fullShare} X5) ∗ (arg6.view.loc (c : Thread nD τ) ↦[arg6.view.set]{fullShare} X6) ∗ (arg7.view.loc (c : Thread nD τ) ↦[arg7.view.set]{fullShare} X7) ∗ (arg8.view.loc (c : Thread nD τ) ↦[arg8.view.set]{fullShare} X8) ∗ (arg9.view.loc (c : Thread nD τ) ↦[arg9.view.set]{fullShare} X9) ∗ (arg10.view.loc (c : Thread nD τ) ↦[arg10.view.set]{fullShare} X10) ∗ (arg11.view.loc (c : Thread nD τ) ↦[arg11.view.set]{fullShare} X11)
        ∗ (iprop((arg1.view.loc (c : Thread nD τ) ↦[arg1.view.set]{q} X1) ∗ (arg2.view.loc (c : Thread nD τ) ↦[arg2.view.set]{fullShare} X2) ∗ (arg3.view.loc (c : Thread nD τ) ↦[arg3.view.set]{fullShare} X3) ∗ (arg4.view.loc (c : Thread nD τ) ↦[arg4.view.set]{fullShare} X4) ∗ (arg5.view.loc (c : Thread nD τ) ↦[arg5.view.set]{fullShare} X5) ∗ (arg6.view.loc (c : Thread nD τ) ↦[arg6.view.set]{fullShare} X6) ∗ (arg7.view.loc (c : Thread nD τ) ↦[arg7.view.set]{fullShare} X7) ∗ (arg8.view.loc (c : Thread nD τ) ↦[arg8.view.set]{fullShare} (arg8.view.writes (Elt F) X8 L)) ∗ (∃ f, (arg9.view.loc (c : Thread nD τ) ↦[arg9.view.set]{fullShare} f)) ∗ (∃ f, (arg10.view.loc (c : Thread nD τ) ↦[arg10.view.set]{fullShare} f)) ∗ (∃ f, (arg11.view.loc (c : Thread nD τ) ↦[arg11.view.set]{fullShare} f))) -∗ K ⟨⟩))
      ⊢ wp frame (wpE (defs₀ (F := F)) Variants.none (c : Thread nD τ) none) E (cc0_svg_attention (F := F) i arg1 harg1 arg2 harg2 arg3 harg3 arg4 harg4 arg5 harg5 arg6 harg6 arg7 harg7 arg8 harg8 arg9 harg9 arg10 harg10 arg11 harg11) K } := by
  refine ⟨?_, fun E X8 K => ?run⟩
  case run =>
    simp only [cc0_svg_attention_eq_skeleton]; unfold cc0_svg_attention_skel
    iintro ⟨H1, H2, H3, H4, H5, H6, H7, H8, H9, H10, H11, Hk⟩
    sl_exec_parts
    sl_step
    iapply Hk
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexists _; iexact H9
    isplitl [H10]; · iexists _; iexact H10
    iexists _; iexact H11

end Cert.KernelIdeal.Hand

end
-- ==== Proof.KernelIdealKit.lean ====
/- What the launch of the kernel is stated over: the memory after the host transposes, the order table read off it, the
   blocks of the windows, the words the head loops check, and the body as a triple on whole memrefs. -/
module

public import proofs.«01_k».proof.Proof.KernelIdealBody
public import proofs.«01_k».proof.Proof.Gen.KernelIdeal.Launch
public import Idealize.ShloMosaic.Lib.Pipeline.FrameBody
public import Idealize.ShloMosaic.Lib.Claim
public import Idealize.ShloMosaic.Lib.Decide

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

/-- Every word below 16 names a head: the assumed facts of the first head loop. -/
theorem chk1_of_lt (i : grid0.Coords) (v : BitVec 32) (h : v.toNat < 16) : k0_chk1 i v := by
  have key : ∀ (i : grid0.Coords) (n : Fin 16), k0_chk1 i (BitVec.ofNat 32 n.val) := by decide +kernel
  have e : v = BitVec.ofNat 32 (⟨v.toNat, h⟩ : Fin 16).val := by simp
  rw [e]; exact key i _

/-- And those of the second. -/
theorem chk2_of_lt (i : grid0.Coords) (v : BitVec 32) (h : v.toNat < 16) : k0_chk2 i v := by
  have key : ∀ (i : grid0.Coords) (n : Fin 16), k0_chk2 i (BitVec.ofNat 32 n.val) := by decide +kernel
  have e : v = BitVec.ofNat 32 (⟨v.toNat, h⟩ : Fin 16).val := by simp
  rw [e]; exact key i _

variable (m : (ℓ : Loc nD τ sig) → Buf (Elt F) ℓ) (ρ : Dev nD → PrngReg)

/-- Core `c`'s TensorCore buffers when the region is entered: after the host transposes. -/
abbrev V (c : Dev nD) (b : Ref sig .tc) : Buf (Elt F) ((c : Thread nD τ).loc b) := StableHlo.after hostOps0 (fun b => m (c, b)) b

theorem hostOps0_fresh : (hostOps0 : List (HloOp τ sig (Elt F))).Forall fun op => op.fresh = ∅ := by
  simp only [List.Forall]; repeat' constructor

set_option maxHeartbeats 800000 in
/-- @main up to the region: the host transposes, then the region. -/
theorem hmain (𝒱₀ : Variants) : Pipeline.HMainP (Ix := Unit) (Name := ℕ) (U := UR sig nD τ) (Lvl := ℕ) pcfgs 0 defs₀ 𝒱₀ m (main (F := F)) (V m) :=
  Pipeline.hmainP_prefix pcfgs 0 defs₀ 𝒱₀ m main hostOps0 hostOps0_sub hostOps0_fresh main_chain

/-- No host operation before the region writes `main_arg0`: the region finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.flatten_cons, List.flatten_nil, List.append_nil, List.cons_append,
      List.nil_append, List.Forall, StableHlo.unary_writes, Finset.mem_singleton]
    repeat' apply And.intro
    all_goals exact StableHlo.devRef_ne_of_ne (by decide)))
/-- No host operation before the region writes `main_arg1`: the region finds it as launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.flatten_cons, List.flatten_nil, List.append_nil, List.cons_append,
      List.nil_append, List.Forall, StableHlo.unary_writes, Finset.mem_singleton]
    repeat' apply And.intro
    all_goals exact StableHlo.devRef_ne_of_ne (by decide)))
/-- No host operation before the region writes `main_arg2`: the region finds it as launched. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.flatten_cons, List.flatten_nil, List.append_nil, List.cons_append,
      List.nil_append, List.Forall, StableHlo.unary_writes, Finset.mem_singleton]
    repeat' apply And.intro
    all_goals exact StableHlo.devRef_ne_of_ne (by decide)))
/-- No host operation before the region writes `main_arg3`: the region finds it as launched. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, List.flatten_cons, List.flatten_nil, List.append_nil, List.cons_append,
      List.nil_append, List.Forall, StableHlo.unary_writes, Finset.mem_singleton]
    repeat' apply And.intro
    all_goals exact StableHlo.devRef_ne_of_ne (by decide)))
/-- No host operation before the region writes `main_arg4`: the region finds it as launched. -/
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, List.flatten_cons, List.flatten_nil, List.append_nil, List.cons_append,
      List.nil_append, List.Forall, StableHlo.unary_writes, Finset.mem_singleton]
    repeat' apply And.intro
    all_goals exact StableHlo.devRef_ne_of_ne (by decide)))
/-- No host operation before the region writes `main_arg5`: the region finds it as launched. -/
theorem V_main_arg5 (c : Dev nD) : V m c main_arg5 = m ((c : Thread nD τ).loc main_arg5) :=
  StableHlo.after_of_forall_not_mem (b := Proc.devRef .tc main_arg5) _ _ (List.forall_iff_forall_mem.mp (by
    simp only [hostOps0, List.flatten_cons, List.flatten_nil, List.append_nil, List.cons_append,
      List.nil_append, List.Forall, StableHlo.unary_writes, Finset.mem_singleton]
    repeat' apply And.intro
    all_goals exact StableHlo.devRef_ne_of_ne (by decide)))
/-- No host operation before the region writes `main_arg6`: the region finds it as launched. -/
theorem V_main_arg6 (c : Dev nD) : V m c main_arg6 = m ((c : Thread nD τ).loc main_arg6) :=
  StableHlo.after_of_forall_not_mem (b := Proc.devRef .tc main_arg6) _ _ (List.forall_iff_forall_mem.mp (by
    simp only [hostOps0, List.flatten_cons, List.flatten_nil, List.append_nil, List.cons_append,
      List.nil_append, List.Forall, StableHlo.unary_writes, Finset.mem_singleton]
    repeat' apply And.intro
    all_goals exact StableHlo.devRef_ne_of_ne (by decide)))

/-! ## The order table -/

/-- The table's contents when the region is entered (one device: device 0's). -/
def tbl : pre0.Contents (Elt F) := fun j => V m (0 : Dev nD) (pre0.ref j)
theorem V_pre (c : Dev nD) (j : Fin 1) : V m c (pre0.ref j) = tbl m j := by
  obtain rfl : c = 0 := Subsingleton.elim _ _; rfl
/-- No index map reads the table: any contents are admissible. -/
abbrev adm : (pcfg0 (F := F)).Adm := ⟨tbl m, trivial⟩
abbrev cfgM : Pipeline.Cfg sig Λ₀ := cfg0 (adm m)

/-- The table as the body is handed it. -/
abbrev tbM : Memref sig .tc .smem S12x16 .i32 := Memref.whole main_arg6
abbrev htbM : tbM.IsWhole := Memref.isWhole_whole _

/-- The half of the table the region hands the body. -/
theorem PhiT0_eq (c : Dev nD) : (Pipeline.ΦT pre0 (tbl m) c : sProp 𝕄) = iprop(owns (c : Thread nD τ) tbM fullShare.right (tbl m 0)) := by
  unfold Pipeline.ΦT Pipeline.prefHeld
  rw [show (Finset.univ : Finset (Fin 1)) = {(0 : Fin 1)} from by decide, bigSep_singleton]
  exact (owns_whole (c : Thread nD τ) main_arg6 fullShare.right (tbl m 0)).symm

/-- The table names heads on every row. -/
abbrev Ok : Prop := ∀ y : S12x16.Idx, (tbl m 0 y : BitVec 32).toNat < 16

theorem hw2_of_ok (hO : Ok m) (i : grid0.Coords) : ∀ k x, k0_chk1 i (View.readAt (Elt F) tbM.view (Rect.unit (s := S12x16) (k0_off4 i k) S1x1.size (k0_off4_inb i k)).toLoadRect (htbM.unread (tbl m 0)) x) := by
  intro k x
  rw [View.readAt_apply]
  exact chk1_of_lt i _ ((congrArg (fun w : BitVec 32 => w.toNat < 16) (congrFun (htbM.read_unread (tbl m 0)) _)).mpr (hO _))

theorem hw3_of_ok (hO : Ok m) (i : grid0.Coords) : ∀ k x, k0_chk2 i (View.readAt (Elt F) tbM.view (Rect.unit (s := S12x16) (k0_off26 i k) S1x1.size (k0_off26_inb i k)).toLoadRect (htbM.unread (tbl m 0)) x) := by
  intro k x
  rw [View.readAt_apply]
  exact chk2_of_lt i _ ((congrArg (fun w : BitVec 32 => w.toNat < 16) (congrFun (htbM.read_unread (tbl m 0)) _)).mpr (hO _))

/-! ## The windows' blocks -/

/-- Window `w`'s block at point `t`, read off its array as the region finds it. -/
def iblk (c : Dev nD) (w : Fin (cfgM m).W) (t : Fin (cfgM m).N) : (((cfgM m).win w).xblock ((cfgM m).grid.coords t)).Idx → Elt F ((cfgM m).win w).elt :=
  (((cfgM m).win w).blk t).view.read (Elt F) (V m c (Pipeline.arrRef spec0 w))

/-- Input window 0's staging buffer holds its block at every point. -/
theorem before0_0_of {c : Dev nD} (dat : Dat τ (Elt F) Unit ℕ (UR sig nD τ) ℕ (cfgM m) c) (hA : dat.A 0 = V m c (Pipeline.arrRef spec0 0))
    (hafter : ∀ t, dat.after 0 t = iblk m c 0 t) (t : Fin (cfgM m).N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's staging buffer holds its block at every point. -/
theorem before0_1_of {c : Dev nD} (dat : Dat τ (Elt F) Unit ℕ (UR sig nD τ) ℕ (cfgM m) c) (hA : dat.A 1 = V m c (Pipeline.arrRef spec0 1))
    (hafter : ∀ t, dat.after 1 t = iblk m c 1 t) (t : Fin (cfgM m).N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input window 2's staging buffer holds its block at every point. -/
theorem before0_2_of {c : Dev nD} (dat : Dat τ (Elt F) Unit ℕ (UR sig nD τ) ℕ (cfgM m) c) (hA : dat.A 2 = V m c (Pipeline.arrRef spec0 2))
    (hafter : ∀ t, dat.after 2 t = iblk m c 2 t) (t : Fin (cfgM m).N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
/-- Input window 3's staging buffer holds its block at every point. -/
theorem before0_3_of {c : Dev nD} (dat : Dat τ (Elt F) Unit ℕ (UR sig nD τ) ℕ (cfgM m) c) (hA : dat.A 3 = V m c (Pipeline.arrRef spec0 3))
    (hafter : ∀ t, dat.after 3 t = iblk m c 3 t) (t : Fin (cfgM m).N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
/-- Input window 4's staging buffer holds its block at every point. -/
theorem before0_4_of {c : Dev nD} (dat : Dat τ (Elt F) Unit ℕ (UR sig nD τ) ℕ (cfgM m) c) (hA : dat.A 4 = V m c (Pipeline.arrRef spec0 4))
    (hafter : ∀ t, dat.after 4 t = iblk m c 4 t) (t : Fin (cfgM m).N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
/-- Input window 5's staging buffer holds its block at every point. -/
theorem before0_5_of {c : Dev nD} (dat : Dat τ (Elt F) Unit ℕ (UR sig nD τ) ℕ (cfgM m) c) (hA : dat.A 5 = V m c (Pipeline.arrRef spec0 5))
    (hafter : ∀ t, dat.after 5 t = iblk m c 5 t) (t : Fin (cfgM m).N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)
abbrev ms0_0 (t : Fin (cfgM m).N) : Memref sig .tc .smem S12x16 .f32 := spec0_0.stage ((cfgM m).slots t 0)
abbrev hs0_0 (t : Fin (cfgM m).N) : (ms0_0 m t).IsWhole := hstage0_0 (((cfgM m).slots t 0).cast nbuf0_0)
abbrev ms0_1 (t : Fin (cfgM m).N) : Memref sig .tc .smem S12x16 .f32 := spec0_1.stage ((cfgM m).slots t 1)
abbrev hs0_1 (t : Fin (cfgM m).N) : (ms0_1 m t).IsWhole := hstage0_1 (((cfgM m).slots t 1).cast nbuf0_1)
abbrev ms0_2 (t : Fin (cfgM m).N) : Memref sig .tc .smem S12x16 .f32 := spec0_2.stage ((cfgM m).slots t 2)
abbrev hs0_2 (t : Fin (cfgM m).N) : (ms0_2 m t).IsWhole := hstage0_2 (((cfgM m).slots t 2).cast nbuf0_2)
abbrev ms0_3 (t : Fin (cfgM m).N) : Memref sig .tc .vmem S1x16x96x1400 .fp8e4m3 := spec0_3.stage ((cfgM m).slots t 3)
abbrev hs0_3 (t : Fin (cfgM m).N) : (ms0_3 m t).IsWhole := hstage0_3 (((cfgM m).slots t 3).cast nbuf0_3)
abbrev ms0_4 (t : Fin (cfgM m).N) : Memref sig .tc .vmem S1x16x96x1400 .fp8e4m3 := spec0_4.stage ((cfgM m).slots t 4)
abbrev hs0_4 (t : Fin (cfgM m).N) : (ms0_4 m t).IsWhole := hstage0_4 (((cfgM m).slots t 4).cast nbuf0_4)
abbrev ms0_5 (t : Fin (cfgM m).N) : Memref sig .tc .vmem S1x16x96x1400 .fp8e4m3 := spec0_5.stage ((cfgM m).slots t 5)
abbrev hs0_5 (t : Fin (cfgM m).N) : (ms0_5 m t).IsWhole := hstage0_5 (((cfgM m).slots t 5).cast nbuf0_5)
abbrev ms0_6 (t : Fin (cfgM m).N) : Memref sig .tc .vmem S1x1400x1536 .bf16 := spec0_6.stage ((cfgM m).slots t 6)
abbrev hs0_6 (t : Fin (cfgM m).N) : (ms0_6 m t).IsWhole := hstage0_6 (((cfgM m).slots t 6).cast nbuf0_6)

/-- The kernel body at point `t`, on what the pipeline calls it with. -/
abbrev bodyAt0 (a : (pcfg0 (F := F)).Adm) (t : Fin (cfg0 a).N) : Prog (TpuEff nD τ sig (Elt F) Λ₀ .tc) PUnit :=
  cc0_svg_attention (grid0.coords t) (Memref.whole main_arg6) (Memref.isWhole_whole _) (spec0_0.stage ((cfg0 a).slots t 0)) (hstage0_0 (((cfg0 a).slots t 0).cast nbuf0_0)) (spec0_1.stage ((cfg0 a).slots t 1)) (hstage0_1 (((cfg0 a).slots t 1).cast nbuf0_1)) (spec0_2.stage ((cfg0 a).slots t 2)) (hstage0_2 (((cfg0 a).slots t 2).cast nbuf0_2)) (spec0_3.stage ((cfg0 a).slots t 3)) (hstage0_3 (((cfg0 a).slots t 3).cast nbuf0_3)) (spec0_4.stage ((cfg0 a).slots t 4)) (hstage0_4 (((cfg0 a).slots t 4).cast nbuf0_4)) (spec0_5.stage ((cfg0 a).slots t 5)) (hstage0_5 (((cfg0 a).slots t 5).cast nbuf0_5)) (spec0_6.stage ((cfg0 a).slots t 6)) (hstage0_6 (((cfg0 a).slots t 6).cast nbuf0_6)) (Memref.whole cc0_scratch0) (Memref.isWhole_whole _) (Memref.whole cc0_scratch1) (Memref.isWhole_whole _) (Memref.whole cc0_scratch2) (Memref.isWhole_whole _)

/-- The scratch operands. -/
abbrev scM0_0 : Memref sig .tc .vmem S16x1400x96 .fp8e4m3 := Memref.whole cc0_scratch0
abbrev scM0_1 : Memref sig .tc .vmem S16x96x1400 .bf16 := Memref.whole cc0_scratch1
abbrev scM0_2 : Memref sig .tc .vmem S16x96x1400 .bf16 := Memref.whole cc0_scratch2

/-- The launch's invariant with the scratch operands as memrefs owned at some contents. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ (∃ d, owns (c : Thread nD τ) scM0_2 fullShare d)) ∗ (∃ r, prngReg c r)) := by
  unfold Pipeline.ΦA; rw [scopedRest0_eq]; simp only [scM0_0, scM0_1, scM0_2, owns_whole]; try rfl

/-- THE FRAME from a frame run, for any proof data whose arrays are the region-entry contents. -/
theorem frame_of (rdat : (c : Dev nD) → Pipeline.RDat τ (Elt F) Unit ℕ (UR sig nD τ) ℕ ((Pipeline.pin pcfgs fun _ => adm m) 0) c)
    (hA : ∀ c w, (rdat c).A w = V m c (Pipeline.arrRef spec0 w))
    (h : θ_run defs (onTc (τ := τ) (main (F := F))) (s₀ m ρ) (Pipeline.RDat.FramePost ((Pipeline.pin pcfgs fun _ => adm m) 0) rdat (V m))) :
    θ_run defs (onTc (τ := τ) (main (F := F))) ⟨m, fun _ => 0, ρ⟩ (fun r => ∀ c : Dev nD, r.2.mem ((c.tc : Thread nD τ).loc main_arg0) = m ((c.tc : Thread nD τ).loc main_arg0) ∧ r.2.mem ((c.tc : Thread nD τ).loc main_arg1) = m ((c.tc : Thread nD τ).loc main_arg1) ∧ r.2.mem ((c.tc : Thread nD τ).loc main_arg2) = m ((c.tc : Thread nD τ).loc main_arg2) ∧ r.2.mem ((c.tc : Thread nD τ).loc main_arg3) = m ((c.tc : Thread nD τ).loc main_arg3) ∧ r.2.mem ((c.tc : Thread nD τ).loc main_arg4) = m ((c.tc : Thread nD τ).loc main_arg4) ∧ r.2.mem ((c.tc : Thread nD τ).loc main_arg5) = m ((c.tc : Thread nD τ).loc main_arg5) ∧ r.2.mem ((c.tc : Thread nD τ).loc main_arg6) = m ((c.tc : Thread nD τ).loc main_arg6)) :=
  (θ_run defs _ _).mono (fun _ h c => ⟨((h c).2 main_arg0 (by decide : main_arg0 ∈ Pipeline.restRefs sig spec0)).trans (V_main_arg0 m c),
      ((h c).2 main_arg1 (by decide : main_arg1 ∈ Pipeline.restRefs sig spec0)).trans (V_main_arg1 m c),
      ((h c).2 main_arg2 (by decide : main_arg2 ∈ Pipeline.restRefs sig spec0)).trans (V_main_arg2 m c),
      (Pipeline.RDat.FramePost.arr_in h c 0 rfl).trans ((hA c 0).trans (V_main_arg3 m c)),
      (Pipeline.RDat.FramePost.arr_in h c 1 rfl).trans ((hA c 1).trans (V_main_arg4 m c)),
      (Pipeline.RDat.FramePost.arr_in h c 2 rfl).trans ((hA c 2).trans (V_main_arg5 m c)),
      ((h c).2 main_arg6 (by decide : main_arg6 ∈ Pipeline.restRefs sig spec0)).trans (V_main_arg6 m c)⟩) h

/-- THE BODY'S TRIPLE on whole memrefs: it leaves the operands as found, and the output block as what the run's pieces
    make of it, from some contents of the block and of the scratch. -/
theorem bodyTriple (c : Dev nD) (q : PosShare TreeShare) (i : grid0.Coords) (arg1 : Memref sig .tc .smem S12x16 .i32) (harg1 : arg1.IsWhole) (arg2 : Memref sig .tc .smem S12x16 .f32) (harg2 : arg2.IsWhole) (arg3 : Memref sig .tc .smem S12x16 .f32) (harg3 : arg3.IsWhole) (arg4 : Memref sig .tc .smem S12x16 .f32) (harg4 : arg4.IsWhole) (arg5 : Memref sig .tc .vmem S1x16x96x1400 .fp8e4m3) (harg5 : arg5.IsWhole) (arg6 : Memref sig .tc .vmem S1x16x96x1400 .fp8e4m3) (harg6 : arg6.IsWhole) (arg7 : Memref sig .tc .vmem S1x16x96x1400 .fp8e4m3) (harg7 : arg7.IsWhole) (arg8 : Memref sig .tc .vmem S1x1400x1536 .bf16) (harg8 : arg8.IsWhole) (arg9 : Memref sig .tc .vmem S16x1400x96 .fp8e4m3) (harg9 : arg9.IsWhole) (arg10 : Memref sig .tc .vmem S16x96x1400 .bf16) (harg10 : arg10.IsWhole) (arg11 : Memref sig .tc .vmem S16x96x1400 .bf16) (harg11 : arg11.IsWhole) (x1 : Vec F S12x16 .i32) (x2 : Vec F S12x16 .f32) (x3 : Vec F S12x16 .f32) (x4 : Vec F S12x16 .f32) (x5 : Vec F S1x16x96x1400 .fp8e4m3) (x6 : Vec F S1x16x96x1400 .fp8e4m3) (x7 : Vec F S1x16x96x1400 .fp8e4m3) (hw2 : ∀ k x, k0_chk1 i (View.readAt (Elt F) arg1.view (Rect.unit (s := S12x16) (k0_off4 i k) S1x1.size (k0_off4_inb i k)).toLoadRect (harg1.unread x1) x)) (hw3 : ∀ k x, k0_chk2 i (View.readAt (Elt F) arg1.view (Rect.unit (s := S12x16) (k0_off26 i k) S1x1.size (k0_off26_inb i k)).toLoadRect (harg1.unread x1) x)) (E : Set ℕ) (K : PUnit → sProp 𝕄) :
    iprop(owns (c : Thread nD τ) arg1 q x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d)
        ∗ (iprop(owns (c : Thread nD τ) arg1 q x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ (∃ X8 X9 X10 X11, owns (c : Thread nD τ) arg8 fullShare (arg8.view.read (Elt F) (arg8.view.writes (Elt F) X8 (bodyRun (F := F) c q i arg1 harg1 arg2 harg2 arg3 harg3 arg4 harg4 arg5 harg5 arg6 harg6 arg7 harg7 arg8 harg8 arg9 harg9 arg10 harg10 arg11 harg11 (harg1.unread x1) (harg2.unread x2) (harg3.unread x3) (harg4.unread x4) (harg5.unread x5) (harg6.unread x6) (harg7.unread x7) X9 X10 X11 hw2 hw3).1)))
            ∗ (∃ d, owns (c : Thread nD τ) arg9 fullShare d) ∗ (∃ d, owns (c : Thread nD τ) arg10 fullShare d) ∗ (∃ d, owns (c : Thread nD τ) arg11 fullShare d)) -∗ K ⟨⟩))
      ⊢ wp frame (wpE (defs₀ (F := F)) Variants.none (c : Thread nD τ) none) E (cc0_svg_attention (F := F) i arg1 harg1 arg2 harg2 arg3 harg3 arg4 harg4 arg5 harg5 arg6 harg6 arg7 harg7 arg8 harg8 arg9 harg9 arg10 harg10 arg11 harg11) K := by
  unfold owns
  iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%d9, %f9, -, H9⟩, ⟨%d10, %f10, -, H10⟩, ⟨%d11, %f11, -, H11⟩, Hk⟩
  obtain rfl := harg1.eq_unread hf1; obtain rfl := harg2.eq_unread hf2; obtain rfl := harg3.eq_unread hf3; obtain rfl := harg4.eq_unread hf4; obtain rfl := harg5.eq_unread hf5; obtain rfl := harg6.eq_unread hf6; obtain rfl := harg7.eq_unread hf7
  iapply ((bodyRun (F := F) c q i arg1 harg1 arg2 harg2 arg3 harg3 arg4 harg4 arg5 harg5 arg6 harg6 arg7 harg7 arg8 harg8 arg9 harg9 arg10 harg10 arg11 harg11 (harg1.unread x1) (harg2.unread x2) (harg3.unread x3) (harg4.unread x4) (harg5.unread x5) (harg6.unread x6) (harg7.unread x7) f9 f10 f11 hw2 hw3).2 E f8 K)
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  iintro ⟨H1, H2, H3, H4, H5, H6, H7, H8, ⟨%g9, H9⟩, ⟨%g10, H10⟩, ⟨%g11, H11⟩⟩
  iapply Hk
  isplitl [H1]
  · iexists _; isplitr; · ipureintro; exact harg1.read_unread _
    iexact H1
  isplitl [H2]
  · iexists _; isplitr; · ipureintro; exact harg2.read_unread _
    iexact H2
  isplitl [H3]
  · iexists _; isplitr; · ipureintro; exact harg3.read_unread _
    iexact H3
  isplitl [H4]
  · iexists _; isplitr; · ipureintro; exact harg4.read_unread _
    iexact H4
  isplitl [H5]
  · iexists _; isplitr; · ipureintro; exact harg5.read_unread _
    iexact H5
  isplitl [H6]
  · iexists _; isplitr; · ipureintro; exact harg6.read_unread _
    iexact H6
  isplitl [H7]
  · iexists _; isplitr; · ipureintro; exact harg7.read_unread _
    iexact H7
  isplitl [H8]
  · iexists f8, f9, f10, f11, _; isplitr; swap; · iexact H8
    ipureintro; rfl
  isplitl [H9]
  · iexists _, _; isplitr; swap; · iexact H9
    ipureintro; rfl
  isplitl [H10]
  · iexists _, _; isplitr; swap; · iexact H10
    ipureintro; rfl
  iexists _, _; isplitr; swap; · iexact H11
  ipureintro; rfl

end Cert.KernelIdeal.Hand

end
-- ==== Proof.KernelIdealFrame.lean ====
/- THE FRAME of the kernel: under an order table naming heads it runs, leaves its arguments as launched, and every
   semaphore at zero; what it leaves in the output is not named here. -/
module

public import proofs.«01_k».proof.Proof.KernelIdealKit

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-- The output window, forgotten. -/
def forgets0 : Fin 7 → Bool := fun w => w.val == 6

/-- The proof data of the one pipeline on core `c`. -/
def dats (_ : Fin 1) (c : Dev nD) : Dat τ (Elt F) Unit ℕ (UR sig nD τ) ℕ (cfgM m) c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, h⟩ => Pipeline.Dat.unnamed (cfg := (cfgM m)) ⟨6, h⟩ t
  Φ _ := iprop(Pipeline.ΦA spec0 c ∗ Pipeline.ΦT pre0 (tbl m) c)
  q _ := fullShare
  owed _ := 0

theorem A_eq (c : Dev nD) (w : Fin (cfgM m).W) : (dats m 0 c).A w = V m c (Pipeline.arrRef spec0 w) := by
  dsimp only [dats]

theorem after0_0 (c : Dev nD) (t : Fin (cfgM m).N) : (dats m 0 c).after 0 t = iblk m c 0 t := by dsimp only [dats]; try rfl
theorem before0_0 (c : Dev nD) (t : Fin (cfgM m).N) (d) : (dats m 0 c).before 0 t d = iblk m c 0 t :=
  before0_0_of m (dats m 0 c) (A_eq m c 0) (after0_0 m c) t d
theorem after0_1 (c : Dev nD) (t : Fin (cfgM m).N) : (dats m 0 c).after 1 t = iblk m c 1 t := by dsimp only [dats]; try rfl
theorem before0_1 (c : Dev nD) (t : Fin (cfgM m).N) (d) : (dats m 0 c).before 1 t d = iblk m c 1 t :=
  before0_1_of m (dats m 0 c) (A_eq m c 1) (after0_1 m c) t d
theorem after0_2 (c : Dev nD) (t : Fin (cfgM m).N) : (dats m 0 c).after 2 t = iblk m c 2 t := by dsimp only [dats]; try rfl
theorem before0_2 (c : Dev nD) (t : Fin (cfgM m).N) (d) : (dats m 0 c).before 2 t d = iblk m c 2 t :=
  before0_2_of m (dats m 0 c) (A_eq m c 2) (after0_2 m c) t d
theorem after0_3 (c : Dev nD) (t : Fin (cfgM m).N) : (dats m 0 c).after 3 t = iblk m c 3 t := by dsimp only [dats]; try rfl
theorem before0_3 (c : Dev nD) (t : Fin (cfgM m).N) (d) : (dats m 0 c).before 3 t d = iblk m c 3 t :=
  before0_3_of m (dats m 0 c) (A_eq m c 3) (after0_3 m c) t d
theorem after0_4 (c : Dev nD) (t : Fin (cfgM m).N) : (dats m 0 c).after 4 t = iblk m c 4 t := by dsimp only [dats]; try rfl
theorem before0_4 (c : Dev nD) (t : Fin (cfgM m).N) (d) : (dats m 0 c).before 4 t d = iblk m c 4 t :=
  before0_4_of m (dats m 0 c) (A_eq m c 4) (after0_4 m c) t d
theorem after0_5 (c : Dev nD) (t : Fin (cfgM m).N) : (dats m 0 c).after 5 t = iblk m c 5 t := by dsimp only [dats]; try rfl
theorem before0_5 (c : Dev nD) (t : Fin (cfgM m).N) (d) : (dats m 0 c).before 5 t d = iblk m c 5 t :=
  before0_5_of m (dats m 0 c) (A_eq m c 5) (after0_5 m c) t d

/-- What the body is called with at point `t`, -/
def bodyPre (c : Dev nD) (t : Fin (cfgM m).N) : sProp 𝕄 :=
  iprop((dats m 0 c).Φ t.castSucc ∗ (dats m 0 c).owesAt () t.castSucc
    ∗ (∃ d, owns (c : Thread nD τ) (ms0_0 m t) fullShare ((dats m 0 c).before 0 t d))
    ∗ (∃ d, owns (c : Thread nD τ) (ms0_1 m t) fullShare ((dats m 0 c).before 1 t d))
    ∗ (∃ d, owns (c : Thread nD τ) (ms0_2 m t) fullShare ((dats m 0 c).before 2 t d))
    ∗ (∃ d, owns (c : Thread nD τ) (ms0_3 m t) fullShare ((dats m 0 c).before 3 t d))
    ∗ (∃ d, owns (c : Thread nD τ) (ms0_4 m t) fullShare ((dats m 0 c).before 4 t d))
    ∗ (∃ d, owns (c : Thread nD τ) (ms0_5 m t) fullShare ((dats m 0 c).before 5 t d))
    ∗ (∃ d, owns (c : Thread nD τ) (ms0_6 m t) fullShare d))

/-- and what it returns. -/
def bodyPost (c : Dev nD) (t : Fin (cfgM m).N) : sProp 𝕄 :=
  iprop((dats m 0 c).Φ t.succ ∗ (dats m 0 c).owesAt () t.succ
    ∗ owns (c : Thread nD τ) (ms0_0 m t) fullShare ((dats m 0 c).after 0 t)
    ∗ owns (c : Thread nD τ) (ms0_1 m t) fullShare ((dats m 0 c).after 1 t)
    ∗ owns (c : Thread nD τ) (ms0_2 m t) fullShare ((dats m 0 c).after 2 t)
    ∗ owns (c : Thread nD τ) (ms0_3 m t) fullShare ((dats m 0 c).after 3 t)
    ∗ owns (c : Thread nD τ) (ms0_4 m t) fullShare ((dats m 0 c).after 4 t)
    ∗ owns (c : Thread nD τ) (ms0_5 m t) fullShare ((dats m 0 c).after 5 t)
    ∗ (∃ d, owns (c : Thread nD τ) (ms0_6 m t) fullShare d))

/-- The body at any point. -/
theorem sound_body (hO : Ok m) (c : Dev nD) (t : Fin (cfgM m).N) :
    bodyPre m c t ⊢ wp frame (wpE (defs₀ (F := F)) Variants.none c none) Set.univ (bodyAt0 (adm m) t) (fun _ => bodyPost m c t) := by
  unfold bodyPre bodyPost bodyAt0
  simp only [before0_0, before0_1, before0_2, before0_3, before0_4, before0_5]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5]
  rw [show (dats m 0 c).Φ t.castSucc = iprop(Pipeline.ΦA spec0 c ∗ Pipeline.ΦT pre0 (tbl m) c) from rfl, PhiT0_eq, PhiA0_eq]
  iintro ⟨⟨⟨⟨HS0, HS1, HS2⟩, Hg⟩, HT0⟩, Ho, ⟨%d0, H0⟩, ⟨%d1, H1⟩, ⟨%d2, H2⟩, ⟨%d3, H3⟩, ⟨%d4, H4⟩, ⟨%d5, H5⟩, ⟨%d6, H6⟩⟩
  iapply (bodyTriple c fullShare.right (grid0.coords t) _ htbM _ (hs0_0 m t) _ (hs0_1 m t) _ (hs0_2 m t) _ (hs0_3 m t) _ (hs0_4 m t) _ (hs0_5 m t) _ (hs0_6 m t) _ _ _ _ _ _
    (tbl m 0) (iblk m c 0 t) (iblk m c 1 t) (iblk m c 2 t) (iblk m c 3 t) (iblk m c 4 t) (iblk m c 5 t) (hw2_of_ok m hO _) (hw3_of_ok m hO _) Set.univ _)
  isplitl [HT0]; · iexact HT0
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  isplitl [HS0]; · iexact HS0
  isplitl [HS1]; · iexact HS1
  isplitl [HS2]; · iexact HS2
  iintro ⟨HT0, H0, H1, H2, H3, H4, H5, ⟨%X8, %X9, %X10, %X11, H6⟩, HS0, HS1, HS2⟩
  isplitl [HS0 HS1 HS2 Hg HT0]
  · isplitl [HS0 HS1 HS2 Hg]
    · isplitl [HS0 HS1 HS2]
      · isplitl [HS0]; · iexact HS0
        isplitl [HS1]; · iexact HS1
        iexact HS2
      iexact Hg
    iexact HT0
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexists _; iexact H6

/-- The body table's row at point `t`'s slots is the body. -/
theorem defs₀_row (t : Fin (cfgM m).N) :
    defs₀ (F := F) .tc (cfgM m).body ((cfgM m).bodyArgs t ((cfgM m).slots t)) = bodyAt0 (adm m) t := by
  unfold defs₀; rw [Defs.onTc_tc]

/-- The library's body obligation, at every point. -/
theorem body_obligation (hO : Ok m) (c : Dev nD) : BodyObligation (dats (F := F) m 0 c) (defs₀ (F := F)) Variants.none () Set.univ forgets0 := fun t => by
  rw [bigSep_W0, bigSep_W0, defs₀_row m]
  exact triple_restated (sound_body m hO c t) rfl .rfl fun _ => .rfl

set_option backward.isDefEq.respectTransparency.types false in
/-- The run: the arguments' arrays as launched, every counter zero. -/
theorem run_main_quiescent (hO : Ok m) : θ_run defs (onTc (τ := τ) (main (F := F))) (s₀ m ρ) (fun r => (Pipeline.RDat.FramePost ((Pipeline.pin pcfgs fun _ => adm m) 0) (fun c => (dats m 0 c).toRForget forgets0) (V m)) r ∧ r.2.sem = fun _ => 0) :=
  Pipeline.θ_run_frameP_forget (Q' := _) pcfgs (fun _ => adm m) (dats m) (0 : Fin 1) launch0 defs₀ Variants.none forgets0 m ρ main
    (hbody := fun c => (body_obligation m hO c).loose) (hshare := fun c => (dats m 0 c).share_full fun _ => rfl)
    (howed := fun _ _ => rfl) (V := V m) (hmain := hmain m Variants.none) (hA := A_eq m) (hpf := V_pre m) (hΦ := fun _ _ => rfl)

/-- THE FRAME CLAIM, at any values. -/
theorem frame (hO : Ok m) : θ_run defs (onTc (τ := τ) (main (F := F))) ⟨m, fun _ => 0, ρ⟩ (fun r => (∀ c : Dev nD, r.2.mem ((c.tc : Thread nD τ).loc main_arg0) = m ((c.tc : Thread nD τ).loc main_arg0) ∧ r.2.mem ((c.tc : Thread nD τ).loc main_arg1) = m ((c.tc : Thread nD τ).loc main_arg1) ∧ r.2.mem ((c.tc : Thread nD τ).loc main_arg2) = m ((c.tc : Thread nD τ).loc main_arg2) ∧ r.2.mem ((c.tc : Thread nD τ).loc main_arg3) = m ((c.tc : Thread nD τ).loc main_arg3) ∧ r.2.mem ((c.tc : Thread nD τ).loc main_arg4) = m ((c.tc : Thread nD τ).loc main_arg4) ∧ r.2.mem ((c.tc : Thread nD τ).loc main_arg5) = m ((c.tc : Thread nD τ).loc main_arg5) ∧ r.2.mem ((c.tc : Thread nD τ).loc main_arg6) = m ((c.tc : Thread nD τ).loc main_arg6))
      ∧ r.2.sem = fun _ => 0) :=
  θ_run_and (frame_of m ρ (fun c => (dats m 0 c).toRForget forgets0) (A_eq m) ((θ_run defs _ _).mono (fun _ h => h.1) (run_main_quiescent m ρ hO)))
    ((θ_run defs _ _).mono (fun _ h => h.2) (run_main_quiescent m ρ hO))

end Cert.KernelIdeal.Hand

end
-- ==== Proof.Claims.lean ====
/- The claims that state no value: the frames of the four programs, and that each idealization names its constant
   honestly. -/
module

public import proofs.«01_k».proof.Defs
public import proofs.«01_k».proof.Proof.Words
public import proofs.«01_k».proof.Proof.KernelFrame
public import proofs.«01_k».proof.Proof.KernelIdealFrame
public import proofs.«01_k».proof.Proof.Gen.Reference.Frame
public import proofs.«01_k».proof.Proof.Gen.ReferenceIdeal.Frame

@[expose] public section

set_option maxRecDepth 16384

noncomputable section

namespace Cert.Claims

open Idealize.ShloMosaic Idealize.ShloMosaic.TcCoe Idealize.SL.Sem

theorem ok_kernel (m : (ℓ : Loc Cert.Kernel.nD Cert.Kernel.τ Cert.Kernel.sig) → Buf (Elt Bits) ℓ) (h : Cert.Pre_Kernel m) :
    Cert.Kernel.Hand.Ok m := fun y => by
  have e := Words.in_range_lt _ (h 0) y
  have t : Cert.Kernel.Hand.tbl m 0 = m (((0 : Dev Cert.Kernel.nD).tc : Thread Cert.Kernel.nD Cert.Kernel.τ).loc Cert.Kernel.main_arg6) :=
    Cert.Kernel.Hand.V_main_arg6 m 0
  rw [t]; exact e

theorem ok_kernelIdeal (m : (ℓ : Loc Cert.KernelIdeal.nD Cert.KernelIdeal.τ Cert.KernelIdeal.sig) → Buf (Elt Ideal) ℓ) (h : Cert.Pre_KernelIdeal m) :
    Cert.KernelIdeal.Hand.Ok m := fun y => by
  have e := Words.in_range_lt _ (h 0) y
  have t : Cert.KernelIdeal.Hand.tbl m 0 = m (((0 : Dev Cert.KernelIdeal.nD).tc : Thread Cert.KernelIdeal.nD Cert.KernelIdeal.τ).loc Cert.KernelIdeal.main_arg6) :=
    Cert.KernelIdeal.Hand.V_main_arg6 m 0
  rw [t]; exact e

theorem ok_permutes (m : (ℓ : Loc Cert.KernelIdeal.nD Cert.KernelIdeal.τ Cert.KernelIdeal.sig) → Buf (Elt Ideal) ℓ) (h : Cert.Pre_KernelIdeal_permutes m) :
    Cert.KernelIdeal.Hand.Ok m := fun y => by
  have e := Words.permutes_lt _ (h 0) y
  have t : Cert.KernelIdeal.Hand.tbl m 0 = m (((0 : Dev Cert.KernelIdeal.nD).tc : Thread Cert.KernelIdeal.nD Cert.KernelIdeal.τ).loc Cert.KernelIdeal.main_arg6) :=
    Cert.KernelIdeal.Hand.V_main_arg6 m 0
  rw [t]; exact e

theorem frame_p : Cert.quiescent_Kernel := fun m g h => Cert.Kernel.Hand.frame m g (ok_kernel m h)
theorem frame_pi : Cert.quiescent_KernelIdeal := fun m g h => Cert.KernelIdeal.Hand.frame m g (ok_kernelIdeal m h)
theorem frame_pi_permutes : Cert.quiescent_KernelIdeal_pre_permutes := fun m g h => Cert.KernelIdeal.Hand.frame m g (ok_permutes m h)
theorem frame_ri : Cert.quiescent_ReferenceIdeal := fun m g _ => Cert.ReferenceIdeal.Gen.frame m g
theorem frame_ri_permutes : Cert.quiescent_ReferenceIdeal_pre_permutes := fun m g _ => Cert.ReferenceIdeal.Gen.frame m g
theorem frame_r : Cert.quiescent_Reference := fun m g _ => Cert.Reference.Gen.frame m g

theorem preserves_p : Cert.preserves_Kernel_KernelIdeal :=
  IdealRules.named_const.statement Cert.KernelIdeal.κ "scale_log2e" .f32 0x3E16C740#32 (((Real.sqrt 96)⁻¹ * (Real.log 2)⁻¹ : ℝ) : EReal) rfl
theorem preserves_r : Cert.preserves_Reference_ReferenceIdeal :=
  IdealRules.named_const.statement Cert.ReferenceIdeal.κ "scale" .f32 0x3DD105EC#32 (((Real.sqrt 96)⁻¹ : ℝ) : EReal) rfl

end Cert.Claims

end
-- ==== Proof.RefTail.lean ====
/- WHAT the reference's host lines compute, as one tower of named stages over the widened operands. -/
module

public import proofs.«01_k».proof.Proof.Gen.ReferenceIdeal.Frame
public import Idealize.ShloMosaic.Lib.StableHlo.RunRead
public import Idealize.ShloMosaic.Lib.StableHlo.ReadAt

@[expose] public section

set_option maxRecDepth 16384

noncomputable section

namespace Cert.ReferenceIdeal.Tail

open Idealize.ShloMosaic Idealize.ShloMosaic.TcCoe Idealize.ShloMosaic.Tactic
open Cert.ReferenceIdeal Cert.ReferenceIdeal.Gen

/-- The token numbers. -/
def tok : Vec Ideal S1400 .i32 := iotaInDim S1400 32 0

/-- Which tokens are text. -/
def txt : Vec Ideal S1400 .i1 := cmpi .sge tok (broadcastInDim S1400 ![] bcast_S_S1400 (constantI S_ 32 1280#32))

/-- Each token's frame. -/
def frm : Vec Ideal S1400 .i32 := Host.divsi tok (broadcastInDim S1400 ![] bcast_S_S1400 (constantI S_ 32 256#32))

/-- Each token's place in its frame. -/
def plc : Vec Ideal S1400 .i32 := Host.remsi tok (broadcastInDim S1400 ![] bcast_S_S1400 (constantI S_ 32 256#32))

/-- A pair with a text token in it. -/
def pairTxt : Vec Ideal S1400x1400 .i1 :=
  ori (broadcastInDim S1400x1400 ![0, 1] bcast_S1400x1_S1400x1400_0_1 (broadcastInDim S1400x1 ![0] bcast_S1400_S1400x1_0 txt))
    (broadcastInDim S1400x1400 ![0, 1] bcast_S1x1400_S1400x1400_0_1 (broadcastInDim S1x1400 ![1] bcast_S1400_S1x1400_1 txt))

/-- A pair of equal words, one from each token. -/
def pairEq (x : Vec Ideal S1400 .i32) : Vec Ideal S1400x1400 .i1 :=
  cmpi .eq (broadcastInDim S1400x1400 ![0, 1] bcast_S1400x1_S1400x1400_0_1 (broadcastInDim S1400x1 ![0] bcast_S1400_S1400x1_0 x))
    (broadcastInDim S1400x1400 ![0, 1] bcast_S1x1400_S1400x1400_0_1 (broadcastInDim S1x1400 ![1] bcast_S1400_S1x1400_1 x))

/-- The mask of a spatial head. -/
def maskS : Vec Ideal S1400x1400 .i1 :=
  ori (ori pairTxt (pairEq frm)) (broadcastInDim S1400x1400 ![0, 1] bcast_S1x1400_S1400x1400_0_1
    (cmpi .eq (broadcastInDim S1x1400 ![1] bcast_S1400_S1x1400_1 frm) (broadcastInDim S1x1400 ![] bcast_S_S1x1400 (constantI S_ 32 0#32))))

/-- The mask of a temporal head. -/
def maskT : Vec Ideal S1400x1400 .i1 := ori pairTxt (pairEq plc)

/-- Which heads are named by the first nine entries of their batch's order. -/
def heads (ord : Vec Ideal S12x16 .i32) : Vec Ideal S12x16 .i1 :=
  Host.reduce IntOp.ori
    (cmpi .eq
      (broadcastInDim S12x9x16 ![0, 1, 2] bcast_S12x9x1_S12x9x16_0_1_2
        (broadcastInDim S12x9x1 ![0, 1] bcast_S12x9_S12x9x1_0_1 (extractStridedSlice S12x9 ![0, 0] ord slices_S12x16_S12x9_0_0)))
      (broadcastInDim S12x9x16 ![0, 1, 2] bcast_S1x1x16_S12x9x16_0_1_2 (broadcastInDim S1x1x16 ![2] bcast_S16_S1x1x16_2 (iotaInDim S16 32 0))))
    (constantI S_ 1 0#1) reducesTo_S12x9x16_S12x16_d1 h_S_

/-- The mask of every head. -/
def mask (ord : Vec Ideal S12x16 .i32) : Vec Ideal S12x16x1400x1400 .i1 :=
  select (broadcastInDim S12x16x1400x1400 ![0, 1, 2, 3] bcast_S12x16x1x1_S12x16x1400x1400_0_1_2_3
      (broadcastInDim S12x16x1x1 ![0, 1] bcast_S12x16_S12x16x1x1_0_1 (heads ord)))
    (broadcastInDim S12x16x1400x1400 ![2, 3] bcast_S1400x1400_S12x16x1400x1400_2_3 maskS)
    (broadcastInDim S12x16x1400x1400 ![2, 3] bcast_S1400x1400_S12x16x1400x1400_2_3 maskT)

/-- The masked scores. -/
def score (q k : FVec Ideal S12x1400x16x96 .bf16) (sc : FVec Ideal S12x16 .f32)
    (mk : Vec Ideal S12x16x1400x1400 .i1) : FVec Ideal S12x16x1400x1400 .f32 :=
  select mk
    (mulf (Host.dotGeneral (F := Ideal) (φ₁ := .bf16) (φ₂ := .bf16) dot_S12x1400x16x96_S12x1400x16x96_S12x16x1400x1400_3_3_1_1_02_02 none q k)
      (broadcastInDim S12x16x1400x1400 ![0, 1, 2, 3] bcast_S12x16x1x1_S12x16x1400x1400_0_1_2_3
        (broadcastInDim S12x16x1x1 ![0, 1] bcast_S12x16_S12x16x1x1_0_1 sc)))
    (broadcastInDim S12x16x1400x1400 ![] bcast_S_S12x16x1400x1400 (constant (F := Ideal) S_ .f32 0xFF800000#32))

/-- The exponentials of the scores against their row's largest. -/
def expo (s : FVec Ideal S12x16x1400x1400 .f32) : FVec Ideal S12x16x1400x1400 .f32 :=
  Host.exp (subf s (broadcastInDim S12x16x1400x1400 ![0, 1, 2, 3] bcast_S12x16x1400x1_S12x16x1400x1400_0_1_2_3
    (broadcastInDim S12x16x1400x1 ![0, 1, 2] bcast_S12x16x1400_S12x16x1400x1_0_1_2
      (Host.reduce FloatOps.maximumf s (constant (F := Ideal) S_ .f32 0xFF800000#32) reducesTo_S12x16x1400x1400_S12x16x1400_d3 h_S_))))

/-- The probabilities. -/
def prob (e : FVec Ideal S12x16x1400x1400 .f32) : FVec Ideal S12x16x1400x1400 .bf16 :=
  truncf .bf16 (mulf e (broadcastInDim S12x16x1400x1400 ![0, 1, 2, 3] bcast_S12x16x1400x1_S12x16x1400x1400_0_1_2_3
    (Host.divf (broadcastInDim S12x16x1400x1 ![] bcast_S_S12x16x1400x1 (constant (F := Ideal) S_ .f32 0x3F800000#32))
      (broadcastInDim S12x16x1400x1 ![0, 1, 2] bcast_S12x16x1400_S12x16x1400x1_0_1_2
        (Host.reduceAdd e (constant (F := Ideal) S_ .f32 0x00000000#32) reducesTo_S12x16x1400x1400_S12x16x1400_d3 h_S_))))) bitsLt_bf16_f32

/-- The values weighed by the probabilities, heads side by side. -/
def weigh (v : FVec Ideal S12x1400x16x96 .bf16) (p : FVec Ideal S12x16x1400x1400 .bf16)
    (s5 : FVec Ideal S12x16 .f32) : FVec Ideal S12x1400x1536 .bf16 :=
  truncf .bf16 (shapeCast S12x1400x1536 (mulf
    (transpose S12x1400x16x96 [0, 3, 1, 2] (Host.dotGeneral (F := Ideal) (φ₁ := .bf16) (φ₂ := .bf16) dot_S12x1400x16x96_S12x16x1400x1400_S12x16x96x1400_1_3_3_2_02_01 none v p) transposes_S12x16x96x1400_S12x1400x16x96_0_3_1_2)
    (broadcastInDim S12x1400x16x96 ![0, 1, 2, 3] bcast_S12x1x16x1_S12x1400x16x96_0_1_2_3 (broadcastInDim S12x1x16x1 ![0, 2] bcast_S12x16_S12x1x16x1_0_2 s5)))
    shapeCasts_S12x1400x16x96_S12x1400x1536) bitsLt_bf16_f32

/-- The reference's result from the widened operands. -/
def tail (q k v : FVec Ideal S12x1400x16x96 .bf16) (sc s5 : FVec Ideal S12x16 .f32)
    (ord : Vec Ideal S12x16 .i32) : FVec Ideal S12x1400x1536 .bf16 :=
  weigh v (prob (expo (score q k sc (mask ord)))) s5

/-- The host lines leave the tower in the result. -/
theorem after_tail (W : Valuation τ sig (Elt Ideal)) :
    StableHlo.after (List.flatten [hostOps1, hostOps1_1, hostOps1_2, hostOps1_3, hostOps1_4]) W (Proc.devRef .tc main_v63)
      = tail (W (Proc.devRef .tc main_v0_0)) (W (Proc.devRef .tc main_v0_1)) (W (Proc.devRef .tc main_v0_2)) (W (Proc.devRef .tc main_v0_3))
        (W (Proc.devRef .tc main_arg5)) (W (Proc.devRef .tc main_arg6)) := by
  simp only [List.flatten_cons, List.flatten_nil, List.append_nil, List.cons_append, List.nil_append, hostOps1, hostOps1_1, hostOps1_2, hostOps1_3, hostOps1_4]
  after_reads_simp
  simp -implicitDefEqProofs only [StableHlo.TRef.toBuf, StableHlo.TRef.ofBuf, cast_cast, cast_eq]
  simp only [tail, weigh, prob, expo, score, mask, heads, maskS, maskT, pairEq, pairTxt, plc, frm, txt, tok, id]
  clean_types
  rfl

end Cert.ReferenceIdeal.Tail
-- ==== Proof.Softmax.lean ====
/- THE MATHEMATICS: attention over a list of visible keys, computed as the kernel computes it (powers of two, one division at
   the end), is attention over all keys with the others masked to minus infinity (exponentials, every weight divided). It holds
   of all extended reals: no score, scale or value needs to be finite. -/
module

public import Idealize.ShloMosaic.PureOps.Ideal
public import Idealize.ShloMosaic.PureOps.Ideal.Laws

@[expose] public section

noncomputable section

namespace Cert.Softmax

open Idealize.ShloMosaic
open scoped BigOperators

/-- Attention over the keys `ι`, as the kernel computes it: powers of two of the scores less their maximum, the weighted sum of
    the values, times the scale over the total weight. -/
def attend {ι : Type} [Fintype ι] (c vs : EReal) (s v : ι → EReal) : EReal :=
  (∑ k, v k * Ideal.exp2 (s k * c - Finset.univ.sup fun i => s i * c))
    * Ideal.div vs (∑ k, Ideal.exp2 (s k * c - Finset.univ.sup fun i => s i * c))

/-- The masked scores: a key not seen has minus infinity. -/
def masked {N : Type} (seen : N → Prop) [DecidablePred seen] (c : EReal) (s : N → EReal) (k : N) : EReal :=
  if seen k then s k * c else ⊥

/-- Attention over all keys with a mask, as the reference computes it: every weight divided by the total. -/
def dense {N : Type} [Fintype N] (seen : N → Prop) [DecidablePred seen] (c vs : EReal) (s v : N → EReal) : EReal :=
  (∑ k, v k * (Ideal.exp (masked seen c s k - Finset.univ.sup (masked seen c s))
      * Ideal.div 1 (∑ j, Ideal.exp (masked seen c s j - Finset.univ.sup (masked seen c s))))) * vs

/-- The constant that turns exponentials into powers of two. -/
def L : ℝ := (Real.log 2)⁻¹

theorem L_pos : 0 < L := inv_pos.mpr (Real.log_pos one_lt_two)

theorem exp2_mul (x : EReal) : Ideal.exp2 (x * (L : EReal)) = Ideal.exp x := by
  induction x using EReal.rec with
  | bot => rw [EReal.bot_mul_coe_of_pos L_pos]; rfl
  | top => rw [EReal.top_mul_coe_of_pos L_pos]; rfl
  | coe r =>
    rw [← EReal.coe_mul]
    show ((Real.rpow 2 (r * L) : ℝ) : EReal) = ((Real.exp r : ℝ) : EReal)
    congr 1
    show (2 : ℝ) ^ (r * L) = _
    rw [Real.rpow_def_of_pos two_pos]
    congr 1
    have : Real.log 2 ≠ 0 := (Real.log_pos one_lt_two).ne'
    unfold L
    field_simp

theorem mul_L_mono : Monotone fun x : EReal => x * (L : EReal) := fun _ _ h =>
  mul_le_mul_of_nonneg_right h (EReal.coe_nonneg.mpr L_pos.le)

theorem sup_mul {ι : Type} (t : Finset ι) (y : ι → EReal) :
    (t.sup fun i => y i * (L : EReal)) = t.sup y * (L : EReal) :=
  (Finset.comp_sup_eq_sup_comp_of_is_total (fun x : EReal => x * (L : EReal)) mul_L_mono
    (EReal.bot_mul_coe_of_pos L_pos)).symm

theorem sub_mul_L (a b : EReal) : a * (L : EReal) - b * (L : EReal) = (a - b) * (L : EReal) := by
  induction a using EReal.rec <;> induction b using EReal.rec <;>
    simp [EReal.bot_mul_coe_of_pos L_pos, EReal.top_mul_coe_of_pos L_pos, ← EReal.coe_mul, ← EReal.coe_sub, sub_mul]

theorem exp_nonneg (x : EReal) : 0 ≤ Ideal.exp x := by
  induction x using EReal.rec with
  | bot => exact le_refl _
  | top => exact le_top
  | coe r => exact EReal.coe_nonneg.mpr (Real.exp_pos r).le

theorem exp_sub_le_one {a m : EReal} (h : a ≤ m) : Ideal.exp (a - m) ≤ 1 := by
  have one_ge : ∀ r : ℝ, r ≤ 0 → Ideal.exp (r : EReal) ≤ 1 := fun r hr => by
    show ((Real.exp r : ℝ) : EReal) ≤ ((1 : ℝ) : EReal)
    exact EReal.coe_le_coe_iff.mpr (Real.exp_le_one_iff.mpr hr)
  have bot_le : Ideal.exp ⊥ ≤ 1 := by show (0 : EReal) ≤ 1; exact zero_le_one
  induction a using EReal.rec with
  | bot => rw [EReal.bot_sub]; exact bot_le
  | top =>
    have : m = ⊤ := top_le_iff.mp h
    subst this
    exact bot_le
  | coe r =>
    induction m using EReal.rec with
    | bot => exact absurd (le_bot_iff.mp h) (EReal.coe_ne_bot r)
    | top => exact bot_le
    | coe q =>
      rw [← EReal.coe_sub]
      exact one_ge _ (sub_nonpos.mpr (EReal.coe_le_coe_iff.mp h))

/-- A sum of weights that are nonnegative reals. -/
theorem exists_real {ι : Type} (t : Finset ι) (E : ι → EReal) (h0 : ∀ i, 0 ≤ E i) (h1 : ∀ i, E i ≤ 1) :
    ∃ r : ι → ℝ, (∀ i, 0 ≤ r i) ∧ (∀ i, E i = (r i : EReal)) ∧ ∑ i ∈ t, E i = ((∑ i ∈ t, r i : ℝ) : EReal) := by
  have hE : ∀ i, E i = ((E i).toReal : EReal) := fun i => by
    refine (EReal.coe_toReal ?_ ?_).symm
    · intro h; have := h1 i; rw [h] at this; exact absurd (top_le_iff.mp this) (EReal.coe_ne_top 1)
    · intro h; have := h0 i; rw [h] at this; exact absurd (le_bot_iff.mp this) (EReal.coe_ne_bot 0)
  refine ⟨fun i => (E i).toReal, fun i => EReal.toReal_nonneg (h0 i), hE, ?_⟩
  classical
  induction t using Finset.induction_on with
  | empty => simp
  | insert a t ha ih => rw [Finset.sum_insert ha, Finset.sum_insert ha, EReal.coe_add, ih, ← hE a]

/-- A nonnegative real factor goes through a sum. -/
theorem sum_mul_coe {ι : Type} (t : Finset ι) (f : ι → EReal) (r : ℝ) (hr : 0 ≤ r) :
    ∑ i ∈ t, f i * (r : EReal) = (∑ i ∈ t, f i) * (r : EReal) := by
  classical
  induction t using Finset.induction_on with
  | empty => simp
  | insert a t ha ih =>
    rw [Finset.sum_insert ha, Finset.sum_insert ha, ih, mul_comm _ (r : EReal), mul_comm _ (r : EReal),
      mul_comm _ (r : EReal), EReal.left_distrib_of_nonneg_of_ne_top (EReal.coe_nonneg.mpr hr) (EReal.coe_ne_top r)]

theorem div_coe_pos (x : EReal) {t : ℝ} (ht : 0 < t) : Ideal.div x (t : EReal) = x * ((t⁻¹ : ℝ) : EReal) := by
  unfold Ideal.div
  rw [if_neg (by rw [← EReal.coe_zero]; exact fun h => ht.ne' (EReal.coe_eq_coe_iff.mp h)), EReal.coe_inv]

/-- Dividing the weights one by one, or their sum once. -/
theorem normalize {ι : Type} [Fintype ι] (E v : ι → EReal) (vs : EReal) (h0 : ∀ i, 0 ≤ E i) (h1 : ∀ i, E i ≤ 1) :
    (∑ k, v k * E k) * Ideal.div vs (∑ k, E k) = (∑ k, v k * (E k * Ideal.div 1 (∑ j, E j))) * vs := by
  obtain ⟨r, hr0, hr, hs⟩ := exists_real Finset.univ E h0 h1
  rcases (Finset.sum_nonneg fun i (_ : i ∈ Finset.univ) => hr0 i).eq_or_lt with h | h
  · have hz : ∀ i, E i = 0 := fun i => by
      rw [hr i, (Finset.sum_eq_zero_iff_of_nonneg fun i _ => hr0 i).mp h.symm i (Finset.mem_univ i)]; rfl
    simp only [hz, zero_mul, mul_zero, Finset.sum_const_zero]
  · rw [hs, div_coe_pos vs h, div_coe_pos 1 h, one_mul]
    have : ∀ k, v k * (E k * (((∑ i, r i)⁻¹ : ℝ) : EReal)) = v k * E k * (((∑ i, r i)⁻¹ : ℝ) : EReal) :=
      fun k => (mul_assoc _ _ _).symm
    rw [Finset.sum_congr rfl fun k _ => this k, sum_mul_coe _ _ _ (inv_nonneg.mpr h.le)]
    rw [mul_assoc, mul_comm vs]

/-- The maximum over two lists of keys. -/
theorem sup_sum {α β : Type} [Fintype α] [Fintype β] (f : α ⊕ β → EReal) :
    Finset.univ.sup f = max (Finset.univ.sup fun a => f (Sum.inl a)) (Finset.univ.sup fun b => f (Sum.inr b)) := by
  refine le_antisymm (Finset.sup_le fun x _ => ?_) (max_le (Finset.sup_le fun a _ => ?_) (Finset.sup_le fun b _ => ?_))
  · cases x with
    | inl a => exact le_max_of_le_left (Finset.le_sup (f := fun a => f (Sum.inl a)) (Finset.mem_univ a))
    | inr b => exact le_max_of_le_right (Finset.le_sup (f := fun b => f (Sum.inr b)) (Finset.mem_univ b))
  · exact Finset.le_sup (f := f) (Finset.mem_univ _)
  · exact Finset.le_sup (f := f) (Finset.mem_univ _)

/-- THE STATEMENT: `κ` lists the seen keys, each once. -/
theorem attend_eq_dense {ι N : Type} [Fintype ι] [Fintype N] (seen : N → Prop) [DecidablePred seen] (c vs : EReal) (s v : N → EReal)
    (κ : ι → N) (hinj : Function.Injective κ) (hseen : ∀ k, seen k ↔ ∃ i, κ i = k) :
    attend (c * (L : EReal)) vs (fun i => s (κ i)) (fun i => v (κ i)) = dense seen c vs s v := by
  have hm : ∀ i, masked seen c s (κ i) = s (κ i) * c := fun i => if_pos ((hseen _).mpr ⟨i, rfl⟩)
  have hsup : (Finset.univ.sup fun i => s (κ i) * c) = Finset.univ.sup (masked seen c s) := by
    refine le_antisymm (Finset.sup_le fun i _ => ?_) (Finset.sup_le fun k _ => ?_)
    · rw [← hm i]; exact Finset.le_sup (f := masked seen c s) (Finset.mem_univ _)
    · by_cases hk : seen k
      · obtain ⟨i, rfl⟩ := (hseen k).mp hk
        rw [hm i]; exact Finset.le_sup (f := fun i => s (κ i) * c) (Finset.mem_univ i)
      · rw [show masked seen c s k = ⊥ from if_neg hk]; exact bot_le
  have he : ∀ i, Ideal.exp2 (s (κ i) * (c * (L : EReal)) - Finset.univ.sup fun i => s (κ i) * (c * (L : EReal)))
      = Ideal.exp (masked seen c s (κ i) - Finset.univ.sup (masked seen c s)) := fun i => by
    simp only [← mul_assoc]
    rw [sup_mul, sub_mul_L, exp2_mul, hsup, hm]
  have hoff : ∀ k, k ∉ Set.range κ → Ideal.exp (masked seen c s k - Finset.univ.sup (masked seen c s)) = 0 := fun k hk => by
    rw [show masked seen c s k = ⊥ from if_neg fun h => hk ((hseen k).mp h), EReal.bot_sub]; rfl
  unfold attend
  simp only [he]
  rw [normalize (fun i => Ideal.exp (masked seen c s (κ i) - Finset.univ.sup (masked seen c s))) (fun i => v (κ i)) vs
    (fun i => exp_nonneg _) fun i => exp_sub_le_one (Finset.le_sup (f := masked seen c s) (Finset.mem_univ _))]
  unfold dense
  have hT := Fintype.sum_of_injective κ hinj
    (fun i => Ideal.exp (masked seen c s (κ i) - Finset.univ.sup (masked seen c s)))
    (fun k => Ideal.exp (masked seen c s k - Finset.univ.sup (masked seen c s))) hoff fun i => rfl
  rw [hT]
  congr 1
  exact Fintype.sum_of_injective κ hinj _ (fun k => v k * (Ideal.exp (masked seen c s k - Finset.univ.sup (masked seen c s))
      * Ideal.div 1 (∑ j, Ideal.exp (masked seen c s j - Finset.univ.sup (masked seen c s)))))
    (fun k hk => by rw [hoff k hk, zero_mul, mul_zero]) fun i => rfl

end Cert.Softmax
-- ==== Proof.RefPoint.lean ====
/- THE reference's stages read at an index. -/
module

public import proofs.«01_k».proof.Proof.RefTail
public import proofs.«01_k».proof.Proof.Softmax
public import Idealize.ShloMosaic.Lib.Pointwise
public import Idealize.ShloMosaic.Lib.Routing.OpsOrder
public import Idealize.ShloMosaic.Lib.WordCmp

@[expose] public section

set_option maxRecDepth 16384

noncomputable section

namespace Cert.ReferenceIdeal.Tail

open Idealize.ShloMosaic Idealize.ShloMosaic.WordCmp Idealize.ShloMosaic.Routing
open Cert.ReferenceIdeal Cert.ReferenceIdeal.Gen
open scoped BigOperators

/-- The weighed values at an element. -/
theorem weigh_apply (v : FVec Ideal S12x1400x16x96 .bf16) (p : FVec Ideal S12x16x1400x1400 .bf16) (s5 : FVec Ideal S12x16 .f32)
    (b : Fin 12) (n : Fin 1400) (h : Fin 16) (d : Fin 96) :
    weigh v p s5 (ix3 b n ⟨96 * h.val + d.val, by omega⟩) = (∑ k : Fin 1400, v (ix4 b k h d) * p (ix4 b h n k)) * s5 (ix2 b h) := by
  pointwise [weigh]

/-- A probability. -/
theorem prob_apply (e : FVec Ideal S12x16x1400x1400 .f32) (b : Fin 12) (h : Fin 16) (n k : Fin 1400) :
    prob e (ix4 b h n k) = e (ix4 b h n k) * Ideal.div 1 (∑ j : Fin 1400, e (ix4 b h n j)) := by
  pointwise [prob]

/-- The masked score's bits are minus infinity. -/
theorem ofBits_bot : Ideal.ofBits .f32 0xFF800000#32 = ⊥ := by simp [Ideal.ofBits, Ideal.ieee]

/-- An exponential. -/
theorem expo_apply (s : FVec Ideal S12x16x1400x1400 .f32) (b : Fin 12) (h : Fin 16) (n k : Fin 1400) :
    expo s (ix4 b h n k) = Ideal.exp ((s (ix4 b h n k) : EReal) - Finset.univ.sup fun j : Fin 1400 => (s (ix4 b h n j) : EReal)) := by
  pointwise [expo]
  rw [ofBits_bot]
  rfl

/-- A masked score. -/
theorem score_apply (q k : FVec Ideal S12x1400x16x96 .bf16) (sc : FVec Ideal S12x16 .f32) (mk : Vec Ideal S12x16x1400x1400 .i1)
    (b : Fin 12) (h : Fin 16) (n j : Fin 1400) :
    score q k sc mk (ix4 b h n j) = if mk (ix4 b h n j) = 1#1 then (∑ e : Fin 96, q (ix4 b n h e) * k (ix4 b j h e)) * sc (ix2 b h) else (⊥ : EReal) := by
  pointwise [score]
  rw [ofBits_bot]
  rfl

/-- An or of two bits. -/
theorem ori_one (a b : BitVec 1) : IntOp.ori a b = 1#1 ↔ a = 1#1 ∨ b = 1#1 := by
  revert a b
  decide

/-- The text's comparison, on numbers. -/
theorem text_word (n : Fin 1400) : IntOp.cmpi .sge (BitVec.ofNat 32 n.val) 1280#32 = 1#1 ↔ 1280 ≤ n.val := by
  rw [cmpi_sge_ofNat_eq_one_iff (by omega) (by omega)]

/-- A token's frame, on numbers. -/
theorem frame_word : ∀ n : Fin 1400, IntOp.divsi .host (BitVec.ofNat 32 n.val) 256#32 = BitVec.ofNat 32 (n.val / 256) := by
  decide +kernel

/-- A token's place, on numbers. -/
theorem place_word : ∀ n : Fin 1400, IntOp.remsi .host (BitVec.ofNat 32 n.val) 256#32 = BitVec.ofNat 32 (n.val % 256) := by
  decide +kernel

/-- The temporal mask. -/
theorem maskT_apply (n k : Fin 1400) : maskT (ix2 n k) = 1#1 ↔ (1280 ≤ n.val ∨ 1280 ≤ k.val) ∨ n.val % 256 = k.val % 256 := by
  pointwise [maskT, pairTxt, pairEq, txt, plc, tok]
  rw [place_word, place_word, ori_one, ori_one, text_word, text_word, cmpi_eq_ofNat_eq_one_iff (by omega) (by omega)]

/-- The spatial mask. -/
theorem maskS_apply (n k : Fin 1400) : maskS (ix2 n k) = 1#1 ↔ (1280 ≤ n.val ∨ 1280 ≤ k.val) ∨ n.val / 256 = k.val / 256 ∨ k.val / 256 = 0 := by
  pointwise [maskS, pairTxt, pairEq, txt, frm, tok]
  rw [frame_word, frame_word, ori_one, ori_one, ori_one, text_word, text_word, cmpi_eq_ofNat_eq_one_iff (by omega) (by omega),
    cmpi_eq_ofNat_eq_one_iff (by omega) (by omega), or_assoc]

/-- A head's comparison, on numbers. -/
theorem eq_word (x : BitVec 32) (h : Fin 16) : IntOp.cmpi .eq x (BitVec.ofNat 32 h.val) = 1#1 ↔ x.toNat = h.val := by
  rw [cmpi_eq_eq_toNat, BitVec.toNat_ofNat, Nat.mod_eq_of_lt (by omega)]
  by_cases e : x.toNat = h.val <;> simp [e]

/-- The spatial heads. -/
theorem heads_apply (ord : Vec Ideal S12x16 .i32) (b : Fin 12) (h : Fin 16) :
    heads ord (ix2 b h) = 1#1 ↔ ∃ j : Fin 16, j.val < 9 ∧ (ord (ix2 b j)).toNat = h.val := by
  pointwise [heads]
  rw [fold_ori]
  constructor
  · rintro ⟨x, -, hx⟩
    exact ⟨⟨x.val, by omega⟩, x.isLt, (eq_word _ h).mp hx⟩
  · rintro ⟨j, hj, e⟩
    exact ⟨⟨j.val, hj⟩, Finset.mem_univ _, (eq_word _ h).mpr e⟩

/-- A head's mask. -/
theorem mask_apply (ord : Vec Ideal S12x16 .i32) (b : Fin 12) (h : Fin 16) (n k : Fin 1400) :
    mask ord (ix4 b h n k) = if heads ord (ix2 b h) = 1#1 then maskS (ix2 n k) else maskT (ix2 n k) := by
  pointwise [mask]
  rfl

end Cert.ReferenceIdeal.Tail
-- ==== Proof.Forms.lean ====
/- THE FORMS of the kernel's blocks of attention, one per set of key blocks, and each read at an index. -/
module

public import proofs.«01_k».proof.Proof.Softmax
public import proofs.«01_k».proof.Proof.Gen.KernelIdeal.Skeleton
public import Idealize.ShloMosaic.Lib.Pointwise

@[expose] public section

set_option maxRecDepth 16384

noncomputable section

namespace Cert.KernelIdeal.Forms

open Idealize.ShloMosaic
open Cert.KernelIdeal Cert.KernelIdeal.Gen Cert.Softmax
open scoped BigOperators

theorem ofBits_bot : Ideal.ofBits .f32 0xFF800000#32 = ⊥ := by simp [Ideal.ofBits, Ideal.ieee]

/-- A frame's queries against three blocks of keys: the frame, the first frame, the text. -/
def form3 (k1 k2 : Vec Ideal S1x256x96 .fp8e4m3) (k3 : Vec Ideal S1x120x96 .fp8e4m3) (q : Vec Ideal S1x1x96x256 .fp8e4m3)
    (v1 v2 : Vec Ideal S1x96x256 .bf16) (v3 : Vec Ideal S1x96x120 .bf16) (c vs : Ideal .f32) : FVec Ideal S1x96x256 .bf16 :=
  have qq : FVec Ideal S96x256 .fp8e4m3 := shapeCast S96x256 q shapeCasts_S1x1x96x256_S96x256
  have s1 : FVec Ideal S256x256 .f32 := mulf (matmul dot_S256x96_S96x256_S256x256_1_0_0_1_n_n none
    (shapeCast S256x96 k1 shapeCasts_S1x256x96_S256x96 : FVec Ideal S256x96 .fp8e4m3) qq (constant S256x256 .f32 0x00000000#32)) (broadcast S256x256 c)
  have s2 : FVec Ideal S256x256 .f32 := mulf (matmul dot_S256x96_S96x256_S256x256_1_0_0_1_n_n none
    (shapeCast S256x96 k2 shapeCasts_S1x256x96_S256x96 : FVec Ideal S256x96 .fp8e4m3) qq (constant S256x256 .f32 0x00000000#32)) (broadcast S256x256 c)
  have s3 : FVec Ideal S120x256 .f32 := mulf (matmul dot_S120x96_S96x256_S120x256_1_0_0_1_n_n none
    (shapeCast S120x96 k3 shapeCasts_S1x120x96_S120x96 : FVec Ideal S120x96 .fp8e4m3) qq (constant S120x256 .f32 0x00000000#32)) (broadcast S120x256 c)
  have m1 : FVec Ideal S1x256 .f32 := shapeCast S1x256 (multiReduction .maximumf [0] S256 s1 0xFF800000#32 reduces_S256x256_S256 (.inl rfl) rfl : FVec Ideal S256 .f32) shapeCasts_S256_S1x256
  have m2 : FVec Ideal S1x256 .f32 := shapeCast S1x256 (multiReduction .maximumf [0] S256 s2 0xFF800000#32 reduces_S256x256_S256 (.inl rfl) rfl : FVec Ideal S256 .f32) shapeCasts_S256_S1x256
  have m3 : FVec Ideal S1x256 .f32 := shapeCast S1x256 (multiReduction .maximumf [0] S256 s3 0xFF800000#32 reduces_S120x256_S256 (.inl rfl) rfl : FVec Ideal S256 .f32) shapeCasts_S256_S1x256
  have m : FVec Ideal S1x256 .f32 := maximumf (maximumf m1 m2) m3
  have e1 : FVec Ideal S256x256 .f32 := exp2 (subf s1 (broadcastTo S256x256 m broadcasts_S1x256_S256x256))
  have e2 : FVec Ideal S256x256 .f32 := exp2 (subf s2 (broadcastTo S256x256 m broadcasts_S1x256_S256x256))
  have e3 : FVec Ideal S120x256 .f32 := exp2 (subf s3 (broadcastTo S120x256 m broadcasts_S1x256_S120x256))
  have t1 : FVec Ideal S1x256 .f32 := shapeCast S1x256 (multiReduction .add [0] S256 e1 0x00000000#32 reduces_S256x256_S256 (.inl rfl) rfl : FVec Ideal S256 .f32) shapeCasts_S256_S1x256
  have t2 : FVec Ideal S1x256 .f32 := shapeCast S1x256 (multiReduction .add [0] S256 e2 0x00000000#32 reduces_S256x256_S256 (.inl rfl) rfl : FVec Ideal S256 .f32) shapeCasts_S256_S1x256
  have t3 : FVec Ideal S1x256 .f32 := shapeCast S1x256 (multiReduction .add [0] S256 e3 0x00000000#32 reduces_S120x256_S256 (.inl rfl) rfl : FVec Ideal S256 .f32) shapeCasts_S256_S1x256
  have t : FVec Ideal S1x256 .f32 := addf (addf t1 t2) t3
  have o1 : FVec Ideal S96x256 .f32 := matmul dot_S96x256_S256x256_S96x256_1_0_0_1_n_n none (shapeCast S96x256 v1 shapeCasts_S1x96x256_S96x256 : FVec Ideal S96x256 .bf16)
    (truncf .bf16 e1 bitsLt_bf16_f32 : FVec Ideal S256x256 .bf16) (constant S96x256 .f32 0x00000000#32)
  have o2 : FVec Ideal S96x256 .f32 := matmul dot_S96x256_S256x256_S96x256_1_0_0_1_n_n none (shapeCast S96x256 v2 shapeCasts_S1x96x256_S96x256 : FVec Ideal S96x256 .bf16)
    (truncf .bf16 e2 bitsLt_bf16_f32 : FVec Ideal S256x256 .bf16) (constant S96x256 .f32 0x00000000#32)
  have o3 : FVec Ideal S96x256 .f32 := matmul dot_S96x120_S120x256_S96x256_1_0_0_1_n_n none (shapeCast S96x120 v3 shapeCasts_S1x96x120_S96x120 : FVec Ideal S96x120 .bf16)
    (truncf .bf16 e3 bitsLt_bf16_f32 : FVec Ideal S120x256 .bf16) (constant S96x256 .f32 0x00000000#32)
  have o : FVec Ideal S96x256 .f32 := addf (addf o1 o2) o3
  have r : FVec Ideal S96x256 .f32 := mulf o (broadcastTo S96x256 (divf (broadcast S1x256 vs : FVec Ideal S1x256 .f32) t) broadcasts_S1x256_S96x256)
  shapeCast S1x96x256 (truncf .bf16 r bitsLt_bf16_f32 : FVec Ideal S96x256 .bf16) shapeCasts_S96x256_S1x96x256

theorem form3_apply (k1 k2 : Vec Ideal S1x256x96 .fp8e4m3) (k3 : Vec Ideal S1x120x96 .fp8e4m3) (q : Vec Ideal S1x1x96x256 .fp8e4m3)
    (v1 v2 : Vec Ideal S1x96x256 .bf16) (v3 : Vec Ideal S1x96x120 .bf16) (c vs : Ideal .f32) (a : Fin 96) (l : Fin 256) :
    form3 k1 k2 k3 q v1 v2 v3 c vs (ix3 0 a l) = attend (ι := (Fin 256 ⊕ Fin 256) ⊕ Fin 120) c vs
      (Sum.elim (Sum.elim (fun k => ∑ e : Fin 96, k1 (ix3 0 k e) * q (ix4 0 0 e l)) fun k => ∑ e : Fin 96, k2 (ix3 0 k e) * q (ix4 0 0 e l))
        fun k => ∑ e : Fin 96, k3 (ix3 0 k e) * q (ix4 0 0 e l))
      (Sum.elim (Sum.elim (fun k => v1 (ix3 0 a k)) fun k => v2 (ix3 0 a k)) fun k => v3 (ix3 0 a k)) := by
  unfold attend
  simp only [Fintype.sum_sum_type, sup_sum, Sum.elim_inl, Sum.elim_inr]
  pointwise [form3]
  simp only [ofBits_bot]
  rfl

/-- The first frame's queries against two blocks of keys: the frame, the text. -/
def form2 (k1 : Vec Ideal S1x256x96 .fp8e4m3) (k3 : Vec Ideal S1x120x96 .fp8e4m3) (q : Vec Ideal S1x1x96x256 .fp8e4m3)
    (v1 : Vec Ideal S1x96x256 .bf16) (v3 : Vec Ideal S1x96x120 .bf16) (c vs : Ideal .f32) : FVec Ideal S1x96x256 .bf16 :=
  have qq : FVec Ideal S96x256 .fp8e4m3 := shapeCast S96x256 q shapeCasts_S1x1x96x256_S96x256
  have s1 : FVec Ideal S256x256 .f32 := mulf (matmul dot_S256x96_S96x256_S256x256_1_0_0_1_n_n none
    (shapeCast S256x96 k1 shapeCasts_S1x256x96_S256x96 : FVec Ideal S256x96 .fp8e4m3) qq (constant S256x256 .f32 0x00000000#32)) (broadcast S256x256 c)
  have s3 : FVec Ideal S120x256 .f32 := mulf (matmul dot_S120x96_S96x256_S120x256_1_0_0_1_n_n none
    (shapeCast S120x96 k3 shapeCasts_S1x120x96_S120x96 : FVec Ideal S120x96 .fp8e4m3) qq (constant S120x256 .f32 0x00000000#32)) (broadcast S120x256 c)
  have m1 : FVec Ideal S1x256 .f32 := shapeCast S1x256 (multiReduction .maximumf [0] S256 s1 0xFF800000#32 reduces_S256x256_S256 (.inl rfl) rfl : FVec Ideal S256 .f32) shapeCasts_S256_S1x256
  have m3 : FVec Ideal S1x256 .f32 := shapeCast S1x256 (multiReduction .maximumf [0] S256 s3 0xFF800000#32 reduces_S120x256_S256 (.inl rfl) rfl : FVec Ideal S256 .f32) shapeCasts_S256_S1x256
  have m : FVec Ideal S1x256 .f32 := maximumf m1 m3
  have e1 : FVec Ideal S256x256 .f32 := exp2 (subf s1 (broadcastTo S256x256 m broadcasts_S1x256_S256x256))
  have e3 : FVec Ideal S120x256 .f32 := exp2 (subf s3 (broadcastTo S120x256 m broadcasts_S1x256_S120x256))
  have t1 : FVec Ideal S1x256 .f32 := shapeCast S1x256 (multiReduction .add [0] S256 e1 0x00000000#32 reduces_S256x256_S256 (.inl rfl) rfl : FVec Ideal S256 .f32) shapeCasts_S256_S1x256
  have t3 : FVec Ideal S1x256 .f32 := shapeCast S1x256 (multiReduction .add [0] S256 e3 0x00000000#32 reduces_S120x256_S256 (.inl rfl) rfl : FVec Ideal S256 .f32) shapeCasts_S256_S1x256
  have t : FVec Ideal S1x256 .f32 := addf t1 t3
  have o1 : FVec Ideal S96x256 .f32 := matmul dot_S96x256_S256x256_S96x256_1_0_0_1_n_n none (shapeCast S96x256 v1 shapeCasts_S1x96x256_S96x256 : FVec Ideal S96x256 .bf16)
    (truncf .bf16 e1 bitsLt_bf16_f32 : FVec Ideal S256x256 .bf16) (constant S96x256 .f32 0x00000000#32)
  have o3 : FVec Ideal S96x256 .f32 := matmul dot_S96x120_S120x256_S96x256_1_0_0_1_n_n none (shapeCast S96x120 v3 shapeCasts_S1x96x120_S96x120 : FVec Ideal S96x120 .bf16)
    (truncf .bf16 e3 bitsLt_bf16_f32 : FVec Ideal S120x256 .bf16) (constant S96x256 .f32 0x00000000#32)
  have o : FVec Ideal S96x256 .f32 := addf o1 o3
  have r : FVec Ideal S96x256 .f32 := mulf o (broadcastTo S96x256 (divf (broadcast S1x256 vs : FVec Ideal S1x256 .f32) t) broadcasts_S1x256_S96x256)
  shapeCast S1x96x256 (truncf .bf16 r bitsLt_bf16_f32 : FVec Ideal S96x256 .bf16) shapeCasts_S96x256_S1x96x256

theorem form2_apply (k1 : Vec Ideal S1x256x96 .fp8e4m3) (k3 : Vec Ideal S1x120x96 .fp8e4m3) (q : Vec Ideal S1x1x96x256 .fp8e4m3)
    (v1 : Vec Ideal S1x96x256 .bf16) (v3 : Vec Ideal S1x96x120 .bf16) (c vs : Ideal .f32) (a : Fin 96) (l : Fin 256) :
    form2 k1 k3 q v1 v3 c vs (ix3 0 a l) = attend (ι := Fin 256 ⊕ Fin 120) c vs
      (Sum.elim (fun k => ∑ e : Fin 96, k1 (ix3 0 k e) * q (ix4 0 0 e l)) fun k => ∑ e : Fin 96, k3 (ix3 0 k e) * q (ix4 0 0 e l))
      (Sum.elim (fun k => v1 (ix3 0 a k)) fun k => v3 (ix3 0 a k)) := by
  unfold attend
  simp only [Fintype.sum_sum_type, sup_sum, Sum.elim_inl, Sum.elim_inr]
  pointwise [form2]
  simp only [ofBits_bot]
  rfl

/-- The text's queries against every key. -/
def formT (k : Vec Ideal S1x1400x96 .fp8e4m3) (q : Vec Ideal S1x1x96x120 .fp8e4m3) (v : Vec Ideal S1x96x1400 .bf16) (c vs : Ideal .f32) :
    FVec Ideal S1x96x120 .bf16 :=
  have s : FVec Ideal S1400x120 .f32 := mulf (matmul dot_S1400x96_S96x120_S1400x120_1_0_0_1_n_n none
    (shapeCast S1400x96 k shapeCasts_S1x1400x96_S1400x96 : FVec Ideal S1400x96 .fp8e4m3)
    (shapeCast S96x120 q shapeCasts_S1x1x96x120_S96x120 : FVec Ideal S96x120 .fp8e4m3) (constant S1400x120 .f32 0x00000000#32)) (broadcast S1400x120 c)
  have m : FVec Ideal S1x120 .f32 := shapeCast S1x120 (multiReduction .maximumf [0] S120 s 0xFF800000#32 reduces_S1400x120_S120 (.inl rfl) rfl : FVec Ideal S120 .f32) shapeCasts_S120_S1x120
  have e : FVec Ideal S1400x120 .f32 := exp2 (subf s (broadcastTo S1400x120 m broadcasts_S1x120_S1400x120))
  have t : FVec Ideal S1x120 .f32 := shapeCast S1x120 (multiReduction .add [0] S120 e 0x00000000#32 reduces_S1400x120_S120 (.inl rfl) rfl : FVec Ideal S120 .f32) shapeCasts_S120_S1x120
  have o : FVec Ideal S96x120 .f32 := matmul dot_S96x1400_S1400x120_S96x120_1_0_0_1_n_n none (shapeCast S96x1400 v shapeCasts_S1x96x1400_S96x1400 : FVec Ideal S96x1400 .bf16)
    (truncf .bf16 e bitsLt_bf16_f32 : FVec Ideal S1400x120 .bf16) (constant S96x120 .f32 0x00000000#32)
  have r : FVec Ideal S96x120 .f32 := mulf o (broadcastTo S96x120 (divf (broadcast S1x120 vs : FVec Ideal S1x120 .f32) t) broadcasts_S1x120_S96x120)
  shapeCast S1x96x120 (truncf .bf16 r bitsLt_bf16_f32 : FVec Ideal S96x120 .bf16) shapeCasts_S96x120_S1x96x120

theorem formT_apply (k : Vec Ideal S1x1400x96 .fp8e4m3) (q : Vec Ideal S1x1x96x120 .fp8e4m3) (v : Vec Ideal S1x96x1400 .bf16) (c vs : Ideal .f32)
    (a : Fin 96) (l : Fin 120) :
    formT k q v c vs (ix3 0 a l) = attend (ι := Fin 1400) c vs
      (fun j => ∑ e : Fin 96, k (ix3 0 j e) * q (ix4 0 0 e l)) (fun j => v (ix3 0 a j)) := by
  unfold attend
  pointwise [formT]
  simp only [ofBits_bot]
  rfl

/-- One frame's scores at a place: the query times the key, summed down the columns. -/
def column (q k : Vec Ideal S1x1x96x128 .fp8e4m3) : FVec Ideal S1x128 .f32 :=
  shapeCast S1x128 (multiReduction .add [0] S128 (mulf (extf .f32 (shapeCast S96x128 q shapeCasts_S1x1x96x128_S96x128 : FVec Ideal S96x128 .fp8e4m3) bitsLt_fp8e4m3_f32 : FVec Ideal S96x128 .f32)
    (extf .f32 (shapeCast S96x128 k shapeCasts_S1x1x96x128_S96x128 : FVec Ideal S96x128 .fp8e4m3) bitsLt_fp8e4m3_f32 : FVec Ideal S96x128 .f32)) 0x00000000#32 reduces_S96x128_S128 (.inl rfl) rfl : FVec Ideal S128 .f32) shapeCasts_S128_S1x128

/-- The five frames' scores at a place. -/
def columns (q : Vec Ideal S1x1x96x128 .fp8e4m3) (kk : Fin 5 → Vec Ideal S1x1x96x128 .fp8e4m3) : FVec Ideal S5x128 .f32 :=
  concatenate S5x128 0 [⟨S1x128, column q (kk 0)⟩, ⟨S1x128, column q (kk 1)⟩, ⟨S1x128, column q (kk 2)⟩, ⟨S1x128, column q (kk 3)⟩,
    ⟨S1x128, column q (kk 4)⟩] concatenates_S1x128_S1x128_S1x128_S1x128_S1x128_S5x128_d0

theorem columns_apply (q : Vec Ideal S1x1x96x128 .fp8e4m3) (kk : Fin 5 → Vec Ideal S1x1x96x128 .fp8e4m3) (g : Fin 5) (l : Fin 128) :
    columns q kk (ix2 g l) = ∑ e : Fin 96, q (ix4 0 0 e l) * kk g (ix4 0 0 e l) := by
  fin_cases g <;> · pointwise [columns, column]

/-- One frame's term of the weighted sum of the values. -/
def valued (p : FVec Ideal S5x128 .f32) (o : Fin 2 → ℕ) (ho : S5x128.Slices o S1x128) (v : Vec Ideal S1x1x96x128 .fp8e4m3) : FVec Ideal S96x128 .f32 :=
  mulf (broadcastTo S96x128 (extractStridedSlice S1x128 o p ho : FVec Ideal S1x128 .f32) broadcasts_S1x128_S96x128)
    (extf .f32 (shapeCast S96x128 v shapeCasts_S1x1x96x128_S96x128 : FVec Ideal S96x128 .fp8e4m3) bitsLt_fp8e4m3_f32 : FVec Ideal S96x128 .f32)

/-- The order of the terms of the weighted sum. -/
theorem reorder (T p0 p1 p2 p3 p4 v0 v1 v2 v3 v4 D : EReal) :
    (T + p0 * v0 + p1 * v1 + p2 * v2 + p3 * v3 + p4 * v4) * D = (v0 * p0 + v1 * p1 + v2 * p2 + v3 * p3 + v4 * p4 + T) * D := by
  rw [mul_comm v0, mul_comm v1, mul_comm v2, mul_comm v3, mul_comm v4, add_comm _ T]
  simp only [add_assoc]

/-- Half a frame's queries against the same place of the five frames, and the text. -/
def formV (s1 : FVec Ideal S5x128 .f32) (k3 : Vec Ideal S1x120x96 .fp8e4m3) (q : Vec Ideal S1x1x96x128 .fp8e4m3)
    (vv : Fin 5 → Vec Ideal S1x1x96x128 .fp8e4m3) (v3 : Vec Ideal S1x96x120 .bf16) (c vs : Ideal .f32) : FVec Ideal S1x96x128 .bf16 :=
  have s1c : FVec Ideal S5x128 .f32 := mulf s1 (broadcast S5x128 c)
  have s3 : FVec Ideal S120x128 .f32 := mulf (matmul dot_S120x96_S96x128_S120x128_1_0_0_1_n_n none
    (shapeCast S120x96 k3 shapeCasts_S1x120x96_S120x96 : FVec Ideal S120x96 .fp8e4m3)
    (shapeCast S96x128 q shapeCasts_S1x1x96x128_S96x128 : FVec Ideal S96x128 .fp8e4m3) (constant S120x128 .f32 0x00000000#32)) (broadcast S120x128 c)
  have m1 : FVec Ideal S1x128 .f32 := shapeCast S1x128 (multiReduction .maximumf [0] S128 s1c 0xFF800000#32 reduces_S5x128_S128 (.inl rfl) rfl : FVec Ideal S128 .f32) shapeCasts_S128_S1x128
  have m3 : FVec Ideal S1x128 .f32 := shapeCast S1x128 (multiReduction .maximumf [0] S128 s3 0xFF800000#32 reduces_S120x128_S128 (.inl rfl) rfl : FVec Ideal S128 .f32) shapeCasts_S128_S1x128
  have m : FVec Ideal S1x128 .f32 := maximumf m1 m3
  have e1 : FVec Ideal S5x128 .f32 := exp2 (subf s1c (broadcastTo S5x128 m broadcasts_S1x128_S5x128))
  have e3 : FVec Ideal S120x128 .f32 := exp2 (subf s3 (broadcastTo S120x128 m broadcasts_S1x128_S120x128))
  have t1 : FVec Ideal S1x128 .f32 := shapeCast S1x128 (multiReduction .add [0] S128 e1 0x00000000#32 reduces_S5x128_S128 (.inl rfl) rfl : FVec Ideal S128 .f32) shapeCasts_S128_S1x128
  have t3 : FVec Ideal S1x128 .f32 := shapeCast S1x128 (multiReduction .add [0] S128 e3 0x00000000#32 reduces_S120x128_S128 (.inl rfl) rfl : FVec Ideal S128 .f32) shapeCasts_S128_S1x128
  have t : FVec Ideal S1x128 .f32 := addf t1 t3
  have o3 : FVec Ideal S96x128 .f32 := matmul dot_S96x120_S120x128_S96x128_1_0_0_1_n_n none (shapeCast S96x120 v3 shapeCasts_S1x96x120_S96x120 : FVec Ideal S96x120 .bf16)
    (truncf .bf16 e3 bitsLt_bf16_f32 : FVec Ideal S120x128 .bf16) (constant S96x128 .f32 0x00000000#32)
  have p : FVec Ideal S5x128 .f32 := extf .f32 (truncf .bf16 e1 bitsLt_bf16_f32 : FVec Ideal S5x128 .bf16) bitsLt_bf16_f32
  have o : FVec Ideal S96x128 .f32 := addf (addf (addf (addf (addf o3 (valued p ![0, 0] slices_S5x128_o0_0_S1x128 (vv 0))) (valued p ![1, 0] slices_S5x128_o1_0_S1x128 (vv 1)))
    (valued p ![2, 0] slices_S5x128_o2_0_S1x128 (vv 2))) (valued p ![3, 0] slices_S5x128_o3_0_S1x128 (vv 3))) (valued p ![4, 0] slices_S5x128_o4_0_S1x128 (vv 4))
  have r : FVec Ideal S96x128 .f32 := mulf o (broadcastTo S96x128 (divf (broadcast S1x128 vs : FVec Ideal S1x128 .f32) t) broadcasts_S1x128_S96x128)
  shapeCast S1x96x128 (truncf .bf16 r bitsLt_bf16_f32 : FVec Ideal S96x128 .bf16) shapeCasts_S96x128_S1x96x128

theorem formV_apply (s1 : FVec Ideal S5x128 .f32) (k3 : Vec Ideal S1x120x96 .fp8e4m3) (q : Vec Ideal S1x1x96x128 .fp8e4m3)
    (vv : Fin 5 → Vec Ideal S1x1x96x128 .fp8e4m3) (v3 : Vec Ideal S1x96x120 .bf16) (c vs : Ideal .f32) (a : Fin 96) (l : Fin 128) :
    formV s1 k3 q vv v3 c vs (ix3 0 a l) = attend (ι := Fin 5 ⊕ Fin 120) c vs
      (Sum.elim (fun g => s1 (ix2 g l)) fun k => ∑ e : Fin 96, k3 (ix3 0 k e) * q (ix4 0 0 e l))
      (Sum.elim (fun g => vv g (ix4 0 0 a l)) fun k => v3 (ix3 0 a k)) := by
  unfold attend
  simp only [Fintype.sum_sum_type, sup_sum, Sum.elim_inl, Sum.elim_inr]
  rw [Fin.sum_univ_five (fun g => _ * _)]
  pointwise [formV, valued]
  simp only [ofBits_bot]
  exact reorder _ _ _ _ _ _ _ _ _ _ _ _

/-- The same with the five frames' operands named one by one. -/
def formV5 (g0 g1 g2 g3 g4 : Vec Ideal S1x1x96x128 .fp8e4m3) (k3 : Vec Ideal S1x120x96 .fp8e4m3) (q : Vec Ideal S1x1x96x128 .fp8e4m3)
    (w0 w1 w2 w3 w4 : Vec Ideal S1x1x96x128 .fp8e4m3) (v3 : Vec Ideal S1x96x120 .bf16) (c vs : Ideal .f32) : FVec Ideal S1x96x128 .bf16 :=
  have s1c : FVec Ideal S5x128 .f32 := mulf (concatenate S5x128 0 [⟨S1x128, column q g0⟩, ⟨S1x128, column q g1⟩, ⟨S1x128, column q g2⟩, ⟨S1x128, column q g3⟩,
    ⟨S1x128, column q g4⟩] concatenates_S1x128_S1x128_S1x128_S1x128_S1x128_S5x128_d0) (broadcast S5x128 c)
  have s3 : FVec Ideal S120x128 .f32 := mulf (matmul dot_S120x96_S96x128_S120x128_1_0_0_1_n_n none
    (shapeCast S120x96 k3 shapeCasts_S1x120x96_S120x96 : FVec Ideal S120x96 .fp8e4m3)
    (shapeCast S96x128 q shapeCasts_S1x1x96x128_S96x128 : FVec Ideal S96x128 .fp8e4m3) (constant S120x128 .f32 0x00000000#32)) (broadcast S120x128 c)
  have m1 : FVec Ideal S1x128 .f32 := shapeCast S1x128 (multiReduction .maximumf [0] S128 s1c 0xFF800000#32 reduces_S5x128_S128 (.inl rfl) rfl : FVec Ideal S128 .f32) shapeCasts_S128_S1x128
  have m3 : FVec Ideal S1x128 .f32 := shapeCast S1x128 (multiReduction .maximumf [0] S128 s3 0xFF800000#32 reduces_S120x128_S128 (.inl rfl) rfl : FVec Ideal S128 .f32) shapeCasts_S128_S1x128
  have m : FVec Ideal S1x128 .f32 := maximumf m1 m3
  have e1 : FVec Ideal S5x128 .f32 := exp2 (subf s1c (broadcastTo S5x128 m broadcasts_S1x128_S5x128))
  have e3 : FVec Ideal S120x128 .f32 := exp2 (subf s3 (broadcastTo S120x128 m broadcasts_S1x128_S120x128))
  have t1 : FVec Ideal S1x128 .f32 := shapeCast S1x128 (multiReduction .add [0] S128 e1 0x00000000#32 reduces_S5x128_S128 (.inl rfl) rfl : FVec Ideal S128 .f32) shapeCasts_S128_S1x128
  have t3 : FVec Ideal S1x128 .f32 := shapeCast S1x128 (multiReduction .add [0] S128 e3 0x00000000#32 reduces_S120x128_S128 (.inl rfl) rfl : FVec Ideal S128 .f32) shapeCasts_S128_S1x128
  have t : FVec Ideal S1x128 .f32 := addf t1 t3
  have o3 : FVec Ideal S96x128 .f32 := matmul dot_S96x120_S120x128_S96x128_1_0_0_1_n_n none (shapeCast S96x120 v3 shapeCasts_S1x96x120_S96x120 : FVec Ideal S96x120 .bf16)
    (truncf .bf16 e3 bitsLt_bf16_f32 : FVec Ideal S120x128 .bf16) (constant S96x128 .f32 0x00000000#32)
  have p : FVec Ideal S5x128 .f32 := extf .f32 (truncf .bf16 e1 bitsLt_bf16_f32 : FVec Ideal S5x128 .bf16) bitsLt_bf16_f32
  have o : FVec Ideal S96x128 .f32 := addf (addf (addf (addf (addf o3 (valued p ![0, 0] slices_S5x128_o0_0_S1x128 w0)) (valued p ![1, 0] slices_S5x128_o1_0_S1x128 w1))
    (valued p ![2, 0] slices_S5x128_o2_0_S1x128 w2)) (valued p ![3, 0] slices_S5x128_o3_0_S1x128 w3)) (valued p ![4, 0] slices_S5x128_o4_0_S1x128 w4)
  have r : FVec Ideal S96x128 .f32 := mulf o (broadcastTo S96x128 (divf (broadcast S1x128 vs : FVec Ideal S1x128 .f32) t) broadcasts_S1x128_S96x128)
  shapeCast S1x96x128 (truncf .bf16 r bitsLt_bf16_f32 : FVec Ideal S96x128 .bf16) shapeCasts_S96x128_S1x96x128

theorem formV5_eq (g0 g1 g2 g3 g4 : Vec Ideal S1x1x96x128 .fp8e4m3) (k3 : Vec Ideal S1x120x96 .fp8e4m3) (q : Vec Ideal S1x1x96x128 .fp8e4m3)
    (w0 w1 w2 w3 w4 : Vec Ideal S1x1x96x128 .fp8e4m3) (v3 : Vec Ideal S1x96x120 .bf16) (c vs : Ideal .f32) :
    formV5 g0 g1 g2 g3 g4 k3 q w0 w1 w2 w3 w4 v3 c vs = formV (columns q ![g0, g1, g2, g3, g4]) k3 q ![w0, w1, w2, w3, w4] v3 c vs := rfl

end Cert.KernelIdeal.Forms
-- ==== Proof.Spec.lean ====
/- WHAT ONE HEAD COMPUTES: masked attention over the 1400 tokens of a sample (five frames of 256, then 120 tokens of text), and
   the kernel's lists of visible keys, block by block, as the mask. -/
module

public import proofs.«01_k».proof.Proof.Forms

@[expose] public section

set_option maxRecDepth 16384

noncomputable section

namespace Cert.KernelIdeal.Spec

open Idealize.ShloMosaic
open Cert.KernelIdeal Cert.KernelIdeal.Gen Cert.KernelIdeal.Forms Cert.Softmax
open scoped BigOperators Classical

/-- Which keys a query sees: the text sees and is seen by all; a spatial head sees its frame and the first, a temporal head its
    place in every frame. -/
def sees (spatial : Prop) (n k : Fin 1400) : Prop :=
  1280 ≤ n.val ∨ 1280 ≤ k.val ∨ (spatial ∧ (n.val / 256 = k.val / 256 ∨ k.val / 256 = 0)) ∨ (¬ spatial ∧ n.val % 256 = k.val % 256)

/-- The scale's constant, the root of the head's width inverted. -/
def root : EReal := (((Real.sqrt 96)⁻¹ : ℝ) : EReal)

/-- One element of one head's output. -/
def row (spatial : Prop) (c vs : EReal) (K Q V : Fin 96 → Fin 1400 → EReal) (d : Fin 96) (n : Fin 1400) : EReal :=
  dense (sees spatial n) c vs (fun k => ∑ e : Fin 96, K e k * Q e n) (V d)

/-- The first frame's keys and the text's. -/
def κ2 : Fin 256 ⊕ Fin 120 → Fin 1400 :=
  Sum.elim (fun k => ⟨k.val, by omega⟩) fun k => ⟨1280 + k.val, by omega⟩

/-- A frame's keys, the first frame's, the text's. -/
def κ3 (f : ℕ) (hf : f < 5) : (Fin 256 ⊕ Fin 256) ⊕ Fin 120 → Fin 1400 :=
  Sum.elim (Sum.elim (fun k => ⟨256 * f + k.val, by omega⟩) fun k => ⟨k.val, by omega⟩) fun k => ⟨1280 + k.val, by omega⟩

/-- A place's keys in the five frames, and the text's. -/
def κV (p : ℕ) (hp : p < 256) : Fin 5 ⊕ Fin 120 → Fin 1400 :=
  Sum.elim (fun g => ⟨256 * g.val + p, by omega⟩) fun k => ⟨1280 + k.val, by omega⟩

theorem κ2_inj : Function.Injective κ2 := by
  rintro (a | a) (b | b) h <;> have h := congrArg Fin.val h <;> simp only [κ2, Sum.elim_inl, Sum.elim_inr] at h
  · exact congrArg _ (Fin.ext h)
  · omega
  · omega
  · exact congrArg _ (Fin.ext (by omega))

theorem κ3_inj (f : ℕ) (hf : f < 5) (h0 : f ≠ 0) : Function.Injective (κ3 f hf) := by
  rintro ((a | a) | a) ((b | b) | b) h <;> have h := congrArg Fin.val h <;> simp only [κ3, Sum.elim_inl, Sum.elim_inr] at h <;>
    first
    | omega
    | exact congrArg _ (congrArg _ (Fin.ext (by omega)))
    | exact congrArg _ (Fin.ext (by omega))

theorem κV_inj (p : ℕ) (hp : p < 256) : Function.Injective (κV p hp) := by
  rintro (a | a) (b | b) h <;> have h := congrArg Fin.val h <;> simp only [κV, Sum.elim_inl, Sum.elim_inr] at h <;>
    first
    | omega
    | exact congrArg _ (Fin.ext (by omega))

theorem κ2_sees (n : Fin 1400) (hn : n.val < 256) (sp : Prop) (hs : sp) (k : Fin 1400) : sees sp n k ↔ ∃ i, κ2 i = k := by
  constructor
  · intro h
    by_cases hk : 1280 ≤ k.val
    · exact ⟨Sum.inr ⟨k.val - 1280, by omega⟩, Fin.ext (by simp only [κ2, Sum.elim_inr]; omega)⟩
    · refine ⟨Sum.inl ⟨k.val, ?_⟩, rfl⟩
      rcases h with h | h | ⟨_, h⟩ | ⟨h, _⟩
      · omega
      · omega
      · omega
      · exact absurd hs h
  · rintro ⟨i | i, rfl⟩
    · exact Or.inr (Or.inr (Or.inl ⟨hs, Or.inr (by simp only [κ2, Sum.elim_inl]; omega)⟩))
    · exact Or.inr (Or.inl (by simp only [κ2, Sum.elim_inr]; omega))

theorem κ3_sees (f : ℕ) (hf : f < 5) (n : Fin 1400) (hn : n.val / 256 = f) (hn' : n.val < 1280) (sp : Prop) (hs : sp) (k : Fin 1400) :
    sees sp n k ↔ ∃ i, κ3 f hf i = k := by
  constructor
  · intro h
    by_cases hk : 1280 ≤ k.val
    · exact ⟨Sum.inr ⟨k.val - 1280, by omega⟩, Fin.ext (by simp only [κ3, Sum.elim_inr]; omega)⟩
    · rcases h with h | h | ⟨_, h | h⟩ | ⟨h, _⟩
      · omega
      · omega
      · exact ⟨Sum.inl (Sum.inl ⟨k.val % 256, by omega⟩), Fin.ext (by simp only [κ3, Sum.elim_inl]; omega)⟩
      · exact ⟨Sum.inl (Sum.inr ⟨k.val, by omega⟩), rfl⟩
      · exact absurd hs h
  · rintro ⟨(i | i) | i, rfl⟩
    · exact Or.inr (Or.inr (Or.inl ⟨hs, Or.inl (by simp only [κ3, Sum.elim_inl]; omega)⟩))
    · exact Or.inr (Or.inr (Or.inl ⟨hs, Or.inr (by simp only [κ3, Sum.elim_inl, Sum.elim_inr]; omega)⟩))
    · exact Or.inr (Or.inl (by simp only [κ3, Sum.elim_inr]; omega))

theorem κV_sees (p : ℕ) (hp : p < 256) (n : Fin 1400) (hn : n.val % 256 = p) (hn' : n.val < 1280) (sp : Prop) (hs : ¬ sp) (k : Fin 1400) :
    sees sp n k ↔ ∃ i, κV p hp i = k := by
  constructor
  · intro h
    by_cases hk : 1280 ≤ k.val
    · exact ⟨Sum.inr ⟨k.val - 1280, by omega⟩, Fin.ext (by simp only [κV, Sum.elim_inr]; omega)⟩
    · rcases h with h | h | ⟨h, _⟩ | ⟨_, h⟩
      · omega
      · omega
      · exact absurd h hs
      · exact ⟨Sum.inl ⟨k.val / 256, by omega⟩, Fin.ext (by simp only [κV, Sum.elim_inl]; omega)⟩
  · rintro ⟨i | i, rfl⟩
    · exact Or.inr (Or.inr (Or.inr ⟨hs, by simp only [κV, Sum.elim_inl]; omega⟩))
    · exact Or.inr (Or.inl (by simp only [κV, Sum.elim_inr]; omega))

section Rows

variable (sp : Prop) (c vs : EReal) (K Q V : Fin 96 → Fin 1400 → EReal)

/-- The first frame's block of queries, from the blocks loaded. -/
theorem form2_row (k1 : Vec Ideal S1x256x96 .fp8e4m3) (k3 : Vec Ideal S1x120x96 .fp8e4m3) (q : Vec Ideal S1x1x96x256 .fp8e4m3)
    (v1 : Vec Ideal S1x96x256 .bf16) (v3 : Vec Ideal S1x96x120 .bf16) (hs : sp) (f : ℕ) (hf : f < 5) (h0 : f = 0)
    (hk1 : ∀ k e, k1 (ix3 0 k e) = K e ⟨k.val, by omega⟩) (hk3 : ∀ k e, k3 (ix3 0 k e) = K e ⟨1280 + k.val, by omega⟩)
    (hq : ∀ e l, q (ix4 0 0 e l) = Q e ⟨256 * f + l.val, by omega⟩) (hv1 : ∀ d k, v1 (ix3 0 d k) = V d ⟨k.val, by omega⟩)
    (hv3 : ∀ d k, v3 (ix3 0 d k) = V d ⟨1280 + k.val, by omega⟩) (a : Fin 96) (l : Fin 256) :
    form2 k1 k3 q v1 v3 (c * (L : EReal)) vs (ix3 0 a l) = row sp c vs K Q V a ⟨256 * f + l.val, by omega⟩ := by
  rw [form2_apply]
  refine Eq.trans ?_ (attend_eq_dense (sees sp ⟨256 * f + l.val, by omega⟩) c vs
    (fun k => ∑ e : Fin 96, K e k * Q e ⟨256 * f + l.val, by omega⟩) (V a) κ2 κ2_inj
    (κ2_sees _ (by simp only; omega) sp hs))
  congr 1
  · funext i
    rcases i with k | k
    · simp only [Sum.elim_inl, hk1, hq]; rfl
    · simp only [Sum.elim_inr, hk3, hq]; rfl
  · funext i
    rcases i with k | k
    · simp only [Sum.elim_inl, hv1]; rfl
    · simp only [Sum.elim_inr, hv3]; rfl

/-- A later frame's block of queries. -/
theorem form3_row (k1 k2 : Vec Ideal S1x256x96 .fp8e4m3) (k3 : Vec Ideal S1x120x96 .fp8e4m3) (q : Vec Ideal S1x1x96x256 .fp8e4m3)
    (v1 v2 : Vec Ideal S1x96x256 .bf16) (v3 : Vec Ideal S1x96x120 .bf16) (hs : sp) (f : ℕ) (hf : f < 5) (h0 : f ≠ 0)
    (hk1 : ∀ k e, k1 (ix3 0 k e) = K e ⟨256 * f + k.val, by omega⟩) (hk2 : ∀ k e, k2 (ix3 0 k e) = K e ⟨k.val, by omega⟩)
    (hk3 : ∀ k e, k3 (ix3 0 k e) = K e ⟨1280 + k.val, by omega⟩)
    (hq : ∀ e l, q (ix4 0 0 e l) = Q e ⟨256 * f + l.val, by omega⟩)
    (hv1 : ∀ d k, v1 (ix3 0 d k) = V d ⟨256 * f + k.val, by omega⟩) (hv2 : ∀ d k, v2 (ix3 0 d k) = V d ⟨k.val, by omega⟩)
    (hv3 : ∀ d k, v3 (ix3 0 d k) = V d ⟨1280 + k.val, by omega⟩) (a : Fin 96) (l : Fin 256) :
    form3 k1 k2 k3 q v1 v2 v3 (c * (L : EReal)) vs (ix3 0 a l) = row sp c vs K Q V a ⟨256 * f + l.val, by omega⟩ := by
  rw [form3_apply]
  refine Eq.trans ?_ (attend_eq_dense (sees sp ⟨256 * f + l.val, by omega⟩) c vs
    (fun k => ∑ e : Fin 96, K e k * Q e ⟨256 * f + l.val, by omega⟩) (V a) (κ3 f hf) (κ3_inj f hf h0)
    (κ3_sees f hf _ (by simp only; omega) (by simp only; omega) sp hs))
  congr 1
  · funext i
    rcases i with (k | k) | k
    · simp only [Sum.elim_inl, hk1, hq]; rfl
    · simp only [Sum.elim_inl, Sum.elim_inr, hk2, hq]; rfl
    · simp only [Sum.elim_inr, hk3, hq]; rfl
  · funext i
    rcases i with (k | k) | k
    · simp only [Sum.elim_inl, hv1]; rfl
    · simp only [Sum.elim_inl, Sum.elim_inr, hv2]; rfl
    · simp only [Sum.elim_inr, hv3]; rfl

/-- The text's queries. -/
theorem formT_row (k : Vec Ideal S1x1400x96 .fp8e4m3) (q : Vec Ideal S1x1x96x120 .fp8e4m3) (v : Vec Ideal S1x96x1400 .bf16)
    (hk : ∀ j e, k (ix3 0 j e) = K e j) (hq : ∀ e l, q (ix4 0 0 e l) = Q e ⟨1280 + l.val, by omega⟩)
    (hv : ∀ d j, v (ix3 0 d j) = V d j) (a : Fin 96) (l : Fin 120) :
    formT k q v (c * (L : EReal)) vs (ix3 0 a l) = row sp c vs K Q V a ⟨1280 + l.val, by omega⟩ := by
  rw [formT_apply]
  refine Eq.trans ?_ (attend_eq_dense (sees sp ⟨1280 + l.val, by omega⟩) c vs
    (fun k => ∑ e : Fin 96, K e k * Q e ⟨1280 + l.val, by omega⟩) (V a) id Function.injective_id
    fun k => ⟨fun _ => ⟨k, rfl⟩, fun _ => Or.inl (by simp only; omega)⟩)
  congr 1
  · funext i; simp only [hk, hq]; rfl
  · funext i; simp only [hv]; rfl

/-- Half a frame's queries of a temporal head. -/
theorem formV_row (kk : Fin 5 → Vec Ideal S1x1x96x128 .fp8e4m3) (k3 : Vec Ideal S1x120x96 .fp8e4m3) (q : Vec Ideal S1x1x96x128 .fp8e4m3)
    (vv : Fin 5 → Vec Ideal S1x1x96x128 .fp8e4m3) (v3 : Vec Ideal S1x96x120 .bf16) (hs : ¬ sp) (f t : ℕ) (hf : f < 5) (ht : t < 2)
    (hkk : ∀ g e l, kk g (ix4 0 0 e l) = K e ⟨256 * g.val + (128 * t + l.val), by omega⟩)
    (hk3 : ∀ k e, k3 (ix3 0 k e) = K e ⟨1280 + k.val, by omega⟩)
    (hq : ∀ e l, q (ix4 0 0 e l) = Q e ⟨256 * f + (128 * t + l.val), by omega⟩)
    (hvv : ∀ g d l, vv g (ix4 0 0 d l) = V d ⟨256 * g.val + (128 * t + l.val), by omega⟩)
    (hv3 : ∀ d k, v3 (ix3 0 d k) = V d ⟨1280 + k.val, by omega⟩) (a : Fin 96) (l : Fin 128) :
    formV (columns q kk) k3 q vv v3 (c * (L : EReal)) vs (ix3 0 a l)
      = row sp c vs K Q V a ⟨256 * f + (128 * t + l.val), by omega⟩ := by
  rw [formV_apply]
  refine Eq.trans ?_ (attend_eq_dense (sees sp ⟨256 * f + (128 * t + l.val), by omega⟩) c vs
    (fun k => ∑ e : Fin 96, K e k * Q e ⟨256 * f + (128 * t + l.val), by omega⟩) (V a) (κV (128 * t + l.val) (by omega)) (κV_inj _ _)
    (κV_sees _ _ _ (by simp only; omega) (by simp only; omega) sp hs))
  congr 1
  · funext i
    rcases i with g | k
    · simp only [Sum.elim_inl, columns_apply, hkk, hq]
      exact Finset.sum_congr rfl fun e _ => mul_comm _ _
    · simp only [Sum.elim_inr, hk3, hq]; rfl
  · funext i
    rcases i with k | k
    · simp only [Sum.elim_inl, hvv]; rfl
    · simp only [Sum.elim_inr, hv3]; rfl

/-- Half a frame's queries of a temporal head, the five frames' operands named one by one. -/
theorem formV5_row (g0 g1 g2 g3 g4 : Vec Ideal S1x1x96x128 .fp8e4m3) (k3 : Vec Ideal S1x120x96 .fp8e4m3) (q : Vec Ideal S1x1x96x128 .fp8e4m3)
    (w0 w1 w2 w3 w4 : Vec Ideal S1x1x96x128 .fp8e4m3) (v3 : Vec Ideal S1x96x120 .bf16) (hs : ¬ sp) (f t : ℕ) (hf : f < 5) (ht : t < 2)
    (hg0 : ∀ e l, g0 (ix4 0 0 e l) = K e ⟨256 * 0 + (128 * t + l.val), by omega⟩) (hg1 : ∀ e l, g1 (ix4 0 0 e l) = K e ⟨256 * 1 + (128 * t + l.val), by omega⟩) (hg2 : ∀ e l, g2 (ix4 0 0 e l) = K e ⟨256 * 2 + (128 * t + l.val), by omega⟩) (hg3 : ∀ e l, g3 (ix4 0 0 e l) = K e ⟨256 * 3 + (128 * t + l.val), by omega⟩) (hg4 : ∀ e l, g4 (ix4 0 0 e l) = K e ⟨256 * 4 + (128 * t + l.val), by omega⟩)
    (hk3 : ∀ k e, k3 (ix3 0 k e) = K e ⟨1280 + k.val, by omega⟩)
    (hq : ∀ e l, q (ix4 0 0 e l) = Q e ⟨256 * f + (128 * t + l.val), by omega⟩)
    (hw0 : ∀ e l, w0 (ix4 0 0 e l) = V e ⟨256 * 0 + (128 * t + l.val), by omega⟩) (hw1 : ∀ e l, w1 (ix4 0 0 e l) = V e ⟨256 * 1 + (128 * t + l.val), by omega⟩) (hw2 : ∀ e l, w2 (ix4 0 0 e l) = V e ⟨256 * 2 + (128 * t + l.val), by omega⟩) (hw3 : ∀ e l, w3 (ix4 0 0 e l) = V e ⟨256 * 3 + (128 * t + l.val), by omega⟩) (hw4 : ∀ e l, w4 (ix4 0 0 e l) = V e ⟨256 * 4 + (128 * t + l.val), by omega⟩)
    (hv3 : ∀ d k, v3 (ix3 0 d k) = V d ⟨1280 + k.val, by omega⟩) (a : Fin 96) (l : Fin 128) :
    formV5 g0 g1 g2 g3 g4 k3 q w0 w1 w2 w3 w4 v3 (c * (L : EReal)) vs (ix3 0 a l)
      = row sp c vs K Q V a ⟨256 * f + (128 * t + l.val), by omega⟩ := by
  rw [formV5_eq]
  exact formV_row sp c vs K Q V _ k3 q _ v3 hs f t hf ht
    (fun g => match g with | 0 => hg0 | 1 => hg1 | 2 => hg2 | 3 => hg3 | 4 => hg4) hk3 hq
    (fun g => match g with | 0 => hw0 | 1 => hw1 | 2 => hw2 | 3 => hw3 | 4 => hw4) hv3 a l

end Rows

/-- The kernel's factor on the scores is the reference's, in powers of two. -/
theorem pay5_eq (a b : Ideal .f32) : k0_pay5 (F := Ideal) a b = ((a * b * root : EReal) * (L : EReal) : EReal) := by
  show (a * b * (((Real.sqrt 96)⁻¹ * (Real.log 2)⁻¹ : ℝ) : EReal) : EReal) = _
  rw [EReal.coe_mul, ← mul_assoc]
  rfl

theorem pay64_eq (a b : Ideal .f32) : k0_pay64 (F := Ideal) a b = ((a * b * root : EReal) * (L : EReal) : EReal) := by
  show (a * b * (((Real.sqrt 96)⁻¹ * (Real.log 2)⁻¹ : ℝ) : EReal) : EReal) = _
  rw [EReal.coe_mul, ← mul_assoc]
  rfl

end Cert.KernelIdeal.Spec
-- ==== Proof.Reads.lean ====
/- READING a loaded block at an index, and a stored piece's place, with the rows' offsets in closed form. -/
module

public import proofs.«01_k».proof.Proof.Spec
public import Idealize.ShloMosaic.Lib.Writes

@[expose] public section

set_option maxRecDepth 16384

noncomputable section

namespace Cert.KernelIdeal.Reads

open Idealize.ShloMosaic
open Cert.KernelIdeal Cert.KernelIdeal.Gen Cert.KernelIdeal.Spec
open scoped BigOperators

/-- What head `j 0` of sample `b` leaves at row `j 1` and token `j 2`. -/
def G (sp : Fin 16 → Prop) (b : Fin 12) (x2 x3 x4 : S12x16.Idx → EReal) (qb kb vb : S1x16x96x1400.Idx → EReal)
    (j : S16x96x1400.Idx) : EReal :=
  row (sp (j 0)) (x2 (ix2 b (j 0)) * x3 (ix2 b (j 0)) * root) (x4 (ix2 b (j 0))) (fun e n => kb (ix4 0 (j 0) e n))
    (fun e n => qb (ix4 0 (j 0) e n)) (fun d n => vb (ix4 0 (j 0) d n)) (j 1) (j 2)

/-- A load reads the view at the offset plus the index. -/
theorem rd {κ : Kind} {space : Space} {s : Shape} {e : EltTy} (v : View sig κ space s e) (X : v.ty.Contents (Elt Ideal))
    {off size : Fin s.rank → ℕ} (inb : ∀ a, off a + size a ≤ s.size a) (x : (Rect.unit off size inb).toLoadRect.shape.Idx) (y : s.Idx)
    (hy : ∀ a, (y a).val = off a + (x a).val) :
    View.readAt (Elt Ideal) v (Rect.unit off size inb).toLoadRect X x = v.read (Elt Ideal) X y := by
  rw [View.readAt_apply]
  refine congrArg _ (funext fun a => Fin.ext ?_)
  show off a + 1 * (x a).val = (y a).val
  rw [hy a, Nat.one_mul]

section Three

variable {κ : Kind} {space : Space} {e : EltTy}

theorem inb9 {off : Fin 3 → ℕ} {n o : ℕ} (h : Fin 16) (hoff : off = ![h.val, o, 0]) (ho : o + n ≤ 1400) :
    ∀ a, off a + (![1, n, 96] : Fin 3 → ℕ) a ≤ S16x1400x96.size a := by
  subst hoff; intro a
  match a with
  | 0 => show h.val + 1 ≤ 16; omega
  | 1 => exact ho
  | 2 => exact le_refl _

theorem inb10 {off : Fin 3 → ℕ} {n o : ℕ} (h : Fin 16) (hoff : off = ![h.val, 0, o]) (ho : o + n ≤ 1400) :
    ∀ a, off a + (![1, 96, n] : Fin 3 → ℕ) a ≤ S16x96x1400.size a := by
  subst hoff; intro a
  match a with
  | 0 => show h.val + 1 ≤ 16; omega
  | 1 => exact le_refl _
  | 2 => exact ho

theorem inb5 {off : Fin 4 → ℕ} {n o : ℕ} (h : Fin 16) (hoff : off = ![0, h.val, 0, o]) (ho : o + n ≤ 1400) :
    ∀ a, off a + (![1, 1, 96, n] : Fin 4 → ℕ) a ≤ S1x16x96x1400.size a := by
  subst hoff; intro a
  match a with
  | 0 => exact le_refl _
  | 1 => show h.val + 1 ≤ 16; omega
  | 2 => exact le_refl _
  | 3 => exact ho

/-- A block of key rows. -/
theorem rd9 (v : View sig κ space S16x1400x96 e) (X : v.ty.Contents (Elt Ideal)) {off : Fin 3 → ℕ} {n o : ℕ}
    (inb : ∀ a, off a + (![1, n, 96] : Fin 3 → ℕ) a ≤ S16x1400x96.size a) (h : Fin 16) (hoff : off = ![h.val, o, 0])
    (k : Fin n) (c : Fin 96) (t : Fin 1400) (ht : t.val = o + k.val) :
    View.readAt (Elt Ideal) v (Rect.unit (s := S16x1400x96) off (![1, n, 96] : Fin 3 → ℕ) inb).toLoadRect X (ix3 0 k c) = v.read (Elt Ideal) X (ix3 h t c) := by
  subst hoff
  refine rd v X inb _ _ fun a => ?_
  match a with
  | 0 => rfl
  | 1 => exact ht
  | 2 => exact (Nat.zero_add _).symm

/-- A block of value columns. -/
theorem rd10 (v : View sig κ space S16x96x1400 e) (X : v.ty.Contents (Elt Ideal)) {off : Fin 3 → ℕ} {n o : ℕ}
    (inb : ∀ a, off a + (![1, 96, n] : Fin 3 → ℕ) a ≤ S16x96x1400.size a) (h : Fin 16) (hoff : off = ![h.val, 0, o])
    (d : Fin 96) (k : Fin n) (t : Fin 1400) (ht : t.val = o + k.val) :
    View.readAt (Elt Ideal) v (Rect.unit (s := S16x96x1400) off (![1, 96, n] : Fin 3 → ℕ) inb).toLoadRect X (ix3 0 d k) = v.read (Elt Ideal) X (ix3 h d t) := by
  subst hoff
  refine rd v X inb _ _ fun a => ?_
  match a with
  | 0 => rfl
  | 1 => exact (Nat.zero_add _).symm
  | 2 => exact ht

/-- A block of the operands as launched. -/
theorem rd5 (v : View sig κ space S1x16x96x1400 e) (X : v.ty.Contents (Elt Ideal)) {off : Fin 4 → ℕ} {n o : ℕ}
    (inb : ∀ a, off a + (![1, 1, 96, n] : Fin 4 → ℕ) a ≤ S1x16x96x1400.size a) (h : Fin 16) (hoff : off = ![0, h.val, 0, o])
    (d : Fin 96) (k : Fin n) (t : Fin 1400) (ht : t.val = o + k.val) :
    View.readAt (Elt Ideal) v (Rect.unit (s := S1x16x96x1400) off (![1, 1, 96, n] : Fin 4 → ℕ) inb).toLoadRect X (ix4 0 0 d k) = v.read (Elt Ideal) X (ix4 0 h d t) := by
  subst hoff
  refine rd v X inb _ _ fun a => ?_
  match a with
  | 0 => rfl
  | 1 => rfl
  | 2 => exact (Nat.zero_add _).symm
  | 3 => exact ht

/-- One word of a table. -/
theorem rdS (v : View sig κ space S12x16 e) (X : v.ty.Contents (Elt Ideal)) {off : Fin 2 → ℕ}
    (inb : ∀ a, off a + S1x1.size a ≤ S12x16.size a) (b : Fin 12) (h : Fin 16) (hoff : off = ![b.val, h.val])
    (x : S1x1.Idx) :
    View.readAt (Elt Ideal) v (Rect.unit (s := S12x16) off S1x1.size inb).toLoadRect X x = v.read (Elt Ideal) X (ix2 b h) := by
  subst hoff
  refine rd v X inb x _ fun a => ?_
  match a with
  | 0 => show b.val = b.val + (x 0).val; have : (x 0).val < 1 := (x 0).isLt; omega
  | 1 => show h.val = h.val + (x 1).val; have : (x 1).val < 1 := (x 1).isLt; omega

/-- Where a stored piece's element goes. -/
theorem emb10 {off : Fin 3 → ℕ} {n o : ℕ} (inb : ∀ a, off a + (![1, 96, n] : Fin 3 → ℕ) a ≤ S16x96x1400.size a) (h : Fin 16)
    (hoff : off = ![h.val, 0, o]) (x : (⟨3, ![1, 96, n]⟩ : Shape).Idx) (t : Fin 1400) (ht : t.val = o + (x 2).val) :
    (Rect.unit (s := S16x96x1400) off (![1, 96, n] : Fin 3 → ℕ) inb).emb x = ix3 h (x 1) t := by
  subst hoff
  refine funext fun a => Fin.ext ?_
  match a with
  | 0 => show h.val + 1 * (x 0).val = h.val; have : (x 0).val < 1 := (x 0).isLt; omega
  | 1 => show 0 + 1 * (x 1).val = (x 1).val; omega
  | 2 => show o + 1 * (x 2).val = t.val; omega

/-- A piece covers its rows' columns. -/
theorem mem10 {off : Fin 3 → ℕ} {n o : ℕ} (inb : ∀ a, off a + (![1, 96, n] : Fin 3 → ℕ) a ≤ S16x96x1400.size a) (h : Fin 16)
    (hoff : off = ![h.val, 0, o]) (j : S16x96x1400.Idx) (hj : j 0 = h) (h1 : o ≤ (j 2).val) (h2 : (j 2).val < o + n) :
    j ∈ (Rect.unit (s := S16x96x1400) off (![1, 96, n] : Fin 3 → ℕ) inb).set := by
  subst hoff
  rw [Rect.mem_set_unit]
  intro a
  match a with
  | 0 => rw [hj]; exact ⟨le_refl _, Nat.lt_succ_self _⟩
  | 1 => exact ⟨Nat.zero_le _, by show (j 1).val < 0 + 96; have : (j 1).val < 96 := (j 1).isLt; omega⟩
  | 2 => exact ⟨h1, h2⟩

/-- A stored piece agrees with a target when each of its elements does. -/
theorem piece {off : Fin 3 → ℕ} {n o : ℕ} (inb : ∀ a, off a + (![1, 96, n] : Fin 3 → ℕ) a ≤ S16x96x1400.size a) (h : Fin 16)
    (hoff : off = ![h.val, 0, o]) (p : (⟨3, ![1, 96, n]⟩ : Shape).Idx → EReal) (T : S16x96x1400.Idx → EReal)
    (τ : Fin n → Fin 1400) (hτ : ∀ l, (τ l).val = o + l.val) (hp : ∀ a l, p (ix3 0 a l) = T (ix3 h a (τ l)))
    (x : (⟨3, ![1, 96, n]⟩ : Shape).Idx) :
    p x = T ((Rect.unit (s := S16x96x1400) off (![1, 96, n] : Fin 3 → ℕ) inb).emb x) := by
  rw [emb10 inb h hoff x (τ (x 2)) (hτ (x 2))]
  refine Eq.trans (congrArg p ?_) (hp (x 1) (x 2))
  refine funext fun a => ?_
  match a with
  | 0 => exact Fin.ext (by show (x 0).val = 0; have : (x 0).val < 1 := (x 0).isLt; omega)
  | 1 => rfl
  | 2 => rfl

/-- A whole head of the keys' scratch agrees with a target when each of its elements does. -/
theorem piece9 {off : Fin 3 → ℕ} (inb : ∀ a, off a + (![1, 1400, 96] : Fin 3 → ℕ) a ≤ S16x1400x96.size a) (h : Fin 16)
    (hoff : off = ![h.val, 0, 0]) (p : (⟨3, ![1, 1400, 96]⟩ : Shape).Idx → EReal) (T : S16x1400x96.Idx → EReal)
    (hp : ∀ a l, p (ix3 0 a l) = T (ix3 h a l)) (x : (⟨3, ![1, 1400, 96]⟩ : Shape).Idx) :
    p x = T ((Rect.unit (s := S16x1400x96) off (![1, 1400, 96] : Fin 3 → ℕ) inb).emb x) := by
  subst hoff
  have e : (Rect.unit (s := S16x1400x96) ![h.val, 0, 0] (![1, 1400, 96] : Fin 3 → ℕ) inb).emb x = ix3 h (x 1) (x 2) := by
    refine funext fun a => Fin.ext ?_
    match a with
    | 0 => show h.val + 1 * (x 0).val = h.val; have : (x 0).val < 1 := (x 0).isLt; omega
    | 1 => show 0 + 1 * (x 1).val = (x 1).val; omega
    | 2 => show 0 + 1 * (x 2).val = (x 2).val; omega
  rw [e]
  refine Eq.trans (congrArg p ?_) (hp (x 1) (x 2))
  refine funext fun a => ?_
  match a with
  | 0 => exact Fin.ext (by show (x 0).val = 0; have : (x 0).val < 1 := (x 0).isLt; omega)
  | 1 => rfl
  | 2 => rfl

end Three

/-! ### The offsets -/

theorem off6 {w : BitVec 32} {h : Fin 16} (hw : w.toNat = h.val) : k0_off6 w = ![0, h.val, 0, 0] := by
  show ![0, w.toNat, 0, 0] = _; rw [hw]

theorem off7 {w : BitVec 32} {h : Fin 16} (hw : w.toNat = h.val) : k0_off7 w = ![h.val, 0, 0] := by
  show ![w.toNat, 0, 0] = _; rw [hw]

theorem off8 {w : BitVec 32} {h : Fin 16} (hw : w.toNat = h.val) : k0_off8 w = ![h.val, 1280, 0] := by
  show ![w.toNat, 1280, 0] = _; rw [hw]

theorem off9 {w : BitVec 32} {h : Fin 16} (hw : w.toNat = h.val) : k0_off9 w = ![h.val, 0, 0] := by
  show ![w.toNat, 0, 0] = _; rw [hw]

theorem off10 {w : BitVec 32} {h : Fin 16} (hw : w.toNat = h.val) : k0_off10 w = ![h.val, 0, 1280] := by
  show ![w.toNat, 0, 1280] = _; rw [hw]

theorem off11 {w : BitVec 32} {h : Fin 16} (hw : w.toNat = h.val) : k0_off11 w = ![0, h.val, 0, 256] := by
  show ![0, w.toNat, 0, 256] = _; rw [hw]

theorem off12 {w : BitVec 32} {h : Fin 16} (hw : w.toNat = h.val) : k0_off12 w = ![h.val, 256, 0] := by
  show ![w.toNat, 256, 0] = _; rw [hw]

theorem off13 {w : BitVec 32} {h : Fin 16} (hw : w.toNat = h.val) : k0_off13 w = ![h.val, 0, 256] := by
  show ![w.toNat, 0, 256] = _; rw [hw]

theorem off14 {w : BitVec 32} {h : Fin 16} (hw : w.toNat = h.val) : k0_off14 w = ![0, h.val, 0, 512] := by
  show ![0, w.toNat, 0, 512] = _; rw [hw]

theorem off15 {w : BitVec 32} {h : Fin 16} (hw : w.toNat = h.val) : k0_off15 w = ![h.val, 512, 0] := by
  show ![w.toNat, 512, 0] = _; rw [hw]

theorem off16 {w : BitVec 32} {h : Fin 16} (hw : w.toNat = h.val) : k0_off16 w = ![h.val, 0, 512] := by
  show ![w.toNat, 0, 512] = _; rw [hw]

theorem off17 {w : BitVec 32} {h : Fin 16} (hw : w.toNat = h.val) : k0_off17 w = ![0, h.val, 0, 768] := by
  show ![0, w.toNat, 0, 768] = _; rw [hw]

theorem off18 {w : BitVec 32} {h : Fin 16} (hw : w.toNat = h.val) : k0_off18 w = ![h.val, 768, 0] := by
  show ![w.toNat, 768, 0] = _; rw [hw]

theorem off19 {w : BitVec 32} {h : Fin 16} (hw : w.toNat = h.val) : k0_off19 w = ![h.val, 0, 768] := by
  show ![w.toNat, 0, 768] = _; rw [hw]

theorem off20 {w : BitVec 32} {h : Fin 16} (hw : w.toNat = h.val) : k0_off20 w = ![0, h.val, 0, 1024] := by
  show ![0, w.toNat, 0, 1024] = _; rw [hw]

theorem off21 {w : BitVec 32} {h : Fin 16} (hw : w.toNat = h.val) : k0_off21 w = ![h.val, 1024, 0] := by
  show ![w.toNat, 1024, 0] = _; rw [hw]

theorem off22 {w : BitVec 32} {h : Fin 16} (hw : w.toNat = h.val) : k0_off22 w = ![h.val, 0, 1024] := by
  show ![w.toNat, 0, 1024] = _; rw [hw]

theorem off23 {w : BitVec 32} {h : Fin 16} (hw : w.toNat = h.val) : k0_off23 w = ![h.val, 0, 0] := by
  show ![w.toNat, 0, 0] = _; rw [hw]

theorem off24 {w : BitVec 32} {h : Fin 16} (hw : w.toNat = h.val) : k0_off24 w = ![0, h.val, 0, 1280] := by
  show ![0, w.toNat, 0, 1280] = _; rw [hw]

theorem off25 {w : BitVec 32} {h : Fin 16} (hw : w.toNat = h.val) : k0_off25 w = ![h.val, 0, 0] := by
  show ![w.toNat, 0, 0] = _; rw [hw]

theorem off28 {w : BitVec 32} {h : Fin 16} (hw : w.toNat = h.val) : k0_off28 w = ![0, h.val, 0, 0] := by
  show ![0, w.toNat, 0, 0] = _; rw [hw]

theorem off29 {w : BitVec 32} {h : Fin 16} (hw : w.toNat = h.val) : k0_off29 w = ![0, h.val, 0, 256] := by
  show ![0, w.toNat, 0, 256] = _; rw [hw]

theorem off30 {w : BitVec 32} {h : Fin 16} (hw : w.toNat = h.val) : k0_off30 w = ![0, h.val, 0, 512] := by
  show ![0, w.toNat, 0, 512] = _; rw [hw]

theorem off31 {w : BitVec 32} {h : Fin 16} (hw : w.toNat = h.val) : k0_off31 w = ![0, h.val, 0, 768] := by
  show ![0, w.toNat, 0, 768] = _; rw [hw]

theorem off32 {w : BitVec 32} {h : Fin 16} (hw : w.toNat = h.val) : k0_off32 w = ![0, h.val, 0, 1024] := by
  show ![0, w.toNat, 0, 1024] = _; rw [hw]

theorem off33 {w : BitVec 32} {h : Fin 16} (hw : w.toNat = h.val) : k0_off33 w = ![h.val, 1280, 0] := by
  show ![w.toNat, 1280, 0] = _; rw [hw]

theorem off34 {w : BitVec 32} {h : Fin 16} (hw : w.toNat = h.val) : k0_off34 w = ![h.val, 0, 1280] := by
  show ![w.toNat, 0, 1280] = _; rw [hw]

theorem off35 {w : BitVec 32} {h : Fin 16} (hw : w.toNat = h.val) : k0_off35 w = ![h.val, 0, 0] := by
  show ![w.toNat, 0, 0] = _; rw [hw]

theorem off36 {w : BitVec 32} {h : Fin 16} (hw : w.toNat = h.val) : k0_off36 w = ![h.val, 0, 256] := by
  show ![w.toNat, 0, 256] = _; rw [hw]

theorem off37 {w : BitVec 32} {h : Fin 16} (hw : w.toNat = h.val) : k0_off37 w = ![h.val, 0, 512] := by
  show ![w.toNat, 0, 512] = _; rw [hw]

theorem off38 {w : BitVec 32} {h : Fin 16} (hw : w.toNat = h.val) : k0_off38 w = ![h.val, 0, 768] := by
  show ![w.toNat, 0, 768] = _; rw [hw]

theorem off39 {w : BitVec 32} {h : Fin 16} (hw : w.toNat = h.val) : k0_off39 w = ![h.val, 0, 1024] := by
  show ![w.toNat, 0, 1024] = _; rw [hw]

theorem off40 {w : BitVec 32} {h : Fin 16} (hw : w.toNat = h.val) : k0_off40 w = ![0, h.val, 0, 128] := by
  show ![0, w.toNat, 0, 128] = _; rw [hw]

theorem off41 {w : BitVec 32} {h : Fin 16} (hw : w.toNat = h.val) : k0_off41 w = ![0, h.val, 0, 384] := by
  show ![0, w.toNat, 0, 384] = _; rw [hw]

theorem off42 {w : BitVec 32} {h : Fin 16} (hw : w.toNat = h.val) : k0_off42 w = ![0, h.val, 0, 640] := by
  show ![0, w.toNat, 0, 640] = _; rw [hw]

theorem off43 {w : BitVec 32} {h : Fin 16} (hw : w.toNat = h.val) : k0_off43 w = ![0, h.val, 0, 896] := by
  show ![0, w.toNat, 0, 896] = _; rw [hw]

theorem off44 {w : BitVec 32} {h : Fin 16} (hw : w.toNat = h.val) : k0_off44 w = ![0, h.val, 0, 1152] := by
  show ![0, w.toNat, 0, 1152] = _; rw [hw]

theorem off45 {w : BitVec 32} {h : Fin 16} (hw : w.toNat = h.val) : k0_off45 w = ![h.val, 0, 128] := by
  show ![w.toNat, 0, 128] = _; rw [hw]

theorem off46 {w : BitVec 32} {h : Fin 16} (hw : w.toNat = h.val) : k0_off46 w = ![h.val, 0, 384] := by
  show ![w.toNat, 0, 384] = _; rw [hw]

theorem off47 {w : BitVec 32} {h : Fin 16} (hw : w.toNat = h.val) : k0_off47 w = ![h.val, 0, 640] := by
  show ![w.toNat, 0, 640] = _; rw [hw]

theorem off48 {w : BitVec 32} {h : Fin 16} (hw : w.toNat = h.val) : k0_off48 w = ![h.val, 0, 896] := by
  show ![w.toNat, 0, 896] = _; rw [hw]

theorem off49 {w : BitVec 32} {h : Fin 16} (hw : w.toNat = h.val) : k0_off49 w = ![h.val, 0, 1152] := by
  show ![w.toNat, 0, 1152] = _; rw [hw]

theorem off50 {w : BitVec 32} {h : Fin 16} (hw : w.toNat = h.val) : k0_off50 w = ![h.val, 0, 0] := by
  show ![w.toNat, 0, 0] = _; rw [hw]

theorem off51 {w : BitVec 32} {h : Fin 16} (hw : w.toNat = h.val) : k0_off51 w = ![0, h.val, 0, 1280] := by
  show ![0, w.toNat, 0, 1280] = _; rw [hw]

theorem off52 {w : BitVec 32} {h : Fin 16} (hw : w.toNat = h.val) : k0_off52 w = ![h.val, 0, 0] := by
  show ![w.toNat, 0, 0] = _; rw [hw]

theorem off5 (i : grid0.Coords) {w : BitVec 32} {h : Fin 16} (hw : w.toNat = h.val) : k0_off5 i w = ![(i 0).val, h.val] := by
  show ![(BitVec.ofNat 32 (i 0).val).toNat, w.toNat] = _
  rw [hw, BitVec.toNat_ofNat, Nat.mod_eq_of_lt (lt_trans (show (i 0).val < 12 from (i 0).isLt) (by decide))]

theorem off27 (i : grid0.Coords) {w : BitVec 32} {h : Fin 16} (hw : w.toNat = h.val) : k0_off27 i w = ![(i 0).val, h.val] := by
  show ![(BitVec.ofNat 32 (i 0).val).toNat, w.toNat] = _
  rw [hw, BitVec.toNat_ofNat, Nat.mod_eq_of_lt (lt_trans (show (i 0).val < 12 from (i 0).isLt) (by decide))]

end Cert.KernelIdeal.Reads
-- ==== Proof.KernelIdealStage.lean ====
/- WHAT loop 1 leaves: the keys transposed in one scratch, the values widened in the other. -/
module

public import proofs.«01_k».proof.Proof.Reads
public import proofs.«01_k».proof.Proof.Gen.KernelIdeal.Loops
public import Idealize.ShloMosaic.Lib.Pointwise

@[expose] public section

set_option maxRecDepth 16384

noncomputable section

namespace Cert.KernelIdeal.Hand

open Idealize.ShloMosaic
open Cert.KernelIdeal Cert.KernelIdeal.Gen Cert.KernelIdeal.Spec Cert.KernelIdeal.Reads
open Idealize.SL Idealize.SL.RA

theorem trips1 : k0_t1_loop.trips = 16 := by decide +kernel

section

variable (c : Dev nD) (i : grid0.Coords) (arg1 : Memref sig .tc .smem S12x16 .i32) (harg1 : arg1.IsWhole) (arg2 : Memref sig .tc .smem S12x16 .f32) (harg2 : arg2.IsWhole) (arg3 : Memref sig .tc .smem S12x16 .f32) (harg3 : arg3.IsWhole) (arg4 : Memref sig .tc .smem S12x16 .f32) (harg4 : arg4.IsWhole) (arg5 : Memref sig .tc .vmem S1x16x96x1400 .fp8e4m3) (harg5 : arg5.IsWhole) (arg6 : Memref sig .tc .vmem S1x16x96x1400 .fp8e4m3) (harg6 : arg6.IsWhole) (arg7 : Memref sig .tc .vmem S1x16x96x1400 .fp8e4m3) (harg7 : arg7.IsWhole) (arg8 : Memref sig .tc .vmem S1x1400x1536 .bf16) (harg8 : arg8.IsWhole) (arg9 : Memref sig .tc .vmem S16x1400x96 .fp8e4m3) (harg9 : arg9.IsWhole) (arg10 : Memref sig .tc .vmem S16x96x1400 .bf16) (harg10 : arg10.IsWhole) (arg11 : Memref sig .tc .vmem S16x96x1400 .bf16) (harg11 : arg11.IsWhole) (X6 : BufTy.Contents (Elt Ideal) arg6.view.ty) (X7 : BufTy.Contents (Elt Ideal) arg7.view.ty)

theorem mem_pb1 (n : ℕ) (hn : n ≤ k0_t1_loop.trips) :
    (∀ p ∈ (Gen.pb_k0_t1 (F := Ideal) Variants.none c none i arg1 harg1 arg2 harg2 arg3 harg3 arg4 harg4 arg5 harg5 arg6 harg6 arg7 harg7 arg8 harg8 arg9 harg9 arg10 harg10 arg11 harg11 X6 X7 n).1, ∃ k : Fin k0_t1_loop.trips, p ∈ (Gen.trip_k0_t1 (F := Ideal) Variants.none c none i arg1 harg1 arg2 harg2 arg3 harg3 arg4 harg4 arg5 harg5 arg6 harg6 arg7 harg7 arg8 harg8 arg9 harg9 arg10 harg10 arg11 harg11 X6 X7 k).1)
    ∧ (∀ p ∈ (Gen.pb_k0_t1 (F := Ideal) Variants.none c none i arg1 harg1 arg2 harg2 arg3 harg3 arg4 harg4 arg5 harg5 arg6 harg6 arg7 harg7 arg8 harg8 arg9 harg9 arg10 harg10 arg11 harg11 X6 X7 n).2, ∃ k : Fin k0_t1_loop.trips, p ∈ (Gen.trip_k0_t1 (F := Ideal) Variants.none c none i arg1 harg1 arg2 harg2 arg3 harg3 arg4 harg4 arg5 harg5 arg6 harg6 arg7 harg7 arg8 harg8 arg9 harg9 arg10 harg10 arg11 harg11 X6 X7 k).2.1) := by
  induction n with
  | zero => exact ⟨fun p hp => (List.not_mem_nil hp).elim, fun p hp => (List.not_mem_nil hp).elim⟩
  | succ n ih =>
    have e := pb_k0_t1_succ (F := Ideal) Variants.none c none i arg1 harg1 arg2 harg2 arg3 harg3 arg4 harg4 arg5 harg5 arg6 harg6 arg7 harg7 arg8 harg8 arg9 harg9 arg10 harg10 arg11 harg11 X6 X7 ⟨n, hn⟩
    rw [show n + 1 = (⟨n, hn⟩ : Fin k0_t1_loop.trips).val + 1 from rfl, e]
    refine ⟨fun p hp => ?_, fun p hp => ?_⟩
    · rcases List.mem_append.1 hp with hp | hp
      · exact ⟨_, hp⟩
      · exact (ih (by omega)).1 p hp
    · rcases List.mem_append.1 hp with hp | hp
      · exact ⟨_, hp⟩
      · exact (ih (by omega)).2 p hp

theorem pb1_mem (k : Fin k0_t1_loop.trips) (n : ℕ) (hk : k.val < n) (hn : n ≤ k0_t1_loop.trips) :
    (∀ p ∈ (Gen.trip_k0_t1 (F := Ideal) Variants.none c none i arg1 harg1 arg2 harg2 arg3 harg3 arg4 harg4 arg5 harg5 arg6 harg6 arg7 harg7 arg8 harg8 arg9 harg9 arg10 harg10 arg11 harg11 X6 X7 k).1, p ∈ (Gen.pb_k0_t1 (F := Ideal) Variants.none c none i arg1 harg1 arg2 harg2 arg3 harg3 arg4 harg4 arg5 harg5 arg6 harg6 arg7 harg7 arg8 harg8 arg9 harg9 arg10 harg10 arg11 harg11 X6 X7 n).1) ∧ (∀ p ∈ (Gen.trip_k0_t1 (F := Ideal) Variants.none c none i arg1 harg1 arg2 harg2 arg3 harg3 arg4 harg4 arg5 harg5 arg6 harg6 arg7 harg7 arg8 harg8 arg9 harg9 arg10 harg10 arg11 harg11 X6 X7 k).2.1, p ∈ (Gen.pb_k0_t1 (F := Ideal) Variants.none c none i arg1 harg1 arg2 harg2 arg3 harg3 arg4 harg4 arg5 harg5 arg6 harg6 arg7 harg7 arg8 harg8 arg9 harg9 arg10 harg10 arg11 harg11 X6 X7 n).2) := by
  induction n with
  | zero => omega
  | succ n ih =>
    have e := pb_k0_t1_succ (F := Ideal) Variants.none c none i arg1 harg1 arg2 harg2 arg3 harg3 arg4 harg4 arg5 harg5 arg6 harg6 arg7 harg7 arg8 harg8 arg9 harg9 arg10 harg10 arg11 harg11 X6 X7 ⟨n, hn⟩
    rw [show n + 1 = (⟨n, hn⟩ : Fin k0_t1_loop.trips).val + 1 from rfl, e]
    by_cases h : k.val = n
    · obtain rfl : k = ⟨n, hn⟩ := Fin.ext h
      exact ⟨fun p hp => List.mem_append_left _ hp, fun p hp => List.mem_append_left _ hp⟩
    · have := ih (by omega) (by omega)
      exact ⟨fun p hp => List.mem_append_right _ (this.1 p hp), fun p hp => List.mem_append_right _ (this.2 p hp)⟩

theorem pay182_apply (v : Vec Ideal S1x1x96x1400 .fp8e4m3) (a : Fin 1400) (b : Fin 96) :
    k0_pay182 (F := Ideal) v (ix3 0 a b) = v (ix4 0 0 b a) := by
  pointwise [k0_pay182]

theorem pay183_apply (v : Vec Ideal S1x1x96x1400 .fp8e4m3) (a : Fin 96) (b : Fin 1400) :
    k0_pay183 (F := Ideal) v (ix3 0 a b) = v (ix4 0 0 a b) := by
  pointwise [k0_pay183]

/-- A head of loop 1. -/
def head1 (k : Fin k0_t1_loop.trips) : Fin 16 := ⟨k.val, lt_of_lt_of_eq k.isLt trips1⟩

/-- The keys' scratch holds the keys transposed. -/
theorem keys_read (X9 : BufTy.Contents (Elt Ideal) arg9.view.ty) (h : Fin 16) (t : Fin 1400) (e : Fin 96) :
    arg9.view.read (Elt Ideal) (arg9.view.writes (Elt Ideal) X9 (Gen.pb_k0_t1 (F := Ideal) Variants.none c none i arg1 harg1 arg2 harg2 arg3 harg3 arg4 harg4 arg5 harg5 arg6 harg6 arg7 harg7 arg8 harg8 arg9 harg9 arg10 harg10 arg11 harg11 X6 X7 k0_t1_loop.trips).1) (ix3 h t e)
      = arg6.view.read (Elt Ideal) X6 (ix4 0 h e t) := by
  refine View.read_writes_apply_of_pieces arg9.view X9 (fun j : S16x1400x96.Idx => arg6.view.read (Elt Ideal) X6 (ix4 0 (j 0) (j 2) (j 1))) _ ?_ _ ?_
  · intro p hp x
    obtain ⟨k, hk⟩ := (mem_pb1 c i arg1 harg1 arg2 harg2 arg3 harg3 arg4 harg4 arg5 harg5 arg6 harg6 arg7 harg7 arg8 harg8 arg9 harg9 arg10 harg10 arg11 harg11 X6 X7 _ (le_refl _)).1 p hp
    unfold Gen.trip_k0_t1 at hk
    rcases List.mem_cons.1 hk with rfl | hk
    · refine piece9 (inb9 (head1 k) (k0_off2_eq k) (by decide)) (head1 k) (k0_off2_eq k) _
        (fun j : S16x1400x96.Idx => arg6.view.read (Elt Ideal) X6 (ix4 0 (j 0) (j 2) (j 1))) (fun a l => ?_) x
      refine (pay182_apply _ a l).trans ?_
      exact rd5 arg6.view X6 _ (head1 k) (k0_off1_eq k) l a _ (Nat.zero_add _).symm
    · cases hk
  · have hm := (pb1_mem c i arg1 harg1 arg2 harg2 arg3 harg3 arg4 harg4 arg5 harg5 arg6 harg6 arg7 harg7 arg8 harg8 arg9 harg9 arg10 harg10 arg11 harg11 X6 X7 ⟨h.val, by rw [trips1]; exact h.isLt⟩ _ (Fin.isLt _) (le_refl _)).1
    unfold Gen.trip_k0_t1 at hm
    refine ⟨_, hm _ List.mem_cons_self, ?_⟩
    rw [Rect.mem_set_unit, k0_off2_eq]
    intro a
    match a with
    | 0 => exact ⟨le_refl _, Nat.lt_succ_self _⟩
    | 1 => exact ⟨Nat.zero_le _, by show t.val < 0 + 1400; omega⟩
    | 2 => exact ⟨Nat.zero_le _, by show e.val < 0 + 96; omega⟩

/-- The values' scratch holds the values. -/
theorem values_read (X10 : BufTy.Contents (Elt Ideal) arg10.view.ty) (h : Fin 16) (d : Fin 96) (t : Fin 1400) :
    arg10.view.read (Elt Ideal) (arg10.view.writes (Elt Ideal) X10 (Gen.pb_k0_t1 (F := Ideal) Variants.none c none i arg1 harg1 arg2 harg2 arg3 harg3 arg4 harg4 arg5 harg5 arg6 harg6 arg7 harg7 arg8 harg8 arg9 harg9 arg10 harg10 arg11 harg11 X6 X7 k0_t1_loop.trips).2) (ix3 h d t)
      = arg7.view.read (Elt Ideal) X7 (ix4 0 h d t) := by
  refine View.read_writes_apply_of_pieces arg10.view X10 (fun j : S16x96x1400.Idx => arg7.view.read (Elt Ideal) X7 (ix4 0 (j 0) (j 1) (j 2))) _ ?_ _ ?_
  · intro p hp x
    obtain ⟨k, hk⟩ := (mem_pb1 c i arg1 harg1 arg2 harg2 arg3 harg3 arg4 harg4 arg5 harg5 arg6 harg6 arg7 harg7 arg8 harg8 arg9 harg9 arg10 harg10 arg11 harg11 X6 X7 _ (le_refl _)).2 p hp
    unfold Gen.trip_k0_t1 at hk
    rcases List.mem_cons.1 hk with rfl | hk
    · refine piece (n := 1400) (o := 0) (inb10 (head1 k) (k0_off3_eq k) (by decide)) (head1 k) (k0_off3_eq k) _
        (fun j : S16x96x1400.Idx => arg7.view.read (Elt Ideal) X7 (ix4 0 (j 0) (j 1) (j 2))) id (fun l => (Nat.zero_add _).symm) (fun a l => ?_) x
      refine Eq.trans (pay183_apply (View.readAt (Elt Ideal) arg7.view (Rect.unit (s := S1x16x96x1400) (k0_off1 k) S1x1x96x1400.size (k0_off1_inb k)).toLoadRect X7) a l) ?_
      exact rd5 arg7.view X7 _ (head1 k) (k0_off1_eq k) a l _ (Nat.zero_add _).symm
    · cases hk
  · have hm := (pb1_mem c i arg1 harg1 arg2 harg2 arg3 harg3 arg4 harg4 arg5 harg5 arg6 harg6 arg7 harg7 arg8 harg8 arg9 harg9 arg10 harg10 arg11 harg11 X6 X7 ⟨h.val, by rw [trips1]; exact h.isLt⟩ _ (Fin.isLt _) (le_refl _)).2
    unfold Gen.trip_k0_t1 at hm
    exact ⟨_, hm _ List.mem_cons_self, mem10 (n := 1400) (o := 0) (inb10 h (k0_off3_eq _) (by decide)) h (k0_off3_eq _) _ rfl (Nat.zero_le _) (by show t.val < 0 + 1400; omega)⟩

end

end Cert.KernelIdeal.Hand
-- ==== Proof.KernelIdealValue2.lean ====
/- THE VALUE of one trip of loop 2: each piece it stores is its head's rows of the attention, and together the pieces are
   every row of that head. -/
module

public import proofs.«01_k».proof.Proof.Reads
public import proofs.«01_k».proof.Proof.KernelIdealTrip2

@[expose] public section

set_option maxRecDepth 16384
set_option maxHeartbeats 4000000

noncomputable section

namespace Cert.KernelIdeal.Hand

open Idealize.ShloMosaic
open Cert.KernelIdeal Cert.KernelIdeal.Gen Cert.KernelIdeal.Spec Cert.KernelIdeal.Forms Cert.KernelIdeal.Reads
open Cert.Softmax (L)
open Idealize.SL Idealize.SL.RA

/-- Each piece a trip stores is its head's rows. -/
theorem trip2_agrees (c : Dev nD) (q : PosShare TreeShare) (i : grid0.Coords) (arg1 : Memref sig .tc .smem S12x16 .i32) (harg1 : arg1.IsWhole) (arg2 : Memref sig .tc .smem S12x16 .f32) (harg2 : arg2.IsWhole) (arg3 : Memref sig .tc .smem S12x16 .f32) (harg3 : arg3.IsWhole) (arg4 : Memref sig .tc .smem S12x16 .f32) (harg4 : arg4.IsWhole) (arg5 : Memref sig .tc .vmem S1x16x96x1400 .fp8e4m3) (harg5 : arg5.IsWhole) (arg6 : Memref sig .tc .vmem S1x16x96x1400 .fp8e4m3) (harg6 : arg6.IsWhole) (arg7 : Memref sig .tc .vmem S1x16x96x1400 .fp8e4m3) (harg7 : arg7.IsWhole) (arg8 : Memref sig .tc .vmem S1x1400x1536 .bf16) (harg8 : arg8.IsWhole) (arg9 : Memref sig .tc .vmem S16x1400x96 .fp8e4m3) (harg9 : arg9.IsWhole) (arg10 : Memref sig .tc .vmem S16x96x1400 .bf16) (harg10 : arg10.IsWhole) (arg11 : Memref sig .tc .vmem S16x96x1400 .bf16) (harg11 : arg11.IsWhole) (X1 : BufTy.Contents (Elt Ideal) arg1.view.ty) (X2 : BufTy.Contents (Elt Ideal) arg2.view.ty) (X3 : BufTy.Contents (Elt Ideal) arg3.view.ty) (X4 : BufTy.Contents (Elt Ideal) arg4.view.ty) (X5 : BufTy.Contents (Elt Ideal) arg5.view.ty) (X9 : BufTy.Contents (Elt Ideal) arg9.view.ty) (X10 : BufTy.Contents (Elt Ideal) arg10.view.ty)
    (k : Fin k0_t2_loop.trips) (hw : ∀ x, k0_chk1 i (View.readAt (Elt Ideal) arg1.view (Rect.unit (s := S12x16) (k0_off4 i k) S1x1.size (k0_off4_inb i k)).toLoadRect X1 x))
    (h : Fin 16) (hh : (trip2.sl.r i arg1 X1 k).toNat = h.val)
    (sp : Fin 16 → Prop) (hs : sp h) (kb vb : S1x16x96x1400.Idx → EReal)
    (H9 : ∀ h t e, arg9.view.read (Elt Ideal) X9 (ix3 h t e) = kb (ix4 0 h e t))
    (H10 : ∀ h d t, arg10.view.read (Elt Ideal) X10 (ix3 h d t) = vb (ix4 0 h d t))
    (p : View.Piece (Elt Ideal) S16x96x1400 .bf16)
    (hp : p ∈ (trip2 (F := Ideal) c q i arg1 harg1 arg2 harg2 arg3 harg3 arg4 harg4 arg5 harg5 arg6 harg6 arg7 harg7 arg8 harg8 arg9 harg9 arg10 harg10 arg11 harg11 X1 X2 X3 X4 X5 X9 X10 k hw).1) :
    ∀ x : p.1.shape.Idx, p.2 x = G sp (i 0) (arg2.view.read (Elt Ideal) X2) (arg3.view.read (Elt Ideal) X3) (arg4.view.read (Elt Ideal) X4)
      (arg5.view.read (Elt Ideal) X5) kb vb (p.1.emb x) := by
  have e1 : trip2.sl.r_1 i arg1 arg2 X1 X2 k hw = arg2.view.read (Elt Ideal) X2 (ix2 (i 0) h) := rdS arg2.view X2 _ (i 0) h (off5 i hh) _
  have e2 : trip2.sl.r_2 i arg1 arg3 X1 X3 k hw = arg3.view.read (Elt Ideal) X3 (ix2 (i 0) h) := rdS arg3.view X3 _ (i 0) h (off5 i hh) _
  have ev : trip2.sl.r_3 i arg1 arg4 X1 X4 k hw = arg4.view.read (Elt Ideal) X4 (ix2 (i 0) h) := rdS arg4.view X4 _ (i 0) h (off5 i hh) _
  have ec : Gen.k0_pay5 (F := Ideal) (trip2.sl.r_1 i arg1 arg2 X1 X2 k hw) (trip2.sl.r_2 i arg1 arg3 X1 X3 k hw)
      = ((arg2.view.read (Elt Ideal) X2 (ix2 (i 0) h) * arg3.view.read (Elt Ideal) X3 (ix2 (i 0) h) * root) * (L : EReal) : EReal) := by
    rw [e1, e2]; exact pay5_eq _ _
  unfold trip2 at hp
  rcases List.mem_cons.1 hp with rfl | hp
  · refine piece (n := 120) (o := 1280) (inb10 h (off10 hh) (by decide)) h (off10 hh) _ _ (fun l => ⟨1280 + l.val, by omega⟩) (fun l => (by first | rfl | omega | (dsimp only; omega))) fun a l => ?_
    refine (congrArg₂ (fun c v => formT (View.readAt (Elt Ideal) arg9.view (Rect.unit (s := S16x1400x96) (k0_off23 (trip2.sl.r i arg1 X1 k)) S1x1400x96.size (inb9 h (off23 hh) (by decide))).toLoadRect X9) (View.readAt (Elt Ideal) arg5.view (Rect.unit (s := S1x16x96x1400) (k0_off24 (trip2.sl.r i arg1 X1 k)) S1x1x96x120.size (inb5 h (off24 hh) (by decide))).toLoadRect X5) (View.readAt (Elt Ideal) arg10.view (Rect.unit (s := S16x96x1400) (k0_off25 (trip2.sl.r i arg1 X1 k)) S1x96x1400.size (inb10 h (off25 hh) (by decide))).toLoadRect X10) c v (ix3 0 a l)) ec ev).trans ?_
    exact formT_row _ _ _ _ _ _ _ _ _ (fun j e => (rd9 arg9.view X9 _ h (off23 hh) j e _ (by first | rfl | omega | (dsimp only; omega))).trans (H9 h _ e)) (fun e l => rd5 arg5.view X5 _ h (off24 hh) e l _ rfl) (fun d j => (rd10 arg10.view X10 _ h (off25 hh) d j _ (by first | rfl | omega | (dsimp only; omega))).trans (H10 h d _)) a l
  rcases List.mem_cons.1 hp with rfl | hp
  · refine piece (n := 256) (o := 1024) (inb10 h (off22 hh) (by decide)) h (off22 hh) _ _ (fun l => ⟨256 * 4 + l.val, by omega⟩) (fun l => (by first | rfl | omega | (dsimp only; omega))) fun a l => ?_
    refine (congrArg₂ (fun c v => form3 (View.readAt (Elt Ideal) arg9.view (Rect.unit (s := S16x1400x96) (k0_off21 (trip2.sl.r i arg1 X1 k)) S1x256x96.size (inb9 h (off21 hh) (by decide))).toLoadRect X9) (View.readAt (Elt Ideal) arg9.view (Rect.unit (s := S16x1400x96) (k0_off7 (trip2.sl.r i arg1 X1 k)) S1x256x96.size (inb9 h (off7 hh) (by decide))).toLoadRect X9) (View.readAt (Elt Ideal) arg9.view (Rect.unit (s := S16x1400x96) (k0_off8 (trip2.sl.r i arg1 X1 k)) S1x120x96.size (inb9 h (off8 hh) (by decide))).toLoadRect X9) (View.readAt (Elt Ideal) arg5.view (Rect.unit (s := S1x16x96x1400) (k0_off20 (trip2.sl.r i arg1 X1 k)) S1x1x96x256.size (inb5 h (off20 hh) (by decide))).toLoadRect X5) (View.readAt (Elt Ideal) arg10.view (Rect.unit (s := S16x96x1400) (k0_off22 (trip2.sl.r i arg1 X1 k)) S1x96x256.size (inb10 h (off22 hh) (by decide))).toLoadRect X10) (View.readAt (Elt Ideal) arg10.view (Rect.unit (s := S16x96x1400) (k0_off9 (trip2.sl.r i arg1 X1 k)) S1x96x256.size (inb10 h (off9 hh) (by decide))).toLoadRect X10) (View.readAt (Elt Ideal) arg10.view (Rect.unit (s := S16x96x1400) (k0_off10 (trip2.sl.r i arg1 X1 k)) S1x96x120.size (inb10 h (off10 hh) (by decide))).toLoadRect X10) c v (ix3 0 a l)) ec ev).trans ?_
    exact form3_row _ _ _ _ _ _ _ _ _ _ _ _ _ hs 4 (by decide) (by decide) (fun j e => (rd9 arg9.view X9 _ h (off21 hh) j e _ rfl).trans (H9 h _ e)) (fun j e => (rd9 arg9.view X9 _ h (off7 hh) j e _ (by first | rfl | omega | (dsimp only; omega))).trans (H9 h _ e)) (fun j e => (rd9 arg9.view X9 _ h (off8 hh) j e _ rfl).trans (H9 h _ e)) (fun e l => rd5 arg5.view X5 _ h (off20 hh) e l _ rfl) (fun d j => (rd10 arg10.view X10 _ h (off22 hh) d j _ rfl).trans (H10 h d _)) (fun d j => (rd10 arg10.view X10 _ h (off9 hh) d j _ (by first | rfl | omega | (dsimp only; omega))).trans (H10 h d _)) (fun d j => (rd10 arg10.view X10 _ h (off10 hh) d j _ rfl).trans (H10 h d _)) a l
  rcases List.mem_cons.1 hp with rfl | hp
  · refine piece (n := 256) (o := 768) (inb10 h (off19 hh) (by decide)) h (off19 hh) _ _ (fun l => ⟨256 * 3 + l.val, by omega⟩) (fun l => (by first | rfl | omega | (dsimp only; omega))) fun a l => ?_
    refine (congrArg₂ (fun c v => form3 (View.readAt (Elt Ideal) arg9.view (Rect.unit (s := S16x1400x96) (k0_off18 (trip2.sl.r i arg1 X1 k)) S1x256x96.size (inb9 h (off18 hh) (by decide))).toLoadRect X9) (View.readAt (Elt Ideal) arg9.view (Rect.unit (s := S16x1400x96) (k0_off7 (trip2.sl.r i arg1 X1 k)) S1x256x96.size (inb9 h (off7 hh) (by decide))).toLoadRect X9) (View.readAt (Elt Ideal) arg9.view (Rect.unit (s := S16x1400x96) (k0_off8 (trip2.sl.r i arg1 X1 k)) S1x120x96.size (inb9 h (off8 hh) (by decide))).toLoadRect X9) (View.readAt (Elt Ideal) arg5.view (Rect.unit (s := S1x16x96x1400) (k0_off17 (trip2.sl.r i arg1 X1 k)) S1x1x96x256.size (inb5 h (off17 hh) (by decide))).toLoadRect X5) (View.readAt (Elt Ideal) arg10.view (Rect.unit (s := S16x96x1400) (k0_off19 (trip2.sl.r i arg1 X1 k)) S1x96x256.size (inb10 h (off19 hh) (by decide))).toLoadRect X10) (View.readAt (Elt Ideal) arg10.view (Rect.unit (s := S16x96x1400) (k0_off9 (trip2.sl.r i arg1 X1 k)) S1x96x256.size (inb10 h (off9 hh) (by decide))).toLoadRect X10) (View.readAt (Elt Ideal) arg10.view (Rect.unit (s := S16x96x1400) (k0_off10 (trip2.sl.r i arg1 X1 k)) S1x96x120.size (inb10 h (off10 hh) (by decide))).toLoadRect X10) c v (ix3 0 a l)) ec ev).trans ?_
    exact form3_row _ _ _ _ _ _ _ _ _ _ _ _ _ hs 3 (by decide) (by decide) (fun j e => (rd9 arg9.view X9 _ h (off18 hh) j e _ rfl).trans (H9 h _ e)) (fun j e => (rd9 arg9.view X9 _ h (off7 hh) j e _ (by first | rfl | omega | (dsimp only; omega))).trans (H9 h _ e)) (fun j e => (rd9 arg9.view X9 _ h (off8 hh) j e _ rfl).trans (H9 h _ e)) (fun e l => rd5 arg5.view X5 _ h (off17 hh) e l _ rfl) (fun d j => (rd10 arg10.view X10 _ h (off19 hh) d j _ rfl).trans (H10 h d _)) (fun d j => (rd10 arg10.view X10 _ h (off9 hh) d j _ (by first | rfl | omega | (dsimp only; omega))).trans (H10 h d _)) (fun d j => (rd10 arg10.view X10 _ h (off10 hh) d j _ rfl).trans (H10 h d _)) a l
  rcases List.mem_cons.1 hp with rfl | hp
  · refine piece (n := 256) (o := 512) (inb10 h (off16 hh) (by decide)) h (off16 hh) _ _ (fun l => ⟨256 * 2 + l.val, by omega⟩) (fun l => (by first | rfl | omega | (dsimp only; omega))) fun a l => ?_
    refine (congrArg₂ (fun c v => form3 (View.readAt (Elt Ideal) arg9.view (Rect.unit (s := S16x1400x96) (k0_off15 (trip2.sl.r i arg1 X1 k)) S1x256x96.size (inb9 h (off15 hh) (by decide))).toLoadRect X9) (View.readAt (Elt Ideal) arg9.view (Rect.unit (s := S16x1400x96) (k0_off7 (trip2.sl.r i arg1 X1 k)) S1x256x96.size (inb9 h (off7 hh) (by decide))).toLoadRect X9) (View.readAt (Elt Ideal) arg9.view (Rect.unit (s := S16x1400x96) (k0_off8 (trip2.sl.r i arg1 X1 k)) S1x120x96.size (inb9 h (off8 hh) (by decide))).toLoadRect X9) (View.readAt (Elt Ideal) arg5.view (Rect.unit (s := S1x16x96x1400) (k0_off14 (trip2.sl.r i arg1 X1 k)) S1x1x96x256.size (inb5 h (off14 hh) (by decide))).toLoadRect X5) (View.readAt (Elt Ideal) arg10.view (Rect.unit (s := S16x96x1400) (k0_off16 (trip2.sl.r i arg1 X1 k)) S1x96x256.size (inb10 h (off16 hh) (by decide))).toLoadRect X10) (View.readAt (Elt Ideal) arg10.view (Rect.unit (s := S16x96x1400) (k0_off9 (trip2.sl.r i arg1 X1 k)) S1x96x256.size (inb10 h (off9 hh) (by decide))).toLoadRect X10) (View.readAt (Elt Ideal) arg10.view (Rect.unit (s := S16x96x1400) (k0_off10 (trip2.sl.r i arg1 X1 k)) S1x96x120.size (inb10 h (off10 hh) (by decide))).toLoadRect X10) c v (ix3 0 a l)) ec ev).trans ?_
    exact form3_row _ _ _ _ _ _ _ _ _ _ _ _ _ hs 2 (by decide) (by decide) (fun j e => (rd9 arg9.view X9 _ h (off15 hh) j e _ rfl).trans (H9 h _ e)) (fun j e => (rd9 arg9.view X9 _ h (off7 hh) j e _ (by first | rfl | omega | (dsimp only; omega))).trans (H9 h _ e)) (fun j e => (rd9 arg9.view X9 _ h (off8 hh) j e _ rfl).trans (H9 h _ e)) (fun e l => rd5 arg5.view X5 _ h (off14 hh) e l _ rfl) (fun d j => (rd10 arg10.view X10 _ h (off16 hh) d j _ rfl).trans (H10 h d _)) (fun d j => (rd10 arg10.view X10 _ h (off9 hh) d j _ (by first | rfl | omega | (dsimp only; omega))).trans (H10 h d _)) (fun d j => (rd10 arg10.view X10 _ h (off10 hh) d j _ rfl).trans (H10 h d _)) a l
  rcases List.mem_cons.1 hp with rfl | hp
  · refine piece (n := 256) (o := 256) (inb10 h (off13 hh) (by decide)) h (off13 hh) _ _ (fun l => ⟨256 * 1 + l.val, by omega⟩) (fun l => (by first | rfl | omega | (dsimp only; omega))) fun a l => ?_
    refine (congrArg₂ (fun c v => form3 (View.readAt (Elt Ideal) arg9.view (Rect.unit (s := S16x1400x96) (k0_off12 (trip2.sl.r i arg1 X1 k)) S1x256x96.size (inb9 h (off12 hh) (by decide))).toLoadRect X9) (View.readAt (Elt Ideal) arg9.view (Rect.unit (s := S16x1400x96) (k0_off7 (trip2.sl.r i arg1 X1 k)) S1x256x96.size (inb9 h (off7 hh) (by decide))).toLoadRect X9) (View.readAt (Elt Ideal) arg9.view (Rect.unit (s := S16x1400x96) (k0_off8 (trip2.sl.r i arg1 X1 k)) S1x120x96.size (inb9 h (off8 hh) (by decide))).toLoadRect X9) (View.readAt (Elt Ideal) arg5.view (Rect.unit (s := S1x16x96x1400) (k0_off11 (trip2.sl.r i arg1 X1 k)) S1x1x96x256.size (inb5 h (off11 hh) (by decide))).toLoadRect X5) (View.readAt (Elt Ideal) arg10.view (Rect.unit (s := S16x96x1400) (k0_off13 (trip2.sl.r i arg1 X1 k)) S1x96x256.size (inb10 h (off13 hh) (by decide))).toLoadRect X10) (View.readAt (Elt Ideal) arg10.view (Rect.unit (s := S16x96x1400) (k0_off9 (trip2.sl.r i arg1 X1 k)) S1x96x256.size (inb10 h (off9 hh) (by decide))).toLoadRect X10) (View.readAt (Elt Ideal) arg10.view (Rect.unit (s := S16x96x1400) (k0_off10 (trip2.sl.r i arg1 X1 k)) S1x96x120.size (inb10 h (off10 hh) (by decide))).toLoadRect X10) c v (ix3 0 a l)) ec ev).trans ?_
    exact form3_row _ _ _ _ _ _ _ _ _ _ _ _ _ hs 1 (by decide) (by decide) (fun j e => (rd9 arg9.view X9 _ h (off12 hh) j e _ rfl).trans (H9 h _ e)) (fun j e => (rd9 arg9.view X9 _ h (off7 hh) j e _ (by first | rfl | omega | (dsimp only; omega))).trans (H9 h _ e)) (fun j e => (rd9 arg9.view X9 _ h (off8 hh) j e _ rfl).trans (H9 h _ e)) (fun e l => rd5 arg5.view X5 _ h (off11 hh) e l _ rfl) (fun d j => (rd10 arg10.view X10 _ h (off13 hh) d j _ rfl).trans (H10 h d _)) (fun d j => (rd10 arg10.view X10 _ h (off9 hh) d j _ (by first | rfl | omega | (dsimp only; omega))).trans (H10 h d _)) (fun d j => (rd10 arg10.view X10 _ h (off10 hh) d j _ rfl).trans (H10 h d _)) a l
  rcases List.mem_cons.1 hp with rfl | hp
  · refine piece (n := 256) (o := 0) (inb10 h (off9 hh) (by decide)) h (off9 hh) _ _ (fun l => ⟨256 * 0 + l.val, by omega⟩) (fun l => (by first | rfl | omega | (dsimp only; omega))) fun a l => ?_
    refine (congrArg₂ (fun c v => form2 (View.readAt (Elt Ideal) arg9.view (Rect.unit (s := S16x1400x96) (k0_off7 (trip2.sl.r i arg1 X1 k)) S1x256x96.size (inb9 h (off7 hh) (by decide))).toLoadRect X9) (View.readAt (Elt Ideal) arg9.view (Rect.unit (s := S16x1400x96) (k0_off8 (trip2.sl.r i arg1 X1 k)) S1x120x96.size (inb9 h (off8 hh) (by decide))).toLoadRect X9) (View.readAt (Elt Ideal) arg5.view (Rect.unit (s := S1x16x96x1400) (k0_off6 (trip2.sl.r i arg1 X1 k)) S1x1x96x256.size (inb5 h (off6 hh) (by decide))).toLoadRect X5) (View.readAt (Elt Ideal) arg10.view (Rect.unit (s := S16x96x1400) (k0_off9 (trip2.sl.r i arg1 X1 k)) S1x96x256.size (inb10 h (off9 hh) (by decide))).toLoadRect X10) (View.readAt (Elt Ideal) arg10.view (Rect.unit (s := S16x96x1400) (k0_off10 (trip2.sl.r i arg1 X1 k)) S1x96x120.size (inb10 h (off10 hh) (by decide))).toLoadRect X10) c v (ix3 0 a l)) ec ev).trans ?_
    exact form2_row _ _ _ _ _ _ _ _ _ _ _ hs 0 (by decide) rfl (fun j e => (rd9 arg9.view X9 _ h (off7 hh) j e _ (by first | rfl | omega | (dsimp only; omega))).trans (H9 h _ e)) (fun j e => (rd9 arg9.view X9 _ h (off8 hh) j e _ rfl).trans (H9 h _ e)) (fun e l => rd5 arg5.view X5 _ h (off6 hh) e l _ (by first | rfl | omega | (dsimp only; omega))) (fun d j => (rd10 arg10.view X10 _ h (off9 hh) d j _ (by first | rfl | omega | (dsimp only; omega))).trans (H10 h d _)) (fun d j => (rd10 arg10.view X10 _ h (off10 hh) d j _ rfl).trans (H10 h d _)) a l
  cases hp

/-- Together the pieces are every row of the head. -/
theorem trip2_covers (c : Dev nD) (q : PosShare TreeShare) (i : grid0.Coords) (arg1 : Memref sig .tc .smem S12x16 .i32) (harg1 : arg1.IsWhole) (arg2 : Memref sig .tc .smem S12x16 .f32) (harg2 : arg2.IsWhole) (arg3 : Memref sig .tc .smem S12x16 .f32) (harg3 : arg3.IsWhole) (arg4 : Memref sig .tc .smem S12x16 .f32) (harg4 : arg4.IsWhole) (arg5 : Memref sig .tc .vmem S1x16x96x1400 .fp8e4m3) (harg5 : arg5.IsWhole) (arg6 : Memref sig .tc .vmem S1x16x96x1400 .fp8e4m3) (harg6 : arg6.IsWhole) (arg7 : Memref sig .tc .vmem S1x16x96x1400 .fp8e4m3) (harg7 : arg7.IsWhole) (arg8 : Memref sig .tc .vmem S1x1400x1536 .bf16) (harg8 : arg8.IsWhole) (arg9 : Memref sig .tc .vmem S16x1400x96 .fp8e4m3) (harg9 : arg9.IsWhole) (arg10 : Memref sig .tc .vmem S16x96x1400 .bf16) (harg10 : arg10.IsWhole) (arg11 : Memref sig .tc .vmem S16x96x1400 .bf16) (harg11 : arg11.IsWhole) (X1 : BufTy.Contents (Elt Ideal) arg1.view.ty) (X2 : BufTy.Contents (Elt Ideal) arg2.view.ty) (X3 : BufTy.Contents (Elt Ideal) arg3.view.ty) (X4 : BufTy.Contents (Elt Ideal) arg4.view.ty) (X5 : BufTy.Contents (Elt Ideal) arg5.view.ty) (X9 : BufTy.Contents (Elt Ideal) arg9.view.ty) (X10 : BufTy.Contents (Elt Ideal) arg10.view.ty)
    (k : Fin k0_t2_loop.trips) (hw : ∀ x, k0_chk1 i (View.readAt (Elt Ideal) arg1.view (Rect.unit (s := S12x16) (k0_off4 i k) S1x1.size (k0_off4_inb i k)).toLoadRect X1 x))
    (h : Fin 16) (hh : (trip2.sl.r i arg1 X1 k).toNat = h.val)
    (j : S16x96x1400.Idx) (hj : j 0 = h) : ∃ p ∈ (trip2 (F := Ideal) c q i arg1 harg1 arg2 harg2 arg3 harg3 arg4 harg4 arg5 harg5 arg6 harg6 arg7 harg7 arg8 harg8 arg9 harg9 arg10 harg10 arg11 harg11 X1 X2 X3 X4 X5 X9 X10 k hw).1, j ∈ p.1.set := by
  have hlt : (j 2).val < 1400 := (j 2).isLt
  unfold trip2
  by_cases h0 : (j 2).val < 256
  · exact ⟨_, List.mem_cons_of_mem _ (List.mem_cons_of_mem _ (List.mem_cons_of_mem _ (List.mem_cons_of_mem _ (List.mem_cons_of_mem _ (List.mem_cons_self))))), mem10 (n := 256) (o := 0) (inb10 h (off9 hh) (by decide)) h (off9 hh) j hj (by omega) (by omega)⟩
  by_cases h256 : (j 2).val < 512
  · exact ⟨_, List.mem_cons_of_mem _ (List.mem_cons_of_mem _ (List.mem_cons_of_mem _ (List.mem_cons_of_mem _ (List.mem_cons_self)))), mem10 (n := 256) (o := 256) (inb10 h (off13 hh) (by decide)) h (off13 hh) j hj (by omega) (by omega)⟩
  by_cases h512 : (j 2).val < 768
  · exact ⟨_, List.mem_cons_of_mem _ (List.mem_cons_of_mem _ (List.mem_cons_of_mem _ (List.mem_cons_self))), mem10 (n := 256) (o := 512) (inb10 h (off16 hh) (by decide)) h (off16 hh) j hj (by omega) (by omega)⟩
  by_cases h768 : (j 2).val < 1024
  · exact ⟨_, List.mem_cons_of_mem _ (List.mem_cons_of_mem _ (List.mem_cons_self)), mem10 (n := 256) (o := 768) (inb10 h (off19 hh) (by decide)) h (off19 hh) j hj (by omega) (by omega)⟩
  by_cases h1024 : (j 2).val < 1280
  · exact ⟨_, List.mem_cons_of_mem _ (List.mem_cons_self), mem10 (n := 256) (o := 1024) (inb10 h (off22 hh) (by decide)) h (off22 hh) j hj (by omega) (by omega)⟩
  exact ⟨_, List.mem_cons_self, mem10 (n := 120) (o := 1280) (inb10 h (off10 hh) (by decide)) h (off10 hh) j hj (by omega) (by omega)⟩

end Cert.KernelIdeal.Hand
-- ==== Proof.KernelIdealValue3.lean ====
/- THE VALUE of one trip of loop 3: each piece it stores is its head's rows of the attention, and together the pieces are
   every row of that head. -/
module

public import proofs.«01_k».proof.Proof.Reads
public import proofs.«01_k».proof.Proof.KernelIdealTrip3

@[expose] public section

set_option maxRecDepth 16384
set_option maxHeartbeats 4000000

noncomputable section

namespace Cert.KernelIdeal.Hand

open Idealize.ShloMosaic
open Cert.KernelIdeal Cert.KernelIdeal.Gen Cert.KernelIdeal.Spec Cert.KernelIdeal.Forms Cert.KernelIdeal.Reads
open Cert.Softmax (L)
open Idealize.SL Idealize.SL.RA

/-- Each piece a trip stores is its head's rows. -/
theorem trip3_agrees (c : Dev nD) (q : PosShare TreeShare) (i : grid0.Coords) (arg1 : Memref sig .tc .smem S12x16 .i32) (harg1 : arg1.IsWhole) (arg2 : Memref sig .tc .smem S12x16 .f32) (harg2 : arg2.IsWhole) (arg3 : Memref sig .tc .smem S12x16 .f32) (harg3 : arg3.IsWhole) (arg4 : Memref sig .tc .smem S12x16 .f32) (harg4 : arg4.IsWhole) (arg5 : Memref sig .tc .vmem S1x16x96x1400 .fp8e4m3) (harg5 : arg5.IsWhole) (arg6 : Memref sig .tc .vmem S1x16x96x1400 .fp8e4m3) (harg6 : arg6.IsWhole) (arg7 : Memref sig .tc .vmem S1x16x96x1400 .fp8e4m3) (harg7 : arg7.IsWhole) (arg8 : Memref sig .tc .vmem S1x1400x1536 .bf16) (harg8 : arg8.IsWhole) (arg9 : Memref sig .tc .vmem S16x1400x96 .fp8e4m3) (harg9 : arg9.IsWhole) (arg10 : Memref sig .tc .vmem S16x96x1400 .bf16) (harg10 : arg10.IsWhole) (arg11 : Memref sig .tc .vmem S16x96x1400 .bf16) (harg11 : arg11.IsWhole) (X1 : BufTy.Contents (Elt Ideal) arg1.view.ty) (X2 : BufTy.Contents (Elt Ideal) arg2.view.ty) (X3 : BufTy.Contents (Elt Ideal) arg3.view.ty) (X4 : BufTy.Contents (Elt Ideal) arg4.view.ty) (X5 : BufTy.Contents (Elt Ideal) arg5.view.ty) (X6 : BufTy.Contents (Elt Ideal) arg6.view.ty) (X7 : BufTy.Contents (Elt Ideal) arg7.view.ty) (X9 : BufTy.Contents (Elt Ideal) arg9.view.ty) (X10 : BufTy.Contents (Elt Ideal) arg10.view.ty)
    (k : Fin k0_t3_loop.trips) (hw : ∀ x, k0_chk2 i (View.readAt (Elt Ideal) arg1.view (Rect.unit (s := S12x16) (k0_off26 i k) S1x1.size (k0_off26_inb i k)).toLoadRect X1 x))
    (h : Fin 16) (hh : (trip3.sl.r i arg1 X1 k).toNat = h.val)
    (sp : Fin 16 → Prop) (hs : ¬ sp h) (kb vb : S1x16x96x1400.Idx → EReal)
    (H9 : ∀ h t e, arg9.view.read (Elt Ideal) X9 (ix3 h t e) = kb (ix4 0 h e t))
    (H10 : ∀ h d t, arg10.view.read (Elt Ideal) X10 (ix3 h d t) = vb (ix4 0 h d t))
    (H6 : ∀ j, arg6.view.read (Elt Ideal) X6 j = kb j) (H7 : ∀ j, arg7.view.read (Elt Ideal) X7 j = vb j)
    (p : View.Piece (Elt Ideal) S16x96x1400 .bf16)
    (hp : p ∈ (trip3 (F := Ideal) c q i arg1 harg1 arg2 harg2 arg3 harg3 arg4 harg4 arg5 harg5 arg6 harg6 arg7 harg7 arg8 harg8 arg9 harg9 arg10 harg10 arg11 harg11 X1 X2 X3 X4 X5 X6 X7 X9 X10 k hw).1) :
    ∀ x : p.1.shape.Idx, p.2 x = G sp (i 0) (arg2.view.read (Elt Ideal) X2) (arg3.view.read (Elt Ideal) X3) (arg4.view.read (Elt Ideal) X4)
      (arg5.view.read (Elt Ideal) X5) kb vb (p.1.emb x) := by
  have e1 : trip3.sl.r_1 i arg1 arg2 X1 X2 k hw = arg2.view.read (Elt Ideal) X2 (ix2 (i 0) h) := rdS arg2.view X2 _ (i 0) h (off27 i hh) _
  have e2 : trip3.sl.r_2 i arg1 arg3 X1 X3 k hw = arg3.view.read (Elt Ideal) X3 (ix2 (i 0) h) := rdS arg3.view X3 _ (i 0) h (off27 i hh) _
  have ev : trip3.sl.r_3 i arg1 arg4 X1 X4 k hw = arg4.view.read (Elt Ideal) X4 (ix2 (i 0) h) := rdS arg4.view X4 _ (i 0) h (off27 i hh) _
  have ec : Gen.k0_pay64 (F := Ideal) (trip3.sl.r_1 i arg1 arg2 X1 X2 k hw) (trip3.sl.r_2 i arg1 arg3 X1 X3 k hw)
      = ((arg2.view.read (Elt Ideal) X2 (ix2 (i 0) h) * arg3.view.read (Elt Ideal) X3 (ix2 (i 0) h) * root) * (L : EReal) : EReal) := by
    rw [e1, e2]; exact pay64_eq _ _
  unfold trip3 at hp
  rcases List.mem_cons.1 hp with rfl | hp
  · refine piece (n := 120) (o := 1280) (inb10 h (off34 hh) (by decide)) h (off34 hh) _ _ (fun l => ⟨1280 + l.val, by omega⟩) (fun l => (by first | rfl | omega | (dsimp only; omega))) fun a l => ?_
    refine (congrArg₂ (fun c v => formT (View.readAt (Elt Ideal) arg9.view (Rect.unit (s := S16x1400x96) (k0_off50 (trip3.sl.r i arg1 X1 k)) S1x1400x96.size (inb9 h (off50 hh) (by decide))).toLoadRect X9) (View.readAt (Elt Ideal) arg5.view (Rect.unit (s := S1x16x96x1400) (k0_off51 (trip3.sl.r i arg1 X1 k)) S1x1x96x120.size (inb5 h (off51 hh) (by decide))).toLoadRect X5) (View.readAt (Elt Ideal) arg10.view (Rect.unit (s := S16x96x1400) (k0_off52 (trip3.sl.r i arg1 X1 k)) S1x96x1400.size (inb10 h (off52 hh) (by decide))).toLoadRect X10) c v (ix3 0 a l)) ec ev).trans ?_
    exact formT_row _ _ _ _ _ _ _ _ _ (fun j e => (rd9 arg9.view X9 _ h (off50 hh) j e _ (by first | rfl | omega | (dsimp only; omega))).trans (H9 h _ e)) (fun e l => rd5 arg5.view X5 _ h (off51 hh) e l _ rfl) (fun d j => (rd10 arg10.view X10 _ h (off52 hh) d j _ (by first | rfl | omega | (dsimp only; omega))).trans (H10 h d _)) a l
  rcases List.mem_cons.1 hp with rfl | hp
  · refine piece (n := 128) (o := 1152) (inb10 h (off49 hh) (by decide)) h (off49 hh) _ _ (fun l => ⟨256 * 4 + (128 * 1 + l.val), by omega⟩) (fun l => (by first | rfl | omega | (dsimp only; omega))) fun a l => ?_
    refine (congrArg₂ (fun c v => formV5 (View.readAt (Elt Ideal) arg6.view (Rect.unit (s := S1x16x96x1400) (k0_off40 (trip3.sl.r i arg1 X1 k)) S1x1x96x128.size (inb5 h (off40 hh) (by decide))).toLoadRect X6) (View.readAt (Elt Ideal) arg6.view (Rect.unit (s := S1x16x96x1400) (k0_off41 (trip3.sl.r i arg1 X1 k)) S1x1x96x128.size (inb5 h (off41 hh) (by decide))).toLoadRect X6) (View.readAt (Elt Ideal) arg6.view (Rect.unit (s := S1x16x96x1400) (k0_off42 (trip3.sl.r i arg1 X1 k)) S1x1x96x128.size (inb5 h (off42 hh) (by decide))).toLoadRect X6) (View.readAt (Elt Ideal) arg6.view (Rect.unit (s := S1x16x96x1400) (k0_off43 (trip3.sl.r i arg1 X1 k)) S1x1x96x128.size (inb5 h (off43 hh) (by decide))).toLoadRect X6) (View.readAt (Elt Ideal) arg6.view (Rect.unit (s := S1x16x96x1400) (k0_off44 (trip3.sl.r i arg1 X1 k)) S1x1x96x128.size (inb5 h (off44 hh) (by decide))).toLoadRect X6) (View.readAt (Elt Ideal) arg9.view (Rect.unit (s := S16x1400x96) (k0_off33 (trip3.sl.r i arg1 X1 k)) S1x120x96.size (inb9 h (off33 hh) (by decide))).toLoadRect X9) (View.readAt (Elt Ideal) arg5.view (Rect.unit (s := S1x16x96x1400) (k0_off44 (trip3.sl.r i arg1 X1 k)) S1x1x96x128.size (inb5 h (off44 hh) (by decide))).toLoadRect X5) (View.readAt (Elt Ideal) arg7.view (Rect.unit (s := S1x16x96x1400) (k0_off40 (trip3.sl.r i arg1 X1 k)) S1x1x96x128.size (inb5 h (off40 hh) (by decide))).toLoadRect X7) (View.readAt (Elt Ideal) arg7.view (Rect.unit (s := S1x16x96x1400) (k0_off41 (trip3.sl.r i arg1 X1 k)) S1x1x96x128.size (inb5 h (off41 hh) (by decide))).toLoadRect X7) (View.readAt (Elt Ideal) arg7.view (Rect.unit (s := S1x16x96x1400) (k0_off42 (trip3.sl.r i arg1 X1 k)) S1x1x96x128.size (inb5 h (off42 hh) (by decide))).toLoadRect X7) (View.readAt (Elt Ideal) arg7.view (Rect.unit (s := S1x16x96x1400) (k0_off43 (trip3.sl.r i arg1 X1 k)) S1x1x96x128.size (inb5 h (off43 hh) (by decide))).toLoadRect X7) (View.readAt (Elt Ideal) arg7.view (Rect.unit (s := S1x16x96x1400) (k0_off44 (trip3.sl.r i arg1 X1 k)) S1x1x96x128.size (inb5 h (off44 hh) (by decide))).toLoadRect X7) (View.readAt (Elt Ideal) arg10.view (Rect.unit (s := S16x96x1400) (k0_off34 (trip3.sl.r i arg1 X1 k)) S1x96x120.size (inb10 h (off34 hh) (by decide))).toLoadRect X10) c v (ix3 0 a l)) ec ev).trans ?_
    exact formV5_row _ _ _ _ _ _ _ _ _ _ _ _ _ _ _ _ _ _ _ hs 4 1 (by decide) (by decide) (fun e l => (rd5 arg6.view X6 _ h (off40 hh) e l ⟨256 * 0 + (128 * 1 + l.val), by omega⟩ (by dsimp only; omega)).trans (H6 _)) (fun e l => (rd5 arg6.view X6 _ h (off41 hh) e l ⟨256 * 1 + (128 * 1 + l.val), by omega⟩ (by dsimp only; omega)).trans (H6 _)) (fun e l => (rd5 arg6.view X6 _ h (off42 hh) e l ⟨256 * 2 + (128 * 1 + l.val), by omega⟩ (by dsimp only; omega)).trans (H6 _)) (fun e l => (rd5 arg6.view X6 _ h (off43 hh) e l ⟨256 * 3 + (128 * 1 + l.val), by omega⟩ (by dsimp only; omega)).trans (H6 _)) (fun e l => (rd5 arg6.view X6 _ h (off44 hh) e l ⟨256 * 4 + (128 * 1 + l.val), by omega⟩ (by dsimp only; omega)).trans (H6 _)) (fun j e => (rd9 arg9.view X9 _ h (off33 hh) j e _ rfl).trans (H9 h _ e)) (fun e l => rd5 arg5.view X5 _ h (off44 hh) e l _ (by first | rfl | omega | (dsimp only; omega))) (fun e l => (rd5 arg7.view X7 _ h (off40 hh) e l ⟨256 * 0 + (128 * 1 + l.val), by omega⟩ (by dsimp only; omega)).trans (H7 _)) (fun e l => (rd5 arg7.view X7 _ h (off41 hh) e l ⟨256 * 1 + (128 * 1 + l.val), by omega⟩ (by dsimp only; omega)).trans (H7 _)) (fun e l => (rd5 arg7.view X7 _ h (off42 hh) e l ⟨256 * 2 + (128 * 1 + l.val), by omega⟩ (by dsimp only; omega)).trans (H7 _)) (fun e l => (rd5 arg7.view X7 _ h (off43 hh) e l ⟨256 * 3 + (128 * 1 + l.val), by omega⟩ (by dsimp only; omega)).trans (H7 _)) (fun e l => (rd5 arg7.view X7 _ h (off44 hh) e l ⟨256 * 4 + (128 * 1 + l.val), by omega⟩ (by dsimp only; omega)).trans (H7 _)) (fun d j => (rd10 arg10.view X10 _ h (off34 hh) d j _ rfl).trans (H10 h d _)) a l
  rcases List.mem_cons.1 hp with rfl | hp
  · refine piece (n := 128) (o := 896) (inb10 h (off48 hh) (by decide)) h (off48 hh) _ _ (fun l => ⟨256 * 3 + (128 * 1 + l.val), by omega⟩) (fun l => (by first | rfl | omega | (dsimp only; omega))) fun a l => ?_
    refine (congrArg₂ (fun c v => formV5 (View.readAt (Elt Ideal) arg6.view (Rect.unit (s := S1x16x96x1400) (k0_off40 (trip3.sl.r i arg1 X1 k)) S1x1x96x128.size (inb5 h (off40 hh) (by decide))).toLoadRect X6) (View.readAt (Elt Ideal) arg6.view (Rect.unit (s := S1x16x96x1400) (k0_off41 (trip3.sl.r i arg1 X1 k)) S1x1x96x128.size (inb5 h (off41 hh) (by decide))).toLoadRect X6) (View.readAt (Elt Ideal) arg6.view (Rect.unit (s := S1x16x96x1400) (k0_off42 (trip3.sl.r i arg1 X1 k)) S1x1x96x128.size (inb5 h (off42 hh) (by decide))).toLoadRect X6) (View.readAt (Elt Ideal) arg6.view (Rect.unit (s := S1x16x96x1400) (k0_off43 (trip3.sl.r i arg1 X1 k)) S1x1x96x128.size (inb5 h (off43 hh) (by decide))).toLoadRect X6) (View.readAt (Elt Ideal) arg6.view (Rect.unit (s := S1x16x96x1400) (k0_off44 (trip3.sl.r i arg1 X1 k)) S1x1x96x128.size (inb5 h (off44 hh) (by decide))).toLoadRect X6) (View.readAt (Elt Ideal) arg9.view (Rect.unit (s := S16x1400x96) (k0_off33 (trip3.sl.r i arg1 X1 k)) S1x120x96.size (inb9 h (off33 hh) (by decide))).toLoadRect X9) (View.readAt (Elt Ideal) arg5.view (Rect.unit (s := S1x16x96x1400) (k0_off43 (trip3.sl.r i arg1 X1 k)) S1x1x96x128.size (inb5 h (off43 hh) (by decide))).toLoadRect X5) (View.readAt (Elt Ideal) arg7.view (Rect.unit (s := S1x16x96x1400) (k0_off40 (trip3.sl.r i arg1 X1 k)) S1x1x96x128.size (inb5 h (off40 hh) (by decide))).toLoadRect X7) (View.readAt (Elt Ideal) arg7.view (Rect.unit (s := S1x16x96x1400) (k0_off41 (trip3.sl.r i arg1 X1 k)) S1x1x96x128.size (inb5 h (off41 hh) (by decide))).toLoadRect X7) (View.readAt (Elt Ideal) arg7.view (Rect.unit (s := S1x16x96x1400) (k0_off42 (trip3.sl.r i arg1 X1 k)) S1x1x96x128.size (inb5 h (off42 hh) (by decide))).toLoadRect X7) (View.readAt (Elt Ideal) arg7.view (Rect.unit (s := S1x16x96x1400) (k0_off43 (trip3.sl.r i arg1 X1 k)) S1x1x96x128.size (inb5 h (off43 hh) (by decide))).toLoadRect X7) (View.readAt (Elt Ideal) arg7.view (Rect.unit (s := S1x16x96x1400) (k0_off44 (trip3.sl.r i arg1 X1 k)) S1x1x96x128.size (inb5 h (off44 hh) (by decide))).toLoadRect X7) (View.readAt (Elt Ideal) arg10.view (Rect.unit (s := S16x96x1400) (k0_off34 (trip3.sl.r i arg1 X1 k)) S1x96x120.size (inb10 h (off34 hh) (by decide))).toLoadRect X10) c v (ix3 0 a l)) ec ev).trans ?_
    exact formV5_row _ _ _ _ _ _ _ _ _ _ _ _ _ _ _ _ _ _ _ hs 3 1 (by decide) (by decide) (fun e l => (rd5 arg6.view X6 _ h (off40 hh) e l ⟨256 * 0 + (128 * 1 + l.val), by omega⟩ (by dsimp only; omega)).trans (H6 _)) (fun e l => (rd5 arg6.view X6 _ h (off41 hh) e l ⟨256 * 1 + (128 * 1 + l.val), by omega⟩ (by dsimp only; omega)).trans (H6 _)) (fun e l => (rd5 arg6.view X6 _ h (off42 hh) e l ⟨256 * 2 + (128 * 1 + l.val), by omega⟩ (by dsimp only; omega)).trans (H6 _)) (fun e l => (rd5 arg6.view X6 _ h (off43 hh) e l ⟨256 * 3 + (128 * 1 + l.val), by omega⟩ (by dsimp only; omega)).trans (H6 _)) (fun e l => (rd5 arg6.view X6 _ h (off44 hh) e l ⟨256 * 4 + (128 * 1 + l.val), by omega⟩ (by dsimp only; omega)).trans (H6 _)) (fun j e => (rd9 arg9.view X9 _ h (off33 hh) j e _ rfl).trans (H9 h _ e)) (fun e l => rd5 arg5.view X5 _ h (off43 hh) e l _ (by first | rfl | omega | (dsimp only; omega))) (fun e l => (rd5 arg7.view X7 _ h (off40 hh) e l ⟨256 * 0 + (128 * 1 + l.val), by omega⟩ (by dsimp only; omega)).trans (H7 _)) (fun e l => (rd5 arg7.view X7 _ h (off41 hh) e l ⟨256 * 1 + (128 * 1 + l.val), by omega⟩ (by dsimp only; omega)).trans (H7 _)) (fun e l => (rd5 arg7.view X7 _ h (off42 hh) e l ⟨256 * 2 + (128 * 1 + l.val), by omega⟩ (by dsimp only; omega)).trans (H7 _)) (fun e l => (rd5 arg7.view X7 _ h (off43 hh) e l ⟨256 * 3 + (128 * 1 + l.val), by omega⟩ (by dsimp only; omega)).trans (H7 _)) (fun e l => (rd5 arg7.view X7 _ h (off44 hh) e l ⟨256 * 4 + (128 * 1 + l.val), by omega⟩ (by dsimp only; omega)).trans (H7 _)) (fun d j => (rd10 arg10.view X10 _ h (off34 hh) d j _ rfl).trans (H10 h d _)) a l
  rcases List.mem_cons.1 hp with rfl | hp
  · refine piece (n := 128) (o := 640) (inb10 h (off47 hh) (by decide)) h (off47 hh) _ _ (fun l => ⟨256 * 2 + (128 * 1 + l.val), by omega⟩) (fun l => (by first | rfl | omega | (dsimp only; omega))) fun a l => ?_
    refine (congrArg₂ (fun c v => formV5 (View.readAt (Elt Ideal) arg6.view (Rect.unit (s := S1x16x96x1400) (k0_off40 (trip3.sl.r i arg1 X1 k)) S1x1x96x128.size (inb5 h (off40 hh) (by decide))).toLoadRect X6) (View.readAt (Elt Ideal) arg6.view (Rect.unit (s := S1x16x96x1400) (k0_off41 (trip3.sl.r i arg1 X1 k)) S1x1x96x128.size (inb5 h (off41 hh) (by decide))).toLoadRect X6) (View.readAt (Elt Ideal) arg6.view (Rect.unit (s := S1x16x96x1400) (k0_off42 (trip3.sl.r i arg1 X1 k)) S1x1x96x128.size (inb5 h (off42 hh) (by decide))).toLoadRect X6) (View.readAt (Elt Ideal) arg6.view (Rect.unit (s := S1x16x96x1400) (k0_off43 (trip3.sl.r i arg1 X1 k)) S1x1x96x128.size (inb5 h (off43 hh) (by decide))).toLoadRect X6) (View.readAt (Elt Ideal) arg6.view (Rect.unit (s := S1x16x96x1400) (k0_off44 (trip3.sl.r i arg1 X1 k)) S1x1x96x128.size (inb5 h (off44 hh) (by decide))).toLoadRect X6) (View.readAt (Elt Ideal) arg9.view (Rect.unit (s := S16x1400x96) (k0_off33 (trip3.sl.r i arg1 X1 k)) S1x120x96.size (inb9 h (off33 hh) (by decide))).toLoadRect X9) (View.readAt (Elt Ideal) arg5.view (Rect.unit (s := S1x16x96x1400) (k0_off42 (trip3.sl.r i arg1 X1 k)) S1x1x96x128.size (inb5 h (off42 hh) (by decide))).toLoadRect X5) (View.readAt (Elt Ideal) arg7.view (Rect.unit (s := S1x16x96x1400) (k0_off40 (trip3.sl.r i arg1 X1 k)) S1x1x96x128.size (inb5 h (off40 hh) (by decide))).toLoadRect X7) (View.readAt (Elt Ideal) arg7.view (Rect.unit (s := S1x16x96x1400) (k0_off41 (trip3.sl.r i arg1 X1 k)) S1x1x96x128.size (inb5 h (off41 hh) (by decide))).toLoadRect X7) (View.readAt (Elt Ideal) arg7.view (Rect.unit (s := S1x16x96x1400) (k0_off42 (trip3.sl.r i arg1 X1 k)) S1x1x96x128.size (inb5 h (off42 hh) (by decide))).toLoadRect X7) (View.readAt (Elt Ideal) arg7.view (Rect.unit (s := S1x16x96x1400) (k0_off43 (trip3.sl.r i arg1 X1 k)) S1x1x96x128.size (inb5 h (off43 hh) (by decide))).toLoadRect X7) (View.readAt (Elt Ideal) arg7.view (Rect.unit (s := S1x16x96x1400) (k0_off44 (trip3.sl.r i arg1 X1 k)) S1x1x96x128.size (inb5 h (off44 hh) (by decide))).toLoadRect X7) (View.readAt (Elt Ideal) arg10.view (Rect.unit (s := S16x96x1400) (k0_off34 (trip3.sl.r i arg1 X1 k)) S1x96x120.size (inb10 h (off34 hh) (by decide))).toLoadRect X10) c v (ix3 0 a l)) ec ev).trans ?_
    exact formV5_row _ _ _ _ _ _ _ _ _ _ _ _ _ _ _ _ _ _ _ hs 2 1 (by decide) (by decide) (fun e l => (rd5 arg6.view X6 _ h (off40 hh) e l ⟨256 * 0 + (128 * 1 + l.val), by omega⟩ (by dsimp only; omega)).trans (H6 _)) (fun e l => (rd5 arg6.view X6 _ h (off41 hh) e l ⟨256 * 1 + (128 * 1 + l.val), by omega⟩ (by dsimp only; omega)).trans (H6 _)) (fun e l => (rd5 arg6.view X6 _ h (off42 hh) e l ⟨256 * 2 + (128 * 1 + l.val), by omega⟩ (by dsimp only; omega)).trans (H6 _)) (fun e l => (rd5 arg6.view X6 _ h (off43 hh) e l ⟨256 * 3 + (128 * 1 + l.val), by omega⟩ (by dsimp only; omega)).trans (H6 _)) (fun e l => (rd5 arg6.view X6 _ h (off44 hh) e l ⟨256 * 4 + (128 * 1 + l.val), by omega⟩ (by dsimp only; omega)).trans (H6 _)) (fun j e => (rd9 arg9.view X9 _ h (off33 hh) j e _ rfl).trans (H9 h _ e)) (fun e l => rd5 arg5.view X5 _ h (off42 hh) e l _ (by first | rfl | omega | (dsimp only; omega))) (fun e l => (rd5 arg7.view X7 _ h (off40 hh) e l ⟨256 * 0 + (128 * 1 + l.val), by omega⟩ (by dsimp only; omega)).trans (H7 _)) (fun e l => (rd5 arg7.view X7 _ h (off41 hh) e l ⟨256 * 1 + (128 * 1 + l.val), by omega⟩ (by dsimp only; omega)).trans (H7 _)) (fun e l => (rd5 arg7.view X7 _ h (off42 hh) e l ⟨256 * 2 + (128 * 1 + l.val), by omega⟩ (by dsimp only; omega)).trans (H7 _)) (fun e l => (rd5 arg7.view X7 _ h (off43 hh) e l ⟨256 * 3 + (128 * 1 + l.val), by omega⟩ (by dsimp only; omega)).trans (H7 _)) (fun e l => (rd5 arg7.view X7 _ h (off44 hh) e l ⟨256 * 4 + (128 * 1 + l.val), by omega⟩ (by dsimp only; omega)).trans (H7 _)) (fun d j => (rd10 arg10.view X10 _ h (off34 hh) d j _ rfl).trans (H10 h d _)) a l
  rcases List.mem_cons.1 hp with rfl | hp
  · refine piece (n := 128) (o := 384) (inb10 h (off46 hh) (by decide)) h (off46 hh) _ _ (fun l => ⟨256 * 1 + (128 * 1 + l.val), by omega⟩) (fun l => (by first | rfl | omega | (dsimp only; omega))) fun a l => ?_
    refine (congrArg₂ (fun c v => formV5 (View.readAt (Elt Ideal) arg6.view (Rect.unit (s := S1x16x96x1400) (k0_off40 (trip3.sl.r i arg1 X1 k)) S1x1x96x128.size (inb5 h (off40 hh) (by decide))).toLoadRect X6) (View.readAt (Elt Ideal) arg6.view (Rect.unit (s := S1x16x96x1400) (k0_off41 (trip3.sl.r i arg1 X1 k)) S1x1x96x128.size (inb5 h (off41 hh) (by decide))).toLoadRect X6) (View.readAt (Elt Ideal) arg6.view (Rect.unit (s := S1x16x96x1400) (k0_off42 (trip3.sl.r i arg1 X1 k)) S1x1x96x128.size (inb5 h (off42 hh) (by decide))).toLoadRect X6) (View.readAt (Elt Ideal) arg6.view (Rect.unit (s := S1x16x96x1400) (k0_off43 (trip3.sl.r i arg1 X1 k)) S1x1x96x128.size (inb5 h (off43 hh) (by decide))).toLoadRect X6) (View.readAt (Elt Ideal) arg6.view (Rect.unit (s := S1x16x96x1400) (k0_off44 (trip3.sl.r i arg1 X1 k)) S1x1x96x128.size (inb5 h (off44 hh) (by decide))).toLoadRect X6) (View.readAt (Elt Ideal) arg9.view (Rect.unit (s := S16x1400x96) (k0_off33 (trip3.sl.r i arg1 X1 k)) S1x120x96.size (inb9 h (off33 hh) (by decide))).toLoadRect X9) (View.readAt (Elt Ideal) arg5.view (Rect.unit (s := S1x16x96x1400) (k0_off41 (trip3.sl.r i arg1 X1 k)) S1x1x96x128.size (inb5 h (off41 hh) (by decide))).toLoadRect X5) (View.readAt (Elt Ideal) arg7.view (Rect.unit (s := S1x16x96x1400) (k0_off40 (trip3.sl.r i arg1 X1 k)) S1x1x96x128.size (inb5 h (off40 hh) (by decide))).toLoadRect X7) (View.readAt (Elt Ideal) arg7.view (Rect.unit (s := S1x16x96x1400) (k0_off41 (trip3.sl.r i arg1 X1 k)) S1x1x96x128.size (inb5 h (off41 hh) (by decide))).toLoadRect X7) (View.readAt (Elt Ideal) arg7.view (Rect.unit (s := S1x16x96x1400) (k0_off42 (trip3.sl.r i arg1 X1 k)) S1x1x96x128.size (inb5 h (off42 hh) (by decide))).toLoadRect X7) (View.readAt (Elt Ideal) arg7.view (Rect.unit (s := S1x16x96x1400) (k0_off43 (trip3.sl.r i arg1 X1 k)) S1x1x96x128.size (inb5 h (off43 hh) (by decide))).toLoadRect X7) (View.readAt (Elt Ideal) arg7.view (Rect.unit (s := S1x16x96x1400) (k0_off44 (trip3.sl.r i arg1 X1 k)) S1x1x96x128.size (inb5 h (off44 hh) (by decide))).toLoadRect X7) (View.readAt (Elt Ideal) arg10.view (Rect.unit (s := S16x96x1400) (k0_off34 (trip3.sl.r i arg1 X1 k)) S1x96x120.size (inb10 h (off34 hh) (by decide))).toLoadRect X10) c v (ix3 0 a l)) ec ev).trans ?_
    exact formV5_row _ _ _ _ _ _ _ _ _ _ _ _ _ _ _ _ _ _ _ hs 1 1 (by decide) (by decide) (fun e l => (rd5 arg6.view X6 _ h (off40 hh) e l ⟨256 * 0 + (128 * 1 + l.val), by omega⟩ (by dsimp only; omega)).trans (H6 _)) (fun e l => (rd5 arg6.view X6 _ h (off41 hh) e l ⟨256 * 1 + (128 * 1 + l.val), by omega⟩ (by dsimp only; omega)).trans (H6 _)) (fun e l => (rd5 arg6.view X6 _ h (off42 hh) e l ⟨256 * 2 + (128 * 1 + l.val), by omega⟩ (by dsimp only; omega)).trans (H6 _)) (fun e l => (rd5 arg6.view X6 _ h (off43 hh) e l ⟨256 * 3 + (128 * 1 + l.val), by omega⟩ (by dsimp only; omega)).trans (H6 _)) (fun e l => (rd5 arg6.view X6 _ h (off44 hh) e l ⟨256 * 4 + (128 * 1 + l.val), by omega⟩ (by dsimp only; omega)).trans (H6 _)) (fun j e => (rd9 arg9.view X9 _ h (off33 hh) j e _ rfl).trans (H9 h _ e)) (fun e l => rd5 arg5.view X5 _ h (off41 hh) e l _ (by first | rfl | omega | (dsimp only; omega))) (fun e l => (rd5 arg7.view X7 _ h (off40 hh) e l ⟨256 * 0 + (128 * 1 + l.val), by omega⟩ (by dsimp only; omega)).trans (H7 _)) (fun e l => (rd5 arg7.view X7 _ h (off41 hh) e l ⟨256 * 1 + (128 * 1 + l.val), by omega⟩ (by dsimp only; omega)).trans (H7 _)) (fun e l => (rd5 arg7.view X7 _ h (off42 hh) e l ⟨256 * 2 + (128 * 1 + l.val), by omega⟩ (by dsimp only; omega)).trans (H7 _)) (fun e l => (rd5 arg7.view X7 _ h (off43 hh) e l ⟨256 * 3 + (128 * 1 + l.val), by omega⟩ (by dsimp only; omega)).trans (H7 _)) (fun e l => (rd5 arg7.view X7 _ h (off44 hh) e l ⟨256 * 4 + (128 * 1 + l.val), by omega⟩ (by dsimp only; omega)).trans (H7 _)) (fun d j => (rd10 arg10.view X10 _ h (off34 hh) d j _ rfl).trans (H10 h d _)) a l
  rcases List.mem_cons.1 hp with rfl | hp
  · refine piece (n := 128) (o := 128) (inb10 h (off45 hh) (by decide)) h (off45 hh) _ _ (fun l => ⟨256 * 0 + (128 * 1 + l.val), by omega⟩) (fun l => (by first | rfl | omega | (dsimp only; omega))) fun a l => ?_
    refine (congrArg₂ (fun c v => formV5 (View.readAt (Elt Ideal) arg6.view (Rect.unit (s := S1x16x96x1400) (k0_off40 (trip3.sl.r i arg1 X1 k)) S1x1x96x128.size (inb5 h (off40 hh) (by decide))).toLoadRect X6) (View.readAt (Elt Ideal) arg6.view (Rect.unit (s := S1x16x96x1400) (k0_off41 (trip3.sl.r i arg1 X1 k)) S1x1x96x128.size (inb5 h (off41 hh) (by decide))).toLoadRect X6) (View.readAt (Elt Ideal) arg6.view (Rect.unit (s := S1x16x96x1400) (k0_off42 (trip3.sl.r i arg1 X1 k)) S1x1x96x128.size (inb5 h (off42 hh) (by decide))).toLoadRect X6) (View.readAt (Elt Ideal) arg6.view (Rect.unit (s := S1x16x96x1400) (k0_off43 (trip3.sl.r i arg1 X1 k)) S1x1x96x128.size (inb5 h (off43 hh) (by decide))).toLoadRect X6) (View.readAt (Elt Ideal) arg6.view (Rect.unit (s := S1x16x96x1400) (k0_off44 (trip3.sl.r i arg1 X1 k)) S1x1x96x128.size (inb5 h (off44 hh) (by decide))).toLoadRect X6) (View.readAt (Elt Ideal) arg9.view (Rect.unit (s := S16x1400x96) (k0_off33 (trip3.sl.r i arg1 X1 k)) S1x120x96.size (inb9 h (off33 hh) (by decide))).toLoadRect X9) (View.readAt (Elt Ideal) arg5.view (Rect.unit (s := S1x16x96x1400) (k0_off40 (trip3.sl.r i arg1 X1 k)) S1x1x96x128.size (inb5 h (off40 hh) (by decide))).toLoadRect X5) (View.readAt (Elt Ideal) arg7.view (Rect.unit (s := S1x16x96x1400) (k0_off40 (trip3.sl.r i arg1 X1 k)) S1x1x96x128.size (inb5 h (off40 hh) (by decide))).toLoadRect X7) (View.readAt (Elt Ideal) arg7.view (Rect.unit (s := S1x16x96x1400) (k0_off41 (trip3.sl.r i arg1 X1 k)) S1x1x96x128.size (inb5 h (off41 hh) (by decide))).toLoadRect X7) (View.readAt (Elt Ideal) arg7.view (Rect.unit (s := S1x16x96x1400) (k0_off42 (trip3.sl.r i arg1 X1 k)) S1x1x96x128.size (inb5 h (off42 hh) (by decide))).toLoadRect X7) (View.readAt (Elt Ideal) arg7.view (Rect.unit (s := S1x16x96x1400) (k0_off43 (trip3.sl.r i arg1 X1 k)) S1x1x96x128.size (inb5 h (off43 hh) (by decide))).toLoadRect X7) (View.readAt (Elt Ideal) arg7.view (Rect.unit (s := S1x16x96x1400) (k0_off44 (trip3.sl.r i arg1 X1 k)) S1x1x96x128.size (inb5 h (off44 hh) (by decide))).toLoadRect X7) (View.readAt (Elt Ideal) arg10.view (Rect.unit (s := S16x96x1400) (k0_off34 (trip3.sl.r i arg1 X1 k)) S1x96x120.size (inb10 h (off34 hh) (by decide))).toLoadRect X10) c v (ix3 0 a l)) ec ev).trans ?_
    exact formV5_row _ _ _ _ _ _ _ _ _ _ _ _ _ _ _ _ _ _ _ hs 0 1 (by decide) (by decide) (fun e l => (rd5 arg6.view X6 _ h (off40 hh) e l ⟨256 * 0 + (128 * 1 + l.val), by omega⟩ (by dsimp only; omega)).trans (H6 _)) (fun e l => (rd5 arg6.view X6 _ h (off41 hh) e l ⟨256 * 1 + (128 * 1 + l.val), by omega⟩ (by dsimp only; omega)).trans (H6 _)) (fun e l => (rd5 arg6.view X6 _ h (off42 hh) e l ⟨256 * 2 + (128 * 1 + l.val), by omega⟩ (by dsimp only; omega)).trans (H6 _)) (fun e l => (rd5 arg6.view X6 _ h (off43 hh) e l ⟨256 * 3 + (128 * 1 + l.val), by omega⟩ (by dsimp only; omega)).trans (H6 _)) (fun e l => (rd5 arg6.view X6 _ h (off44 hh) e l ⟨256 * 4 + (128 * 1 + l.val), by omega⟩ (by dsimp only; omega)).trans (H6 _)) (fun j e => (rd9 arg9.view X9 _ h (off33 hh) j e _ rfl).trans (H9 h _ e)) (fun e l => rd5 arg5.view X5 _ h (off40 hh) e l _ (by first | rfl | omega | (dsimp only; omega))) (fun e l => (rd5 arg7.view X7 _ h (off40 hh) e l ⟨256 * 0 + (128 * 1 + l.val), by omega⟩ (by dsimp only; omega)).trans (H7 _)) (fun e l => (rd5 arg7.view X7 _ h (off41 hh) e l ⟨256 * 1 + (128 * 1 + l.val), by omega⟩ (by dsimp only; omega)).trans (H7 _)) (fun e l => (rd5 arg7.view X7 _ h (off42 hh) e l ⟨256 * 2 + (128 * 1 + l.val), by omega⟩ (by dsimp only; omega)).trans (H7 _)) (fun e l => (rd5 arg7.view X7 _ h (off43 hh) e l ⟨256 * 3 + (128 * 1 + l.val), by omega⟩ (by dsimp only; omega)).trans (H7 _)) (fun e l => (rd5 arg7.view X7 _ h (off44 hh) e l ⟨256 * 4 + (128 * 1 + l.val), by omega⟩ (by dsimp only; omega)).trans (H7 _)) (fun d j => (rd10 arg10.view X10 _ h (off34 hh) d j _ rfl).trans (H10 h d _)) a l
  rcases List.mem_cons.1 hp with rfl | hp
  · refine piece (n := 128) (o := 1024) (inb10 h (off39 hh) (by decide)) h (off39 hh) _ _ (fun l => ⟨256 * 4 + (128 * 0 + l.val), by omega⟩) (fun l => (by first | rfl | omega | (dsimp only; omega))) fun a l => ?_
    refine (congrArg₂ (fun c v => formV5 (View.readAt (Elt Ideal) arg6.view (Rect.unit (s := S1x16x96x1400) (k0_off28 (trip3.sl.r i arg1 X1 k)) S1x1x96x128.size (inb5 h (off28 hh) (by decide))).toLoadRect X6) (View.readAt (Elt Ideal) arg6.view (Rect.unit (s := S1x16x96x1400) (k0_off29 (trip3.sl.r i arg1 X1 k)) S1x1x96x128.size (inb5 h (off29 hh) (by decide))).toLoadRect X6) (View.readAt (Elt Ideal) arg6.view (Rect.unit (s := S1x16x96x1400) (k0_off30 (trip3.sl.r i arg1 X1 k)) S1x1x96x128.size (inb5 h (off30 hh) (by decide))).toLoadRect X6) (View.readAt (Elt Ideal) arg6.view (Rect.unit (s := S1x16x96x1400) (k0_off31 (trip3.sl.r i arg1 X1 k)) S1x1x96x128.size (inb5 h (off31 hh) (by decide))).toLoadRect X6) (View.readAt (Elt Ideal) arg6.view (Rect.unit (s := S1x16x96x1400) (k0_off32 (trip3.sl.r i arg1 X1 k)) S1x1x96x128.size (inb5 h (off32 hh) (by decide))).toLoadRect X6) (View.readAt (Elt Ideal) arg9.view (Rect.unit (s := S16x1400x96) (k0_off33 (trip3.sl.r i arg1 X1 k)) S1x120x96.size (inb9 h (off33 hh) (by decide))).toLoadRect X9) (View.readAt (Elt Ideal) arg5.view (Rect.unit (s := S1x16x96x1400) (k0_off32 (trip3.sl.r i arg1 X1 k)) S1x1x96x128.size (inb5 h (off32 hh) (by decide))).toLoadRect X5) (View.readAt (Elt Ideal) arg7.view (Rect.unit (s := S1x16x96x1400) (k0_off28 (trip3.sl.r i arg1 X1 k)) S1x1x96x128.size (inb5 h (off28 hh) (by decide))).toLoadRect X7) (View.readAt (Elt Ideal) arg7.view (Rect.unit (s := S1x16x96x1400) (k0_off29 (trip3.sl.r i arg1 X1 k)) S1x1x96x128.size (inb5 h (off29 hh) (by decide))).toLoadRect X7) (View.readAt (Elt Ideal) arg7.view (Rect.unit (s := S1x16x96x1400) (k0_off30 (trip3.sl.r i arg1 X1 k)) S1x1x96x128.size (inb5 h (off30 hh) (by decide))).toLoadRect X7) (View.readAt (Elt Ideal) arg7.view (Rect.unit (s := S1x16x96x1400) (k0_off31 (trip3.sl.r i arg1 X1 k)) S1x1x96x128.size (inb5 h (off31 hh) (by decide))).toLoadRect X7) (View.readAt (Elt Ideal) arg7.view (Rect.unit (s := S1x16x96x1400) (k0_off32 (trip3.sl.r i arg1 X1 k)) S1x1x96x128.size (inb5 h (off32 hh) (by decide))).toLoadRect X7) (View.readAt (Elt Ideal) arg10.view (Rect.unit (s := S16x96x1400) (k0_off34 (trip3.sl.r i arg1 X1 k)) S1x96x120.size (inb10 h (off34 hh) (by decide))).toLoadRect X10) c v (ix3 0 a l)) ec ev).trans ?_
    exact formV5_row _ _ _ _ _ _ _ _ _ _ _ _ _ _ _ _ _ _ _ hs 4 0 (by decide) (by decide) (fun e l => (rd5 arg6.view X6 _ h (off28 hh) e l ⟨256 * 0 + (128 * 0 + l.val), by omega⟩ (by dsimp only; omega)).trans (H6 _)) (fun e l => (rd5 arg6.view X6 _ h (off29 hh) e l ⟨256 * 1 + (128 * 0 + l.val), by omega⟩ (by dsimp only; omega)).trans (H6 _)) (fun e l => (rd5 arg6.view X6 _ h (off30 hh) e l ⟨256 * 2 + (128 * 0 + l.val), by omega⟩ (by dsimp only; omega)).trans (H6 _)) (fun e l => (rd5 arg6.view X6 _ h (off31 hh) e l ⟨256 * 3 + (128 * 0 + l.val), by omega⟩ (by dsimp only; omega)).trans (H6 _)) (fun e l => (rd5 arg6.view X6 _ h (off32 hh) e l ⟨256 * 4 + (128 * 0 + l.val), by omega⟩ (by dsimp only; omega)).trans (H6 _)) (fun j e => (rd9 arg9.view X9 _ h (off33 hh) j e _ rfl).trans (H9 h _ e)) (fun e l => rd5 arg5.view X5 _ h (off32 hh) e l _ (by first | rfl | omega | (dsimp only; omega))) (fun e l => (rd5 arg7.view X7 _ h (off28 hh) e l ⟨256 * 0 + (128 * 0 + l.val), by omega⟩ (by dsimp only; omega)).trans (H7 _)) (fun e l => (rd5 arg7.view X7 _ h (off29 hh) e l ⟨256 * 1 + (128 * 0 + l.val), by omega⟩ (by dsimp only; omega)).trans (H7 _)) (fun e l => (rd5 arg7.view X7 _ h (off30 hh) e l ⟨256 * 2 + (128 * 0 + l.val), by omega⟩ (by dsimp only; omega)).trans (H7 _)) (fun e l => (rd5 arg7.view X7 _ h (off31 hh) e l ⟨256 * 3 + (128 * 0 + l.val), by omega⟩ (by dsimp only; omega)).trans (H7 _)) (fun e l => (rd5 arg7.view X7 _ h (off32 hh) e l ⟨256 * 4 + (128 * 0 + l.val), by omega⟩ (by dsimp only; omega)).trans (H7 _)) (fun d j => (rd10 arg10.view X10 _ h (off34 hh) d j _ rfl).trans (H10 h d _)) a l
  rcases List.mem_cons.1 hp with rfl | hp
  · refine piece (n := 128) (o := 768) (inb10 h (off38 hh) (by decide)) h (off38 hh) _ _ (fun l => ⟨256 * 3 + (128 * 0 + l.val), by omega⟩) (fun l => (by first | rfl | omega | (dsimp only; omega))) fun a l => ?_
    refine (congrArg₂ (fun c v => formV5 (View.readAt (Elt Ideal) arg6.view (Rect.unit (s := S1x16x96x1400) (k0_off28 (trip3.sl.r i arg1 X1 k)) S1x1x96x128.size (inb5 h (off28 hh) (by decide))).toLoadRect X6) (View.readAt (Elt Ideal) arg6.view (Rect.unit (s := S1x16x96x1400) (k0_off29 (trip3.sl.r i arg1 X1 k)) S1x1x96x128.size (inb5 h (off29 hh) (by decide))).toLoadRect X6) (View.readAt (Elt Ideal) arg6.view (Rect.unit (s := S1x16x96x1400) (k0_off30 (trip3.sl.r i arg1 X1 k)) S1x1x96x128.size (inb5 h (off30 hh) (by decide))).toLoadRect X6) (View.readAt (Elt Ideal) arg6.view (Rect.unit (s := S1x16x96x1400) (k0_off31 (trip3.sl.r i arg1 X1 k)) S1x1x96x128.size (inb5 h (off31 hh) (by decide))).toLoadRect X6) (View.readAt (Elt Ideal) arg6.view (Rect.unit (s := S1x16x96x1400) (k0_off32 (trip3.sl.r i arg1 X1 k)) S1x1x96x128.size (inb5 h (off32 hh) (by decide))).toLoadRect X6) (View.readAt (Elt Ideal) arg9.view (Rect.unit (s := S16x1400x96) (k0_off33 (trip3.sl.r i arg1 X1 k)) S1x120x96.size (inb9 h (off33 hh) (by decide))).toLoadRect X9) (View.readAt (Elt Ideal) arg5.view (Rect.unit (s := S1x16x96x1400) (k0_off31 (trip3.sl.r i arg1 X1 k)) S1x1x96x128.size (inb5 h (off31 hh) (by decide))).toLoadRect X5) (View.readAt (Elt Ideal) arg7.view (Rect.unit (s := S1x16x96x1400) (k0_off28 (trip3.sl.r i arg1 X1 k)) S1x1x96x128.size (inb5 h (off28 hh) (by decide))).toLoadRect X7) (View.readAt (Elt Ideal) arg7.view (Rect.unit (s := S1x16x96x1400) (k0_off29 (trip3.sl.r i arg1 X1 k)) S1x1x96x128.size (inb5 h (off29 hh) (by decide))).toLoadRect X7) (View.readAt (Elt Ideal) arg7.view (Rect.unit (s := S1x16x96x1400) (k0_off30 (trip3.sl.r i arg1 X1 k)) S1x1x96x128.size (inb5 h (off30 hh) (by decide))).toLoadRect X7) (View.readAt (Elt Ideal) arg7.view (Rect.unit (s := S1x16x96x1400) (k0_off31 (trip3.sl.r i arg1 X1 k)) S1x1x96x128.size (inb5 h (off31 hh) (by decide))).toLoadRect X7) (View.readAt (Elt Ideal) arg7.view (Rect.unit (s := S1x16x96x1400) (k0_off32 (trip3.sl.r i arg1 X1 k)) S1x1x96x128.size (inb5 h (off32 hh) (by decide))).toLoadRect X7) (View.readAt (Elt Ideal) arg10.view (Rect.unit (s := S16x96x1400) (k0_off34 (trip3.sl.r i arg1 X1 k)) S1x96x120.size (inb10 h (off34 hh) (by decide))).toLoadRect X10) c v (ix3 0 a l)) ec ev).trans ?_
    exact formV5_row _ _ _ _ _ _ _ _ _ _ _ _ _ _ _ _ _ _ _ hs 3 0 (by decide) (by decide) (fun e l => (rd5 arg6.view X6 _ h (off28 hh) e l ⟨256 * 0 + (128 * 0 + l.val), by omega⟩ (by dsimp only; omega)).trans (H6 _)) (fun e l => (rd5 arg6.view X6 _ h (off29 hh) e l ⟨256 * 1 + (128 * 0 + l.val), by omega⟩ (by dsimp only; omega)).trans (H6 _)) (fun e l => (rd5 arg6.view X6 _ h (off30 hh) e l ⟨256 * 2 + (128 * 0 + l.val), by omega⟩ (by dsimp only; omega)).trans (H6 _)) (fun e l => (rd5 arg6.view X6 _ h (off31 hh) e l ⟨256 * 3 + (128 * 0 + l.val), by omega⟩ (by dsimp only; omega)).trans (H6 _)) (fun e l => (rd5 arg6.view X6 _ h (off32 hh) e l ⟨256 * 4 + (128 * 0 + l.val), by omega⟩ (by dsimp only; omega)).trans (H6 _)) (fun j e => (rd9 arg9.view X9 _ h (off33 hh) j e _ rfl).trans (H9 h _ e)) (fun e l => rd5 arg5.view X5 _ h (off31 hh) e l _ (by first | rfl | omega | (dsimp only; omega))) (fun e l => (rd5 arg7.view X7 _ h (off28 hh) e l ⟨256 * 0 + (128 * 0 + l.val), by omega⟩ (by dsimp only; omega)).trans (H7 _)) (fun e l => (rd5 arg7.view X7 _ h (off29 hh) e l ⟨256 * 1 + (128 * 0 + l.val), by omega⟩ (by dsimp only; omega)).trans (H7 _)) (fun e l => (rd5 arg7.view X7 _ h (off30 hh) e l ⟨256 * 2 + (128 * 0 + l.val), by omega⟩ (by dsimp only; omega)).trans (H7 _)) (fun e l => (rd5 arg7.view X7 _ h (off31 hh) e l ⟨256 * 3 + (128 * 0 + l.val), by omega⟩ (by dsimp only; omega)).trans (H7 _)) (fun e l => (rd5 arg7.view X7 _ h (off32 hh) e l ⟨256 * 4 + (128 * 0 + l.val), by omega⟩ (by dsimp only; omega)).trans (H7 _)) (fun d j => (rd10 arg10.view X10 _ h (off34 hh) d j _ rfl).trans (H10 h d _)) a l
  rcases List.mem_cons.1 hp with rfl | hp
  · refine piece (n := 128) (o := 512) (inb10 h (off37 hh) (by decide)) h (off37 hh) _ _ (fun l => ⟨256 * 2 + (128 * 0 + l.val), by omega⟩) (fun l => (by first | rfl | omega | (dsimp only; omega))) fun a l => ?_
    refine (congrArg₂ (fun c v => formV5 (View.readAt (Elt Ideal) arg6.view (Rect.unit (s := S1x16x96x1400) (k0_off28 (trip3.sl.r i arg1 X1 k)) S1x1x96x128.size (inb5 h (off28 hh) (by decide))).toLoadRect X6) (View.readAt (Elt Ideal) arg6.view (Rect.unit (s := S1x16x96x1400) (k0_off29 (trip3.sl.r i arg1 X1 k)) S1x1x96x128.size (inb5 h (off29 hh) (by decide))).toLoadRect X6) (View.readAt (Elt Ideal) arg6.view (Rect.unit (s := S1x16x96x1400) (k0_off30 (trip3.sl.r i arg1 X1 k)) S1x1x96x128.size (inb5 h (off30 hh) (by decide))).toLoadRect X6) (View.readAt (Elt Ideal) arg6.view (Rect.unit (s := S1x16x96x1400) (k0_off31 (trip3.sl.r i arg1 X1 k)) S1x1x96x128.size (inb5 h (off31 hh) (by decide))).toLoadRect X6) (View.readAt (Elt Ideal) arg6.view (Rect.unit (s := S1x16x96x1400) (k0_off32 (trip3.sl.r i arg1 X1 k)) S1x1x96x128.size (inb5 h (off32 hh) (by decide))).toLoadRect X6) (View.readAt (Elt Ideal) arg9.view (Rect.unit (s := S16x1400x96) (k0_off33 (trip3.sl.r i arg1 X1 k)) S1x120x96.size (inb9 h (off33 hh) (by decide))).toLoadRect X9) (View.readAt (Elt Ideal) arg5.view (Rect.unit (s := S1x16x96x1400) (k0_off30 (trip3.sl.r i arg1 X1 k)) S1x1x96x128.size (inb5 h (off30 hh) (by decide))).toLoadRect X5) (View.readAt (Elt Ideal) arg7.view (Rect.unit (s := S1x16x96x1400) (k0_off28 (trip3.sl.r i arg1 X1 k)) S1x1x96x128.size (inb5 h (off28 hh) (by decide))).toLoadRect X7) (View.readAt (Elt Ideal) arg7.view (Rect.unit (s := S1x16x96x1400) (k0_off29 (trip3.sl.r i arg1 X1 k)) S1x1x96x128.size (inb5 h (off29 hh) (by decide))).toLoadRect X7) (View.readAt (Elt Ideal) arg7.view (Rect.unit (s := S1x16x96x1400) (k0_off30 (trip3.sl.r i arg1 X1 k)) S1x1x96x128.size (inb5 h (off30 hh) (by decide))).toLoadRect X7) (View.readAt (Elt Ideal) arg7.view (Rect.unit (s := S1x16x96x1400) (k0_off31 (trip3.sl.r i arg1 X1 k)) S1x1x96x128.size (inb5 h (off31 hh) (by decide))).toLoadRect X7) (View.readAt (Elt Ideal) arg7.view (Rect.unit (s := S1x16x96x1400) (k0_off32 (trip3.sl.r i arg1 X1 k)) S1x1x96x128.size (inb5 h (off32 hh) (by decide))).toLoadRect X7) (View.readAt (Elt Ideal) arg10.view (Rect.unit (s := S16x96x1400) (k0_off34 (trip3.sl.r i arg1 X1 k)) S1x96x120.size (inb10 h (off34 hh) (by decide))).toLoadRect X10) c v (ix3 0 a l)) ec ev).trans ?_
    exact formV5_row _ _ _ _ _ _ _ _ _ _ _ _ _ _ _ _ _ _ _ hs 2 0 (by decide) (by decide) (fun e l => (rd5 arg6.view X6 _ h (off28 hh) e l ⟨256 * 0 + (128 * 0 + l.val), by omega⟩ (by dsimp only; omega)).trans (H6 _)) (fun e l => (rd5 arg6.view X6 _ h (off29 hh) e l ⟨256 * 1 + (128 * 0 + l.val), by omega⟩ (by dsimp only; omega)).trans (H6 _)) (fun e l => (rd5 arg6.view X6 _ h (off30 hh) e l ⟨256 * 2 + (128 * 0 + l.val), by omega⟩ (by dsimp only; omega)).trans (H6 _)) (fun e l => (rd5 arg6.view X6 _ h (off31 hh) e l ⟨256 * 3 + (128 * 0 + l.val), by omega⟩ (by dsimp only; omega)).trans (H6 _)) (fun e l => (rd5 arg6.view X6 _ h (off32 hh) e l ⟨256 * 4 + (128 * 0 + l.val), by omega⟩ (by dsimp only; omega)).trans (H6 _)) (fun j e => (rd9 arg9.view X9 _ h (off33 hh) j e _ rfl).trans (H9 h _ e)) (fun e l => rd5 arg5.view X5 _ h (off30 hh) e l _ (by first | rfl | omega | (dsimp only; omega))) (fun e l => (rd5 arg7.view X7 _ h (off28 hh) e l ⟨256 * 0 + (128 * 0 + l.val), by omega⟩ (by dsimp only; omega)).trans (H7 _)) (fun e l => (rd5 arg7.view X7 _ h (off29 hh) e l ⟨256 * 1 + (128 * 0 + l.val), by omega⟩ (by dsimp only; omega)).trans (H7 _)) (fun e l => (rd5 arg7.view X7 _ h (off30 hh) e l ⟨256 * 2 + (128 * 0 + l.val), by omega⟩ (by dsimp only; omega)).trans (H7 _)) (fun e l => (rd5 arg7.view X7 _ h (off31 hh) e l ⟨256 * 3 + (128 * 0 + l.val), by omega⟩ (by dsimp only; omega)).trans (H7 _)) (fun e l => (rd5 arg7.view X7 _ h (off32 hh) e l ⟨256 * 4 + (128 * 0 + l.val), by omega⟩ (by dsimp only; omega)).trans (H7 _)) (fun d j => (rd10 arg10.view X10 _ h (off34 hh) d j _ rfl).trans (H10 h d _)) a l
  rcases List.mem_cons.1 hp with rfl | hp
  · refine piece (n := 128) (o := 256) (inb10 h (off36 hh) (by decide)) h (off36 hh) _ _ (fun l => ⟨256 * 1 + (128 * 0 + l.val), by omega⟩) (fun l => (by first | rfl | omega | (dsimp only; omega))) fun a l => ?_
    refine (congrArg₂ (fun c v => formV5 (View.readAt (Elt Ideal) arg6.view (Rect.unit (s := S1x16x96x1400) (k0_off28 (trip3.sl.r i arg1 X1 k)) S1x1x96x128.size (inb5 h (off28 hh) (by decide))).toLoadRect X6) (View.readAt (Elt Ideal) arg6.view (Rect.unit (s := S1x16x96x1400) (k0_off29 (trip3.sl.r i arg1 X1 k)) S1x1x96x128.size (inb5 h (off29 hh) (by decide))).toLoadRect X6) (View.readAt (Elt Ideal) arg6.view (Rect.unit (s := S1x16x96x1400) (k0_off30 (trip3.sl.r i arg1 X1 k)) S1x1x96x128.size (inb5 h (off30 hh) (by decide))).toLoadRect X6) (View.readAt (Elt Ideal) arg6.view (Rect.unit (s := S1x16x96x1400) (k0_off31 (trip3.sl.r i arg1 X1 k)) S1x1x96x128.size (inb5 h (off31 hh) (by decide))).toLoadRect X6) (View.readAt (Elt Ideal) arg6.view (Rect.unit (s := S1x16x96x1400) (k0_off32 (trip3.sl.r i arg1 X1 k)) S1x1x96x128.size (inb5 h (off32 hh) (by decide))).toLoadRect X6) (View.readAt (Elt Ideal) arg9.view (Rect.unit (s := S16x1400x96) (k0_off33 (trip3.sl.r i arg1 X1 k)) S1x120x96.size (inb9 h (off33 hh) (by decide))).toLoadRect X9) (View.readAt (Elt Ideal) arg5.view (Rect.unit (s := S1x16x96x1400) (k0_off29 (trip3.sl.r i arg1 X1 k)) S1x1x96x128.size (inb5 h (off29 hh) (by decide))).toLoadRect X5) (View.readAt (Elt Ideal) arg7.view (Rect.unit (s := S1x16x96x1400) (k0_off28 (trip3.sl.r i arg1 X1 k)) S1x1x96x128.size (inb5 h (off28 hh) (by decide))).toLoadRect X7) (View.readAt (Elt Ideal) arg7.view (Rect.unit (s := S1x16x96x1400) (k0_off29 (trip3.sl.r i arg1 X1 k)) S1x1x96x128.size (inb5 h (off29 hh) (by decide))).toLoadRect X7) (View.readAt (Elt Ideal) arg7.view (Rect.unit (s := S1x16x96x1400) (k0_off30 (trip3.sl.r i arg1 X1 k)) S1x1x96x128.size (inb5 h (off30 hh) (by decide))).toLoadRect X7) (View.readAt (Elt Ideal) arg7.view (Rect.unit (s := S1x16x96x1400) (k0_off31 (trip3.sl.r i arg1 X1 k)) S1x1x96x128.size (inb5 h (off31 hh) (by decide))).toLoadRect X7) (View.readAt (Elt Ideal) arg7.view (Rect.unit (s := S1x16x96x1400) (k0_off32 (trip3.sl.r i arg1 X1 k)) S1x1x96x128.size (inb5 h (off32 hh) (by decide))).toLoadRect X7) (View.readAt (Elt Ideal) arg10.view (Rect.unit (s := S16x96x1400) (k0_off34 (trip3.sl.r i arg1 X1 k)) S1x96x120.size (inb10 h (off34 hh) (by decide))).toLoadRect X10) c v (ix3 0 a l)) ec ev).trans ?_
    exact formV5_row _ _ _ _ _ _ _ _ _ _ _ _ _ _ _ _ _ _ _ hs 1 0 (by decide) (by decide) (fun e l => (rd5 arg6.view X6 _ h (off28 hh) e l ⟨256 * 0 + (128 * 0 + l.val), by omega⟩ (by dsimp only; omega)).trans (H6 _)) (fun e l => (rd5 arg6.view X6 _ h (off29 hh) e l ⟨256 * 1 + (128 * 0 + l.val), by omega⟩ (by dsimp only; omega)).trans (H6 _)) (fun e l => (rd5 arg6.view X6 _ h (off30 hh) e l ⟨256 * 2 + (128 * 0 + l.val), by omega⟩ (by dsimp only; omega)).trans (H6 _)) (fun e l => (rd5 arg6.view X6 _ h (off31 hh) e l ⟨256 * 3 + (128 * 0 + l.val), by omega⟩ (by dsimp only; omega)).trans (H6 _)) (fun e l => (rd5 arg6.view X6 _ h (off32 hh) e l ⟨256 * 4 + (128 * 0 + l.val), by omega⟩ (by dsimp only; omega)).trans (H6 _)) (fun j e => (rd9 arg9.view X9 _ h (off33 hh) j e _ rfl).trans (H9 h _ e)) (fun e l => rd5 arg5.view X5 _ h (off29 hh) e l _ (by first | rfl | omega | (dsimp only; omega))) (fun e l => (rd5 arg7.view X7 _ h (off28 hh) e l ⟨256 * 0 + (128 * 0 + l.val), by omega⟩ (by dsimp only; omega)).trans (H7 _)) (fun e l => (rd5 arg7.view X7 _ h (off29 hh) e l ⟨256 * 1 + (128 * 0 + l.val), by omega⟩ (by dsimp only; omega)).trans (H7 _)) (fun e l => (rd5 arg7.view X7 _ h (off30 hh) e l ⟨256 * 2 + (128 * 0 + l.val), by omega⟩ (by dsimp only; omega)).trans (H7 _)) (fun e l => (rd5 arg7.view X7 _ h (off31 hh) e l ⟨256 * 3 + (128 * 0 + l.val), by omega⟩ (by dsimp only; omega)).trans (H7 _)) (fun e l => (rd5 arg7.view X7 _ h (off32 hh) e l ⟨256 * 4 + (128 * 0 + l.val), by omega⟩ (by dsimp only; omega)).trans (H7 _)) (fun d j => (rd10 arg10.view X10 _ h (off34 hh) d j _ rfl).trans (H10 h d _)) a l
  rcases List.mem_cons.1 hp with rfl | hp
  · refine piece (n := 128) (o := 0) (inb10 h (off35 hh) (by decide)) h (off35 hh) _ _ (fun l => ⟨256 * 0 + (128 * 0 + l.val), by omega⟩) (fun l => (by first | rfl | omega | (dsimp only; omega))) fun a l => ?_
    refine (congrArg₂ (fun c v => formV5 (View.readAt (Elt Ideal) arg6.view (Rect.unit (s := S1x16x96x1400) (k0_off28 (trip3.sl.r i arg1 X1 k)) S1x1x96x128.size (inb5 h (off28 hh) (by decide))).toLoadRect X6) (View.readAt (Elt Ideal) arg6.view (Rect.unit (s := S1x16x96x1400) (k0_off29 (trip3.sl.r i arg1 X1 k)) S1x1x96x128.size (inb5 h (off29 hh) (by decide))).toLoadRect X6) (View.readAt (Elt Ideal) arg6.view (Rect.unit (s := S1x16x96x1400) (k0_off30 (trip3.sl.r i arg1 X1 k)) S1x1x96x128.size (inb5 h (off30 hh) (by decide))).toLoadRect X6) (View.readAt (Elt Ideal) arg6.view (Rect.unit (s := S1x16x96x1400) (k0_off31 (trip3.sl.r i arg1 X1 k)) S1x1x96x128.size (inb5 h (off31 hh) (by decide))).toLoadRect X6) (View.readAt (Elt Ideal) arg6.view (Rect.unit (s := S1x16x96x1400) (k0_off32 (trip3.sl.r i arg1 X1 k)) S1x1x96x128.size (inb5 h (off32 hh) (by decide))).toLoadRect X6) (View.readAt (Elt Ideal) arg9.view (Rect.unit (s := S16x1400x96) (k0_off33 (trip3.sl.r i arg1 X1 k)) S1x120x96.size (inb9 h (off33 hh) (by decide))).toLoadRect X9) (View.readAt (Elt Ideal) arg5.view (Rect.unit (s := S1x16x96x1400) (k0_off28 (trip3.sl.r i arg1 X1 k)) S1x1x96x128.size (inb5 h (off28 hh) (by decide))).toLoadRect X5) (View.readAt (Elt Ideal) arg7.view (Rect.unit (s := S1x16x96x1400) (k0_off28 (trip3.sl.r i arg1 X1 k)) S1x1x96x128.size (inb5 h (off28 hh) (by decide))).toLoadRect X7) (View.readAt (Elt Ideal) arg7.view (Rect.unit (s := S1x16x96x1400) (k0_off29 (trip3.sl.r i arg1 X1 k)) S1x1x96x128.size (inb5 h (off29 hh) (by decide))).toLoadRect X7) (View.readAt (Elt Ideal) arg7.view (Rect.unit (s := S1x16x96x1400) (k0_off30 (trip3.sl.r i arg1 X1 k)) S1x1x96x128.size (inb5 h (off30 hh) (by decide))).toLoadRect X7) (View.readAt (Elt Ideal) arg7.view (Rect.unit (s := S1x16x96x1400) (k0_off31 (trip3.sl.r i arg1 X1 k)) S1x1x96x128.size (inb5 h (off31 hh) (by decide))).toLoadRect X7) (View.readAt (Elt Ideal) arg7.view (Rect.unit (s := S1x16x96x1400) (k0_off32 (trip3.sl.r i arg1 X1 k)) S1x1x96x128.size (inb5 h (off32 hh) (by decide))).toLoadRect X7) (View.readAt (Elt Ideal) arg10.view (Rect.unit (s := S16x96x1400) (k0_off34 (trip3.sl.r i arg1 X1 k)) S1x96x120.size (inb10 h (off34 hh) (by decide))).toLoadRect X10) c v (ix3 0 a l)) ec ev).trans ?_
    exact formV5_row _ _ _ _ _ _ _ _ _ _ _ _ _ _ _ _ _ _ _ hs 0 0 (by decide) (by decide) (fun e l => (rd5 arg6.view X6 _ h (off28 hh) e l ⟨256 * 0 + (128 * 0 + l.val), by omega⟩ (by dsimp only; omega)).trans (H6 _)) (fun e l => (rd5 arg6.view X6 _ h (off29 hh) e l ⟨256 * 1 + (128 * 0 + l.val), by omega⟩ (by dsimp only; omega)).trans (H6 _)) (fun e l => (rd5 arg6.view X6 _ h (off30 hh) e l ⟨256 * 2 + (128 * 0 + l.val), by omega⟩ (by dsimp only; omega)).trans (H6 _)) (fun e l => (rd5 arg6.view X6 _ h (off31 hh) e l ⟨256 * 3 + (128 * 0 + l.val), by omega⟩ (by dsimp only; omega)).trans (H6 _)) (fun e l => (rd5 arg6.view X6 _ h (off32 hh) e l ⟨256 * 4 + (128 * 0 + l.val), by omega⟩ (by dsimp only; omega)).trans (H6 _)) (fun j e => (rd9 arg9.view X9 _ h (off33 hh) j e _ rfl).trans (H9 h _ e)) (fun e l => rd5 arg5.view X5 _ h (off28 hh) e l _ (by first | rfl | omega | (dsimp only; omega))) (fun e l => (rd5 arg7.view X7 _ h (off28 hh) e l ⟨256 * 0 + (128 * 0 + l.val), by omega⟩ (by dsimp only; omega)).trans (H7 _)) (fun e l => (rd5 arg7.view X7 _ h (off29 hh) e l ⟨256 * 1 + (128 * 0 + l.val), by omega⟩ (by dsimp only; omega)).trans (H7 _)) (fun e l => (rd5 arg7.view X7 _ h (off30 hh) e l ⟨256 * 2 + (128 * 0 + l.val), by omega⟩ (by dsimp only; omega)).trans (H7 _)) (fun e l => (rd5 arg7.view X7 _ h (off31 hh) e l ⟨256 * 3 + (128 * 0 + l.val), by omega⟩ (by dsimp only; omega)).trans (H7 _)) (fun e l => (rd5 arg7.view X7 _ h (off32 hh) e l ⟨256 * 4 + (128 * 0 + l.val), by omega⟩ (by dsimp only; omega)).trans (H7 _)) (fun d j => (rd10 arg10.view X10 _ h (off34 hh) d j _ rfl).trans (H10 h d _)) a l
  cases hp

/-- Together the pieces are every row of the head. -/
theorem trip3_covers (c : Dev nD) (q : PosShare TreeShare) (i : grid0.Coords) (arg1 : Memref sig .tc .smem S12x16 .i32) (harg1 : arg1.IsWhole) (arg2 : Memref sig .tc .smem S12x16 .f32) (harg2 : arg2.IsWhole) (arg3 : Memref sig .tc .smem S12x16 .f32) (harg3 : arg3.IsWhole) (arg4 : Memref sig .tc .smem S12x16 .f32) (harg4 : arg4.IsWhole) (arg5 : Memref sig .tc .vmem S1x16x96x1400 .fp8e4m3) (harg5 : arg5.IsWhole) (arg6 : Memref sig .tc .vmem S1x16x96x1400 .fp8e4m3) (harg6 : arg6.IsWhole) (arg7 : Memref sig .tc .vmem S1x16x96x1400 .fp8e4m3) (harg7 : arg7.IsWhole) (arg8 : Memref sig .tc .vmem S1x1400x1536 .bf16) (harg8 : arg8.IsWhole) (arg9 : Memref sig .tc .vmem S16x1400x96 .fp8e4m3) (harg9 : arg9.IsWhole) (arg10 : Memref sig .tc .vmem S16x96x1400 .bf16) (harg10 : arg10.IsWhole) (arg11 : Memref sig .tc .vmem S16x96x1400 .bf16) (harg11 : arg11.IsWhole) (X1 : BufTy.Contents (Elt Ideal) arg1.view.ty) (X2 : BufTy.Contents (Elt Ideal) arg2.view.ty) (X3 : BufTy.Contents (Elt Ideal) arg3.view.ty) (X4 : BufTy.Contents (Elt Ideal) arg4.view.ty) (X5 : BufTy.Contents (Elt Ideal) arg5.view.ty) (X6 : BufTy.Contents (Elt Ideal) arg6.view.ty) (X7 : BufTy.Contents (Elt Ideal) arg7.view.ty) (X9 : BufTy.Contents (Elt Ideal) arg9.view.ty) (X10 : BufTy.Contents (Elt Ideal) arg10.view.ty)
    (k : Fin k0_t3_loop.trips) (hw : ∀ x, k0_chk2 i (View.readAt (Elt Ideal) arg1.view (Rect.unit (s := S12x16) (k0_off26 i k) S1x1.size (k0_off26_inb i k)).toLoadRect X1 x))
    (h : Fin 16) (hh : (trip3.sl.r i arg1 X1 k).toNat = h.val)
    (j : S16x96x1400.Idx) (hj : j 0 = h) : ∃ p ∈ (trip3 (F := Ideal) c q i arg1 harg1 arg2 harg2 arg3 harg3 arg4 harg4 arg5 harg5 arg6 harg6 arg7 harg7 arg8 harg8 arg9 harg9 arg10 harg10 arg11 harg11 X1 X2 X3 X4 X5 X6 X7 X9 X10 k hw).1, j ∈ p.1.set := by
  have hlt : (j 2).val < 1400 := (j 2).isLt
  unfold trip3
  by_cases h0 : (j 2).val < 128
  · exact ⟨_, List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_self)))))))))), mem10 (n := 128) (o := 0) (inb10 h (off35 hh) (by decide)) h (off35 hh) j hj (by omega) (by omega)⟩
  by_cases h128 : (j 2).val < 256
  · exact ⟨_, List.mem_cons_of_mem _ (List.mem_cons_of_mem _ (List.mem_cons_of_mem _ (List.mem_cons_of_mem _ (List.mem_cons_of_mem _ (List.mem_cons_self))))), mem10 (n := 128) (o := 128) (inb10 h (off45 hh) (by decide)) h (off45 hh) j hj (by omega) (by omega)⟩
  by_cases h256 : (j 2).val < 384
  · exact ⟨_, List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_self))))))))), mem10 (n := 128) (o := 256) (inb10 h (off36 hh) (by decide)) h (off36 hh) j hj (by omega) (by omega)⟩
  by_cases h384 : (j 2).val < 512
  · exact ⟨_, List.mem_cons_of_mem _ (List.mem_cons_of_mem _ (List.mem_cons_of_mem _ (List.mem_cons_of_mem _ (List.mem_cons_self)))), mem10 (n := 128) (o := 384) (inb10 h (off46 hh) (by decide)) h (off46 hh) j hj (by omega) (by omega)⟩
  by_cases h512 : (j 2).val < 640
  · exact ⟨_, List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_self)))))))), mem10 (n := 128) (o := 512) (inb10 h (off37 hh) (by decide)) h (off37 hh) j hj (by omega) (by omega)⟩
  by_cases h640 : (j 2).val < 768
  · exact ⟨_, List.mem_cons_of_mem _ (List.mem_cons_of_mem _ (List.mem_cons_of_mem _ (List.mem_cons_self))), mem10 (n := 128) (o := 640) (inb10 h (off47 hh) (by decide)) h (off47 hh) j hj (by omega) (by omega)⟩
  by_cases h768 : (j 2).val < 896
  · exact ⟨_, List.mem_cons_of_mem _ (List.mem_cons_of_mem _ (List.mem_cons_of_mem _ (List.mem_cons_of_mem _ (List.mem_cons_of_mem _ (List.mem_cons_of_mem _ (List.mem_cons_of_mem _ (List.mem_cons_self))))))), mem10 (n := 128) (o := 768) (inb10 h (off38 hh) (by decide)) h (off38 hh) j hj (by omega) (by omega)⟩
  by_cases h896 : (j 2).val < 1024
  · exact ⟨_, List.mem_cons_of_mem _ (List.mem_cons_of_mem _ (List.mem_cons_self)), mem10 (n := 128) (o := 896) (inb10 h (off48 hh) (by decide)) h (off48 hh) j hj (by omega) (by omega)⟩
  by_cases h1024 : (j 2).val < 1152
  · exact ⟨_, List.mem_cons_of_mem _ (List.mem_cons_of_mem _ (List.mem_cons_of_mem _ (List.mem_cons_of_mem _ (List.mem_cons_of_mem _ (List.mem_cons_of_mem _ (List.mem_cons_self)))))), mem10 (n := 128) (o := 1024) (inb10 h (off39 hh) (by decide)) h (off39 hh) j hj (by omega) (by omega)⟩
  by_cases h1152 : (j 2).val < 1280
  · exact ⟨_, List.mem_cons_of_mem _ (List.mem_cons_self), mem10 (n := 128) (o := 1152) (inb10 h (off49 hh) (by decide)) h (off49 hh) j hj (by omega) (by omega)⟩
  exact ⟨_, List.mem_cons_self, mem10 (n := 120) (o := 1280) (inb10 h (off34 hh) (by decide)) h (off34 hh) j hj (by omega) (by omega)⟩

end Cert.KernelIdeal.Hand
-- ==== Proof.KernelIdealScratch.lean ====
/- WHAT loops 2 and 3 leave in the output scratch: every head's rows of the attention. -/
module

public import proofs.«01_k».proof.Proof.KernelIdealValue2
public import proofs.«01_k».proof.Proof.KernelIdealValue3

@[expose] public section

set_option maxRecDepth 16384

noncomputable section

namespace Cert.KernelIdeal.Hand

open Idealize.ShloMosaic
open Cert.KernelIdeal Cert.KernelIdeal.Gen Cert.KernelIdeal.Spec Cert.KernelIdeal.Reads
open Idealize.SL Idealize.SL.RA

theorem trips2 : k0_t2_loop.trips = 9 := by decide +kernel
theorem trips3 : k0_t3_loop.trips = 7 := by decide +kernel

/-- A head is spatial when it is named among its sample's first nine. -/
def spatial (x1 : S12x16.Idx → BitVec 32) (b : Fin 12) (h : Fin 16) : Prop := ∃ j : Fin 16, j.val < 9 ∧ (x1 (ix2 b j)).toNat = h.val

/-- A sample that names all sixteen heads names each once. -/
theorem named_once (x1 : S12x16.Idx → BitVec 32) (b : Fin 12) (hlt : ∀ k, (x1 (ix2 b k)).toNat < 16)
    (hall : ∀ h : Fin 16, ∃ k : Fin 16, (x1 (ix2 b k)).toNat = h.val) (k l : Fin 16)
    (e : (x1 (ix2 b k)).toNat = (x1 (ix2 b l)).toNat) : k = l := by
  have hs : Function.Surjective (fun k : Fin 16 => (⟨(x1 (ix2 b k)).toNat, hlt k⟩ : Fin 16)) := fun h =>
    (hall h).imp fun k hk => Fin.ext hk
  exact Finite.injective_iff_surjective.2 hs (Fin.ext e)

section

variable (c : Dev nD) (q : PosShare TreeShare) (i : grid0.Coords) (arg1 : Memref sig .tc .smem S12x16 .i32) (harg1 : arg1.IsWhole) (arg2 : Memref sig .tc .smem S12x16 .f32) (harg2 : arg2.IsWhole) (arg3 : Memref sig .tc .smem S12x16 .f32) (harg3 : arg3.IsWhole) (arg4 : Memref sig .tc .smem S12x16 .f32) (harg4 : arg4.IsWhole) (arg5 : Memref sig .tc .vmem S1x16x96x1400 .fp8e4m3) (harg5 : arg5.IsWhole) (arg6 : Memref sig .tc .vmem S1x16x96x1400 .fp8e4m3) (harg6 : arg6.IsWhole) (arg7 : Memref sig .tc .vmem S1x16x96x1400 .fp8e4m3) (harg7 : arg7.IsWhole) (arg8 : Memref sig .tc .vmem S1x1400x1536 .bf16) (harg8 : arg8.IsWhole) (arg9 : Memref sig .tc .vmem S16x1400x96 .fp8e4m3) (harg9 : arg9.IsWhole) (arg10 : Memref sig .tc .vmem S16x96x1400 .bf16) (harg10 : arg10.IsWhole) (arg11 : Memref sig .tc .vmem S16x96x1400 .bf16) (harg11 : arg11.IsWhole) (X1 : BufTy.Contents (Elt Ideal) arg1.view.ty) (X2 : BufTy.Contents (Elt Ideal) arg2.view.ty) (X3 : BufTy.Contents (Elt Ideal) arg3.view.ty) (X4 : BufTy.Contents (Elt Ideal) arg4.view.ty) (X5 : BufTy.Contents (Elt Ideal) arg5.view.ty) (X6 : BufTy.Contents (Elt Ideal) arg6.view.ty) (X7 : BufTy.Contents (Elt Ideal) arg7.view.ty) (X9 : BufTy.Contents (Elt Ideal) arg9.view.ty) (X10 : BufTy.Contents (Elt Ideal) arg10.view.ty) (X11 : BufTy.Contents (Elt Ideal) arg11.view.ty)
  (hw2 : ∀ k x, k0_chk1 i (View.readAt (Elt Ideal) arg1.view (Rect.unit (s := S12x16) (k0_off4 i k) S1x1.size (k0_off4_inb i k)).toLoadRect X1 x)) (hw3 : ∀ k x, k0_chk2 i (View.readAt (Elt Ideal) arg1.view (Rect.unit (s := S12x16) (k0_off26 i k) S1x1.size (k0_off26_inb i k)).toLoadRect X1 x))

theorem mem_pb2 (n : ℕ) (hn : n ≤ k0_t2_loop.trips) (p : View.Piece (Elt Ideal) S16x96x1400 .bf16) (hp : p ∈ pb2 (F := Ideal) c q i arg1 harg1 arg2 harg2 arg3 harg3 arg4 harg4 arg5 harg5 arg6 harg6 arg7 harg7 arg8 harg8 arg9 harg9 arg10 harg10 arg11 harg11 X1 X2 X3 X4 X5 X9 X10 hw2 n) :
    ∃ k : Fin k0_t2_loop.trips, p ∈ (trip2 (F := Ideal) c q i arg1 harg1 arg2 harg2 arg3 harg3 arg4 harg4 arg5 harg5 arg6 harg6 arg7 harg7 arg8 harg8 arg9 harg9 arg10 harg10 arg11 harg11 X1 X2 X3 X4 X5 X9 X10 k (hw2 k)).1 := by
  induction n with
  | zero => cases hp
  | succ n ih =>
    have e := pb2_succ (F := Ideal) c q i arg1 harg1 arg2 harg2 arg3 harg3 arg4 harg4 arg5 harg5 arg6 harg6 arg7 harg7 arg8 harg8 arg9 harg9 arg10 harg10 arg11 harg11 X1 X2 X3 X4 X5 X9 X10 hw2 ⟨n, hn⟩
    rw [show n + 1 = (⟨n, hn⟩ : Fin k0_t2_loop.trips).val + 1 from rfl, e] at hp
    rcases List.mem_append.1 hp with hp | hp
    · exact ⟨_, hp⟩
    · exact ih (by omega) hp

theorem pb2_mem (k : Fin k0_t2_loop.trips) (n : ℕ) (hk : k.val < n) (hn : n ≤ k0_t2_loop.trips)
    (p : View.Piece (Elt Ideal) S16x96x1400 .bf16) (hp : p ∈ (trip2 (F := Ideal) c q i arg1 harg1 arg2 harg2 arg3 harg3 arg4 harg4 arg5 harg5 arg6 harg6 arg7 harg7 arg8 harg8 arg9 harg9 arg10 harg10 arg11 harg11 X1 X2 X3 X4 X5 X9 X10 k (hw2 k)).1) : p ∈ pb2 (F := Ideal) c q i arg1 harg1 arg2 harg2 arg3 harg3 arg4 harg4 arg5 harg5 arg6 harg6 arg7 harg7 arg8 harg8 arg9 harg9 arg10 harg10 arg11 harg11 X1 X2 X3 X4 X5 X9 X10 hw2 n := by
  induction n with
  | zero => omega
  | succ n ih =>
    have e := pb2_succ (F := Ideal) c q i arg1 harg1 arg2 harg2 arg3 harg3 arg4 harg4 arg5 harg5 arg6 harg6 arg7 harg7 arg8 harg8 arg9 harg9 arg10 harg10 arg11 harg11 X1 X2 X3 X4 X5 X9 X10 hw2 ⟨n, hn⟩
    rw [show n + 1 = (⟨n, hn⟩ : Fin k0_t2_loop.trips).val + 1 from rfl, e]
    by_cases h : k.val = n
    · obtain rfl : k = ⟨n, hn⟩ := Fin.ext h
      exact List.mem_append_left _ hp
    · exact List.mem_append_right _ (ih (by omega) (by omega))

theorem word2 (k : Fin k0_t2_loop.trips) (j : Fin 16) (hj : j.val = k.val) :
    trip2.sl.r i arg1 X1 k = arg1.view.read (Elt Ideal) X1 (ix2 (i 0) j) :=
  rdS arg1.view X1 _ (i 0) j ((Gen.k0_off4_eq i k).trans (by rw [hj])) _

theorem mem_pb3 (n : ℕ) (hn : n ≤ k0_t3_loop.trips) (p : View.Piece (Elt Ideal) S16x96x1400 .bf16) (hp : p ∈ pb3 (F := Ideal) c q i arg1 harg1 arg2 harg2 arg3 harg3 arg4 harg4 arg5 harg5 arg6 harg6 arg7 harg7 arg8 harg8 arg9 harg9 arg10 harg10 arg11 harg11 X1 X2 X3 X4 X5 X6 X7 X9 X10 hw3 n) :
    ∃ k : Fin k0_t3_loop.trips, p ∈ (trip3 (F := Ideal) c q i arg1 harg1 arg2 harg2 arg3 harg3 arg4 harg4 arg5 harg5 arg6 harg6 arg7 harg7 arg8 harg8 arg9 harg9 arg10 harg10 arg11 harg11 X1 X2 X3 X4 X5 X6 X7 X9 X10 k (hw3 k)).1 := by
  induction n with
  | zero => cases hp
  | succ n ih =>
    have e := pb3_succ (F := Ideal) c q i arg1 harg1 arg2 harg2 arg3 harg3 arg4 harg4 arg5 harg5 arg6 harg6 arg7 harg7 arg8 harg8 arg9 harg9 arg10 harg10 arg11 harg11 X1 X2 X3 X4 X5 X6 X7 X9 X10 hw3 ⟨n, hn⟩
    rw [show n + 1 = (⟨n, hn⟩ : Fin k0_t3_loop.trips).val + 1 from rfl, e] at hp
    rcases List.mem_append.1 hp with hp | hp
    · exact ⟨_, hp⟩
    · exact ih (by omega) hp

theorem pb3_mem (k : Fin k0_t3_loop.trips) (n : ℕ) (hk : k.val < n) (hn : n ≤ k0_t3_loop.trips)
    (p : View.Piece (Elt Ideal) S16x96x1400 .bf16) (hp : p ∈ (trip3 (F := Ideal) c q i arg1 harg1 arg2 harg2 arg3 harg3 arg4 harg4 arg5 harg5 arg6 harg6 arg7 harg7 arg8 harg8 arg9 harg9 arg10 harg10 arg11 harg11 X1 X2 X3 X4 X5 X6 X7 X9 X10 k (hw3 k)).1) : p ∈ pb3 (F := Ideal) c q i arg1 harg1 arg2 harg2 arg3 harg3 arg4 harg4 arg5 harg5 arg6 harg6 arg7 harg7 arg8 harg8 arg9 harg9 arg10 harg10 arg11 harg11 X1 X2 X3 X4 X5 X6 X7 X9 X10 hw3 n := by
  induction n with
  | zero => omega
  | succ n ih =>
    have e := pb3_succ (F := Ideal) c q i arg1 harg1 arg2 harg2 arg3 harg3 arg4 harg4 arg5 harg5 arg6 harg6 arg7 harg7 arg8 harg8 arg9 harg9 arg10 harg10 arg11 harg11 X1 X2 X3 X4 X5 X6 X7 X9 X10 hw3 ⟨n, hn⟩
    rw [show n + 1 = (⟨n, hn⟩ : Fin k0_t3_loop.trips).val + 1 from rfl, e]
    by_cases h : k.val = n
    · obtain rfl : k = ⟨n, hn⟩ := Fin.ext h
      exact List.mem_append_left _ hp
    · exact List.mem_append_right _ (ih (by omega) (by omega))

theorem word3 (k : Fin k0_t3_loop.trips) (j : Fin 16) (hj : j.val = k.val + 9) :
    trip3.sl.r i arg1 X1 k = arg1.view.read (Elt Ideal) X1 (ix2 (i 0) j) :=
  rdS arg1.view X1 _ (i 0) j ((Gen.k0_off26_eq i k).trans (by rw [hj])) _

/-- The output scratch after the loops, whatever it held before. -/
theorem scratch_read
    (hlt : ∀ k : Fin 16, (arg1.view.read (Elt Ideal) X1 (ix2 (i 0) k) : BitVec 32).toNat < 16)
    (hall : ∀ h : Fin 16, ∃ k : Fin 16, (arg1.view.read (Elt Ideal) X1 (ix2 (i 0) k) : BitVec 32).toNat = h.val)
    (H9 : ∀ h t e, arg9.view.read (Elt Ideal) X9 (ix3 h t e) = arg6.view.read (Elt Ideal) X6 (ix4 0 h e t))
    (H10 : ∀ h d t, arg10.view.read (Elt Ideal) X10 (ix3 h d t) = arg7.view.read (Elt Ideal) X7 (ix4 0 h d t)) (j : S16x96x1400.Idx) :
    arg11.view.read (Elt Ideal) (arg11.view.writes (Elt Ideal) X11 (pb3 (F := Ideal) c q i arg1 harg1 arg2 harg2 arg3 harg3 arg4 harg4 arg5 harg5 arg6 harg6 arg7 harg7 arg8 harg8 arg9 harg9 arg10 harg10 arg11 harg11 X1 X2 X3 X4 X5 X6 X7 X9 X10 hw3 k0_t3_loop.trips ++ pb2 (F := Ideal) c q i arg1 harg1 arg2 harg2 arg3 harg3 arg4 harg4 arg5 harg5 arg6 harg6 arg7 harg7 arg8 harg8 arg9 harg9 arg10 harg10 arg11 harg11 X1 X2 X3 X4 X5 X9 X10 hw2 k0_t2_loop.trips)) j
      = G (spatial (arg1.view.read (Elt Ideal) X1) (i 0)) (i 0) (arg2.view.read (Elt Ideal) X2) (arg3.view.read (Elt Ideal) X3) (arg4.view.read (Elt Ideal) X4)
      (arg5.view.read (Elt Ideal) X5) (arg6.view.read (Elt Ideal) X6) (arg7.view.read (Elt Ideal) X7) j := by
  refine View.read_writes_apply_of_pieces arg11.view X11 (G (spatial (arg1.view.read (Elt Ideal) X1) (i 0)) (i 0) (arg2.view.read (Elt Ideal) X2) (arg3.view.read (Elt Ideal) X3) (arg4.view.read (Elt Ideal) X4)
      (arg5.view.read (Elt Ideal) X5) (arg6.view.read (Elt Ideal) X6) (arg7.view.read (Elt Ideal) X7)) _ ?_ _ ?_
  · intro p hp
    rcases List.mem_append.1 hp with hp | hp
    · obtain ⟨k, hk⟩ := mem_pb3 c q i arg1 harg1 arg2 harg2 arg3 harg3 arg4 harg4 arg5 harg5 arg6 harg6 arg7 harg7 arg8 harg8 arg9 harg9 arg10 harg10 arg11 harg11 X1 X2 X3 X4 X5 X6 X7 X9 X10 hw3 _ (le_refl _) p hp
      have hk9 : k.val + 9 < 16 := by have := lt_of_lt_of_eq k.isLt trips3; omega
      have hr := word3 i arg1 X1 k ⟨k.val + 9, hk9⟩ rfl
      refine trip3_agrees c q i arg1 harg1 arg2 harg2 arg3 harg3 arg4 harg4 arg5 harg5 arg6 harg6 arg7 harg7 arg8 harg8 arg9 harg9 arg10 harg10 arg11 harg11 X1 X2 X3 X4 X5 X6 X7 X9 X10 k (hw3 k) ⟨_, hlt ⟨k.val + 9, hk9⟩⟩ (congrArg BitVec.toNat hr) _ ?_ _ _ H9 H10 (fun _ => rfl) (fun _ => rfl) p hk
      rintro ⟨l, hl, e⟩
      have := named_once _ (i 0) hlt hall l ⟨k.val + 9, hk9⟩ e
      rw [this] at hl
      simp only at hl
      omega
    · obtain ⟨k, hk⟩ := mem_pb2 c q i arg1 harg1 arg2 harg2 arg3 harg3 arg4 harg4 arg5 harg5 arg6 harg6 arg7 harg7 arg8 harg8 arg9 harg9 arg10 harg10 arg11 harg11 X1 X2 X3 X4 X5 X9 X10 hw2 _ (le_refl _) p hp
      have hk9 : k.val < 9 := by have := lt_of_lt_of_eq k.isLt trips2; omega
      have hr := word2 i arg1 X1 k ⟨k.val, by omega⟩ rfl
      exact trip2_agrees c q i arg1 harg1 arg2 harg2 arg3 harg3 arg4 harg4 arg5 harg5 arg6 harg6 arg7 harg7 arg8 harg8 arg9 harg9 arg10 harg10 arg11 harg11 X1 X2 X3 X4 X5 X9 X10 k (hw2 k) ⟨_, hlt ⟨k.val, by omega⟩⟩ (congrArg BitVec.toNat hr) _ ⟨⟨k.val, by omega⟩, hk9, rfl⟩ _ _ H9 H10 p hk
  · obtain ⟨l, hl⟩ := hall (j 0)
    by_cases h9 : l.val < 9
    · have hr := word2 i arg1 X1 ⟨l.val, by rw [trips2]; exact h9⟩ l rfl
      obtain ⟨p, hp, hj⟩ := trip2_covers c q i arg1 harg1 arg2 harg2 arg3 harg3 arg4 harg4 arg5 harg5 arg6 harg6 arg7 harg7 arg8 harg8 arg9 harg9 arg10 harg10 arg11 harg11 X1 X2 X3 X4 X5 X9 X10 ⟨l.val, by rw [trips2]; exact h9⟩ (hw2 _) (j 0) ((congrArg BitVec.toNat hr).trans hl) j rfl
      exact ⟨p, List.mem_append_right _ (pb2_mem c q i arg1 harg1 arg2 harg2 arg3 harg3 arg4 harg4 arg5 harg5 arg6 harg6 arg7 harg7 arg8 harg8 arg9 harg9 arg10 harg10 arg11 harg11 X1 X2 X3 X4 X5 X9 X10 hw2 _ _ (Fin.isLt _) (le_refl _) p hp), hj⟩
    · have h7 : l.val - 9 < k0_t3_loop.trips := by rw [trips3]; omega
      have hr := word3 i arg1 X1 ⟨l.val - 9, h7⟩ l (by simp only; omega)
      obtain ⟨p, hp, hj⟩ := trip3_covers c q i arg1 harg1 arg2 harg2 arg3 harg3 arg4 harg4 arg5 harg5 arg6 harg6 arg7 harg7 arg8 harg8 arg9 harg9 arg10 harg10 arg11 harg11 X1 X2 X3 X4 X5 X6 X7 X9 X10 ⟨l.val - 9, h7⟩ (hw3 _) (j 0) ((congrArg BitVec.toNat hr).trans hl) j rfl
      exact ⟨p, List.mem_append_left _ (pb3_mem c q i arg1 harg1 arg2 harg2 arg3 harg3 arg4 harg4 arg5 harg5 arg6 harg6 arg7 harg7 arg8 harg8 arg9 harg9 arg10 harg10 arg11 harg11 X1 X2 X3 X4 X5 X6 X7 X9 X10 hw3 _ _ (Fin.isLt _) (le_refl _) p hp), hj⟩

end

end Cert.KernelIdeal.Hand
-- ==== Proof.KernelIdealOut.lean ====
/- WHAT the body leaves in the output block: the heads' rows, a token's features side by side. -/
module

public import proofs.«01_k».proof.Proof.KernelIdealStage
public import proofs.«01_k».proof.Proof.KernelIdealScratch
public import proofs.«01_k».proof.Proof.KernelIdealBody
public import Idealize.ShloMosaic.Lib.Pointwise

@[expose] public section

set_option maxRecDepth 16384

noncomputable section

namespace Cert.KernelIdeal.Hand

open Idealize.ShloMosaic
open Cert.KernelIdeal Cert.KernelIdeal.Gen Cert.KernelIdeal.Spec Cert.KernelIdeal.Reads
open Idealize.SL Idealize.SL.RA

/-- The heads' rows, a token's features side by side. -/
def sideBySide (g : S16x96x1400.Idx → EReal) (j : S1x1400x1536.Idx) : EReal :=
  g (ix3 ⟨(j 2).val / 96, by have : (j 2).val < 1536 := (j 2).isLt; omega⟩ ⟨(j 2).val % 96, Nat.mod_lt _ (by decide)⟩ (j 1))

theorem sideBySide_apply (g : S16x96x1400.Idx → EReal) (n : Fin 1400) (h : Fin 16) (d : Fin 96) :
    sideBySide g (ix3 0 n ⟨96 * h.val + d.val, by omega⟩) = g (ix3 h d n) := by
  have h1 : (96 * h.val + d.val) / 96 = h.val := by omega
  have h2 : (96 * h.val + d.val) % 96 = d.val := by omega
  show g (ix3 ⟨(96 * h.val + d.val) / 96, _⟩ ⟨(96 * h.val + d.val) % 96, _⟩ n) = _
  congr 1
  refine funext fun a => ?_
  match a with
  | 0 => exact Fin.ext h1
  | 1 => exact Fin.ext h2
  | 2 => rfl

/-- A tile transposed into the output block. -/
theorem pay186_apply (v : Vec Ideal S16x96x128 .bf16) (a : Fin 128) (h : Fin 16) (d : Fin 96) :
    k0_pay186 (F := Ideal) v (ix3 0 a ⟨96 * h.val + d.val, by omega⟩) = v (ix3 h d a) := by
  pointwise [k0_pay186]

theorem pay4_apply (v : Vec Ideal S16x96x120 .bf16) (a : Fin 120) (h : Fin 16) (d : Fin 96) :
    k0_pay4 (F := Ideal) v (ix3 0 a ⟨96 * h.val + d.val, by omega⟩) = v (ix3 h d a) := by
  pointwise [k0_pay4]

/-- A tile agrees with a target when each of its elements does. -/
theorem tile {n : ℕ} (o : ℕ) (inb : ∀ a, (![0, o, 0] : Fin 3 → ℕ) a + (![1, n, 1536] : Fin 3 → ℕ) a ≤ S1x1400x1536.size a)
    (p : (⟨3, ![1, n, 1536]⟩ : Shape).Idx → EReal) (T : S1x1400x1536.Idx → EReal) (τ : Fin n → Fin 1400) (hτ : ∀ l, (τ l).val = o + l.val)
    (hp : ∀ (a : Fin n) (h : Fin 16) (d : Fin 96), p (ix3 0 a ⟨96 * h.val + d.val, by omega⟩) = T (ix3 0 (τ a) ⟨96 * h.val + d.val, by omega⟩))
    (x : (⟨3, ![1, n, 1536]⟩ : Shape).Idx) :
    p x = T ((Rect.unit (s := S1x1400x1536) (![0, o, 0] : Fin 3 → ℕ) (![1, n, 1536] : Fin 3 → ℕ) inb).emb x) := by
  have hx : (x 2).val < 1536 := (x 2).isLt
  have hx0 : (x 0).val < 1 := (x 0).isLt
  have e2 : 96 * ((x 2).val / 96) + (x 2).val % 96 = (x 2).val := Nat.div_add_mod _ _
  have e1 : (Rect.unit (s := S1x1400x1536) (![0, o, 0] : Fin 3 → ℕ) (![1, n, 1536] : Fin 3 → ℕ) inb).emb x
      = ix3 0 (τ (x 1)) ⟨96 * ((x 2).val / 96) + (x 2).val % 96, by omega⟩ := by
    refine funext fun a => Fin.ext ?_
    match a with
    | 0 => show 0 + 1 * (x 0).val = 0; omega
    | 1 => exact (congrArg (o + ·) (Nat.one_mul (x 1).val)).trans (hτ (x 1)).symm
    | 2 => show 0 + 1 * (x 2).val = 96 * ((x 2).val / 96) + (x 2).val % 96; omega
  rw [e1]
  refine Eq.trans (congrArg p ?_) (hp (x 1) ⟨(x 2).val / 96, by omega⟩ ⟨(x 2).val % 96, Nat.mod_lt _ (by decide)⟩)
  refine funext fun a => ?_
  match a with
  | 0 => exact Fin.ext (by show (x 0).val = 0; omega)
  | 1 => rfl
  | 2 => exact Fin.ext e2.symm

/-- A tile covers its tokens. -/
theorem memTile {n : ℕ} (o : ℕ) (inb : ∀ a, (![0, o, 0] : Fin 3 → ℕ) a + (![1, n, 1536] : Fin 3 → ℕ) a ≤ S1x1400x1536.size a)
    (j : S1x1400x1536.Idx) (h1 : o ≤ (j 1).val) (h2 : (j 1).val < o + n) :
    j ∈ (Rect.unit (s := S1x1400x1536) (![0, o, 0] : Fin 3 → ℕ) (![1, n, 1536] : Fin 3 → ℕ) inb).set := by
  rw [Rect.mem_set_unit]
  intro a
  match a with
  | 0 => exact ⟨Nat.zero_le _, by show (j 0).val < 0 + 1; have : (j 0).val < 1 := (j 0).isLt; omega⟩
  | 1 => exact ⟨h1, h2⟩
  | 2 => exact ⟨Nat.zero_le _, by show (j 2).val < 0 + 1536; have : (j 2).val < 1536 := (j 2).isLt; omega⟩

/-- A tile read from the scratch. -/
theorem rdTile {κ : Kind} {space : Space} {e : EltTy} {n : ℕ} (o : ℕ) (v : View sig κ space S16x96x1400 e) (X : v.ty.Contents (Elt Ideal))
    (inb : ∀ a, (![0, 0, o] : Fin 3 → ℕ) a + (![16, 96, n] : Fin 3 → ℕ) a ≤ S16x96x1400.size a) (h : Fin 16) (d : Fin 96) (k : Fin n) (t : Fin 1400) (ht : t.val = o + k.val) :
    View.readAt (Elt Ideal) v (Rect.unit (s := S16x96x1400) (![0, 0, o] : Fin 3 → ℕ) (![16, 96, n] : Fin 3 → ℕ) inb).toLoadRect X (ix3 h d k) = v.read (Elt Ideal) X (ix3 h d t) := by
  refine rd v X inb _ _ fun a => ?_
  match a with
  | 0 => exact (Nat.zero_add _).symm
  | 1 => exact (Nat.zero_add _).symm
  | 2 => exact ht

section

variable (c : Dev nD) (q : PosShare TreeShare) (i : grid0.Coords) (arg1 : Memref sig .tc .smem S12x16 .i32) (harg1 : arg1.IsWhole) (arg2 : Memref sig .tc .smem S12x16 .f32) (harg2 : arg2.IsWhole) (arg3 : Memref sig .tc .smem S12x16 .f32) (harg3 : arg3.IsWhole) (arg4 : Memref sig .tc .smem S12x16 .f32) (harg4 : arg4.IsWhole) (arg5 : Memref sig .tc .vmem S1x16x96x1400 .fp8e4m3) (harg5 : arg5.IsWhole) (arg6 : Memref sig .tc .vmem S1x16x96x1400 .fp8e4m3) (harg6 : arg6.IsWhole) (arg7 : Memref sig .tc .vmem S1x16x96x1400 .fp8e4m3) (harg7 : arg7.IsWhole) (arg8 : Memref sig .tc .vmem S1x1400x1536 .bf16) (harg8 : arg8.IsWhole) (arg9 : Memref sig .tc .vmem S16x1400x96 .fp8e4m3) (harg9 : arg9.IsWhole) (arg10 : Memref sig .tc .vmem S16x96x1400 .bf16) (harg10 : arg10.IsWhole) (arg11 : Memref sig .tc .vmem S16x96x1400 .bf16) (harg11 : arg11.IsWhole) (X1 : BufTy.Contents (Elt Ideal) arg1.view.ty) (X2 : BufTy.Contents (Elt Ideal) arg2.view.ty) (X3 : BufTy.Contents (Elt Ideal) arg3.view.ty) (X4 : BufTy.Contents (Elt Ideal) arg4.view.ty) (X5 : BufTy.Contents (Elt Ideal) arg5.view.ty) (X6 : BufTy.Contents (Elt Ideal) arg6.view.ty) (X7 : BufTy.Contents (Elt Ideal) arg7.view.ty) (X9 : BufTy.Contents (Elt Ideal) arg9.view.ty) (X10 : BufTy.Contents (Elt Ideal) arg10.view.ty) (X11 : BufTy.Contents (Elt Ideal) arg11.view.ty)
  (hw2 : ∀ k x, k0_chk1 i (View.readAt (Elt Ideal) arg1.view (Rect.unit (s := S12x16) (k0_off4 i k) S1x1.size (k0_off4_inb i k)).toLoadRect X1 x)) (hw3 : ∀ k x, k0_chk2 i (View.readAt (Elt Ideal) arg1.view (Rect.unit (s := S12x16) (k0_off26 i k) S1x1.size (k0_off26_inb i k)).toLoadRect X1 x))

/-- The output block after the body, whatever it and the scratch held before. -/
theorem block_read (X8 : BufTy.Contents (Elt Ideal) arg8.view.ty)
    (hlt : ∀ k : Fin 16, (arg1.view.read (Elt Ideal) X1 (ix2 (i 0) k) : BitVec 32).toNat < 16)
    (hall : ∀ h : Fin 16, ∃ k : Fin 16, (arg1.view.read (Elt Ideal) X1 (ix2 (i 0) k) : BitVec 32).toNat = h.val) (j : S1x1400x1536.Idx) :
    arg8.view.read (Elt Ideal) (arg8.view.writes (Elt Ideal) X8 (bodyRun (F := Ideal) c q i arg1 harg1 arg2 harg2 arg3 harg3 arg4 harg4 arg5 harg5 arg6 harg6 arg7 harg7 arg8 harg8 arg9 harg9 arg10 harg10 arg11 harg11 X1 X2 X3 X4 X5 X6 X7 X9 X10 X11 hw2 hw3).1) j
      = sideBySide (G (spatial (arg1.view.read (Elt Ideal) X1) (i 0)) (i 0) (arg2.view.read (Elt Ideal) X2) (arg3.view.read (Elt Ideal) X3) (arg4.view.read (Elt Ideal) X4)
      (arg5.view.read (Elt Ideal) X5) (arg6.view.read (Elt Ideal) X6) (arg7.view.read (Elt Ideal) X7)) j := by
  have HS := scratch_read c q i arg1 harg1 arg2 harg2 arg3 harg3 arg4 harg4 arg5 harg5 arg6 harg6 arg7 harg7 arg8 harg8 arg9 harg9 arg10 harg10 arg11 harg11 X1 X2 X3 X4 X5 X6 X7 (arg9.view.writes (Elt Ideal) X9 (Gen.pb_k0_t1 (F := Ideal) Variants.none c none i arg1 harg1 arg2 harg2 arg3 harg3 arg4 harg4 arg5 harg5 arg6 harg6 arg7 harg7 arg8 harg8 arg9 harg9 arg10 harg10 arg11 harg11 X6 X7 k0_t1_loop.trips).1) (arg10.view.writes (Elt Ideal) X10 (Gen.pb_k0_t1 (F := Ideal) Variants.none c none i arg1 harg1 arg2 harg2 arg3 harg3 arg4 harg4 arg5 harg5 arg6 harg6 arg7 harg7 arg8 harg8 arg9 harg9 arg10 harg10 arg11 harg11 X6 X7 k0_t1_loop.trips).2) X11 hw2 hw3 hlt hall
    (keys_read c i arg1 harg1 arg2 harg2 arg3 harg3 arg4 harg4 arg5 harg5 arg6 harg6 arg7 harg7 arg8 harg8 arg9 harg9 arg10 harg10 arg11 harg11 X6 X7 X9) (values_read c i arg1 harg1 arg2 harg2 arg3 harg3 arg4 harg4 arg5 harg5 arg6 harg6 arg7 harg7 arg8 harg8 arg9 harg9 arg10 harg10 arg11 harg11 X6 X7 X10)
  refine View.read_writes_apply_of_pieces arg8.view X8 (sideBySide (G (spatial (arg1.view.read (Elt Ideal) X1) (i 0)) (i 0) (arg2.view.read (Elt Ideal) X2) (arg3.view.read (Elt Ideal) X3) (arg4.view.read (Elt Ideal) X4)
      (arg5.view.read (Elt Ideal) X5) (arg6.view.read (Elt Ideal) X6) (arg7.view.read (Elt Ideal) X7))) _ ?_ _ ?_
  · intro p hp
    unfold bodyRun at hp
    rcases List.mem_cons.1 hp with rfl | hp
    · refine tile (n := 120) 1280 Gen.inb_S1x1400x1536_S1x120x1536_0_1280_0 (k0_pay4 (F := Ideal) (View.readAt (Elt Ideal) arg11.view (Rect.unit (s := S16x96x1400) ![0, 0, 1280] S16x96x120.size Gen.inb_S16x96x1400_S16x96x120_0_0_1280).toLoadRect (arg11.view.writes (Elt Ideal) X11 (pb3 (F := Ideal) c q i arg1 harg1 arg2 harg2 arg3 harg3 arg4 harg4 arg5 harg5 arg6 harg6 arg7 harg7 arg8 harg8 arg9 harg9 arg10 harg10 arg11 harg11 X1 X2 X3 X4 X5 X6 X7 (arg9.view.writes (Elt Ideal) X9 (Gen.pb_k0_t1 (F := Ideal) Variants.none c none i arg1 harg1 arg2 harg2 arg3 harg3 arg4 harg4 arg5 harg5 arg6 harg6 arg7 harg7 arg8 harg8 arg9 harg9 arg10 harg10 arg11 harg11 X6 X7 k0_t1_loop.trips).1) (arg10.view.writes (Elt Ideal) X10 (Gen.pb_k0_t1 (F := Ideal) Variants.none c none i arg1 harg1 arg2 harg2 arg3 harg3 arg4 harg4 arg5 harg5 arg6 harg6 arg7 harg7 arg8 harg8 arg9 harg9 arg10 harg10 arg11 harg11 X6 X7 k0_t1_loop.trips).2) hw3 k0_t3_loop.trips ++ pb2 (F := Ideal) c q i arg1 harg1 arg2 harg2 arg3 harg3 arg4 harg4 arg5 harg5 arg6 harg6 arg7 harg7 arg8 harg8 arg9 harg9 arg10 harg10 arg11 harg11 X1 X2 X3 X4 X5 (arg9.view.writes (Elt Ideal) X9 (Gen.pb_k0_t1 (F := Ideal) Variants.none c none i arg1 harg1 arg2 harg2 arg3 harg3 arg4 harg4 arg5 harg5 arg6 harg6 arg7 harg7 arg8 harg8 arg9 harg9 arg10 harg10 arg11 harg11 X6 X7 k0_t1_loop.trips).1) (arg10.view.writes (Elt Ideal) X10 (Gen.pb_k0_t1 (F := Ideal) Variants.none c none i arg1 harg1 arg2 harg2 arg3 harg3 arg4 harg4 arg5 harg5 arg6 harg6 arg7 harg7 arg8 harg8 arg9 harg9 arg10 harg10 arg11 harg11 X6 X7 k0_t1_loop.trips).2) hw2 k0_t2_loop.trips)))) _ (fun l => ⟨1280 + l.val, by omega⟩) (fun l => rfl) fun a h d => ?_
      refine (pay4_apply _ a h d).trans ((rdTile (n := 120) 1280 arg11.view _ _ h d a ⟨1280 + a.val, by omega⟩ rfl).trans ((HS _).trans ?_))
      exact (sideBySide_apply _ _ h d).symm
    rcases List.mem_cons.1 hp with rfl | hp
    · refine tile (n := 128) 1152 Gen.inb_S1x1400x1536_S1x128x1536_0_1152_0 (k0_pay186 (F := Ideal) (View.readAt (Elt Ideal) arg11.view (Rect.unit (s := S16x96x1400) ![0, 0, 1152] S16x96x128.size Gen.inb_S16x96x1400_S16x96x128_0_0_1152).toLoadRect (arg11.view.writes (Elt Ideal) X11 (pb3 (F := Ideal) c q i arg1 harg1 arg2 harg2 arg3 harg3 arg4 harg4 arg5 harg5 arg6 harg6 arg7 harg7 arg8 harg8 arg9 harg9 arg10 harg10 arg11 harg11 X1 X2 X3 X4 X5 X6 X7 (arg9.view.writes (Elt Ideal) X9 (Gen.pb_k0_t1 (F := Ideal) Variants.none c none i arg1 harg1 arg2 harg2 arg3 harg3 arg4 harg4 arg5 harg5 arg6 harg6 arg7 harg7 arg8 harg8 arg9 harg9 arg10 harg10 arg11 harg11 X6 X7 k0_t1_loop.trips).1) (arg10.view.writes (Elt Ideal) X10 (Gen.pb_k0_t1 (F := Ideal) Variants.none c none i arg1 harg1 arg2 harg2 arg3 harg3 arg4 harg4 arg5 harg5 arg6 harg6 arg7 harg7 arg8 harg8 arg9 harg9 arg10 harg10 arg11 harg11 X6 X7 k0_t1_loop.trips).2) hw3 k0_t3_loop.trips ++ pb2 (F := Ideal) c q i arg1 harg1 arg2 harg2 arg3 harg3 arg4 harg4 arg5 harg5 arg6 harg6 arg7 harg7 arg8 harg8 arg9 harg9 arg10 harg10 arg11 harg11 X1 X2 X3 X4 X5 (arg9.view.writes (Elt Ideal) X9 (Gen.pb_k0_t1 (F := Ideal) Variants.none c none i arg1 harg1 arg2 harg2 arg3 harg3 arg4 harg4 arg5 harg5 arg6 harg6 arg7 harg7 arg8 harg8 arg9 harg9 arg10 harg10 arg11 harg11 X6 X7 k0_t1_loop.trips).1) (arg10.view.writes (Elt Ideal) X10 (Gen.pb_k0_t1 (F := Ideal) Variants.none c none i arg1 harg1 arg2 harg2 arg3 harg3 arg4 harg4 arg5 harg5 arg6 harg6 arg7 harg7 arg8 harg8 arg9 harg9 arg10 harg10 arg11 harg11 X6 X7 k0_t1_loop.trips).2) hw2 k0_t2_loop.trips)))) _ (fun l => ⟨1152 + l.val, by omega⟩) (fun l => rfl) fun a h d => ?_
      refine (pay186_apply _ a h d).trans ((rdTile (n := 128) 1152 arg11.view _ _ h d a ⟨1152 + a.val, by omega⟩ rfl).trans ((HS _).trans ?_))
      exact (sideBySide_apply _ _ h d).symm
    rcases List.mem_cons.1 hp with rfl | hp
    · refine tile (n := 128) 1024 Gen.inb_S1x1400x1536_S1x128x1536_0_1024_0 (k0_pay186 (F := Ideal) (View.readAt (Elt Ideal) arg11.view (Rect.unit (s := S16x96x1400) ![0, 0, 1024] S16x96x128.size Gen.inb_S16x96x1400_S16x96x128_0_0_1024).toLoadRect (arg11.view.writes (Elt Ideal) X11 (pb3 (F := Ideal) c q i arg1 harg1 arg2 harg2 arg3 harg3 arg4 harg4 arg5 harg5 arg6 harg6 arg7 harg7 arg8 harg8 arg9 harg9 arg10 harg10 arg11 harg11 X1 X2 X3 X4 X5 X6 X7 (arg9.view.writes (Elt Ideal) X9 (Gen.pb_k0_t1 (F := Ideal) Variants.none c none i arg1 harg1 arg2 harg2 arg3 harg3 arg4 harg4 arg5 harg5 arg6 harg6 arg7 harg7 arg8 harg8 arg9 harg9 arg10 harg10 arg11 harg11 X6 X7 k0_t1_loop.trips).1) (arg10.view.writes (Elt Ideal) X10 (Gen.pb_k0_t1 (F := Ideal) Variants.none c none i arg1 harg1 arg2 harg2 arg3 harg3 arg4 harg4 arg5 harg5 arg6 harg6 arg7 harg7 arg8 harg8 arg9 harg9 arg10 harg10 arg11 harg11 X6 X7 k0_t1_loop.trips).2) hw3 k0_t3_loop.trips ++ pb2 (F := Ideal) c q i arg1 harg1 arg2 harg2 arg3 harg3 arg4 harg4 arg5 harg5 arg6 harg6 arg7 harg7 arg8 harg8 arg9 harg9 arg10 harg10 arg11 harg11 X1 X2 X3 X4 X5 (arg9.view.writes (Elt Ideal) X9 (Gen.pb_k0_t1 (F := Ideal) Variants.none c none i arg1 harg1 arg2 harg2 arg3 harg3 arg4 harg4 arg5 harg5 arg6 harg6 arg7 harg7 arg8 harg8 arg9 harg9 arg10 harg10 arg11 harg11 X6 X7 k0_t1_loop.trips).1) (arg10.view.writes (Elt Ideal) X10 (Gen.pb_k0_t1 (F := Ideal) Variants.none c none i arg1 harg1 arg2 harg2 arg3 harg3 arg4 harg4 arg5 harg5 arg6 harg6 arg7 harg7 arg8 harg8 arg9 harg9 arg10 harg10 arg11 harg11 X6 X7 k0_t1_loop.trips).2) hw2 k0_t2_loop.trips)))) _ (fun l => ⟨1024 + l.val, by omega⟩) (fun l => rfl) fun a h d => ?_
      refine (pay186_apply _ a h d).trans ((rdTile (n := 128) 1024 arg11.view _ _ h d a ⟨1024 + a.val, by omega⟩ rfl).trans ((HS _).trans ?_))
      exact (sideBySide_apply _ _ h d).symm
    rcases List.mem_cons.1 hp with rfl | hp
    · refine tile (n := 128) 896 Gen.inb_S1x1400x1536_S1x128x1536_0_896_0 (k0_pay186 (F := Ideal) (View.readAt (Elt Ideal) arg11.view (Rect.unit (s := S16x96x1400) ![0, 0, 896] S16x96x128.size Gen.inb_S16x96x1400_S16x96x128_0_0_896).toLoadRect (arg11.view.writes (Elt Ideal) X11 (pb3 (F := Ideal) c q i arg1 harg1 arg2 harg2 arg3 harg3 arg4 harg4 arg5 harg5 arg6 harg6 arg7 harg7 arg8 harg8 arg9 harg9 arg10 harg10 arg11 harg11 X1 X2 X3 X4 X5 X6 X7 (arg9.view.writes (Elt Ideal) X9 (Gen.pb_k0_t1 (F := Ideal) Variants.none c none i arg1 harg1 arg2 harg2 arg3 harg3 arg4 harg4 arg5 harg5 arg6 harg6 arg7 harg7 arg8 harg8 arg9 harg9 arg10 harg10 arg11 harg11 X6 X7 k0_t1_loop.trips).1) (arg10.view.writes (Elt Ideal) X10 (Gen.pb_k0_t1 (F := Ideal) Variants.none c none i arg1 harg1 arg2 harg2 arg3 harg3 arg4 harg4 arg5 harg5 arg6 harg6 arg7 harg7 arg8 harg8 arg9 harg9 arg10 harg10 arg11 harg11 X6 X7 k0_t1_loop.trips).2) hw3 k0_t3_loop.trips ++ pb2 (F := Ideal) c q i arg1 harg1 arg2 harg2 arg3 harg3 arg4 harg4 arg5 harg5 arg6 harg6 arg7 harg7 arg8 harg8 arg9 harg9 arg10 harg10 arg11 harg11 X1 X2 X3 X4 X5 (arg9.view.writes (Elt Ideal) X9 (Gen.pb_k0_t1 (F := Ideal) Variants.none c none i arg1 harg1 arg2 harg2 arg3 harg3 arg4 harg4 arg5 harg5 arg6 harg6 arg7 harg7 arg8 harg8 arg9 harg9 arg10 harg10 arg11 harg11 X6 X7 k0_t1_loop.trips).1) (arg10.view.writes (Elt Ideal) X10 (Gen.pb_k0_t1 (F := Ideal) Variants.none c none i arg1 harg1 arg2 harg2 arg3 harg3 arg4 harg4 arg5 harg5 arg6 harg6 arg7 harg7 arg8 harg8 arg9 harg9 arg10 harg10 arg11 harg11 X6 X7 k0_t1_loop.trips).2) hw2 k0_t2_loop.trips)))) _ (fun l => ⟨896 + l.val, by omega⟩) (fun l => rfl) fun a h d => ?_
      refine (pay186_apply _ a h d).trans ((rdTile (n := 128) 896 arg11.view _ _ h d a ⟨896 + a.val, by omega⟩ rfl).trans ((HS _).trans ?_))
      exact (sideBySide_apply _ _ h d).symm
    rcases List.mem_cons.1 hp with rfl | hp
    · refine tile (n := 128) 768 Gen.inb_S1x1400x1536_S1x128x1536_0_768_0 (k0_pay186 (F := Ideal) (View.readAt (Elt Ideal) arg11.view (Rect.unit (s := S16x96x1400) ![0, 0, 768] S16x96x128.size Gen.inb_S16x96x1400_S16x96x128_0_0_768).toLoadRect (arg11.view.writes (Elt Ideal) X11 (pb3 (F := Ideal) c q i arg1 harg1 arg2 harg2 arg3 harg3 arg4 harg4 arg5 harg5 arg6 harg6 arg7 harg7 arg8 harg8 arg9 harg9 arg10 harg10 arg11 harg11 X1 X2 X3 X4 X5 X6 X7 (arg9.view.writes (Elt Ideal) X9 (Gen.pb_k0_t1 (F := Ideal) Variants.none c none i arg1 harg1 arg2 harg2 arg3 harg3 arg4 harg4 arg5 harg5 arg6 harg6 arg7 harg7 arg8 harg8 arg9 harg9 arg10 harg10 arg11 harg11 X6 X7 k0_t1_loop.trips).1) (arg10.view.writes (Elt Ideal) X10 (Gen.pb_k0_t1 (F := Ideal) Variants.none c none i arg1 harg1 arg2 harg2 arg3 harg3 arg4 harg4 arg5 harg5 arg6 harg6 arg7 harg7 arg8 harg8 arg9 harg9 arg10 harg10 arg11 harg11 X6 X7 k0_t1_loop.trips).2) hw3 k0_t3_loop.trips ++ pb2 (F := Ideal) c q i arg1 harg1 arg2 harg2 arg3 harg3 arg4 harg4 arg5 harg5 arg6 harg6 arg7 harg7 arg8 harg8 arg9 harg9 arg10 harg10 arg11 harg11 X1 X2 X3 X4 X5 (arg9.view.writes (Elt Ideal) X9 (Gen.pb_k0_t1 (F := Ideal) Variants.none c none i arg1 harg1 arg2 harg2 arg3 harg3 arg4 harg4 arg5 harg5 arg6 harg6 arg7 harg7 arg8 harg8 arg9 harg9 arg10 harg10 arg11 harg11 X6 X7 k0_t1_loop.trips).1) (arg10.view.writes (Elt Ideal) X10 (Gen.pb_k0_t1 (F := Ideal) Variants.none c none i arg1 harg1 arg2 harg2 arg3 harg3 arg4 harg4 arg5 harg5 arg6 harg6 arg7 harg7 arg8 harg8 arg9 harg9 arg10 harg10 arg11 harg11 X6 X7 k0_t1_loop.trips).2) hw2 k0_t2_loop.trips)))) _ (fun l => ⟨768 + l.val, by omega⟩) (fun l => rfl) fun a h d => ?_
      refine (pay186_apply _ a h d).trans ((rdTile (n := 128) 768 arg11.view _ _ h d a ⟨768 + a.val, by omega⟩ rfl).trans ((HS _).trans ?_))
      exact (sideBySide_apply _ _ h d).symm
    rcases List.mem_cons.1 hp with rfl | hp
    · refine tile (n := 128) 640 Gen.inb_S1x1400x1536_S1x128x1536_0_640_0 (k0_pay186 (F := Ideal) (View.readAt (Elt Ideal) arg11.view (Rect.unit (s := S16x96x1400) ![0, 0, 640] S16x96x128.size Gen.inb_S16x96x1400_S16x96x128_0_0_640).toLoadRect (arg11.view.writes (Elt Ideal) X11 (pb3 (F := Ideal) c q i arg1 harg1 arg2 harg2 arg3 harg3 arg4 harg4 arg5 harg5 arg6 harg6 arg7 harg7 arg8 harg8 arg9 harg9 arg10 harg10 arg11 harg11 X1 X2 X3 X4 X5 X6 X7 (arg9.view.writes (Elt Ideal) X9 (Gen.pb_k0_t1 (F := Ideal) Variants.none c none i arg1 harg1 arg2 harg2 arg3 harg3 arg4 harg4 arg5 harg5 arg6 harg6 arg7 harg7 arg8 harg8 arg9 harg9 arg10 harg10 arg11 harg11 X6 X7 k0_t1_loop.trips).1) (arg10.view.writes (Elt Ideal) X10 (Gen.pb_k0_t1 (F := Ideal) Variants.none c none i arg1 harg1 arg2 harg2 arg3 harg3 arg4 harg4 arg5 harg5 arg6 harg6 arg7 harg7 arg8 harg8 arg9 harg9 arg10 harg10 arg11 harg11 X6 X7 k0_t1_loop.trips).2) hw3 k0_t3_loop.trips ++ pb2 (F := Ideal) c q i arg1 harg1 arg2 harg2 arg3 harg3 arg4 harg4 arg5 harg5 arg6 harg6 arg7 harg7 arg8 harg8 arg9 harg9 arg10 harg10 arg11 harg11 X1 X2 X3 X4 X5 (arg9.view.writes (Elt Ideal) X9 (Gen.pb_k0_t1 (F := Ideal) Variants.none c none i arg1 harg1 arg2 harg2 arg3 harg3 arg4 harg4 arg5 harg5 arg6 harg6 arg7 harg7 arg8 harg8 arg9 harg9 arg10 harg10 arg11 harg11 X6 X7 k0_t1_loop.trips).1) (arg10.view.writes (Elt Ideal) X10 (Gen.pb_k0_t1 (F := Ideal) Variants.none c none i arg1 harg1 arg2 harg2 arg3 harg3 arg4 harg4 arg5 harg5 arg6 harg6 arg7 harg7 arg8 harg8 arg9 harg9 arg10 harg10 arg11 harg11 X6 X7 k0_t1_loop.trips).2) hw2 k0_t2_loop.trips)))) _ (fun l => ⟨640 + l.val, by omega⟩) (fun l => rfl) fun a h d => ?_
      refine (pay186_apply _ a h d).trans ((rdTile (n := 128) 640 arg11.view _ _ h d a ⟨640 + a.val, by omega⟩ rfl).trans ((HS _).trans ?_))
      exact (sideBySide_apply _ _ h d).symm
    rcases List.mem_cons.1 hp with rfl | hp
    · refine tile (n := 128) 512 Gen.inb_S1x1400x1536_S1x128x1536_0_512_0 (k0_pay186 (F := Ideal) (View.readAt (Elt Ideal) arg11.view (Rect.unit (s := S16x96x1400) ![0, 0, 512] S16x96x128.size Gen.inb_S16x96x1400_S16x96x128_0_0_512).toLoadRect (arg11.view.writes (Elt Ideal) X11 (pb3 (F := Ideal) c q i arg1 harg1 arg2 harg2 arg3 harg3 arg4 harg4 arg5 harg5 arg6 harg6 arg7 harg7 arg8 harg8 arg9 harg9 arg10 harg10 arg11 harg11 X1 X2 X3 X4 X5 X6 X7 (arg9.view.writes (Elt Ideal) X9 (Gen.pb_k0_t1 (F := Ideal) Variants.none c none i arg1 harg1 arg2 harg2 arg3 harg3 arg4 harg4 arg5 harg5 arg6 harg6 arg7 harg7 arg8 harg8 arg9 harg9 arg10 harg10 arg11 harg11 X6 X7 k0_t1_loop.trips).1) (arg10.view.writes (Elt Ideal) X10 (Gen.pb_k0_t1 (F := Ideal) Variants.none c none i arg1 harg1 arg2 harg2 arg3 harg3 arg4 harg4 arg5 harg5 arg6 harg6 arg7 harg7 arg8 harg8 arg9 harg9 arg10 harg10 arg11 harg11 X6 X7 k0_t1_loop.trips).2) hw3 k0_t3_loop.trips ++ pb2 (F := Ideal) c q i arg1 harg1 arg2 harg2 arg3 harg3 arg4 harg4 arg5 harg5 arg6 harg6 arg7 harg7 arg8 harg8 arg9 harg9 arg10 harg10 arg11 harg11 X1 X2 X3 X4 X5 (arg9.view.writes (Elt Ideal) X9 (Gen.pb_k0_t1 (F := Ideal) Variants.none c none i arg1 harg1 arg2 harg2 arg3 harg3 arg4 harg4 arg5 harg5 arg6 harg6 arg7 harg7 arg8 harg8 arg9 harg9 arg10 harg10 arg11 harg11 X6 X7 k0_t1_loop.trips).1) (arg10.view.writes (Elt Ideal) X10 (Gen.pb_k0_t1 (F := Ideal) Variants.none c none i arg1 harg1 arg2 harg2 arg3 harg3 arg4 harg4 arg5 harg5 arg6 harg6 arg7 harg7 arg8 harg8 arg9 harg9 arg10 harg10 arg11 harg11 X6 X7 k0_t1_loop.trips).2) hw2 k0_t2_loop.trips)))) _ (fun l => ⟨512 + l.val, by omega⟩) (fun l => rfl) fun a h d => ?_
      refine (pay186_apply _ a h d).trans ((rdTile (n := 128) 512 arg11.view _ _ h d a ⟨512 + a.val, by omega⟩ rfl).trans ((HS _).trans ?_))
      exact (sideBySide_apply _ _ h d).symm
    rcases List.mem_cons.1 hp with rfl | hp
    · refine tile (n := 128) 384 Gen.inb_S1x1400x1536_S1x128x1536_0_384_0 (k0_pay186 (F := Ideal) (View.readAt (Elt Ideal) arg11.view (Rect.unit (s := S16x96x1400) ![0, 0, 384] S16x96x128.size Gen.inb_S16x96x1400_S16x96x128_0_0_384).toLoadRect (arg11.view.writes (Elt Ideal) X11 (pb3 (F := Ideal) c q i arg1 harg1 arg2 harg2 arg3 harg3 arg4 harg4 arg5 harg5 arg6 harg6 arg7 harg7 arg8 harg8 arg9 harg9 arg10 harg10 arg11 harg11 X1 X2 X3 X4 X5 X6 X7 (arg9.view.writes (Elt Ideal) X9 (Gen.pb_k0_t1 (F := Ideal) Variants.none c none i arg1 harg1 arg2 harg2 arg3 harg3 arg4 harg4 arg5 harg5 arg6 harg6 arg7 harg7 arg8 harg8 arg9 harg9 arg10 harg10 arg11 harg11 X6 X7 k0_t1_loop.trips).1) (arg10.view.writes (Elt Ideal) X10 (Gen.pb_k0_t1 (F := Ideal) Variants.none c none i arg1 harg1 arg2 harg2 arg3 harg3 arg4 harg4 arg5 harg5 arg6 harg6 arg7 harg7 arg8 harg8 arg9 harg9 arg10 harg10 arg11 harg11 X6 X7 k0_t1_loop.trips).2) hw3 k0_t3_loop.trips ++ pb2 (F := Ideal) c q i arg1 harg1 arg2 harg2 arg3 harg3 arg4 harg4 arg5 harg5 arg6 harg6 arg7 harg7 arg8 harg8 arg9 harg9 arg10 harg10 arg11 harg11 X1 X2 X3 X4 X5 (arg9.view.writes (Elt Ideal) X9 (Gen.pb_k0_t1 (F := Ideal) Variants.none c none i arg1 harg1 arg2 harg2 arg3 harg3 arg4 harg4 arg5 harg5 arg6 harg6 arg7 harg7 arg8 harg8 arg9 harg9 arg10 harg10 arg11 harg11 X6 X7 k0_t1_loop.trips).1) (arg10.view.writes (Elt Ideal) X10 (Gen.pb_k0_t1 (F := Ideal) Variants.none c none i arg1 harg1 arg2 harg2 arg3 harg3 arg4 harg4 arg5 harg5 arg6 harg6 arg7 harg7 arg8 harg8 arg9 harg9 arg10 harg10 arg11 harg11 X6 X7 k0_t1_loop.trips).2) hw2 k0_t2_loop.trips)))) _ (fun l => ⟨384 + l.val, by omega⟩) (fun l => rfl) fun a h d => ?_
      refine (pay186_apply _ a h d).trans ((rdTile (n := 128) 384 arg11.view _ _ h d a ⟨384 + a.val, by omega⟩ rfl).trans ((HS _).trans ?_))
      exact (sideBySide_apply _ _ h d).symm
    rcases List.mem_cons.1 hp with rfl | hp
    · refine tile (n := 128) 256 Gen.inb_S1x1400x1536_S1x128x1536_0_256_0 (k0_pay186 (F := Ideal) (View.readAt (Elt Ideal) arg11.view (Rect.unit (s := S16x96x1400) ![0, 0, 256] S16x96x128.size Gen.inb_S16x96x1400_S16x96x128_0_0_256).toLoadRect (arg11.view.writes (Elt Ideal) X11 (pb3 (F := Ideal) c q i arg1 harg1 arg2 harg2 arg3 harg3 arg4 harg4 arg5 harg5 arg6 harg6 arg7 harg7 arg8 harg8 arg9 harg9 arg10 harg10 arg11 harg11 X1 X2 X3 X4 X5 X6 X7 (arg9.view.writes (Elt Ideal) X9 (Gen.pb_k0_t1 (F := Ideal) Variants.none c none i arg1 harg1 arg2 harg2 arg3 harg3 arg4 harg4 arg5 harg5 arg6 harg6 arg7 harg7 arg8 harg8 arg9 harg9 arg10 harg10 arg11 harg11 X6 X7 k0_t1_loop.trips).1) (arg10.view.writes (Elt Ideal) X10 (Gen.pb_k0_t1 (F := Ideal) Variants.none c none i arg1 harg1 arg2 harg2 arg3 harg3 arg4 harg4 arg5 harg5 arg6 harg6 arg7 harg7 arg8 harg8 arg9 harg9 arg10 harg10 arg11 harg11 X6 X7 k0_t1_loop.trips).2) hw3 k0_t3_loop.trips ++ pb2 (F := Ideal) c q i arg1 harg1 arg2 harg2 arg3 harg3 arg4 harg4 arg5 harg5 arg6 harg6 arg7 harg7 arg8 harg8 arg9 harg9 arg10 harg10 arg11 harg11 X1 X2 X3 X4 X5 (arg9.view.writes (Elt Ideal) X9 (Gen.pb_k0_t1 (F := Ideal) Variants.none c none i arg1 harg1 arg2 harg2 arg3 harg3 arg4 harg4 arg5 harg5 arg6 harg6 arg7 harg7 arg8 harg8 arg9 harg9 arg10 harg10 arg11 harg11 X6 X7 k0_t1_loop.trips).1) (arg10.view.writes (Elt Ideal) X10 (Gen.pb_k0_t1 (F := Ideal) Variants.none c none i arg1 harg1 arg2 harg2 arg3 harg3 arg4 harg4 arg5 harg5 arg6 harg6 arg7 harg7 arg8 harg8 arg9 harg9 arg10 harg10 arg11 harg11 X6 X7 k0_t1_loop.trips).2) hw2 k0_t2_loop.trips)))) _ (fun l => ⟨256 + l.val, by omega⟩) (fun l => rfl) fun a h d => ?_
      refine (pay186_apply _ a h d).trans ((rdTile (n := 128) 256 arg11.view _ _ h d a ⟨256 + a.val, by omega⟩ rfl).trans ((HS _).trans ?_))
      exact (sideBySide_apply _ _ h d).symm
    rcases List.mem_cons.1 hp with rfl | hp
    · refine tile (n := 128) 128 Gen.inb_S1x1400x1536_S1x128x1536_0_128_0 (k0_pay186 (F := Ideal) (View.readAt (Elt Ideal) arg11.view (Rect.unit (s := S16x96x1400) ![0, 0, 128] S16x96x128.size Gen.inb_S16x96x1400_S16x96x128_0_0_128).toLoadRect (arg11.view.writes (Elt Ideal) X11 (pb3 (F := Ideal) c q i arg1 harg1 arg2 harg2 arg3 harg3 arg4 harg4 arg5 harg5 arg6 harg6 arg7 harg7 arg8 harg8 arg9 harg9 arg10 harg10 arg11 harg11 X1 X2 X3 X4 X5 X6 X7 (arg9.view.writes (Elt Ideal) X9 (Gen.pb_k0_t1 (F := Ideal) Variants.none c none i arg1 harg1 arg2 harg2 arg3 harg3 arg4 harg4 arg5 harg5 arg6 harg6 arg7 harg7 arg8 harg8 arg9 harg9 arg10 harg10 arg11 harg11 X6 X7 k0_t1_loop.trips).1) (arg10.view.writes (Elt Ideal) X10 (Gen.pb_k0_t1 (F := Ideal) Variants.none c none i arg1 harg1 arg2 harg2 arg3 harg3 arg4 harg4 arg5 harg5 arg6 harg6 arg7 harg7 arg8 harg8 arg9 harg9 arg10 harg10 arg11 harg11 X6 X7 k0_t1_loop.trips).2) hw3 k0_t3_loop.trips ++ pb2 (F := Ideal) c q i arg1 harg1 arg2 harg2 arg3 harg3 arg4 harg4 arg5 harg5 arg6 harg6 arg7 harg7 arg8 harg8 arg9 harg9 arg10 harg10 arg11 harg11 X1 X2 X3 X4 X5 (arg9.view.writes (Elt Ideal) X9 (Gen.pb_k0_t1 (F := Ideal) Variants.none c none i arg1 harg1 arg2 harg2 arg3 harg3 arg4 harg4 arg5 harg5 arg6 harg6 arg7 harg7 arg8 harg8 arg9 harg9 arg10 harg10 arg11 harg11 X6 X7 k0_t1_loop.trips).1) (arg10.view.writes (Elt Ideal) X10 (Gen.pb_k0_t1 (F := Ideal) Variants.none c none i arg1 harg1 arg2 harg2 arg3 harg3 arg4 harg4 arg5 harg5 arg6 harg6 arg7 harg7 arg8 harg8 arg9 harg9 arg10 harg10 arg11 harg11 X6 X7 k0_t1_loop.trips).2) hw2 k0_t2_loop.trips)))) _ (fun l => ⟨128 + l.val, by omega⟩) (fun l => rfl) fun a h d => ?_
      refine (pay186_apply _ a h d).trans ((rdTile (n := 128) 128 arg11.view _ _ h d a ⟨128 + a.val, by omega⟩ rfl).trans ((HS _).trans ?_))
      exact (sideBySide_apply _ _ h d).symm
    rcases List.mem_cons.1 hp with rfl | hp
    · refine tile (n := 128) 0 Gen.inb_S1x1400x1536_S1x128x1536_0_0_0 (k0_pay186 (F := Ideal) (View.readAt (Elt Ideal) arg11.view (Rect.unit (s := S16x96x1400) ![0, 0, 0] S16x96x128.size Gen.inb_S16x96x1400_S16x96x128_0_0_0).toLoadRect (arg11.view.writes (Elt Ideal) X11 (pb3 (F := Ideal) c q i arg1 harg1 arg2 harg2 arg3 harg3 arg4 harg4 arg5 harg5 arg6 harg6 arg7 harg7 arg8 harg8 arg9 harg9 arg10 harg10 arg11 harg11 X1 X2 X3 X4 X5 X6 X7 (arg9.view.writes (Elt Ideal) X9 (Gen.pb_k0_t1 (F := Ideal) Variants.none c none i arg1 harg1 arg2 harg2 arg3 harg3 arg4 harg4 arg5 harg5 arg6 harg6 arg7 harg7 arg8 harg8 arg9 harg9 arg10 harg10 arg11 harg11 X6 X7 k0_t1_loop.trips).1) (arg10.view.writes (Elt Ideal) X10 (Gen.pb_k0_t1 (F := Ideal) Variants.none c none i arg1 harg1 arg2 harg2 arg3 harg3 arg4 harg4 arg5 harg5 arg6 harg6 arg7 harg7 arg8 harg8 arg9 harg9 arg10 harg10 arg11 harg11 X6 X7 k0_t1_loop.trips).2) hw3 k0_t3_loop.trips ++ pb2 (F := Ideal) c q i arg1 harg1 arg2 harg2 arg3 harg3 arg4 harg4 arg5 harg5 arg6 harg6 arg7 harg7 arg8 harg8 arg9 harg9 arg10 harg10 arg11 harg11 X1 X2 X3 X4 X5 (arg9.view.writes (Elt Ideal) X9 (Gen.pb_k0_t1 (F := Ideal) Variants.none c none i arg1 harg1 arg2 harg2 arg3 harg3 arg4 harg4 arg5 harg5 arg6 harg6 arg7 harg7 arg8 harg8 arg9 harg9 arg10 harg10 arg11 harg11 X6 X7 k0_t1_loop.trips).1) (arg10.view.writes (Elt Ideal) X10 (Gen.pb_k0_t1 (F := Ideal) Variants.none c none i arg1 harg1 arg2 harg2 arg3 harg3 arg4 harg4 arg5 harg5 arg6 harg6 arg7 harg7 arg8 harg8 arg9 harg9 arg10 harg10 arg11 harg11 X6 X7 k0_t1_loop.trips).2) hw2 k0_t2_loop.trips)))) _ (fun l => ⟨0 + l.val, by omega⟩) (fun l => rfl) fun a h d => ?_
      refine (pay186_apply _ a h d).trans ((rdTile (n := 128) 0 arg11.view _ _ h d a ⟨0 + a.val, by omega⟩ rfl).trans ((HS _).trans ?_))
      exact (sideBySide_apply _ _ h d).symm
    cases hp
  · have hlt : (j 1).val < 1400 := (j 1).isLt
    unfold bodyRun
    by_cases h0 : (j 1).val < 128
    · exact ⟨_, List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_self)))))))))), memTile (n := 128) 0 Gen.inb_S1x1400x1536_S1x128x1536_0_0_0 j (by omega) (by omega)⟩
    by_cases h128 : (j 1).val < 256
    · exact ⟨_, List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_self))))))))), memTile (n := 128) 128 Gen.inb_S1x1400x1536_S1x128x1536_0_128_0 j (by omega) (by omega)⟩
    by_cases h256 : (j 1).val < 384
    · exact ⟨_, List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_self)))))))), memTile (n := 128) 256 Gen.inb_S1x1400x1536_S1x128x1536_0_256_0 j (by omega) (by omega)⟩
    by_cases h384 : (j 1).val < 512
    · exact ⟨_, List.mem_cons_of_mem _ (List.mem_cons_of_mem _ (List.mem_cons_of_mem _ (List.mem_cons_of_mem _ (List.mem_cons_of_mem _ (List.mem_cons_of_mem _ (List.mem_cons_of_mem _ (List.mem_cons_self))))))), memTile (n := 128) 384 Gen.inb_S1x1400x1536_S1x128x1536_0_384_0 j (by omega) (by omega)⟩
    by_cases h512 : (j 1).val < 640
    · exact ⟨_, List.mem_cons_of_mem _ (List.mem_cons_of_mem _ (List.mem_cons_of_mem _ (List.mem_cons_of_mem _ (List.mem_cons_of_mem _ (List.mem_cons_of_mem _ (List.mem_cons_self)))))), memTile (n := 128) 512 Gen.inb_S1x1400x1536_S1x128x1536_0_512_0 j (by omega) (by omega)⟩
    by_cases h640 : (j 1).val < 768
    · exact ⟨_, List.mem_cons_of_mem _ (List.mem_cons_of_mem _ (List.mem_cons_of_mem _ (List.mem_cons_of_mem _ (List.mem_cons_of_mem _ (List.mem_cons_self))))), memTile (n := 128) 640 Gen.inb_S1x1400x1536_S1x128x1536_0_640_0 j (by omega) (by omega)⟩
    by_cases h768 : (j 1).val < 896
    · exact ⟨_, List.mem_cons_of_mem _ (List.mem_cons_of_mem _ (List.mem_cons_of_mem _ (List.mem_cons_of_mem _ (List.mem_cons_self)))), memTile (n := 128) 768 Gen.inb_S1x1400x1536_S1x128x1536_0_768_0 j (by omega) (by omega)⟩
    by_cases h896 : (j 1).val < 1024
    · exact ⟨_, List.mem_cons_of_mem _ (List.mem_cons_of_mem _ (List.mem_cons_of_mem _ (List.mem_cons_self))), memTile (n := 128) 896 Gen.inb_S1x1400x1536_S1x128x1536_0_896_0 j (by omega) (by omega)⟩
    by_cases h1024 : (j 1).val < 1152
    · exact ⟨_, List.mem_cons_of_mem _ (List.mem_cons_of_mem _ (List.mem_cons_self)), memTile (n := 128) 1024 Gen.inb_S1x1400x1536_S1x128x1536_0_1024_0 j (by omega) (by omega)⟩
    by_cases h1152 : (j 1).val < 1280
    · exact ⟨_, List.mem_cons_of_mem _ (List.mem_cons_self), memTile (n := 128) 1152 Gen.inb_S1x1400x1536_S1x128x1536_0_1152_0 j (by omega) (by omega)⟩
    exact ⟨_, List.mem_cons_self, memTile (n := 120) 1280 Gen.inb_S1x1400x1536_S1x120x1536_0_1280_0 j (by omega) (by omega)⟩

end

end Cert.KernelIdeal.Hand
-- ==== Proof.KernelIdealRun.lean ====
/- THE RUN of the kernel over the reals, with what it leaves in the output. -/
module

public import proofs.«01_k».proof.Proof.KernelIdealKit
public import proofs.«01_k».proof.Proof.KernelIdealOut

@[expose] public section

set_option maxRecDepth 16384

noncomputable section

namespace Cert.KernelIdeal.HandV

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Cert.KernelIdeal.Hand Cert.KernelIdeal.Reads Cert.KernelIdeal.Spec

local notation "𝕄" => MT nD τ sig Unit (Elt Ideal) ℕ (UR sig nD τ) ℕ

variable (m : (ℓ : Loc nD τ sig) → Buf (Elt Ideal) ℓ) (ρ : Dev nD → PrngReg)

/-- Every sample names all sixteen heads. -/
abbrev Perm : Prop := ∀ (b : Fin 12) (h : Fin 16), ∃ k : Fin 16, (tbl m 0 (ix2 b k) : BitVec 32).toNat = h.val

/-- What the body leaves in the output block at point `t`. -/
def outBlk (c : Dev nD) (t : Fin (cfgM m).N) : S1x1400x1536.Idx → EReal :=
  sideBySide (G (spatial (tbl m 0) ((grid0.coords t) 0)) ((grid0.coords t) 0) (iblk m c 0 t) (iblk m c 1 t) (iblk m c 2 t)
    (iblk m c 3 t) (iblk m c 4 t) (iblk m c 5 t))

/-- The proof data of the one pipeline on core `c`. -/
def dats (_ : Fin 1) (c : Dev nD) : Dat τ (Elt Ideal) Unit ℕ (UR sig nD τ) ℕ (cfgM m) c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => outBlk m c t
  Φ _ := iprop(Pipeline.ΦA spec0 c ∗ Pipeline.ΦT pre0 (tbl m) c)
  q _ := fullShare
  owed _ := 0

theorem A_eq (c : Dev nD) (w : Fin (cfgM m).W) : (dats m 0 c).A w = V m c (Pipeline.arrRef spec0 w) := by
  dsimp only [dats]

theorem after0_0 (c : Dev nD) (t : Fin (cfgM m).N) : (dats m 0 c).after 0 t = iblk m c 0 t := by dsimp only [dats]; try rfl
theorem before0_0 (c : Dev nD) (t : Fin (cfgM m).N) (d) : (dats m 0 c).before 0 t d = iblk m c 0 t :=
  before0_0_of m (dats m 0 c) (A_eq m c 0) (after0_0 m c) t d
theorem after0_1 (c : Dev nD) (t : Fin (cfgM m).N) : (dats m 0 c).after 1 t = iblk m c 1 t := by dsimp only [dats]; try rfl
theorem before0_1 (c : Dev nD) (t : Fin (cfgM m).N) (d) : (dats m 0 c).before 1 t d = iblk m c 1 t :=
  before0_1_of m (dats m 0 c) (A_eq m c 1) (after0_1 m c) t d
theorem after0_2 (c : Dev nD) (t : Fin (cfgM m).N) : (dats m 0 c).after 2 t = iblk m c 2 t := by dsimp only [dats]; try rfl
theorem before0_2 (c : Dev nD) (t : Fin (cfgM m).N) (d) : (dats m 0 c).before 2 t d = iblk m c 2 t :=
  before0_2_of m (dats m 0 c) (A_eq m c 2) (after0_2 m c) t d
theorem after0_3 (c : Dev nD) (t : Fin (cfgM m).N) : (dats m 0 c).after 3 t = iblk m c 3 t := by dsimp only [dats]; try rfl
theorem before0_3 (c : Dev nD) (t : Fin (cfgM m).N) (d) : (dats m 0 c).before 3 t d = iblk m c 3 t :=
  before0_3_of m (dats m 0 c) (A_eq m c 3) (after0_3 m c) t d
theorem after0_4 (c : Dev nD) (t : Fin (cfgM m).N) : (dats m 0 c).after 4 t = iblk m c 4 t := by dsimp only [dats]; try rfl
theorem before0_4 (c : Dev nD) (t : Fin (cfgM m).N) (d) : (dats m 0 c).before 4 t d = iblk m c 4 t :=
  before0_4_of m (dats m 0 c) (A_eq m c 4) (after0_4 m c) t d
theorem after0_5 (c : Dev nD) (t : Fin (cfgM m).N) : (dats m 0 c).after 5 t = iblk m c 5 t := by dsimp only [dats]; try rfl
theorem before0_5 (c : Dev nD) (t : Fin (cfgM m).N) (d) : (dats m 0 c).before 5 t d = iblk m c 5 t :=
  before0_5_of m (dats m 0 c) (A_eq m c 5) (after0_5 m c) t d

theorem after0_6 (c : Dev nD) (t : Fin (cfgM m).N) : (dats m 0 c).after 6 t = outBlk m c t := by dsimp only [dats]; try rfl

/-- What the body is called with at point `t`, -/
def bodyPre (c : Dev nD) (t : Fin (cfgM m).N) : sProp 𝕄 :=
  iprop((dats m 0 c).Φ t.castSucc ∗ (dats m 0 c).owesAt () t.castSucc
    ∗ (∃ d, owns (c : Thread nD τ) (ms0_0 m t) fullShare ((dats m 0 c).before 0 t d))
    ∗ (∃ d, owns (c : Thread nD τ) (ms0_1 m t) fullShare ((dats m 0 c).before 1 t d))
    ∗ (∃ d, owns (c : Thread nD τ) (ms0_2 m t) fullShare ((dats m 0 c).before 2 t d))
    ∗ (∃ d, owns (c : Thread nD τ) (ms0_3 m t) fullShare ((dats m 0 c).before 3 t d))
    ∗ (∃ d, owns (c : Thread nD τ) (ms0_4 m t) fullShare ((dats m 0 c).before 4 t d))
    ∗ (∃ d, owns (c : Thread nD τ) (ms0_5 m t) fullShare ((dats m 0 c).before 5 t d))
    ∗ (∃ d, owns (c : Thread nD τ) (ms0_6 m t) fullShare ((dats m 0 c).before 6 t d)))

/-- and what it returns. -/
def bodyPost (c : Dev nD) (t : Fin (cfgM m).N) : sProp 𝕄 :=
  iprop((dats m 0 c).Φ t.succ ∗ (dats m 0 c).owesAt () t.succ
    ∗ owns (c : Thread nD τ) (ms0_0 m t) fullShare ((dats m 0 c).after 0 t)
    ∗ owns (c : Thread nD τ) (ms0_1 m t) fullShare ((dats m 0 c).after 1 t)
    ∗ owns (c : Thread nD τ) (ms0_2 m t) fullShare ((dats m 0 c).after 2 t)
    ∗ owns (c : Thread nD τ) (ms0_3 m t) fullShare ((dats m 0 c).after 3 t)
    ∗ owns (c : Thread nD τ) (ms0_4 m t) fullShare ((dats m 0 c).after 4 t)
    ∗ owns (c : Thread nD τ) (ms0_5 m t) fullShare ((dats m 0 c).after 5 t)
    ∗ owns (c : Thread nD τ) (ms0_6 m t) fullShare ((dats m 0 c).after 6 t))

/-- What the body's pieces leave, read back. -/
theorem body_leaves (hO : Ok m) (hP : Perm m) (c : Dev nD) (t : Fin (cfgM m).N) (X8 : BufTy.Contents (Elt Ideal) (ms0_6 m t).view.ty)
    (X9 : BufTy.Contents (Elt Ideal) scM0_0.view.ty) (X10 : BufTy.Contents (Elt Ideal) scM0_1.view.ty) (X11 : BufTy.Contents (Elt Ideal) scM0_2.view.ty) :
    (ms0_6 m t).view.read (Elt Ideal) ((ms0_6 m t).view.writes (Elt Ideal) X8 (bodyRun (F := Ideal) c fullShare.right (grid0.coords t)
      tbM htbM (ms0_0 m t) (hs0_0 m t) (ms0_1 m t) (hs0_1 m t) (ms0_2 m t) (hs0_2 m t) (ms0_3 m t) (hs0_3 m t) (ms0_4 m t) (hs0_4 m t)
      (ms0_5 m t) (hs0_5 m t) (ms0_6 m t) (hs0_6 m t) scM0_0 (Memref.isWhole_whole _) scM0_1 (Memref.isWhole_whole _) scM0_2 (Memref.isWhole_whole _)
      (htbM.unread (tbl m 0)) ((hs0_0 m t).unread (iblk m c 0 t)) ((hs0_1 m t).unread (iblk m c 1 t)) ((hs0_2 m t).unread (iblk m c 2 t))
      ((hs0_3 m t).unread (iblk m c 3 t)) ((hs0_4 m t).unread (iblk m c 4 t)) ((hs0_5 m t).unread (iblk m c 5 t)) X9 X10 X11
      (hw2_of_ok m hO _) (hw3_of_ok m hO _)).1) = outBlk m c t := by
  have e1 := htbM.read_unread (Val := Elt Ideal) (tbl m 0)
  have e2 := (hs0_0 m t).read_unread (Val := Elt Ideal) (iblk m c 0 t)
  have e3 := (hs0_1 m t).read_unread (Val := Elt Ideal) (iblk m c 1 t)
  have e4 := (hs0_2 m t).read_unread (Val := Elt Ideal) (iblk m c 2 t)
  have e5 := (hs0_3 m t).read_unread (Val := Elt Ideal) (iblk m c 3 t)
  have e6 := (hs0_4 m t).read_unread (Val := Elt Ideal) (iblk m c 4 t)
  have e7 := (hs0_5 m t).read_unread (Val := Elt Ideal) (iblk m c 5 t)
  funext j
  refine (block_read c fullShare.right (grid0.coords t)
      tbM htbM (ms0_0 m t) (hs0_0 m t) (ms0_1 m t) (hs0_1 m t) (ms0_2 m t) (hs0_2 m t) (ms0_3 m t) (hs0_3 m t) (ms0_4 m t) (hs0_4 m t)
      (ms0_5 m t) (hs0_5 m t) (ms0_6 m t) (hs0_6 m t) scM0_0 (Memref.isWhole_whole _) scM0_1 (Memref.isWhole_whole _) scM0_2 (Memref.isWhole_whole _)
      (htbM.unread (tbl m 0)) ((hs0_0 m t).unread (iblk m c 0 t)) ((hs0_1 m t).unread (iblk m c 1 t)) ((hs0_2 m t).unread (iblk m c 2 t))
      ((hs0_3 m t).unread (iblk m c 3 t)) ((hs0_4 m t).unread (iblk m c 4 t)) ((hs0_5 m t).unread (iblk m c 5 t)) X9 X10 X11
      (hw2_of_ok m hO _) (hw3_of_ok m hO _) X8 ?_ ?_ j).trans ?_
  · intro k
    exact (congrArg (fun w : BitVec 32 => w.toNat < 16) (congrFun e1 _)).mpr (hO _)
  · intro h
    obtain ⟨k, hk⟩ := hP ((grid0.coords t) 0) h
    exact ⟨k, (congrArg (fun w : BitVec 32 => w.toNat = h.val) (congrFun e1 _)).mpr hk⟩
  · rw [e1, e2, e3, e4, e5, e6, e7]
    rfl

/-- The body at any point. -/
theorem sound_body (hO : Ok m) (hP : Perm m) (c : Dev nD) (t : Fin (cfgM m).N) :
    bodyPre m c t ⊢ wp frame (wpE (defs₀ (F := Ideal)) Variants.none c none) Set.univ (bodyAt0 (adm m) t) (fun _ => bodyPost m c t) := by
  unfold bodyPre bodyPost bodyAt0
  simp only [before0_0, before0_1, before0_2, before0_3, before0_4, before0_5]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6]
  rw [show (dats m 0 c).Φ t.castSucc = iprop(Pipeline.ΦA spec0 c ∗ Pipeline.ΦT pre0 (tbl m) c) from rfl, PhiT0_eq, PhiA0_eq]
  iintro ⟨⟨⟨⟨HS0, HS1, HS2⟩, Hg⟩, HT0⟩, Ho, ⟨%d0, H0⟩, ⟨%d1, H1⟩, ⟨%d2, H2⟩, ⟨%d3, H3⟩, ⟨%d4, H4⟩, ⟨%d5, H5⟩, ⟨%d6, H6⟩⟩
  iapply (bodyTriple c fullShare.right (grid0.coords t) _ htbM _ (hs0_0 m t) _ (hs0_1 m t) _ (hs0_2 m t) _ (hs0_3 m t) _ (hs0_4 m t) _ (hs0_5 m t) _ (hs0_6 m t) _ _ _ _ _ _
    (tbl m 0) (iblk m c 0 t) (iblk m c 1 t) (iblk m c 2 t) (iblk m c 3 t) (iblk m c 4 t) (iblk m c 5 t) (hw2_of_ok m hO _) (hw3_of_ok m hO _) Set.univ _)
  isplitl [HT0]; · iexact HT0
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  isplitl [HS0]; · iexact HS0
  isplitl [HS1]; · iexact HS1
  isplitl [HS2]; · iexact HS2
  iintro ⟨HT0, H0, H1, H2, H3, H4, H5, ⟨%X8, %X9, %X10, %X11, H6⟩, HS0, HS1, HS2⟩
  isplitl [HS0 HS1 HS2 Hg HT0]
  · isplitl [HS0 HS1 HS2 Hg]
    · isplitl [HS0 HS1 HS2]
      · isplitl [HS0]; · iexact HS0
        isplitl [HS1]; · iexact HS1
        iexact HS2
      iexact Hg
    iexact HT0
  isplitl [Ho]; · iexact Ho
  isplitl [H0]; · iexact H0
  isplitl [H1]; · iexact H1
  isplitl [H2]; · iexact H2
  isplitl [H3]; · iexact H3
  isplitl [H4]; · iexact H4
  isplitl [H5]; · iexact H5
  rw [body_leaves m hO hP c t X8 X9 X10 X11]
  iexact H6

/-- The body table's row at point `t`'s slots is the body. -/
theorem defs₀_row (t : Fin (cfgM m).N) :
    defs₀ (F := Ideal) .tc (cfgM m).body ((cfgM m).bodyArgs t ((cfgM m).slots t)) = bodyAt0 (adm m) t := by
  unfold defs₀; rw [Defs.onTc_tc]

/-- The library's body obligation, at every point. -/
theorem body_obligation (hO : Ok m) (hP : Perm m) (c : Dev nD) : BodyObligation (dats m 0 c) (defs₀ (F := Ideal)) Variants.none () Set.univ := fun t => by
  rw [bigSep_W0, bigSep_W0, defs₀_row m]
  exact triple_restated (sound_body m hO hP c t) rfl .rfl fun _ => .rfl

set_option backward.isDefEq.respectTransparency.types false in
/-- The run: the output's array as the body's blocks make it, the arguments' as launched. -/
theorem run_main (hO : Ok m) (hP : Perm m) : θ_run defs (onTc (τ := τ) (main (F := Ideal))) (s₀ m ρ) (Pipeline.FramePost (Pipeline.pin pcfgs fun _ => adm m) (dats m) 0 (V m)) :=
  Pipeline.θ_run_frameP pcfgs (fun _ => adm m) (dats m) (0 : Fin 1) launch0 defs₀ Variants.none m ρ main
    (hbody := fun c => (body_obligation m hO hP c).loose) (hshare := fun c => (dats m 0 c).share_full fun _ => rfl)
    (howed := fun _ _ => rfl) (V := V m) (hmain := hmain m Variants.none) (hA := A_eq m) (hpf := V_pre m) (hΦ := fun _ _ => rfl)

end Cert.KernelIdeal.HandV
-- ==== Proof.KernelIdealFinal.lean ====
/- WHAT the kernel leaves in its output array, in the arguments' own coordinates. -/
module

public import proofs.«01_k».proof.Proof.KernelIdealRun
public import Idealize.ShloMosaic.Lib.Pipeline.ValueKit
public import Idealize.ShloMosaic.Lib.Pipeline.Covers
public import Idealize.ShloMosaic.Lib.Pointwise

@[expose] public section

set_option maxRecDepth 16384

noncomputable section

namespace Cert.KernelIdeal.HandV

open Idealize.ShloMosaic Idealize.ShloMosaic.TcCoe Idealize.ShloMosaic.Tactic
open Cert.KernelIdeal Cert.KernelIdeal.Gen
open Cert.KernelIdeal.Hand Cert.KernelIdeal.Reads Cert.KernelIdeal.Spec
open Idealize.ShloMosaic.Pipeline (Dat Cfg Window)

/-- The attention's answer, in the arguments' own coordinates. -/
def answer (qa ka va : S12x1400x16x96.Idx → EReal) (s3 s4 s5 : S12x16.Idx → EReal) (ord : S12x16.Idx → BitVec 32)
    (j : S12x1400x1536.Idx) : EReal :=
  have hc : (j 2).val < 1536 := (j 2).isLt
  have h : Fin 16 := ⟨(j 2).val / 96, by omega⟩
  row (spatial ord (j 0) h) (s3 (ix2 (j 0) h) * s4 (ix2 (j 0) h) * root) (s5 (ix2 (j 0) h)) (fun e n => ka (ix4 (j 0) n h e))
    (fun e n => qa (ix4 (j 0) n h e)) (fun d n => va (ix4 (j 0) n h d)) ⟨(j 2).val % 96, Nat.mod_lt _ (by decide)⟩ (j 1)

variable (m : (ℓ : Loc nD τ sig) → Buf (Elt Ideal) ℓ)

/-- The queries' codes as the host lays them out for the kernel. -/
theorem V_v0 (c : Dev nD) (b : Fin 12) (h : Fin 16) (e : Fin 96) (n : Fin 1400) :
    V m c main_v0 (ix4 b h e n) = m ((c : Thread nD τ).loc main_arg0) (ix4 b n h e) := by
  unfold_abbrev_sides
  after_results
  pointwise

/-- The keys' codes. -/
theorem V_v1 (c : Dev nD) (b : Fin 12) (h : Fin 16) (e : Fin 96) (n : Fin 1400) :
    V m c main_v1 (ix4 b h e n) = m ((c : Thread nD τ).loc main_arg1) (ix4 b n h e) := by
  unfold_abbrev_sides
  after_results
  pointwise

/-- The values' codes. -/
theorem V_v2 (c : Dev nD) (b : Fin 12) (h : Fin 16) (e : Fin 96) (n : Fin 1400) :
    V m c main_v2 (ix4 b h e n) = m ((c : Thread nD τ).loc main_arg2) (ix4 b n h e) := by
  unfold_abbrev_sides
  after_results
  pointwise

/-- Each window's block index at a grid point. -/
theorem idxs (i : grid0.Coords) : cc0_transform_0 i = ![0, 0] ∧ cc0_transform_1 i = ![0, 0] ∧ cc0_transform_2 i = ![0, 0]
    ∧ cc0_transform_3 i = ![(i 0).val, 0, 0, 0] ∧ cc0_transform_4 i = ![(i 0).val, 0, 0, 0]
    ∧ cc0_transform_5 i = ![(i 0).val, 0, 0, 0] ∧ cc0_transform_6 i = ![(i 0).val, 0, 0] := by
  revert i
  decide +kernel

/-- The same per window, at a point of the grid. -/
theorem idx0 (t : Fin (cfgM m).N) : ((cfgM m).win 0).index t = ![0, 0] := (idxs (grid0.coords t)).1
theorem idx1 (t : Fin (cfgM m).N) : ((cfgM m).win 1).index t = ![0, 0] := (idxs (grid0.coords t)).2.1
theorem idx2 (t : Fin (cfgM m).N) : ((cfgM m).win 2).index t = ![0, 0] := (idxs (grid0.coords t)).2.2.1
theorem idx3 (t : Fin (cfgM m).N) : ((cfgM m).win 3).index t = ![(grid0.coords t 0).val, 0, 0, 0] := (idxs (grid0.coords t)).2.2.2.1
theorem idx4 (t : Fin (cfgM m).N) : ((cfgM m).win 4).index t = ![(grid0.coords t 0).val, 0, 0, 0] := (idxs (grid0.coords t)).2.2.2.2.1
theorem idx5 (t : Fin (cfgM m).N) : ((cfgM m).win 5).index t = ![(grid0.coords t 0).val, 0, 0, 0] := (idxs (grid0.coords t)).2.2.2.2.2.1
theorem idx6 (t : Fin (cfgM m).N) : ((cfgM m).win 6).index t = ![(grid0.coords t 0).val, 0, 0] := (idxs (grid0.coords t)).2.2.2.2.2.2

/-- The output is twelve blocks, one per batch. -/
theorem nblk0 : ((cfgM m).win 6).nblk (0 : Fin 3) = 12 := by
  simp [Window.nblk]
theorem nblk1 : ((cfgM m).win 6).nblk (1 : Fin 3) = 1 := by
  simp [Window.nblk]
theorem nblk2 : ((cfgM m).win 6).nblk (2 : Fin 3) = 1 := by
  simp [Window.nblk]

/-- The output's blocks, one per batch, cover the output. -/
theorem covers6 : ((cfgM m).win 6).Covers := by
  refine Window.covers_of_indexMap_surj _ rfl (by decide : ∀ a : Fin 3, 0 < S1x1400x1536.size a) fun β => ?_
  have key : ∀ β : (a : Fin 3) → Fin (((cfgM m).win 6).nblk a), ∃ i : grid0.Coords, ∀ a : Fin 3, cc0_transform_6 i a = β a := by
    intro β
    have h0 : (β 0).val < 12 := lt_of_lt_of_eq (β 0).isLt (nblk0 m)
    have h1 : (β 1).val < 1 := lt_of_lt_of_eq (β 1).isLt (nblk1 m)
    have h2 : (β 2).val < 1 := lt_of_lt_of_eq (β 2).isLt (nblk2 m)
    refine ⟨ix1 ⟨(β 0).val, h0⟩, fun a => ?_⟩
    rw [(idxs _).2.2.2.2.2.2]
    fin_cases a
    · rfl
    · show 0 = (β 1).val
      omega
    · show 0 = (β 2).val
      omega
  exact key β

/-- A scale's block is its whole table. -/
theorem iblk0 (c : Dev nD) (t : Fin (cfgM m).N) (y : S12x16.Idx) : iblk m c 0 t y = m ((c : Thread nD τ).loc main_arg3) y := by
  rw [← V_main_arg3 m c]
  blk_ext [iblk, idx0 m t]

theorem iblk1 (c : Dev nD) (t : Fin (cfgM m).N) (y : S12x16.Idx) : iblk m c 1 t y = m ((c : Thread nD τ).loc main_arg4) y := by
  rw [← V_main_arg4 m c]
  blk_ext [iblk, idx1 m t]

theorem iblk2 (c : Dev nD) (t : Fin (cfgM m).N) (y : S12x16.Idx) : iblk m c 2 t y = m ((c : Thread nD τ).loc main_arg5) y := by
  rw [← V_main_arg5 m c]
  blk_ext [iblk, idx2 m t]

/-- A code block is its batch of the codes. -/
theorem iblk3 (c : Dev nD) (t : Fin (cfgM m).N) (h : Fin 16) (e : Fin 96) (n : Fin 1400) :
    (iblk m c 3 t : S1x16x96x1400.Idx → EReal) (ix4 0 h e n) = (m ((c : Thread nD τ).loc main_arg0) : S12x1400x16x96.Idx → EReal) (ix4 (grid0.coords t 0) n h e) := by
  refine Eq.trans ?_ (V_v0 m c _ h e n)
  blk_ext [iblk, idx3 m t]

theorem iblk4 (c : Dev nD) (t : Fin (cfgM m).N) (h : Fin 16) (e : Fin 96) (n : Fin 1400) :
    (iblk m c 4 t : S1x16x96x1400.Idx → EReal) (ix4 0 h e n) = (m ((c : Thread nD τ).loc main_arg1) : S12x1400x16x96.Idx → EReal) (ix4 (grid0.coords t 0) n h e) := by
  refine Eq.trans ?_ (V_v1 m c _ h e n)
  blk_ext [iblk, idx4 m t]

theorem iblk5 (c : Dev nD) (t : Fin (cfgM m).N) (h : Fin 16) (e : Fin 96) (n : Fin 1400) :
    (iblk m c 5 t : S1x16x96x1400.Idx → EReal) (ix4 0 h e n) = (m ((c : Thread nD τ).loc main_arg2) : S12x1400x16x96.Idx → EReal) (ix4 (grid0.coords t 0) n h e) := by
  refine Eq.trans ?_ (V_v2 m c _ h e n)
  blk_ext [iblk, idx5 m t]

/-- Equal parts, equal row. -/
theorem row_congr {p p' : Prop} {c c' vs vs' : EReal} {K K' Q Q' V V' : Fin 96 → Fin 1400 → EReal} (hp : p = p') (hc : c = c') (hv : vs = vs')
    (hK : K = K') (hQ : Q = Q') (hV : V = V') (d : Fin 96) (n : Fin 1400) : row p c vs K Q V d n = row p' c' vs' K' Q' V' d n := by
  subst hp hc hv hK hQ hV
  rfl

/-- One batch's block of the output, at the argument arrays. -/
theorem at_block (c : Dev nD) (t : Fin (cfgM m).N) (y : S1x1400x1536.Idx) : outBlk m c t y
    = answer (m ((c : Thread nD τ).loc main_arg0)) (m ((c : Thread nD τ).loc main_arg1))
    (m ((c : Thread nD τ).loc main_arg2)) (m ((c : Thread nD τ).loc main_arg3)) (m ((c : Thread nD τ).loc main_arg4))
    (m ((c : Thread nD τ).loc main_arg5)) (m ((c : Thread nD τ).loc main_arg6)) ((((cfgM m).win 6).blk t).view.emb y) := by
  have e : (((cfgM m).win 6).blk t).view.emb y = (ix3 (grid0.coords t 0) (y 1) (y 2) : S12x1400x1536.Idx) := by
    blk_ext [idx6 m t]
  rw [e]
  have hp : tbl m 0 = m ((c : Thread nD τ).loc main_arg6) := by
    rw [Subsingleton.elim c 0]
    exact V_main_arg6 m 0
  have k0 : (iblk m c 0 t : S12x16.Idx → EReal) = m ((c : Thread nD τ).loc main_arg3) := funext (iblk0 m c t)
  have k1 : (iblk m c 1 t : S12x16.Idx → EReal) = m ((c : Thread nD τ).loc main_arg4) := funext (iblk1 m c t)
  have k2 : (iblk m c 2 t : S12x16.Idx → EReal) = m ((c : Thread nD τ).loc main_arg5) := funext (iblk2 m c t)
  unfold outBlk sideBySide G answer
  exact row_congr (by rw [hp]; rfl) (by rw [← k0, ← k1]; rfl) (by rw [← k2]; rfl) (funext₂ fun e n => iblk4 m c t _ e n)
    (funext₂ fun e n => iblk3 m c t _ e n) (funext₂ fun e n => iblk5 m c t _ e n) _ _

/-- After the run the output array is the answer at the argument arrays. -/
theorem final (c : Dev nD) : (dats m 0 c).arrAt 6 (cfgM m).N = answer (m ((c : Thread nD τ).loc main_arg0)) (m ((c : Thread nD τ).loc main_arg1))
    (m ((c : Thread nD τ).loc main_arg2)) (m ((c : Thread nD τ).loc main_arg3)) (m ((c : Thread nD τ).loc main_arg4))
    (m ((c : Thread nD τ).loc main_arg5)) (m ((c : Thread nD τ).loc main_arg6)) := by
  refine (dats m 0 c).arrAt_eq_of_covers 6 _ (covers6 m) fun t hf y => ?_
  blk_simp
  rw [after0_6]
  exact at_block m c t y

end Cert.KernelIdeal.HandV
-- ==== Proof.RefRow.lean ====
/- THE reference's tower is the attention's answer. -/
module

public import proofs.«01_k».proof.Proof.RefPoint
public import proofs.«01_k».proof.Proof.KernelIdealFinal

@[expose] public section

set_option maxRecDepth 16384

noncomputable section

namespace Cert.ReferenceIdeal.Tail

open Idealize.ShloMosaic
open Cert.KernelIdeal.Spec (row sees root)
open Cert.KernelIdeal.Hand (spatial)
open Cert.KernelIdeal.HandV (answer row_congr)
open Cert.ReferenceIdeal Cert.ReferenceIdeal.Gen
open scoped BigOperators Classical

/-- The mask is the relation between a query and the keys it sees. -/
theorem mask_sees (ord : Vec Ideal S12x16 .i32) (b : Fin 12) (h : Fin 16) (n k : Fin 1400) :
    mask ord (ix4 b h n k) = 1#1 ↔ sees (spatial ord b h) n k := by
  have hh : heads ord (ix2 b h) = 1#1 ↔ spatial ord b h := heads_apply ord b h
  rw [mask_apply]
  unfold sees
  by_cases e : heads ord (ix2 b h) = 1#1
  · rw [if_pos e, maskS_apply]
    have := hh.mp e
    tauto
  · rw [if_neg e, maskT_apply]
    have := fun s => e (hh.mpr s)
    tauto

/-- The tower at one element. -/
theorem tail_row (q k v : FVec Ideal S12x1400x16x96 .bf16) (sc s5 : FVec Ideal S12x16 .f32) (ord : Vec Ideal S12x16 .i32)
    (b : Fin 12) (n : Fin 1400) (h : Fin 16) (d : Fin 96) :
    tail q k v sc s5 ord (ix3 b n ⟨96 * h.val + d.val, by omega⟩)
      = row (spatial ord b h) (sc (ix2 b h)) (s5 (ix2 b h)) (fun e n => k (ix4 b n h e)) (fun e n => q (ix4 b n h e)) (fun d n => v (ix4 b n h d)) d n := by
  have hs : ∀ j : Fin 1400, score q k sc (mask ord) (ix4 b h n j)
      = Cert.Softmax.masked (sees (spatial ord b h) n) (sc (ix2 b h)) (fun j => ∑ e : Fin 96, k (ix4 b j h e) * q (ix4 b n h e)) j := by
    intro j
    rw [score_apply]
    unfold Cert.Softmax.masked
    by_cases e : sees (spatial ord b h) n j
    · rw [if_pos ((mask_sees ord b h n j).mpr e), if_pos e]
      exact congrArg (· * (sc (ix2 b h) : EReal)) (Finset.sum_congr rfl fun e _ => mul_comm (G := EReal) _ _)
    · rw [if_neg fun x => e ((mask_sees ord b h n j).mp x), if_neg e]
  unfold tail row Cert.Softmax.dense
  rw [weigh_apply]
  simp only [prob_apply, expo_apply, hs]

/-- The tower is the answer. -/
theorem tail_answer (q k v : FVec Ideal S12x1400x16x96 .bf16) (s3 s4 sc s5 : FVec Ideal S12x16 .f32) (ord : Vec Ideal S12x16 .i32)
    (hsc : ∀ b h, sc (ix2 b h) = (s3 (ix2 b h) * s4 (ix2 b h) * root : EReal)) :
    tail q k v sc s5 ord = answer q k v s3 s4 s5 ord := by
  funext j
  have hj : j = (ix3 (j 0) (j 1) ⟨96 * ((j 2).val / 96) + (j 2).val % 96, by have : (j 2).val < 1536 := (j 2).isLt; omega⟩ : S12x1400x1536.Idx) := by
    funext a
    fin_cases a
    · rfl
    · rfl
    · exact Fin.ext (Nat.div_add_mod _ _).symm
  have hc : (j 2).val < 1536 := (j 2).isLt
  have := tail_row q k v sc s5 ord (j 0) (j 1) ⟨(j 2).val / 96, by omega⟩ ⟨(j 2).val % 96, Nat.mod_lt _ (by decide)⟩
  exact (congrArg _ hj).trans (this.trans (row_congr rfl (hsc _ _) rfl rfl rfl rfl _ _))

end Cert.ReferenceIdeal.Tail
-- ==== Proof.RefRun.lean ====
/- WHAT the reference leaves in its result: the widened operands its first part writes, then the host lines' tower. -/
module

public import proofs.«01_k».proof.Proof.RefRow
public import Idealize.ShloMosaic.Lib.Pipeline.ValueKit

@[expose] public section

set_option maxRecDepth 16384

noncomputable section

namespace Cert.ReferenceIdeal.Tail

open Idealize.ShloMosaic Idealize.ShloMosaic.TcCoe Idealize.ShloMosaic.Tactic
open Cert.ReferenceIdeal Cert.ReferenceIdeal.Gen
open Cert.KernelIdeal.Spec (root)
open Cert.KernelIdeal.HandV (answer)
open Idealize.ShloMosaic.Pipeline (Dat Cfg Window)

variable (m : (ℓ : Loc nD τ sig) → Buf (Elt Ideal) ℓ)

/-- Each window's block index: the whole array. -/
theorem idxs : ∀ t : Fin cfg0.N, win0_0.index t = ![0, 0, 0, 0] ∧ win0_1.index t = ![0, 0, 0, 0] ∧ win0_2.index t = ![0, 0, 0, 0]
    ∧ win0_3.index t = ![0, 0] ∧ win0_4.index t = ![0, 0] ∧ win0_5.index t = ![0, 0, 0, 0] ∧ win0_6.index t = ![0, 0, 0, 0]
    ∧ win0_7.index t = ![0, 0, 0, 0] ∧ win0_8.index t = ![0, 0] := by
  decide +kernel

/-- The first part leaves each operand's codes, as extended reals unchanged. -/
theorem wide0 (c : Dev nD) : (Gen.dats m 0 c).arrAt 5 (cfgs 0).N = m ((c : Thread nD τ).loc main_arg0) := by
  refine (Gen.dats m 0 c).arrAt_eq_of_covers 5 _ (by decide +kernel) fun t hf y => ?_
  blk_simp
  rw [after0_5]
  frame_out
  show iblk m c 0 t y = _
  rw [← V_main_arg0 m c]
  blk_ext [iblk, idxs t]

theorem wide1 (c : Dev nD) : (Gen.dats m 0 c).arrAt 6 (cfgs 0).N = m ((c : Thread nD τ).loc main_arg1) := by
  refine (Gen.dats m 0 c).arrAt_eq_of_covers 6 _ (by decide +kernel) fun t hf y => ?_
  blk_simp
  rw [after0_6]
  frame_out
  show iblk m c 1 t y = _
  rw [← V_main_arg1 m c]
  blk_ext [iblk, idxs t]

theorem wide2 (c : Dev nD) : (Gen.dats m 0 c).arrAt 7 (cfgs 0).N = m ((c : Thread nD τ).loc main_arg2) := by
  refine (Gen.dats m 0 c).arrAt_eq_of_covers 7 _ (by decide +kernel) fun t hf y => ?_
  blk_simp
  rw [after0_7]
  frame_out
  show iblk m c 2 t y = _
  rw [← V_main_arg2 m c]
  blk_ext [iblk, idxs t]

/-- The scores' scales. -/
def scl (s3 s4 : S12x16.Idx → EReal) (y : S12x16.Idx) : EReal := s3 y * s4 y * root

/-- What the first part stores as the scales. -/
theorem pay4 (x3 x4 : Vec Ideal S12x16 .f32) (y : S12x16.Idx) : k0_pay4 x3 x4 y = scl x3 x4 y := rfl

/-- A scale's block is its whole table. -/
theorem blk3 (c : Dev nD) (t : Fin cfg0.N) : (iblk m c 3 t : S12x16.Idx → EReal) = m ((c : Thread nD τ).loc main_arg3) := by
  funext y
  rw [← V_main_arg3 m c]
  blk_ext [iblk, idxs t]

theorem blk4 (c : Dev nD) (t : Fin cfg0.N) : (iblk m c 4 t : S12x16.Idx → EReal) = m ((c : Thread nD τ).loc main_arg4) := by
  funext y
  rw [← V_main_arg4 m c]
  blk_ext [iblk, idxs t]

/-- The first part leaves the scores' scales. -/
theorem scales (c : Dev nD) : (Gen.dats m 0 c).arrAt 8 (cfgs 0).N
    = scl (m ((c : Thread nD τ).loc main_arg3)) (m ((c : Thread nD τ).loc main_arg4)) := by
  refine (Gen.dats m 0 c).arrAt_eq_of_covers 8 _ (by decide +kernel) fun t hf y => ?_
  have e : ((cfg0.win 8).blk t).view.emb y = (y : S12x16.Idx) := by
    blk_ext [idxs t]
  rw [e]
  blk_simp
  rw [after0_8]
  frame_out
  refine (pay4 _ _ y).trans ?_
  rw [blk3 m c t, blk4 m c t]

/-- The first part's arrays are distinct. -/
theorem arr_inj : Function.Injective (Pipeline.arrRef spec0) := by
  decide +kernel

/-- The result array after the whole run is the answer at the argument arrays. -/
theorem result (c : Dev nD) : Pipeline.afterTail₀ cfgs (Gen.dats m) 0 (V0 m) [hostOps1, hostOps1_1, hostOps1_2, hostOps1_3, hostOps1_4] c main_v63
    = answer (m ((c : Thread nD τ).loc main_arg0)) (m ((c : Thread nD τ).loc main_arg1))
    (m ((c : Thread nD τ).loc main_arg2)) (m ((c : Thread nD τ).loc main_arg3)) (m ((c : Thread nD τ).loc main_arg4))
    (m ((c : Thread nD τ).loc main_arg5)) (m ((c : Thread nD τ).loc main_arg6)) := by
  unfold Pipeline.afterTail₀
  rw [after_tail]
  have h5 := (Pipeline.withArrays_arr spec0 arr_inj c (V0 m c) (fun w => (dats m 0 c).arrAt w (cfgs 0).N) 5).trans (wide0 m c)
  have h6 := (Pipeline.withArrays_arr spec0 arr_inj c (V0 m c) (fun w => (dats m 0 c).arrAt w (cfgs 0).N) 6).trans (wide1 m c)
  have h7 := (Pipeline.withArrays_arr spec0 arr_inj c (V0 m c) (fun w => (dats m 0 c).arrAt w (cfgs 0).N) 7).trans (wide2 m c)
  have h8 := (Pipeline.withArrays_arr spec0 arr_inj c (V0 m c) (fun w => (dats m 0 c).arrAt w (cfgs 0).N) 8).trans (scales m c)
  have ha5 := (Pipeline.withArrays_of_ne spec0 c (V0 m c) (fun w => (dats m 0 c).arrAt w (cfgs 0).N) main_arg5 (by decide)).trans (V_main_arg5 m c)
  have ha6 := (Pipeline.withArrays_of_ne spec0 c (V0 m c) (fun w => (dats m 0 c).arrAt w (cfgs 0).N) main_arg6 (by decide)).trans (V_main_arg6 m c)
  refine Eq.trans (congr (congr (congr (congr (congr (congrArg tail h5) h6) h7) h8) ha5) ha6) ?_
  exact tail_answer _ _ _ _ _ _ _ _ fun b h => rfl

end Cert.ReferenceIdeal.Tail
-- ==== Proof.Algebraic.lean ====
/- THE VALUE CLAIM: the kernel and the reference, as extended reals, leave the same result. -/
module

public import proofs.«01_k».proof.Proof.Claims
public import proofs.«01_k».proof.Proof.RefRun

@[expose] public section

set_option maxRecDepth 16384

noncomputable section

namespace Cert.Claims

open Idealize.ShloMosaic Idealize.ShloMosaic.TcCoe Idealize.SL.Sem
open Cert.KernelIdeal.HandV (answer)

/-- Each batch's order names every head. -/
theorem perm_permutes (m : (ℓ : Loc Cert.KernelIdeal.nD Cert.KernelIdeal.τ Cert.KernelIdeal.sig) → Buf (Elt Ideal) ℓ) (h : Cert.Pre_KernelIdeal_permutes m) :
    Cert.KernelIdeal.HandV.Perm m := fun b g => by
  obtain ⟨k, hk⟩ := Words.permutes_names _ (h 0) b g
  have t : Cert.KernelIdeal.Hand.tbl m 0 = m (((0 : Dev Cert.KernelIdeal.nD).tc : Thread Cert.KernelIdeal.nD Cert.KernelIdeal.τ).loc Cert.KernelIdeal.main_arg6) :=
    Cert.KernelIdeal.Hand.V_main_arg6 m 0
  refine ⟨k, ?_⟩
  rw [t]
  refine (congrArg BitVec.toNat hk).trans ?_
  rw [BitVec.toNat_ofNat, Nat.mod_eq_of_lt (by omega)]

/-- The kernel's run leaves the answer. -/
theorem kernel_answer (m : (ℓ : Loc Cert.KernelIdeal.nD Cert.KernelIdeal.τ Cert.KernelIdeal.sig) → Buf (Elt Ideal) ℓ) (g : Dev Cert.KernelIdeal.nD → PrngReg)
    (h : Cert.Pre_KernelIdeal_permutes m) :
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_v3)
        = answer (m ((c.tc : Thread Cert.KernelIdeal.nD Cert.KernelIdeal.τ).loc Cert.KernelIdeal.main_arg0)) (m ((c.tc : Thread Cert.KernelIdeal.nD Cert.KernelIdeal.τ).loc Cert.KernelIdeal.main_arg1))
          (m ((c.tc : Thread Cert.KernelIdeal.nD Cert.KernelIdeal.τ).loc Cert.KernelIdeal.main_arg2)) (m ((c.tc : Thread Cert.KernelIdeal.nD Cert.KernelIdeal.τ).loc Cert.KernelIdeal.main_arg3))
          (m ((c.tc : Thread Cert.KernelIdeal.nD Cert.KernelIdeal.τ).loc Cert.KernelIdeal.main_arg4)) (m ((c.tc : Thread Cert.KernelIdeal.nD Cert.KernelIdeal.τ).loc Cert.KernelIdeal.main_arg5))
          (m ((c.tc : Thread Cert.KernelIdeal.nD Cert.KernelIdeal.τ).loc Cert.KernelIdeal.main_arg6))) :=
  (θ_run Cert.KernelIdeal.defs _ _).mono (fun _ hr c => ((hr c).1 6).trans (Cert.KernelIdeal.HandV.final m c))
    (Cert.KernelIdeal.HandV.run_main m g (ok_permutes m h) (perm_permutes m h))

/-- The reference's run leaves the answer. -/
theorem reference_answer (m : (ℓ : Loc Cert.ReferenceIdeal.nD Cert.ReferenceIdeal.τ Cert.ReferenceIdeal.sig) → Buf (Elt Ideal) ℓ) (g : Dev Cert.ReferenceIdeal.nD → PrngReg) :
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_v63)
        = answer (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))
          (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))
          (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))
          (m ((c.tc : Thread Cert.ReferenceIdeal.nD Cert.ReferenceIdeal.τ).loc Cert.ReferenceIdeal.main_arg6))) :=
  (θ_run Cert.ReferenceIdeal.defs _ _).mono
    (fun _ hr c => ((hr c).2 Cert.ReferenceIdeal.main_v63 (by decide)).trans (Cert.ReferenceIdeal.Tail.result m c))
    (Cert.ReferenceIdeal.Gen.run_main m g)

/-- Kernel and reference, as extended reals, from memories that agree on the arguments, leave the same result. -/
theorem algebraic : Cert.algebraic_KernelIdeal_ReferenceIdeal_pre_permutes := fun m g m' g' hp he => by
  refine ⟨fun c => answer (m ((c.tc : Thread Cert.KernelIdeal.nD Cert.KernelIdeal.τ).loc Cert.KernelIdeal.main_arg0)) (m ((c.tc : Thread Cert.KernelIdeal.nD Cert.KernelIdeal.τ).loc Cert.KernelIdeal.main_arg1))
          (m ((c.tc : Thread Cert.KernelIdeal.nD Cert.KernelIdeal.τ).loc Cert.KernelIdeal.main_arg2)) (m ((c.tc : Thread Cert.KernelIdeal.nD Cert.KernelIdeal.τ).loc Cert.KernelIdeal.main_arg3))
          (m ((c.tc : Thread Cert.KernelIdeal.nD Cert.KernelIdeal.τ).loc Cert.KernelIdeal.main_arg4)) (m ((c.tc : Thread Cert.KernelIdeal.nD Cert.KernelIdeal.τ).loc Cert.KernelIdeal.main_arg5))
          (m ((c.tc : Thread Cert.KernelIdeal.nD Cert.KernelIdeal.τ).loc Cert.KernelIdeal.main_arg6)), ?_, ?_⟩
  · refine (θ_run Cert.KernelIdeal.defs _ _).mono ?_ (θ_run_and (kernel_answer m g hp) (frame_pi_permutes m g hp))
    exact fun _ hr c => ⟨hr.1 c, hr.2.1 c⟩
  · refine (θ_run Cert.ReferenceIdeal.defs _ _).mono ?_ (θ_run_and (reference_answer m' g') (Cert.ReferenceIdeal.Gen.unchanged m' g'))
    refine fun _ hr c => ⟨(hr.1 c).trans ?_, hr.2 c⟩
    obtain ⟨h0, h1, h2, h3, h4, h5, h6⟩ := he c
    exact congr (congr (congr (congr (congr (congr (congrArg answer h0) h1) h2) h3) h4) h5) h6

end Cert.Claims

end
-- ==== Proof.lean ====
/- The certificate: every claim, behind the witnesses of the facts the programs and predicates state. -/
module

public import proofs.«01_k».proof.Defs
public import proofs.«01_k».proof.Proof.Claims
public import proofs.«01_k».proof.Proof.Algebraic
public import Idealize.ShloMosaic.Adequacy
public import Idealize.ShloMosaic.Init

@[expose] public section

noncomputable section

namespace Cert.Proof

open Idealize.ShloMosaic Idealize.SL.Sem

theorem claim : Cert.Claim :=
  ⟨Cert.Kernel.Gen.facts, Cert.KernelIdeal.Gen.facts, Cert.ReferenceIdeal.Gen.facts, Cert.Reference.Gen.facts,
    Cert.Pre_in_range.Gen.facts, Cert.Pre_permutes.Gen.facts,
    Claims.frame_p, Claims.frame_pi, Claims.frame_pi_permutes, Claims.frame_ri, Claims.frame_ri_permutes, Claims.frame_r,
    Claims.preserves_p, Claims.preserves_r, Claims.algebraic⟩

end Cert.Proof

end
